-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)) (v5 : (c : Dev Cert.Kernel3Ideal.nD) → Buf (Elt Ideal) ((c.tc : Thread Cert.Kernel3Ideal.nD Cert.Kernel3Ideal.τ).loc Cert.Kernel3Ideal.main_v29_5)) (v6 : (c : Dev Cert.Kernel3Ideal.nD) → Buf (Elt Ideal) ((c.tc : Thread Cert.Kernel3Ideal.nD Cert.Kernel3Ideal.τ).loc Cert.Kernel3Ideal.main_v29_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_v29_5) = v5 c
          ∧ r.2.mem ((c.tc : Thread Cert.Kernel3Ideal.nD Cert.Kernel3Ideal.τ).loc Cert.Kernel3Ideal.main_v29_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v139) = v1 c
          ∧ r.2.mem ((c.tc : Thread Cert.Reference3Ideal.nD Cert.Reference3Ideal.τ).loc Cert.Reference3Ideal.main_v140) = v2 c
          ∧ r.2.mem ((c.tc : Thread Cert.Reference3Ideal.nD Cert.Reference3Ideal.τ).loc Cert.Reference3Ideal.main_v142) = v3 c
          ∧ r.2.mem ((c.tc : Thread Cert.Reference3Ideal.nD Cert.Reference3Ideal.τ).loc Cert.Reference3Ideal.main_v144) = v4 c
          ∧ r.2.mem ((c.tc : Thread Cert.Reference3Ideal.nD Cert.Reference3Ideal.τ).loc Cert.Reference3Ideal.main_v145) = v5 c
          ∧ r.2.mem ((c.tc : Thread Cert.Reference3Ideal.nD Cert.Reference3Ideal.τ).loc Cert.Reference3Ideal.main_v146) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v211) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x512x8192 : Shape := ⟨3, ![4, 512, 8192]⟩
abbrev S4x8192x512 : Shape := ⟨3, ![4, 8192, 512]⟩
abbrev S4x256x8192 : Shape := ⟨3, ![4, 256, 8192]⟩
abbrev S4x8192x64 : Shape := ⟨3, ![4, 8192, 64]⟩
abbrev S4x8x8192 : Shape := ⟨3, ![4, 8, 8192]⟩
abbrev S256x256 : Shape := ⟨2, ![256, 256]⟩
abbrev S1x512x128 : Shape := ⟨3, ![1, 512, 128]⟩
abbrev S1x8192x512 : Shape := ⟨3, ![1, 8192, 512]⟩
abbrev S1x512x8192 : Shape := ⟨3, ![1, 512, 8192]⟩
abbrev S1x256x128 : Shape := ⟨3, ![1, 256, 128]⟩
abbrev S1x8192x64 : Shape := ⟨3, ![1, 8192, 64]⟩
abbrev S1x8x128 : Shape := ⟨3, ![1, 8, 128]⟩
abbrev S1x128x512 : Shape := ⟨3, ![1, 128, 512]⟩
abbrev S8192x128 : Shape := ⟨2, ![8192, 128]⟩
abbrev S4096x128 : Shape := ⟨2, ![4096, 128]⟩
abbrev S1024x128 : Shape := ⟨2, ![1024, 128]⟩
abbrev S4x128x128 : Shape := ⟨3, ![4, 128, 128]⟩
abbrev S8x128 : Shape := ⟨2, ![8, 128]⟩
abbrev S1x128 : Shape := ⟨2, ![1, 128]⟩
abbrev S256x128 : Shape := ⟨2, ![256, 128]⟩
abbrev S64x128 : Shape := ⟨2, ![64, 128]⟩
abbrev S64x512 : Shape := ⟨2, ![64, 512]⟩
abbrev S1x1024x64 : Shape := ⟨3, ![1, 1024, 64]⟩
abbrev S1024x64 : Shape := ⟨2, ![1024, 64]⟩
abbrev S1024x512 : Shape := ⟨2, ![1024, 512]⟩
abbrev S128x128 : Shape := ⟨2, ![128, 128]⟩
abbrev S1x512x64 : Shape := ⟨3, ![1, 512, 64]⟩
abbrev S512x64 : Shape := ⟨2, ![512, 64]⟩
abbrev S512x512 : Shape := ⟨2, ![512, 512]⟩
abbrev S512x128 : Shape := ⟨2, ![512, 128]⟩
abbrev S1x256x64 : Shape := ⟨3, ![1, 256, 64]⟩
abbrev S256x64 : Shape := ⟨2, ![256, 64]⟩
abbrev S256x512 : Shape := ⟨2, ![256, 512]⟩
abbrev S8x64x128 : Shape := ⟨3, ![8, 64, 128]⟩
abbrev S4x64x128 : Shape := ⟨3, ![4, 64, 128]⟩
abbrev S2x64x128 : Shape := ⟨3, ![2, 64, 128]⟩
abbrev S128 : Shape := ⟨1, ![128]⟩
abbrev S16x64x128 : Shape := ⟨3, ![16, 64, 128]⟩
abbrev S128x256 : Shape := ⟨2, ![128, 256]⟩
abbrev S16x1024 : Shape := ⟨2, ![16, 1024]⟩
abbrev S512x256 : Shape := ⟨2, ![512, 256]⟩
abbrev S1024x256 : Shape := ⟨2, ![1024, 256]⟩
abbrev S1x128x1024 : Shape := ⟨3, ![1, 128, 1024]⟩
abbrev S128x1024 : Shape := ⟨2, ![128, 1024]⟩
abbrev S144x1024 : Shape := ⟨2, ![144, 1024]⟩
abbrev S144x256 : Shape := ⟨2, ![144, 256]⟩
abbrev S1x128x128 : Shape := ⟨3, ![1, 128, 128]⟩
abbrev S16x512 : Shape := ⟨2, ![16, 512]⟩
abbrev S128x512 : Shape := ⟨2, ![128, 512]⟩
abbrev S144x512 : Shape := ⟨2, ![144, 512]⟩
abbrev S16x256 : Shape := ⟨2, ![16, 256]⟩
abbrev S1x128x256 : Shape := ⟨3, ![1, 128, 256]⟩

abbrev nBuf : Space → Nat
  | .hbm => 8
  | .vmem => 21
  | .smem => 0
  | _ => 0

abbrev bufTy : (tb : Table) → Fin (tcTables nBuf tb) → BufTy
  | .hbm, ⟨0, _⟩ => ⟨S4x512x8192, .bf16⟩
  | .hbm, ⟨1, _⟩ => ⟨S4x8192x512, .bf16⟩
  | .hbm, ⟨2, _⟩ => ⟨S4x512x8192, .bf16⟩
  | .hbm, ⟨3, _⟩ => ⟨S4x256x8192, .bf16⟩
  | .hbm, ⟨4, _⟩ => ⟨S4x8192x64, .bf16⟩
  | .hbm, ⟨5, _⟩ => ⟨S4x8x8192, .f32⟩
  | .hbm, ⟨6, _⟩ => ⟨S256x256, .bf16⟩
  | .hbm, ⟨7, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x512x8192, .bf16⟩
  | .local _ .vmem, ⟨5, _⟩ => ⟨S1x512x8192, .bf16⟩
  | .local _ .vmem, ⟨6, _⟩ => ⟨S1x256x128, .bf16⟩
  | .local _ .vmem, ⟨7, _⟩ => ⟨S1x256x128, .bf16⟩
  | .local _ .vmem, ⟨8, _⟩ => ⟨S1x8192x64, .bf16⟩
  | .local _ .vmem, ⟨9, _⟩ => ⟨S1x8192x64, .bf16⟩
  | .local _ .vmem, ⟨10, _⟩ => ⟨S1x8x128, .f32⟩
  | .local _ .vmem, ⟨11, _⟩ => ⟨S1x8x128, .f32⟩
  | .local _ .vmem, ⟨12, _⟩ => ⟨S256x256, .bf16⟩
  | .local _ .vmem, ⟨13, _⟩ => ⟨S1x128x512, .bf16⟩
  | .local _ .vmem, ⟨14, _⟩ => ⟨S1x128x512, .bf16⟩
  | .local _ .vmem, ⟨15, _⟩ => ⟨S8192x128, .i32⟩
  | .local _ .vmem, ⟨16, _⟩ => ⟨S4096x128, .i32⟩
  | .local _ .vmem, ⟨17, _⟩ => ⟨S1024x128, .f32⟩
  | .local _ .vmem, ⟨18, _⟩ => ⟨S4x128x128, .f32⟩
  | .local _ .vmem, ⟨19, _⟩ => ⟨S8x128, .f32⟩
  | .local _ .vmem, ⟨20, _⟩ => ⟨S8x128, .f32⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![4, 64], ![false, false]⟩

@[reducible] def k0_t1_loop (i : grid0.Coords) : Scf.Loop 32 :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_30 : BitVec 32 := 1#32
  ⟨c0_i32_28, v83, c1_i32_30⟩
def k0_mult1 (i : grid0.Coords) (k0_t1 : Fin (k0_t1_loop i).trips) : BitVec 32 :=
  let c0_i32_28 : BitVec 32 := 0#32
  let c1_i32_30 : BitVec 32 := 1#32
  let arg16 : BitVec 32 := Scf.iv c0_i32_28 c1_i32_30 k0_t1
  let c1024_i32_185 : BitVec 32 := 1024#32
  let v378 : BitVec 32 := Scalar.muli arg16 c1024_i32_185
  v378
def k0_off1 (i : grid0.Coords) (k0_t1 : Fin (k0_t1_loop i).trips) : Fin 3 → Nat :=
  let c0_186 : Index := 0#32
  let c0_i32_28 : BitVec 32 := 0#32
  let c1_i32_30 : BitVec 32 := 1#32
  let arg16 : BitVec 32 := Scf.iv c0_i32_28 c1_i32_30 k0_t1
  let c1024_i32_185 : BitVec 32 := 1024#32
  let v378 : BitVec 32 := Scalar.muli arg16 c1024_i32_185
  let v379 : BitVec 32 := v378
  let v380 : Index := Scalar.indexCast v379
  let c0_187 : Index := 0#32
  ![0, v380.toNat, 0]
def k0_off2 (i : grid0.Coords) (k0_t1 : Fin (k0_t1_loop i).trips) : Fin 2 → Nat :=
  let c0_i32_28 : BitVec 32 := 0#32
  let c1_i32_30 : BitVec 32 := 1#32
  let arg16 : BitVec 32 := Scf.iv c0_i32_28 c1_i32_30 k0_t1
  let c1024_i32_185 : BitVec 32 := 1024#32
  let v378 : BitVec 32 := Scalar.muli arg16 c1024_i32_185
  let v379 : BitVec 32 := v378
  let v421 : Index := Scalar.indexCast v379
  let c0_195 : Index := 0#32
  ![v421.toNat, 0]
def k0_mult2 (i : grid0.Coords) (k0_t1 : Fin (k0_t1_loop i).trips) : BitVec 32 :=
  let c0_i32_28 : BitVec 32 := 0#32
  let c1_i32_30 : BitVec 32 := 1#32
  let arg16 : BitVec 32 := Scf.iv c0_i32_28 c1_i32_30 k0_t1
  let c1024_i32_185 : BitVec 32 := 1024#32
  let v378 : BitVec 32 := Scalar.muli arg16 c1024_i32_185
  let v379 : BitVec 32 := v378
  let c0_i32_197 : BitVec 32 := 0#32
  let v434 : BitVec 32 := Scalar.addi v379 c0_i32_197
  let c0_i32_199 : BitVec 32 := 0#32
  let v436 : BitVec 1 := Scalar.cmpi .sgt v434 c0_i32_199
  let v437 : BitVec 32 := Scalar.extui v436
  let c0_i32_200 : BitVec 32 := 0#32
  let v438 : BitVec 1 := Scalar.cmpi .slt v434 c0_i32_200
  let v439 : BitVec 32 := Scalar.extui v438
  let v440 : BitVec 32 := Scalar.subi v437 v439
  let c2_i32_198 : BitVec 32 := 2#32
  let c0_i32_201 : BitVec 32 := 0#32
  let v441 : BitVec 1 := Scalar.cmpi .sgt c2_i32_198 c0_i32_201
  let v442 : BitVec 32 := Scalar.extui v441
  let c0_i32_202 : BitVec 32 := 0#32
  let v443 : BitVec 1 := Scalar.cmpi .slt c2_i32_198 c0_i32_202
  let v444 : BitVec 32 := Scalar.extui v443
  let v445 : BitVec 32 := Scalar.subi v442 v444
  let v446 : BitVec 1 := Scalar.cmpi .ne v440 v445
  let v447 : BitVec 32 := Scalar.remsi v434 c2_i32_198
  let c0_i32_203 : BitVec 32 := 0#32
  let v448 : BitVec 1 := Scalar.cmpi .ne v447 c0_i32_203
  let v449 : BitVec 1 := Scalar.andi v446 v448
  let v435 : BitVec 32 := Scalar.divsi v434 c2_i32_198
  let c1_i32_204 : BitVec 32 := 1#32
  let v450 : BitVec 32 := Scalar.subi v435 c1_i32_204
  let v451 : BitVec 32 := Scalar.select v449 v450 v435
  v451
def k0_off3 (i : grid0.Coords) (k0_t1 : Fin (k0_t1_loop i).trips) (c0_i32_197 : BitVec 32) : Fin 2 → Nat :=
  let c0_i32_28 : BitVec 32 := 0#32
  let c1_i32_30 : BitVec 32 := 1#32
  let arg16 : BitVec 32 := Scf.iv c0_i32_28 c1_i32_30 k0_t1
  let c1024_i32_185 : BitVec 32 := 1024#32
  let v378 : BitVec 32 := Scalar.muli arg16 c1024_i32_185
  let v379 : BitVec 32 := v378
  let v434 : BitVec 32 := Scalar.addi v379 c0_i32_197
  let c0_i32_199 : BitVec 32 := 0#32
  let v436 : BitVec 1 := Scalar.cmpi .sgt v434 c0_i32_199
  let v437 : BitVec 32 := Scalar.extui v436
  let c0_i32_200 : BitVec 32 := 0#32
  let v438 : BitVec 1 := Scalar.cmpi .slt v434 c0_i32_200
  let v439 : BitVec 32 := Scalar.extui v438
  let v440 : BitVec 32 := Scalar.subi v437 v439
  let c2_i32_198 : BitVec 32 := 2#32
  let c0_i32_201 : BitVec 32 := 0#32
  let v441 : BitVec 1 := Scalar.cmpi .sgt c2_i32_198 c0_i32_201
  let v442 : BitVec 32 := Scalar.extui v441
  let c0_i32_202 : BitVec 32 := 0#32
  let v443 : BitVec 1 := Scalar.cmpi .slt c2_i32_198 c0_i32_202
  let v444 : BitVec 32 := Scalar.extui v443
  let v445 : BitVec 32 := Scalar.subi v442 v444
  let v446 : BitVec 1 := Scalar.cmpi .ne v440 v445
  let v447 : BitVec 32 := Scalar.remsi v434 c2_i32_198
  let c0_i32_203 : BitVec 32 := 0#32
  let v448 : BitVec 1 := Scalar.cmpi .ne v447 c0_i32_203
  let v449 : BitVec 1 := Scalar.andi v446 v448
  let v435 : BitVec 32 := Scalar.divsi v434 c2_i32_198
  let c1_i32_204 : BitVec 32 := 1#32
  let v450 : BitVec 32 := Scalar.subi v435 c1_i32_204
  let v451 : BitVec 32 := Scalar.select v449 v450 v435
  let v452 : BitVec 32 := v451
  let v453 : Index := Scalar.indexCast v452
  let c0_205 : Index := 0#32
  ![v453.toNat, 0]
def k0_mult3 (i : grid0.Coords) (k0_t1 : Fin (k0_t1_loop i).trips) : BitVec 32 :=
  let c0_i32_28 : BitVec 32 := 0#32
  let c1_i32_30 : BitVec 32 := 1#32
  let arg16 : BitVec 32 := Scf.iv c0_i32_28 c1_i32_30 k0_t1
  let c1024_i32_185 : BitVec 32 := 1024#32
  let v378 : BitVec 32 := Scalar.muli arg16 c1024_i32_185
  let v379 : BitVec 32 := v378
  let c256_i32_207 : BitVec 32 := 256#32
  let v462 : BitVec 32 := Scalar.addi v379 c256_i32_207
  let c0_i32_209 : BitVec 32 := 0#32
  let v464 : BitVec 1 := Scalar.cmpi .sgt v462 c0_i32_209
  let v465 : BitVec 32 := Scalar.extui v464
  let c0_i32_210 : BitVec 32 := 0#32
  let v466 : BitVec 1 := Scalar.cmpi .slt v462 c0_i32_210
  let v467 : BitVec 32 := Scalar.extui v466
  let v468 : BitVec 32 := Scalar.subi v465 v467
  let c2_i32_208 : BitVec 32 := 2#32
  let c0_i32_211 : BitVec 32 := 0#32
  let v469 : BitVec 1 := Scalar.cmpi .sgt c2_i32_208 c0_i32_211
  let v470 : BitVec 32 := Scalar.extui v469
  let c0_i32_212 : BitVec 32 := 0#32
  let v471 : BitVec 1 := Scalar.cmpi .slt c2_i32_208 c0_i32_212
  let v472 : BitVec 32 := Scalar.extui v471
  let v473 : BitVec 32 := Scalar.subi v470 v472
  let v474 : BitVec 1 := Scalar.cmpi .ne v468 v473
  let v475 : BitVec 32 := Scalar.remsi v462 c2_i32_208
  let c0_i32_213 : BitVec 32 := 0#32
  let v476 : BitVec 1 := Scalar.cmpi .ne v475 c0_i32_213
  let v477 : BitVec 1 := Scalar.andi v474 v476
  let v463 : BitVec 32 := Scalar.divsi v462 c2_i32_208
  let c1_i32_214 : BitVec 32 := 1#32
  let v478 : BitVec 32 := Scalar.subi v463 c1_i32_214
  let v479 : BitVec 32 := Scalar.select v477 v478 v463
  v479
def k0_mult4 (i : grid0.Coords) (k0_t1 : Fin (k0_t1_loop i).trips) : BitVec 32 :=
  let c0_i32_28 : BitVec 32 := 0#32
  let c1_i32_30 : BitVec 32 := 1#32
  let arg16 : BitVec 32 := Scf.iv c0_i32_28 c1_i32_30 k0_t1
  let c1024_i32_185 : BitVec 32 := 1024#32
  let v378 : BitVec 32 := Scalar.muli arg16 c1024_i32_185
  let v379 : BitVec 32 := v378
  let c512_i32 : BitVec 32 := 512#32
  let v490 : BitVec 32 := Scalar.addi v379 c512_i32
  let c0_i32_218 : BitVec 32 := 0#32
  let v492 : BitVec 1 := Scalar.cmpi .sgt v490 c0_i32_218
  let v493 : BitVec 32 := Scalar.extui v492
  let c0_i32_219 : BitVec 32 := 0#32
  let v494 : BitVec 1 := Scalar.cmpi .slt v490 c0_i32_219
  let v495 : BitVec 32 := Scalar.extui v494
  let v496 : BitVec 32 := Scalar.subi v493 v495
  let c2_i32_217 : BitVec 32 := 2#32
  let c0_i32_220 : BitVec 32 := 0#32
  let v497 : BitVec 1 := Scalar.cmpi .sgt c2_i32_217 c0_i32_220
  let v498 : BitVec 32 := Scalar.extui v497
  let c0_i32_221 : BitVec 32 := 0#32
  let v499 : BitVec 1 := Scalar.cmpi .slt c2_i32_217 c0_i32_221
  let v500 : BitVec 32 := Scalar.extui v499
  let v501 : BitVec 32 := Scalar.subi v498 v500
  let v502 : BitVec 1 := Scalar.cmpi .ne v496 v501
  let v503 : BitVec 32 := Scalar.remsi v490 c2_i32_217
  let c0_i32_222 : BitVec 32 := 0#32
  let v504 : BitVec 1 := Scalar.cmpi .ne v503 c0_i32_222
  let v505 : BitVec 1 := Scalar.andi v502 v504
  let v491 : BitVec 32 := Scalar.divsi v490 c2_i32_217
  let c1_i32_223 : BitVec 32 := 1#32
  let v506 : BitVec 32 := Scalar.subi v491 c1_i32_223
  let v507 : BitVec 32 := Scalar.select v505 v506 v491
  v507
def k0_mult5 (i : grid0.Coords) (k0_t1 : Fin (k0_t1_loop i).trips) : BitVec 32 :=
  let c0_i32_28 : BitVec 32 := 0#32
  let c1_i32_30 : BitVec 32 := 1#32
  let arg16 : BitVec 32 := Scf.iv c0_i32_28 c1_i32_30 k0_t1
  let c1024_i32_185 : BitVec 32 := 1024#32
  let v378 : BitVec 32 := Scalar.muli arg16 c1024_i32_185
  let v379 : BitVec 32 := v378
  let c768_i32 : BitVec 32 := 768#32
  let v518 : BitVec 32 := Scalar.addi v379 c768_i32
  let c0_i32_227 : BitVec 32 := 0#32
  let v520 : BitVec 1 := Scalar.cmpi .sgt v518 c0_i32_227
  let v521 : BitVec 32 := Scalar.extui v520
  let c0_i32_228 : BitVec 32 := 0#32
  let v522 : BitVec 1 := Scalar.cmpi .slt v518 c0_i32_228
  let v523 : BitVec 32 := Scalar.extui v522
  let v524 : BitVec 32 := Scalar.subi v521 v523
  let c2_i32_226 : BitVec 32 := 2#32
  let c0_i32_229 : BitVec 32 := 0#32
  let v525 : BitVec 1 := Scalar.cmpi .sgt c2_i32_226 c0_i32_229
  let v526 : BitVec 32 := Scalar.extui v525
  let c0_i32_230 : BitVec 32 := 0#32
  let v527 : BitVec 1 := Scalar.cmpi .slt c2_i32_226 c0_i32_230
  let v528 : BitVec 32 := Scalar.extui v527
  let v529 : BitVec 32 := Scalar.subi v526 v528
  let v530 : BitVec 1 := Scalar.cmpi .ne v524 v529
  let v531 : BitVec 32 := Scalar.remsi v518 c2_i32_226
  let c0_i32_231 : BitVec 32 := 0#32
  let v532 : BitVec 1 := Scalar.cmpi .ne v531 c0_i32_231
  let v533 : BitVec 1 := Scalar.andi v530 v532
  let v519 : BitVec 32 := Scalar.divsi v518 c2_i32_226
  let c1_i32_232 : BitVec 32 := 1#32
  let v534 : BitVec 32 := Scalar.subi v519 c1_i32_232
  let v535 : BitVec 32 := Scalar.select v533 v534 v519
  v535
@[reducible] def k0_t2_loop (i : grid0.Coords) : Scf.Loop 32 :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let v80 : BitVec 32 := Scalar.addi c0_i32_28 v79
  let c1_i32_31 : BitVec 32 := 1#32
  ⟨v83, v80, c1_i32_31⟩
def k0_mult6 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg16 : BitVec 32 := Scf.iv v83 c1_i32_31 k0_t2
  let c1024_i32_185 : BitVec 32 := 1024#32
  let v378 : BitVec 32 := Scalar.muli arg16 c1024_i32_185
  v378
def k0_off4 (i : grid0.Coords) (k0_t2 : Fin (k0_t2_loop i).trips) : Fin 3 → Nat :=
  let c0_186 : Index := 0#32
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg16 : BitVec 32 := Scf.iv v83 c1_i32_31 k0_t2
  let c1024_i32_185 : BitVec 32 := 1024#32
  let v378 : BitVec 32 := Scalar.muli arg16 c1024_i32_185
  let v379 : BitVec 32 := v378
  let v380 : Index := Scalar.indexCast v379
  let c0_187 : Index := 0#32
  ![0, v380.toNat, 0]
def k0_off5 (i : grid0.Coords) (k0_t2 : Fin (k0_t2_loop i).trips) : Fin 2 → Nat :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg16 : BitVec 32 := Scf.iv v83 c1_i32_31 k0_t2
  let c1024_i32_185 : BitVec 32 := 1024#32
  let v378 : BitVec 32 := Scalar.muli arg16 c1024_i32_185
  let v379 : BitVec 32 := v378
  let v421 : Index := Scalar.indexCast v379
  let c0_195 : Index := 0#32
  ![v421.toNat, 0]
def k0_mult7 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg16 : BitVec 32 := Scf.iv v83 c1_i32_31 k0_t2
  let c1024_i32_185 : BitVec 32 := 1024#32
  let v378 : BitVec 32 := Scalar.muli arg16 c1024_i32_185
  let v379 : BitVec 32 := v378
  let c0_i32_197 : BitVec 32 := 0#32
  let v434 : BitVec 32 := Scalar.addi v379 c0_i32_197
  let c0_i32_199 : BitVec 32 := 0#32
  let v436 : BitVec 1 := Scalar.cmpi .sgt v434 c0_i32_199
  let v437 : BitVec 32 := Scalar.extui v436
  let c0_i32_200 : BitVec 32 := 0#32
  let v438 : BitVec 1 := Scalar.cmpi .slt v434 c0_i32_200
  let v439 : BitVec 32 := Scalar.extui v438
  let v440 : BitVec 32 := Scalar.subi v437 v439
  let c2_i32_198 : BitVec 32 := 2#32
  let c0_i32_201 : BitVec 32 := 0#32
  let v441 : BitVec 1 := Scalar.cmpi .sgt c2_i32_198 c0_i32_201
  let v442 : BitVec 32 := Scalar.extui v441
  let c0_i32_202 : BitVec 32 := 0#32
  let v443 : BitVec 1 := Scalar.cmpi .slt c2_i32_198 c0_i32_202
  let v444 : BitVec 32 := Scalar.extui v443
  let v445 : BitVec 32 := Scalar.subi v442 v444
  let v446 : BitVec 1 := Scalar.cmpi .ne v440 v445
  let v447 : BitVec 32 := Scalar.remsi v434 c2_i32_198
  let c0_i32_203 : BitVec 32 := 0#32
  let v448 : BitVec 1 := Scalar.cmpi .ne v447 c0_i32_203
  let v449 : BitVec 1 := Scalar.andi v446 v448
  let v435 : BitVec 32 := Scalar.divsi v434 c2_i32_198
  let c1_i32_204 : BitVec 32 := 1#32
  let v450 : BitVec 32 := Scalar.subi v435 c1_i32_204
  let v451 : BitVec 32 := Scalar.select v449 v450 v435
  v451
def k0_off6 (i : grid0.Coords) (k0_t2 : Fin (k0_t2_loop i).trips) (c0_i32_197 : BitVec 32) : Fin 2 → Nat :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg16 : BitVec 32 := Scf.iv v83 c1_i32_31 k0_t2
  let c1024_i32_185 : BitVec 32 := 1024#32
  let v378 : BitVec 32 := Scalar.muli arg16 c1024_i32_185
  let v379 : BitVec 32 := v378
  let v434 : BitVec 32 := Scalar.addi v379 c0_i32_197
  let c0_i32_199 : BitVec 32 := 0#32
  let v436 : BitVec 1 := Scalar.cmpi .sgt v434 c0_i32_199
  let v437 : BitVec 32 := Scalar.extui v436
  let c0_i32_200 : BitVec 32 := 0#32
  let v438 : BitVec 1 := Scalar.cmpi .slt v434 c0_i32_200
  let v439 : BitVec 32 := Scalar.extui v438
  let v440 : BitVec 32 := Scalar.subi v437 v439
  let c2_i32_198 : BitVec 32 := 2#32
  let c0_i32_201 : BitVec 32 := 0#32
  let v441 : BitVec 1 := Scalar.cmpi .sgt c2_i32_198 c0_i32_201
  let v442 : BitVec 32 := Scalar.extui v441
  let c0_i32_202 : BitVec 32 := 0#32
  let v443 : BitVec 1 := Scalar.cmpi .slt c2_i32_198 c0_i32_202
  let v444 : BitVec 32 := Scalar.extui v443
  let v445 : BitVec 32 := Scalar.subi v442 v444
  let v446 : BitVec 1 := Scalar.cmpi .ne v440 v445
  let v447 : BitVec 32 := Scalar.remsi v434 c2_i32_198
  let c0_i32_203 : BitVec 32 := 0#32
  let v448 : BitVec 1 := Scalar.cmpi .ne v447 c0_i32_203
  let v449 : BitVec 1 := Scalar.andi v446 v448
  let v435 : BitVec 32 := Scalar.divsi v434 c2_i32_198
  let c1_i32_204 : BitVec 32 := 1#32
  let v450 : BitVec 32 := Scalar.subi v435 c1_i32_204
  let v451 : BitVec 32 := Scalar.select v449 v450 v435
  let v452 : BitVec 32 := v451
  let v453 : Index := Scalar.indexCast v452
  let c0_205 : Index := 0#32
  ![v453.toNat, 0]
def k0_mult8 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg16 : BitVec 32 := Scf.iv v83 c1_i32_31 k0_t2
  let c1024_i32_185 : BitVec 32 := 1024#32
  let v378 : BitVec 32 := Scalar.muli arg16 c1024_i32_185
  let v379 : BitVec 32 := v378
  let c256_i32_207 : BitVec 32 := 256#32
  let v462 : BitVec 32 := Scalar.addi v379 c256_i32_207
  let c0_i32_209 : BitVec 32 := 0#32
  let v464 : BitVec 1 := Scalar.cmpi .sgt v462 c0_i32_209
  let v465 : BitVec 32 := Scalar.extui v464
  let c0_i32_210 : BitVec 32 := 0#32
  let v466 : BitVec 1 := Scalar.cmpi .slt v462 c0_i32_210
  let v467 : BitVec 32 := Scalar.extui v466
  let v468 : BitVec 32 := Scalar.subi v465 v467
  let c2_i32_208 : BitVec 32 := 2#32
  let c0_i32_211 : BitVec 32 := 0#32
  let v469 : BitVec 1 := Scalar.cmpi .sgt c2_i32_208 c0_i32_211
  let v470 : BitVec 32 := Scalar.extui v469
  let c0_i32_212 : BitVec 32 := 0#32
  let v471 : BitVec 1 := Scalar.cmpi .slt c2_i32_208 c0_i32_212
  let v472 : BitVec 32 := Scalar.extui v471
  let v473 : BitVec 32 := Scalar.subi v470 v472
  let v474 : BitVec 1 := Scalar.cmpi .ne v468 v473
  let v475 : BitVec 32 := Scalar.remsi v462 c2_i32_208
  let c0_i32_213 : BitVec 32 := 0#32
  let v476 : BitVec 1 := Scalar.cmpi .ne v475 c0_i32_213
  let v477 : BitVec 1 := Scalar.andi v474 v476
  let v463 : BitVec 32 := Scalar.divsi v462 c2_i32_208
  let c1_i32_214 : BitVec 32 := 1#32
  let v478 : BitVec 32 := Scalar.subi v463 c1_i32_214
  let v479 : BitVec 32 := Scalar.select v477 v478 v463
  v479
def k0_mult9 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg16 : BitVec 32 := Scf.iv v83 c1_i32_31 k0_t2
  let c1024_i32_185 : BitVec 32 := 1024#32
  let v378 : BitVec 32 := Scalar.muli arg16 c1024_i32_185
  let v379 : BitVec 32 := v378
  let c512_i32 : BitVec 32 := 512#32
  let v490 : BitVec 32 := Scalar.addi v379 c512_i32
  let c0_i32_218 : BitVec 32 := 0#32
  let v492 : BitVec 1 := Scalar.cmpi .sgt v490 c0_i32_218
  let v493 : BitVec 32 := Scalar.extui v492
  let c0_i32_219 : BitVec 32 := 0#32
  let v494 : BitVec 1 := Scalar.cmpi .slt v490 c0_i32_219
  let v495 : BitVec 32 := Scalar.extui v494
  let v496 : BitVec 32 := Scalar.subi v493 v495
  let c2_i32_217 : BitVec 32 := 2#32
  let c0_i32_220 : BitVec 32 := 0#32
  let v497 : BitVec 1 := Scalar.cmpi .sgt c2_i32_217 c0_i32_220
  let v498 : BitVec 32 := Scalar.extui v497
  let c0_i32_221 : BitVec 32 := 0#32
  let v499 : BitVec 1 := Scalar.cmpi .slt c2_i32_217 c0_i32_221
  let v500 : BitVec 32 := Scalar.extui v499
  let v501 : BitVec 32 := Scalar.subi v498 v500
  let v502 : BitVec 1 := Scalar.cmpi .ne v496 v501
  let v503 : BitVec 32 := Scalar.remsi v490 c2_i32_217
  let c0_i32_222 : BitVec 32 := 0#32
  let v504 : BitVec 1 := Scalar.cmpi .ne v503 c0_i32_222
  let v505 : BitVec 1 := Scalar.andi v502 v504
  let v491 : BitVec 32 := Scalar.divsi v490 c2_i32_217
  let c1_i32_223 : BitVec 32 := 1#32
  let v506 : BitVec 32 := Scalar.subi v491 c1_i32_223
  let v507 : BitVec 32 := Scalar.select v505 v506 v491
  v507
def k0_mult10 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg16 : BitVec 32 := Scf.iv v83 c1_i32_31 k0_t2
  let c1024_i32_185 : BitVec 32 := 1024#32
  let v378 : BitVec 32 := Scalar.muli arg16 c1024_i32_185
  let v379 : BitVec 32 := v378
  let c768_i32 : BitVec 32 := 768#32
  let v518 : BitVec 32 := Scalar.addi v379 c768_i32
  let c0_i32_227 : BitVec 32 := 0#32
  let v520 : BitVec 1 := Scalar.cmpi .sgt v518 c0_i32_227
  let v521 : BitVec 32 := Scalar.extui v520
  let c0_i32_228 : BitVec 32 := 0#32
  let v522 : BitVec 1 := Scalar.cmpi .slt v518 c0_i32_228
  let v523 : BitVec 32 := Scalar.extui v522
  let v524 : BitVec 32 := Scalar.subi v521 v523
  let c2_i32_226 : BitVec 32 := 2#32
  let c0_i32_229 : BitVec 32 := 0#32
  let v525 : BitVec 1 := Scalar.cmpi .sgt c2_i32_226 c0_i32_229
  let v526 : BitVec 32 := Scalar.extui v525
  let c0_i32_230 : BitVec 32 := 0#32
  let v527 : BitVec 1 := Scalar.cmpi .slt c2_i32_226 c0_i32_230
  let v528 : BitVec 32 := Scalar.extui v527
  let v529 : BitVec 32 := Scalar.subi v526 v528
  let v530 : BitVec 1 := Scalar.cmpi .ne v524 v529
  let v531 : BitVec 32 := Scalar.remsi v518 c2_i32_226
  let c0_i32_231 : BitVec 32 := 0#32
  let v532 : BitVec 1 := Scalar.cmpi .ne v531 c0_i32_231
  let v533 : BitVec 1 := Scalar.andi v530 v532
  let v519 : BitVec 32 := Scalar.divsi v518 c2_i32_226
  let c1_i32_232 : BitVec 32 := 1#32
  let v534 : BitVec 32 := Scalar.subi v519 c1_i32_232
  let v535 : BitVec 32 := Scalar.select v533 v534 v519
  v535
@[reducible] def k0_t3_loop (i : grid0.Coords) : Scf.Loop 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_40 : BitVec 32 := 1#32
  ⟨v78, v105, c1_i32_40⟩
def k0_mult11 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c1_i32_40 : BitVec 32 := 1#32
  let arg16 : BitVec 32 := Scf.iv v78 c1_i32_40 k0_t3
  let c1024_i32_185 : BitVec 32 := 1024#32
  let v378 : BitVec 32 := Scalar.muli arg16 c1024_i32_185
  v378
def k0_off7 (i : grid0.Coords) (k0_t3 : Fin (k0_t3_loop i).trips) : Fin 3 → Nat :=
  let c0_186 : Index := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c1_i32_40 : BitVec 32 := 1#32
  let arg16 : BitVec 32 := Scf.iv v78 c1_i32_40 k0_t3
  let c1024_i32_185 : BitVec 32 := 1024#32
  let v378 : BitVec 32 := Scalar.muli arg16 c1024_i32_185
  let v379 : BitVec 32 := v378
  let v380 : Index := Scalar.indexCast v379
  let c0_187 : Index := 0#32
  ![0, v380.toNat, 0]
def k0_off8 (i : grid0.Coords) (k0_t3 : Fin (k0_t3_loop i).trips) : Fin 2 → Nat :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c1_i32_40 : BitVec 32 := 1#32
  let arg16 : BitVec 32 := Scf.iv v78 c1_i32_40 k0_t3
  let c1024_i32_185 : BitVec 32 := 1024#32
  let v378 : BitVec 32 := Scalar.muli arg16 c1024_i32_185
  let v379 : BitVec 32 := v378
  let v428 : Index := Scalar.indexCast v379
  let c0_196 : Index := 0#32
  ![v428.toNat, 0]
def k0_mult12 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c1_i32_40 : BitVec 32 := 1#32
  let arg16 : BitVec 32 := Scf.iv v78 c1_i32_40 k0_t3
  let c1024_i32_185 : BitVec 32 := 1024#32
  let v378 : BitVec 32 := Scalar.muli arg16 c1024_i32_185
  let v379 : BitVec 32 := v378
  let c0_i32_198 : BitVec 32 := 0#32
  let v441 : BitVec 32 := Scalar.addi v379 c0_i32_198
  let c0_i32_200 : BitVec 32 := 0#32
  let v443 : BitVec 1 := Scalar.cmpi .sgt v441 c0_i32_200
  let v444 : BitVec 32 := Scalar.extui v443
  let c0_i32_201 : BitVec 32 := 0#32
  let v445 : BitVec 1 := Scalar.cmpi .slt v441 c0_i32_201
  let v446 : BitVec 32 := Scalar.extui v445
  let v447 : BitVec 32 := Scalar.subi v444 v446
  let c2_i32_199 : BitVec 32 := 2#32
  let c0_i32_202 : BitVec 32 := 0#32
  let v448 : BitVec 1 := Scalar.cmpi .sgt c2_i32_199 c0_i32_202
  let v449 : BitVec 32 := Scalar.extui v448
  let c0_i32_203 : BitVec 32 := 0#32
  let v450 : BitVec 1 := Scalar.cmpi .slt c2_i32_199 c0_i32_203
  let v451 : BitVec 32 := Scalar.extui v450
  let v452 : BitVec 32 := Scalar.subi v449 v451
  let v453 : BitVec 1 := Scalar.cmpi .ne v447 v452
  let v454 : BitVec 32 := Scalar.remsi v441 c2_i32_199
  let c0_i32_204 : BitVec 32 := 0#32
  let v455 : BitVec 1 := Scalar.cmpi .ne v454 c0_i32_204
  let v456 : BitVec 1 := Scalar.andi v453 v455
  let v442 : BitVec 32 := Scalar.divsi v441 c2_i32_199
  let c1_i32_205 : BitVec 32 := 1#32
  let v457 : BitVec 32 := Scalar.subi v442 c1_i32_205
  let v458 : BitVec 32 := Scalar.select v456 v457 v442
  v458
def k0_off9 (i : grid0.Coords) (k0_t3 : Fin (k0_t3_loop i).trips) (c0_i32_198 : BitVec 32) : Fin 2 → Nat :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c1_i32_40 : BitVec 32 := 1#32
  let arg16 : BitVec 32 := Scf.iv v78 c1_i32_40 k0_t3
  let c1024_i32_185 : BitVec 32 := 1024#32
  let v378 : BitVec 32 := Scalar.muli arg16 c1024_i32_185
  let v379 : BitVec 32 := v378
  let v441 : BitVec 32 := Scalar.addi v379 c0_i32_198
  let c0_i32_200 : BitVec 32 := 0#32
  let v443 : BitVec 1 := Scalar.cmpi .sgt v441 c0_i32_200
  let v444 : BitVec 32 := Scalar.extui v443
  let c0_i32_201 : BitVec 32 := 0#32
  let v445 : BitVec 1 := Scalar.cmpi .slt v441 c0_i32_201
  let v446 : BitVec 32 := Scalar.extui v445
  let v447 : BitVec 32 := Scalar.subi v444 v446
  let c2_i32_199 : BitVec 32 := 2#32
  let c0_i32_202 : BitVec 32 := 0#32
  let v448 : BitVec 1 := Scalar.cmpi .sgt c2_i32_199 c0_i32_202
  let v449 : BitVec 32 := Scalar.extui v448
  let c0_i32_203 : BitVec 32 := 0#32
  let v450 : BitVec 1 := Scalar.cmpi .slt c2_i32_199 c0_i32_203
  let v451 : BitVec 32 := Scalar.extui v450
  let v452 : BitVec 32 := Scalar.subi v449 v451
  let v453 : BitVec 1 := Scalar.cmpi .ne v447 v452
  let v454 : BitVec 32 := Scalar.remsi v441 c2_i32_199
  let c0_i32_204 : BitVec 32 := 0#32
  let v455 : BitVec 1 := Scalar.cmpi .ne v454 c0_i32_204
  let v456 : BitVec 1 := Scalar.andi v453 v455
  let v442 : BitVec 32 := Scalar.divsi v441 c2_i32_199
  let c1_i32_205 : BitVec 32 := 1#32
  let v457 : BitVec 32 := Scalar.subi v442 c1_i32_205
  let v458 : BitVec 32 := Scalar.select v456 v457 v442
  let v459 : BitVec 32 := v458
  let v460 : Index := Scalar.indexCast v459
  let c0_206 : Index := 0#32
  ![v460.toNat, 0]
def k0_mult13 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c1_i32_40 : BitVec 32 := 1#32
  let arg16 : BitVec 32 := Scf.iv v78 c1_i32_40 k0_t3
  let c1024_i32_185 : BitVec 32 := 1024#32
  let v378 : BitVec 32 := Scalar.muli arg16 c1024_i32_185
  let v379 : BitVec 32 := v378
  let c256_i32_208 : BitVec 32 := 256#32
  let v469 : BitVec 32 := Scalar.addi v379 c256_i32_208
  let c0_i32_210 : BitVec 32 := 0#32
  let v471 : BitVec 1 := Scalar.cmpi .sgt v469 c0_i32_210
  let v472 : BitVec 32 := Scalar.extui v471
  let c0_i32_211 : BitVec 32 := 0#32
  let v473 : BitVec 1 := Scalar.cmpi .slt v469 c0_i32_211
  let v474 : BitVec 32 := Scalar.extui v473
  let v475 : BitVec 32 := Scalar.subi v472 v474
  let c2_i32_209 : BitVec 32 := 2#32
  let c0_i32_212 : BitVec 32 := 0#32
  let v476 : BitVec 1 := Scalar.cmpi .sgt c2_i32_209 c0_i32_212
  let v477 : BitVec 32 := Scalar.extui v476
  let c0_i32_213 : BitVec 32 := 0#32
  let v478 : BitVec 1 := Scalar.cmpi .slt c2_i32_209 c0_i32_213
  let v479 : BitVec 32 := Scalar.extui v478
  let v480 : BitVec 32 := Scalar.subi v477 v479
  let v481 : BitVec 1 := Scalar.cmpi .ne v475 v480
  let v482 : BitVec 32 := Scalar.remsi v469 c2_i32_209
  let c0_i32_214 : BitVec 32 := 0#32
  let v483 : BitVec 1 := Scalar.cmpi .ne v482 c0_i32_214
  let v484 : BitVec 1 := Scalar.andi v481 v483
  let v470 : BitVec 32 := Scalar.divsi v469 c2_i32_209
  let c1_i32_215 : BitVec 32 := 1#32
  let v485 : BitVec 32 := Scalar.subi v470 c1_i32_215
  let v486 : BitVec 32 := Scalar.select v484 v485 v470
  v486
def k0_mult14 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c1_i32_40 : BitVec 32 := 1#32
  let arg16 : BitVec 32 := Scf.iv v78 c1_i32_40 k0_t3
  let c1024_i32_185 : BitVec 32 := 1024#32
  let v378 : BitVec 32 := Scalar.muli arg16 c1024_i32_185
  let v379 : BitVec 32 := v378
  let c512_i32 : BitVec 32 := 512#32
  let v497 : BitVec 32 := Scalar.addi v379 c512_i32
  let c0_i32_219 : BitVec 32 := 0#32
  let v499 : BitVec 1 := Scalar.cmpi .sgt v497 c0_i32_219
  let v500 : BitVec 32 := Scalar.extui v499
  let c0_i32_220 : BitVec 32 := 0#32
  let v501 : BitVec 1 := Scalar.cmpi .slt v497 c0_i32_220
  let v502 : BitVec 32 := Scalar.extui v501
  let v503 : BitVec 32 := Scalar.subi v500 v502
  let c2_i32_218 : BitVec 32 := 2#32
  let c0_i32_221 : BitVec 32 := 0#32
  let v504 : BitVec 1 := Scalar.cmpi .sgt c2_i32_218 c0_i32_221
  let v505 : BitVec 32 := Scalar.extui v504
  let c0_i32_222 : BitVec 32 := 0#32
  let v506 : BitVec 1 := Scalar.cmpi .slt c2_i32_218 c0_i32_222
  let v507 : BitVec 32 := Scalar.extui v506
  let v508 : BitVec 32 := Scalar.subi v505 v507
  let v509 : BitVec 1 := Scalar.cmpi .ne v503 v508
  let v510 : BitVec 32 := Scalar.remsi v497 c2_i32_218
  let c0_i32_223 : BitVec 32 := 0#32
  let v511 : BitVec 1 := Scalar.cmpi .ne v510 c0_i32_223
  let v512 : BitVec 1 := Scalar.andi v509 v511
  let v498 : BitVec 32 := Scalar.divsi v497 c2_i32_218
  let c1_i32_224 : BitVec 32 := 1#32
  let v513 : BitVec 32 := Scalar.subi v498 c1_i32_224
  let v514 : BitVec 32 := Scalar.select v512 v513 v498
  v514
def k0_mult15 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c1_i32_40 : BitVec 32 := 1#32
  let arg16 : BitVec 32 := Scf.iv v78 c1_i32_40 k0_t3
  let c1024_i32_185 : BitVec 32 := 1024#32
  let v378 : BitVec 32 := Scalar.muli arg16 c1024_i32_185
  let v379 : BitVec 32 := v378
  let c768_i32 : BitVec 32 := 768#32
  let v525 : BitVec 32 := Scalar.addi v379 c768_i32
  let c0_i32_228 : BitVec 32 := 0#32
  let v527 : BitVec 1 := Scalar.cmpi .sgt v525 c0_i32_228
  let v528 : BitVec 32 := Scalar.extui v527
  let c0_i32_229 : BitVec 32 := 0#32
  let v529 : BitVec 1 := Scalar.cmpi .slt v525 c0_i32_229
  let v530 : BitVec 32 := Scalar.extui v529
  let v531 : BitVec 32 := Scalar.subi v528 v530
  let c2_i32_227 : BitVec 32 := 2#32
  let c0_i32_230 : BitVec 32 := 0#32
  let v532 : BitVec 1 := Scalar.cmpi .sgt c2_i32_227 c0_i32_230
  let v533 : BitVec 32 := Scalar.extui v532
  let c0_i32_231 : BitVec 32 := 0#32
  let v534 : BitVec 1 := Scalar.cmpi .slt c2_i32_227 c0_i32_231
  let v535 : BitVec 32 := Scalar.extui v534
  let v536 : BitVec 32 := Scalar.subi v533 v535
  let v537 : BitVec 1 := Scalar.cmpi .ne v531 v536
  let v538 : BitVec 32 := Scalar.remsi v525 c2_i32_227
  let c0_i32_232 : BitVec 32 := 0#32
  let v539 : BitVec 1 := Scalar.cmpi .ne v538 c0_i32_232
  let v540 : BitVec 1 := Scalar.andi v537 v539
  let v526 : BitVec 32 := Scalar.divsi v525 c2_i32_227
  let c1_i32_233 : BitVec 32 := 1#32
  let v541 : BitVec 32 := Scalar.subi v526 c1_i32_233
  let v542 : BitVec 32 := Scalar.select v540 v541 v526
  v542
@[reducible] def k0_t4_loop (i : grid0.Coords) : Scf.Loop 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let v102 : BitVec 32 := Scalar.addi v78 v101
  let c1_i32_41 : BitVec 32 := 1#32
  ⟨v105, v102, c1_i32_41⟩
def k0_mult16 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_41 : BitVec 32 := 1#32
  let arg16 : BitVec 32 := Scf.iv v105 c1_i32_41 k0_t4
  let c1024_i32_185 : BitVec 32 := 1024#32
  let v378 : BitVec 32 := Scalar.muli arg16 c1024_i32_185
  v378
def k0_off10 (i : grid0.Coords) (k0_t4 : Fin (k0_t4_loop i).trips) : Fin 3 → Nat :=
  let c0_186 : Index := 0#32
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_41 : BitVec 32 := 1#32
  let arg16 : BitVec 32 := Scf.iv v105 c1_i32_41 k0_t4
  let c1024_i32_185 : BitVec 32 := 1024#32
  let v378 : BitVec 32 := Scalar.muli arg16 c1024_i32_185
  let v379 : BitVec 32 := v378
  let v380 : Index := Scalar.indexCast v379
  let c0_187 : Index := 0#32
  ![0, v380.toNat, 0]
def k0_off11 (i : grid0.Coords) (k0_t4 : Fin (k0_t4_loop i).trips) : Fin 2 → Nat :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_41 : BitVec 32 := 1#32
  let arg16 : BitVec 32 := Scf.iv v105 c1_i32_41 k0_t4
  let c1024_i32_185 : BitVec 32 := 1024#32
  let v378 : BitVec 32 := Scalar.muli arg16 c1024_i32_185
  let v379 : BitVec 32 := v378
  let v428 : Index := Scalar.indexCast v379
  let c0_196 : Index := 0#32
  ![v428.toNat, 0]
def k0_mult17 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_41 : BitVec 32 := 1#32
  let arg16 : BitVec 32 := Scf.iv v105 c1_i32_41 k0_t4
  let c1024_i32_185 : BitVec 32 := 1024#32
  let v378 : BitVec 32 := Scalar.muli arg16 c1024_i32_185
  let v379 : BitVec 32 := v378
  let c0_i32_198 : BitVec 32 := 0#32
  let v441 : BitVec 32 := Scalar.addi v379 c0_i32_198
  let c0_i32_200 : BitVec 32 := 0#32
  let v443 : BitVec 1 := Scalar.cmpi .sgt v441 c0_i32_200
  let v444 : BitVec 32 := Scalar.extui v443
  let c0_i32_201 : BitVec 32 := 0#32
  let v445 : BitVec 1 := Scalar.cmpi .slt v441 c0_i32_201
  let v446 : BitVec 32 := Scalar.extui v445
  let v447 : BitVec 32 := Scalar.subi v444 v446
  let c2_i32_199 : BitVec 32 := 2#32
  let c0_i32_202 : BitVec 32 := 0#32
  let v448 : BitVec 1 := Scalar.cmpi .sgt c2_i32_199 c0_i32_202
  let v449 : BitVec 32 := Scalar.extui v448
  let c0_i32_203 : BitVec 32 := 0#32
  let v450 : BitVec 1 := Scalar.cmpi .slt c2_i32_199 c0_i32_203
  let v451 : BitVec 32 := Scalar.extui v450
  let v452 : BitVec 32 := Scalar.subi v449 v451
  let v453 : BitVec 1 := Scalar.cmpi .ne v447 v452
  let v454 : BitVec 32 := Scalar.remsi v441 c2_i32_199
  let c0_i32_204 : BitVec 32 := 0#32
  let v455 : BitVec 1 := Scalar.cmpi .ne v454 c0_i32_204
  let v456 : BitVec 1 := Scalar.andi v453 v455
  let v442 : BitVec 32 := Scalar.divsi v441 c2_i32_199
  let c1_i32_205 : BitVec 32 := 1#32
  let v457 : BitVec 32 := Scalar.subi v442 c1_i32_205
  let v458 : BitVec 32 := Scalar.select v456 v457 v442
  v458
def k0_off12 (i : grid0.Coords) (k0_t4 : Fin (k0_t4_loop i).trips) (c0_i32_198 : BitVec 32) : Fin 2 → Nat :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_41 : BitVec 32 := 1#32
  let arg16 : BitVec 32 := Scf.iv v105 c1_i32_41 k0_t4
  let c1024_i32_185 : BitVec 32 := 1024#32
  let v378 : BitVec 32 := Scalar.muli arg16 c1024_i32_185
  let v379 : BitVec 32 := v378
  let v441 : BitVec 32 := Scalar.addi v379 c0_i32_198
  let c0_i32_200 : BitVec 32 := 0#32
  let v443 : BitVec 1 := Scalar.cmpi .sgt v441 c0_i32_200
  let v444 : BitVec 32 := Scalar.extui v443
  let c0_i32_201 : BitVec 32 := 0#32
  let v445 : BitVec 1 := Scalar.cmpi .slt v441 c0_i32_201
  let v446 : BitVec 32 := Scalar.extui v445
  let v447 : BitVec 32 := Scalar.subi v444 v446
  let c2_i32_199 : BitVec 32 := 2#32
  let c0_i32_202 : BitVec 32 := 0#32
  let v448 : BitVec 1 := Scalar.cmpi .sgt c2_i32_199 c0_i32_202
  let v449 : BitVec 32 := Scalar.extui v448
  let c0_i32_203 : BitVec 32 := 0#32
  let v450 : BitVec 1 := Scalar.cmpi .slt c2_i32_199 c0_i32_203
  let v451 : BitVec 32 := Scalar.extui v450
  let v452 : BitVec 32 := Scalar.subi v449 v451
  let v453 : BitVec 1 := Scalar.cmpi .ne v447 v452
  let v454 : BitVec 32 := Scalar.remsi v441 c2_i32_199
  let c0_i32_204 : BitVec 32 := 0#32
  let v455 : BitVec 1 := Scalar.cmpi .ne v454 c0_i32_204
  let v456 : BitVec 1 := Scalar.andi v453 v455
  let v442 : BitVec 32 := Scalar.divsi v441 c2_i32_199
  let c1_i32_205 : BitVec 32 := 1#32
  let v457 : BitVec 32 := Scalar.subi v442 c1_i32_205
  let v458 : BitVec 32 := Scalar.select v456 v457 v442
  let v459 : BitVec 32 := v458
  let v460 : Index := Scalar.indexCast v459
  let c0_206 : Index := 0#32
  ![v460.toNat, 0]
def k0_mult18 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_41 : BitVec 32 := 1#32
  let arg16 : BitVec 32 := Scf.iv v105 c1_i32_41 k0_t4
  let c1024_i32_185 : BitVec 32 := 1024#32
  let v378 : BitVec 32 := Scalar.muli arg16 c1024_i32_185
  let v379 : BitVec 32 := v378
  let c256_i32_208 : BitVec 32 := 256#32
  let v469 : BitVec 32 := Scalar.addi v379 c256_i32_208
  let c0_i32_210 : BitVec 32 := 0#32
  let v471 : BitVec 1 := Scalar.cmpi .sgt v469 c0_i32_210
  let v472 : BitVec 32 := Scalar.extui v471
  let c0_i32_211 : BitVec 32 := 0#32
  let v473 : BitVec 1 := Scalar.cmpi .slt v469 c0_i32_211
  let v474 : BitVec 32 := Scalar.extui v473
  let v475 : BitVec 32 := Scalar.subi v472 v474
  let c2_i32_209 : BitVec 32 := 2#32
  let c0_i32_212 : BitVec 32 := 0#32
  let v476 : BitVec 1 := Scalar.cmpi .sgt c2_i32_209 c0_i32_212
  let v477 : BitVec 32 := Scalar.extui v476
  let c0_i32_213 : BitVec 32 := 0#32
  let v478 : BitVec 1 := Scalar.cmpi .slt c2_i32_209 c0_i32_213
  let v479 : BitVec 32 := Scalar.extui v478
  let v480 : BitVec 32 := Scalar.subi v477 v479
  let v481 : BitVec 1 := Scalar.cmpi .ne v475 v480
  let v482 : BitVec 32 := Scalar.remsi v469 c2_i32_209
  let c0_i32_214 : BitVec 32 := 0#32
  let v483 : BitVec 1 := Scalar.cmpi .ne v482 c0_i32_214
  let v484 : BitVec 1 := Scalar.andi v481 v483
  let v470 : BitVec 32 := Scalar.divsi v469 c2_i32_209
  let c1_i32_215 : BitVec 32 := 1#32
  let v485 : BitVec 32 := Scalar.subi v470 c1_i32_215
  let v486 : BitVec 32 := Scalar.select v484 v485 v470
  v486
def k0_mult19 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_41 : BitVec 32 := 1#32
  let arg16 : BitVec 32 := Scf.iv v105 c1_i32_41 k0_t4
  let c1024_i32_185 : BitVec 32 := 1024#32
  let v378 : BitVec 32 := Scalar.muli arg16 c1024_i32_185
  let v379 : BitVec 32 := v378
  let c512_i32 : BitVec 32 := 512#32
  let v497 : BitVec 32 := Scalar.addi v379 c512_i32
  let c0_i32_219 : BitVec 32 := 0#32
  let v499 : BitVec 1 := Scalar.cmpi .sgt v497 c0_i32_219
  let v500 : BitVec 32 := Scalar.extui v499
  let c0_i32_220 : BitVec 32 := 0#32
  let v501 : BitVec 1 := Scalar.cmpi .slt v497 c0_i32_220
  let v502 : BitVec 32 := Scalar.extui v501
  let v503 : BitVec 32 := Scalar.subi v500 v502
  let c2_i32_218 : BitVec 32 := 2#32
  let c0_i32_221 : BitVec 32 := 0#32
  let v504 : BitVec 1 := Scalar.cmpi .sgt c2_i32_218 c0_i32_221
  let v505 : BitVec 32 := Scalar.extui v504
  let c0_i32_222 : BitVec 32 := 0#32
  let v506 : BitVec 1 := Scalar.cmpi .slt c2_i32_218 c0_i32_222
  let v507 : BitVec 32 := Scalar.extui v506
  let v508 : BitVec 32 := Scalar.subi v505 v507
  let v509 : BitVec 1 := Scalar.cmpi .ne v503 v508
  let v510 : BitVec 32 := Scalar.remsi v497 c2_i32_218
  let c0_i32_223 : BitVec 32 := 0#32
  let v511 : BitVec 1 := Scalar.cmpi .ne v510 c0_i32_223
  let v512 : BitVec 1 := Scalar.andi v509 v511
  let v498 : BitVec 32 := Scalar.divsi v497 c2_i32_218
  let c1_i32_224 : BitVec 32 := 1#32
  let v513 : BitVec 32 := Scalar.subi v498 c1_i32_224
  let v514 : BitVec 32 := Scalar.select v512 v513 v498
  v514
def k0_mult20 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c64_i32_20 : BitVec 32 := 64#32
  let v61 : BitVec 32 := Scalar.addi v0 c64_i32_20
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c1024_i32 : BitVec 32 := 1024#32
  let c0_i32_23 : BitVec 32 := 0#32
  let v68 : BitVec 1 := Scalar.cmpi .sgt c1024_i32 c0_i32_23
  let v69 : BitVec 32 := Scalar.extui v68
  let c0_i32_24 : BitVec 32 := 0#32
  let v70 : BitVec 1 := Scalar.cmpi .slt c1024_i32 c0_i32_24
  let v71 : BitVec 32 := Scalar.extui v70
  let v72 : BitVec 32 := Scalar.subi v69 v71
  let v73 : BitVec 1 := Scalar.cmpi .ne v67 v72
  let v74 : BitVec 32 := Scalar.remsi v61 c1024_i32
  let c0_i32_25 : BitVec 32 := 0#32
  let v75 : BitVec 1 := Scalar.cmpi .ne v74 c0_i32_25
  let v76 : BitVec 1 := Scalar.andi v73 v75
  let v62 : BitVec 32 := Scalar.divsi v61 c1024_i32
  let c1_i32_26 : BitVec 32 := 1#32
  let v77 : BitVec 32 := Scalar.subi v62 c1_i32_26
  let v78 : BitVec 32 := Scalar.select v76 v77 v62
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let v101 : BitVec 32 := Scalar.subi v100 v78
  let c1_i32_39 : BitVec 32 := 1#32
  let v103 : BitVec 32 := Scalar.divsi v101 c1_i32_39
  let v104 : BitVec 32 := Scalar.muli v103 c1_i32_39
  let v105 : BitVec 32 := Scalar.addi v78 v104
  let c1_i32_41 : BitVec 32 := 1#32
  let arg16 : BitVec 32 := Scf.iv v105 c1_i32_41 k0_t4
  let c1024_i32_185 : BitVec 32 := 1024#32
  let v378 : BitVec 32 := Scalar.muli arg16 c1024_i32_185
  let v379 : BitVec 32 := v378
  let c768_i32 : BitVec 32 := 768#32
  let v525 : BitVec 32 := Scalar.addi v379 c768_i32
  let c0_i32_228 : BitVec 32 := 0#32
  let v527 : BitVec 1 := Scalar.cmpi .sgt v525 c0_i32_228
  let v528 : BitVec 32 := Scalar.extui v527
  let c0_i32_229 : BitVec 32 := 0#32
  let v529 : BitVec 1 := Scalar.cmpi .slt v525 c0_i32_229
  let v530 : BitVec 32 := Scalar.extui v529
  let v531 : BitVec 32 := Scalar.subi v528 v530
  let c2_i32_227 : BitVec 32 := 2#32
  let c0_i32_230 : BitVec 32 := 0#32
  let v532 : BitVec 1 := Scalar.cmpi .sgt c2_i32_227 c0_i32_230
  let v533 : BitVec 32 := Scalar.extui v532
  let c0_i32_231 : BitVec 32 := 0#32
  let v534 : BitVec 1 := Scalar.cmpi .slt c2_i32_227 c0_i32_231
  let v535 : BitVec 32 := Scalar.extui v534
  let v536 : BitVec 32 := Scalar.subi v533 v535
  let v537 : BitVec 1 := Scalar.cmpi .ne v531 v536
  let v538 : BitVec 32 := Scalar.remsi v525 c2_i32_227
  let c0_i32_232 : BitVec 32 := 0#32
  let v539 : BitVec 1 := Scalar.cmpi .ne v538 c0_i32_232
  let v540 : BitVec 1 := Scalar.andi v537 v539
  let v526 : BitVec 32 := Scalar.divsi v525 c2_i32_227
  let c1_i32_233 : BitVec 32 := 1#32
  let v541 : BitVec 32 := Scalar.subi v526 c1_i32_233
  let v542 : BitVec 32 := Scalar.select v540 v541 v526
  v542
def k0_cond1 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c4_i32_42 : BitVec 32 := 4#32
  let c0_i32_43 : BitVec 32 := 0#32
  let v106 : BitVec 1 := Scalar.cmpi .eq c4_i32_42 c0_i32_43
  let c1_i32_44 : BitVec 32 := 1#32
  let v107 : BitVec 32 := Scalar.select v106 c1_i32_44 c4_i32_42
  let v108 : BitVec 32 := Scalar.remsi v20 v107
  let c0_i32_46 : BitVec 32 := 0#32
  let v110 : BitVec 1 := Scalar.cmpi .slt v108 c0_i32_46
  let c0_i32_47 : BitVec 32 := 0#32
  let v111 : BitVec 1 := Scalar.cmpi .slt v107 c0_i32_47
  let v112 : BitVec 1 := Scalar.xori v110 v111
  let c0_i32_45 : BitVec 32 := 0#32
  let v109 : BitVec 1 := Scalar.cmpi .ne v108 c0_i32_45
  let v113 : BitVec 1 := Scalar.andi v112 v109
  let v114 : BitVec 32 := Scalar.addi v108 v107
  let v115 : BitVec 32 := Scalar.select v113 v114 v108
  let c2_i32 : BitVec 32 := 2#32
  let v116 : BitVec 1 := Scalar.cmpi .sge v115 c2_i32
  let v117 : BitVec 32 := Scalar.extui v116
  let c0_i32_48 : BitVec 32 := 0#32
  let v118 : BitVec 1 := Scalar.cmpi .ne v117 c0_i32_48
  v118

def k0_mult21 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let c1024_i32_185 : BitVec 32 := 1024#32
  let v378 : BitVec 32 := Scalar.muli v100 c1024_i32_185
  v378
def k0_off13 (i : grid0.Coords) : Fin 3 → Nat :=
  let c0_186 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let c1024_i32_185 : BitVec 32 := 1024#32
  let v378 : BitVec 32 := Scalar.muli v100 c1024_i32_185
  let v379 : BitVec 32 := v378
  let v380 : Index := Scalar.indexCast v379
  let c0_187 : Index := 0#32
  ![0, v380.toNat, 0]
def k0_off14 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let c1024_i32_185 : BitVec 32 := 1024#32
  let v378 : BitVec 32 := Scalar.muli v100 c1024_i32_185
  let v379 : BitVec 32 := v378
  let v428 : Index := Scalar.indexCast v379
  let c0_196 : Index := 0#32
  ![v428.toNat, 0]
def k0_mult22 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let c1024_i32_185 : BitVec 32 := 1024#32
  let v378 : BitVec 32 := Scalar.muli v100 c1024_i32_185
  let v379 : BitVec 32 := v378
  let c0_i32_198 : BitVec 32 := 0#32
  let v441 : BitVec 32 := Scalar.addi v379 c0_i32_198
  let c0_i32_200 : BitVec 32 := 0#32
  let v443 : BitVec 1 := Scalar.cmpi .sgt v441 c0_i32_200
  let v444 : BitVec 32 := Scalar.extui v443
  let c0_i32_201 : BitVec 32 := 0#32
  let v445 : BitVec 1 := Scalar.cmpi .slt v441 c0_i32_201
  let v446 : BitVec 32 := Scalar.extui v445
  let v447 : BitVec 32 := Scalar.subi v444 v446
  let c2_i32_199 : BitVec 32 := 2#32
  let c0_i32_202 : BitVec 32 := 0#32
  let v448 : BitVec 1 := Scalar.cmpi .sgt c2_i32_199 c0_i32_202
  let v449 : BitVec 32 := Scalar.extui v448
  let c0_i32_203 : BitVec 32 := 0#32
  let v450 : BitVec 1 := Scalar.cmpi .slt c2_i32_199 c0_i32_203
  let v451 : BitVec 32 := Scalar.extui v450
  let v452 : BitVec 32 := Scalar.subi v449 v451
  let v453 : BitVec 1 := Scalar.cmpi .ne v447 v452
  let v454 : BitVec 32 := Scalar.remsi v441 c2_i32_199
  let c0_i32_204 : BitVec 32 := 0#32
  let v455 : BitVec 1 := Scalar.cmpi .ne v454 c0_i32_204
  let v456 : BitVec 1 := Scalar.andi v453 v455
  let v442 : BitVec 32 := Scalar.divsi v441 c2_i32_199
  let c1_i32_205 : BitVec 32 := 1#32
  let v457 : BitVec 32 := Scalar.subi v442 c1_i32_205
  let v458 : BitVec 32 := Scalar.select v456 v457 v442
  v458
def k0_off15 (i : grid0.Coords) (c0_i32_198 : BitVec 32) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let c1024_i32_185 : BitVec 32 := 1024#32
  let v378 : BitVec 32 := Scalar.muli v100 c1024_i32_185
  let v379 : BitVec 32 := v378
  let v441 : BitVec 32 := Scalar.addi v379 c0_i32_198
  let c0_i32_200 : BitVec 32 := 0#32
  let v443 : BitVec 1 := Scalar.cmpi .sgt v441 c0_i32_200
  let v444 : BitVec 32 := Scalar.extui v443
  let c0_i32_201 : BitVec 32 := 0#32
  let v445 : BitVec 1 := Scalar.cmpi .slt v441 c0_i32_201
  let v446 : BitVec 32 := Scalar.extui v445
  let v447 : BitVec 32 := Scalar.subi v444 v446
  let c2_i32_199 : BitVec 32 := 2#32
  let c0_i32_202 : BitVec 32 := 0#32
  let v448 : BitVec 1 := Scalar.cmpi .sgt c2_i32_199 c0_i32_202
  let v449 : BitVec 32 := Scalar.extui v448
  let c0_i32_203 : BitVec 32 := 0#32
  let v450 : BitVec 1 := Scalar.cmpi .slt c2_i32_199 c0_i32_203
  let v451 : BitVec 32 := Scalar.extui v450
  let v452 : BitVec 32 := Scalar.subi v449 v451
  let v453 : BitVec 1 := Scalar.cmpi .ne v447 v452
  let v454 : BitVec 32 := Scalar.remsi v441 c2_i32_199
  let c0_i32_204 : BitVec 32 := 0#32
  let v455 : BitVec 1 := Scalar.cmpi .ne v454 c0_i32_204
  let v456 : BitVec 1 := Scalar.andi v453 v455
  let v442 : BitVec 32 := Scalar.divsi v441 c2_i32_199
  let c1_i32_205 : BitVec 32 := 1#32
  let v457 : BitVec 32 := Scalar.subi v442 c1_i32_205
  let v458 : BitVec 32 := Scalar.select v456 v457 v442
  let v459 : BitVec 32 := v458
  let v460 : Index := Scalar.indexCast v459
  let c0_206 : Index := 0#32
  ![v460.toNat, 0]
def k0_mult23 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_32 : BitVec 32 := 0#32
  let v85 : BitVec 1 := Scalar.cmpi .sgt v20 c0_i32_32
  let v86 : BitVec 32 := Scalar.extui v85
  let c0_i32_33 : BitVec 32 := 0#32
  let v87 : BitVec 1 := Scalar.cmpi .slt v20 c0_i32_33
  let v88 : BitVec 32 := Scalar.extui v87
  let v89 : BitVec 32 := Scalar.subi v86 v88
  let c4_i32 : BitVec 32 := 4#32
  let c0_i32_34 : BitVec 32 := 0#32
  let v90 : BitVec 1 := Scalar.cmpi .sgt c4_i32 c0_i32_34
  let v91 : BitVec 32 := Scalar.extui v90
  let c0_i32_35 : BitVec 32 := 0#32
  let v92 : BitVec 1 := Scalar.cmpi .slt c4_i32 c0_i32_35
  let v93 : BitVec 32 := Scalar.extui v92
  let v94 : BitVec 32 := Scalar.subi v91 v93
  let v95 : BitVec 1 := Scalar.cmpi .ne v89 v94
  let v96 : BitVec 32 := Scalar.remsi v20 c4_i32
  let c0_i32_36 : BitVec 32 := 0#32
  let v97 : BitVec 1 := Scalar.cmpi .ne v96 c0_i32_36
  let v98 : BitVec 1 := Scalar.andi v95 v97
  let v84 : BitVec 32 := Scalar.divsi v20 c4_i32
  let c1_i32_37 : BitVec 32 := 1#32
  let v99 : BitVec 32 := Scalar.subi v84 c1_i32_37
  let v100 : BitVec 32 := Scalar.select v98 v99 v84
  let c1024_i32_185 : BitVec 32 := 1024#32
  let v378 : BitVec 32 := Scalar.muli v100 c1024_i32_185
  let v379 : BitVec 32 := v378
  let c256_i32_208 : BitVec 32 := 256#32
  let v469 : BitVec 32 := Scalar.addi v379 c256_i32_208
  let c0_i32_210 : BitVec 32 := 0#32
  let v471 : BitVec 1 := Scalar.cmpi .sgt v469 c0_i32_210
  let v472 : BitVec 32 := Scalar.extui v471
  let c0_i32_211 : BitVec 32 := 0#32
  let v473 : BitVec 1 := Scalar.cmpi .slt v469 c0_i32_211
  let v474 : BitVec 32 := Scalar.extui v473
  let v475 : BitVec 32 := Scalar.subi v472 v474
  let c2_i32_209 : BitVec 32 := 2#32
  let c0_i32_212 : BitVec 32 := 0#32
  let v476 : BitVec 1 := Scalar.cmpi .sgt c2_i32_209 c0_i32_212
  let v477 : BitVec 32 := Scalar.extui v476
  let c0_i32_213 : BitVec 32 := 0#32
  let v478 : BitVec 1 := Scalar.cmpi .slt c2_i32_209 c0_i32_213
  let v479 : BitVec 32 := Scalar.extui v478
  let v480 : BitVec 32 := Scalar.subi v477 v479
  let v481 : BitVec 1 := Scalar.cmpi .ne v475 v480
  let v482 : BitVec 32 := Scalar.remsi v469 c2_i32_209
  let c0_i32_214 : BitVec 32 := 0#32
  let v483 : BitVec 1 := Scalar.cmpi .ne v482 c0_i32_214
  let v484 : BitVec 1 := Scalar.andi v481 v483
  let v470 : BitVec 32 := Scalar.divsi v469 c2_i32_209
  let c1_i32_215 : BitVec 32 := 1#32
  let v485 : BitVec 32 := Scalar.subi v470 c1_i32_215
  let v486 : BitVec 32 := Scalar.select v484 v485 v470
  v486
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c2_i32_49 : BitVec 32 := 2#32
  let c0_i32_50 : BitVec 32 := 0#32
  let v119 : BitVec 1 := Scalar.cmpi .eq c2_i32_49 c0_i32_50
  let c1_i32_51 : BitVec 32 := 1#32
  let v120 : BitVec 32 := Scalar.select v119 c1_i32_51 c2_i32_49
  let v121 : BitVec 32 := Scalar.remsi v20 v120
  let c0_i32_53 : BitVec 32 := 0#32
  let v123 : BitVec 1 := Scalar.cmpi .slt v121 c0_i32_53
  let c0_i32_54 : BitVec 32 := 0#32
  let v124 : BitVec 1 := Scalar.cmpi .slt v120 c0_i32_54
  let v125 : BitVec 1 := Scalar.xori v123 v124
  let c0_i32_52 : BitVec 32 := 0#32
  let v122 : BitVec 1 := Scalar.cmpi .ne v121 c0_i32_52
  let v126 : BitVec 1 := Scalar.andi v125 v122
  let v127 : BitVec 32 := Scalar.addi v121 v120
  let v128 : BitVec 32 := Scalar.select v126 v127 v121
  let c1_i32_55 : BitVec 32 := 1#32
  let v129 : BitVec 1 := Scalar.cmpi .eq v128 c1_i32_55
  let v130 : BitVec 32 := Scalar.extui v129
  let c0_i32_56 : BitVec 32 := 0#32
  let v131 : BitVec 1 := Scalar.cmpi .ne v130 c0_i32_56
  v131

def k0_mult24 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  v379
def k0_off16 (i : grid0.Coords) : Fin 3 → Nat :=
  let c0_187 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v381 : Index := Scalar.indexCast v380
  let c0_188 : Index := 0#32
  ![0, v381.toNat, 0]
def k0_off17 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v429 : Index := Scalar.indexCast v380
  let c0_197 : Index := 0#32
  ![v429.toNat, 0]
def k0_mult25 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let c0_i32_199 : BitVec 32 := 0#32
  let v442 : BitVec 32 := Scalar.addi v380 c0_i32_199
  let c0_i32_201 : BitVec 32 := 0#32
  let v444 : BitVec 1 := Scalar.cmpi .sgt v442 c0_i32_201
  let v445 : BitVec 32 := Scalar.extui v444
  let c0_i32_202 : BitVec 32 := 0#32
  let v446 : BitVec 1 := Scalar.cmpi .slt v442 c0_i32_202
  let v447 : BitVec 32 := Scalar.extui v446
  let v448 : BitVec 32 := Scalar.subi v445 v447
  let c2_i32_200 : BitVec 32 := 2#32
  let c0_i32_203 : BitVec 32 := 0#32
  let v449 : BitVec 1 := Scalar.cmpi .sgt c2_i32_200 c0_i32_203
  let v450 : BitVec 32 := Scalar.extui v449
  let c0_i32_204 : BitVec 32 := 0#32
  let v451 : BitVec 1 := Scalar.cmpi .slt c2_i32_200 c0_i32_204
  let v452 : BitVec 32 := Scalar.extui v451
  let v453 : BitVec 32 := Scalar.subi v450 v452
  let v454 : BitVec 1 := Scalar.cmpi .ne v448 v453
  let v455 : BitVec 32 := Scalar.remsi v442 c2_i32_200
  let c0_i32_205 : BitVec 32 := 0#32
  let v456 : BitVec 1 := Scalar.cmpi .ne v455 c0_i32_205
  let v457 : BitVec 1 := Scalar.andi v454 v456
  let v443 : BitVec 32 := Scalar.divsi v442 c2_i32_200
  let c1_i32_206 : BitVec 32 := 1#32
  let v458 : BitVec 32 := Scalar.subi v443 c1_i32_206
  let v459 : BitVec 32 := Scalar.select v457 v458 v443
  v459
def k0_off18 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let c0_i32_199 : BitVec 32 := 0#32
  let v442 : BitVec 32 := Scalar.addi v380 c0_i32_199
  let c0_i32_201 : BitVec 32 := 0#32
  let v444 : BitVec 1 := Scalar.cmpi .sgt v442 c0_i32_201
  let v445 : BitVec 32 := Scalar.extui v444
  let c0_i32_202 : BitVec 32 := 0#32
  let v446 : BitVec 1 := Scalar.cmpi .slt v442 c0_i32_202
  let v447 : BitVec 32 := Scalar.extui v446
  let v448 : BitVec 32 := Scalar.subi v445 v447
  let c2_i32_200 : BitVec 32 := 2#32
  let c0_i32_203 : BitVec 32 := 0#32
  let v449 : BitVec 1 := Scalar.cmpi .sgt c2_i32_200 c0_i32_203
  let v450 : BitVec 32 := Scalar.extui v449
  let c0_i32_204 : BitVec 32 := 0#32
  let v451 : BitVec 1 := Scalar.cmpi .slt c2_i32_200 c0_i32_204
  let v452 : BitVec 32 := Scalar.extui v451
  let v453 : BitVec 32 := Scalar.subi v450 v452
  let v454 : BitVec 1 := Scalar.cmpi .ne v448 v453
  let v455 : BitVec 32 := Scalar.remsi v442 c2_i32_200
  let c0_i32_205 : BitVec 32 := 0#32
  let v456 : BitVec 1 := Scalar.cmpi .ne v455 c0_i32_205
  let v457 : BitVec 1 := Scalar.andi v454 v456
  let v443 : BitVec 32 := Scalar.divsi v442 c2_i32_200
  let c1_i32_206 : BitVec 32 := 1#32
  let v458 : BitVec 32 := Scalar.subi v443 c1_i32_206
  let v459 : BitVec 32 := Scalar.select v457 v458 v443
  let v460 : BitVec 32 := v459
  let v461 : Index := Scalar.indexCast v460
  let c0_207 : Index := 0#32
  ![v461.toNat, 0]
@[reducible] def k0_t5_loop : Scf.Loop 32 :=
  let c0_i32_58 : BitVec 32 := 0#32
  let c15_i32 : BitVec 32 := 15#32
  let v133 : BitVec 32 := Scalar.addi c0_i32_58 c15_i32
  let c1_i32_59 : BitVec 32 := 1#32
  ⟨c0_i32_58, v133, c1_i32_59⟩
@[reducible] def k0_t6_loop (i : grid0.Coords) : Scf.Loop 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v387 : BitVec 1 := Scalar.cmpi .sgt v20 c0_i32_188
  let v388 : BitVec 32 := Scalar.extui v387
  let c0_i32_189 : BitVec 32 := 0#32
  let v389 : BitVec 1 := Scalar.cmpi .slt v20 c0_i32_189
  let v390 : BitVec 32 := Scalar.extui v389
  let v391 : BitVec 32 := Scalar.subi v388 v390
  let c4_i32_187 : BitVec 32 := 4#32
  let c0_i32_190 : BitVec 32 := 0#32
  let v392 : BitVec 1 := Scalar.cmpi .sgt c4_i32_187 c0_i32_190
  let v393 : BitVec 32 := Scalar.extui v392
  let c0_i32_191 : BitVec 32 := 0#32
  let v394 : BitVec 1 := Scalar.cmpi .slt c4_i32_187 c0_i32_191
  let v395 : BitVec 32 := Scalar.extui v394
  let v396 : BitVec 32 := Scalar.subi v393 v395
  let v397 : BitVec 1 := Scalar.cmpi .ne v391 v396
  let v398 : BitVec 32 := Scalar.remsi v20 c4_i32_187
  let c0_i32_192 : BitVec 32 := 0#32
  let v399 : BitVec 1 := Scalar.cmpi .ne v398 c0_i32_192
  let v400 : BitVec 1 := Scalar.andi v397 v399
  let v386 : BitVec 32 := Scalar.divsi v20 c4_i32_187
  let c1_i32_193 : BitVec 32 := 1#32
  let v401 : BitVec 32 := Scalar.subi v386 c1_i32_193
  let v402 : BitVec 32 := Scalar.select v400 v401 v386
  let v403 : BitVec 32 := Scalar.subi v402 c0_i32_194
  let c1_i32_195 : BitVec 32 := 1#32
  let v405 : BitVec 32 := Scalar.divsi v403 c1_i32_195
  let v406 : BitVec 32 := Scalar.muli v405 c1_i32_195
  let v407 : BitVec 32 := Scalar.addi c0_i32_194 v406
  let c1_i32_196 : BitVec 32 := 1#32
  ⟨c0_i32_194, v407, c1_i32_196⟩
def k0_mult26 (i : grid0.Coords) (k0_t6 : Fin (k0_t6_loop i).trips) : BitVec 32 :=
  let c0_i32_194 : BitVec 32 := 0#32
  let c1_i32_196 : BitVec 32 := 1#32
  let arg18 : BitVec 32 := Scf.iv c0_i32_194 c1_i32_196 k0_t6
  let c1024_i32_217 : BitVec 32 := 1024#32
  let v448 : BitVec 32 := Scalar.muli arg18 c1024_i32_217
  v448
def k0_mult27 (i : grid0.Coords) (k0_t6 : Fin (k0_t6_loop i).trips) : BitVec 32 :=
  let c0_i32_194 : BitVec 32 := 0#32
  let c1_i32_196 : BitVec 32 := 1#32
  let arg18 : BitVec 32 := Scf.iv c0_i32_194 c1_i32_196 k0_t6
  let c1024_i32_217 : BitVec 32 := 1024#32
  let v448 : BitVec 32 := Scalar.muli arg18 c1024_i32_217
  let v449 : BitVec 32 := v448
  let c0_i32_219 : BitVec 32 := 0#32
  let v451 : BitVec 1 := Scalar.cmpi .sgt v449 c0_i32_219
  let v452 : BitVec 32 := Scalar.extui v451
  let c0_i32_220 : BitVec 32 := 0#32
  let v453 : BitVec 1 := Scalar.cmpi .slt v449 c0_i32_220
  let v454 : BitVec 32 := Scalar.extui v453
  let v455 : BitVec 32 := Scalar.subi v452 v454
  let c2_i32_218 : BitVec 32 := 2#32
  let c0_i32_221 : BitVec 32 := 0#32
  let v456 : BitVec 1 := Scalar.cmpi .sgt c2_i32_218 c0_i32_221
  let v457 : BitVec 32 := Scalar.extui v456
  let c0_i32_222 : BitVec 32 := 0#32
  let v458 : BitVec 1 := Scalar.cmpi .slt c2_i32_218 c0_i32_222
  let v459 : BitVec 32 := Scalar.extui v458
  let v460 : BitVec 32 := Scalar.subi v457 v459
  let v461 : BitVec 1 := Scalar.cmpi .ne v455 v460
  let v462 : BitVec 32 := Scalar.remsi v449 c2_i32_218
  let c0_i32_223 : BitVec 32 := 0#32
  let v463 : BitVec 1 := Scalar.cmpi .ne v462 c0_i32_223
  let v464 : BitVec 1 := Scalar.andi v461 v463
  let v450 : BitVec 32 := Scalar.divsi v449 c2_i32_218
  let c1_i32_224 : BitVec 32 := 1#32
  let v465 : BitVec 32 := Scalar.subi v450 c1_i32_224
  let v466 : BitVec 32 := Scalar.select v464 v465 v450
  v466
def k0_off19 (i : grid0.Coords) (k0_t6 : Fin (k0_t6_loop i).trips) : Fin 2 → Nat :=
  let c0_i32_194 : BitVec 32 := 0#32
  let c1_i32_196 : BitVec 32 := 1#32
  let arg18 : BitVec 32 := Scf.iv c0_i32_194 c1_i32_196 k0_t6
  let c1024_i32_217 : BitVec 32 := 1024#32
  let v448 : BitVec 32 := Scalar.muli arg18 c1024_i32_217
  let v449 : BitVec 32 := v448
  let c0_i32_219 : BitVec 32 := 0#32
  let v451 : BitVec 1 := Scalar.cmpi .sgt v449 c0_i32_219
  let v452 : BitVec 32 := Scalar.extui v451
  let c0_i32_220 : BitVec 32 := 0#32
  let v453 : BitVec 1 := Scalar.cmpi .slt v449 c0_i32_220
  let v454 : BitVec 32 := Scalar.extui v453
  let v455 : BitVec 32 := Scalar.subi v452 v454
  let c2_i32_218 : BitVec 32 := 2#32
  let c0_i32_221 : BitVec 32 := 0#32
  let v456 : BitVec 1 := Scalar.cmpi .sgt c2_i32_218 c0_i32_221
  let v457 : BitVec 32 := Scalar.extui v456
  let c0_i32_222 : BitVec 32 := 0#32
  let v458 : BitVec 1 := Scalar.cmpi .slt c2_i32_218 c0_i32_222
  let v459 : BitVec 32 := Scalar.extui v458
  let v460 : BitVec 32 := Scalar.subi v457 v459
  let v461 : BitVec 1 := Scalar.cmpi .ne v455 v460
  let v462 : BitVec 32 := Scalar.remsi v449 c2_i32_218
  let c0_i32_223 : BitVec 32 := 0#32
  let v463 : BitVec 1 := Scalar.cmpi .ne v462 c0_i32_223
  let v464 : BitVec 1 := Scalar.andi v461 v463
  let v450 : BitVec 32 := Scalar.divsi v449 c2_i32_218
  let c1_i32_224 : BitVec 32 := 1#32
  let v465 : BitVec 32 := Scalar.subi v450 c1_i32_224
  let v466 : BitVec 32 := Scalar.select v464 v465 v450
  let v467 : BitVec 32 := v466
  let v468 : Index := Scalar.indexCast v467
  let c0_225 : Index := 0#32
  ![v468.toNat, 0]
@[reducible] def k0_t7_loop (i : grid0.Coords) : Scf.Loop 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v387 : BitVec 1 := Scalar.cmpi .sgt v20 c0_i32_188
  let v388 : BitVec 32 := Scalar.extui v387
  let c0_i32_189 : BitVec 32 := 0#32
  let v389 : BitVec 1 := Scalar.cmpi .slt v20 c0_i32_189
  let v390 : BitVec 32 := Scalar.extui v389
  let v391 : BitVec 32 := Scalar.subi v388 v390
  let c4_i32_187 : BitVec 32 := 4#32
  let c0_i32_190 : BitVec 32 := 0#32
  let v392 : BitVec 1 := Scalar.cmpi .sgt c4_i32_187 c0_i32_190
  let v393 : BitVec 32 := Scalar.extui v392
  let c0_i32_191 : BitVec 32 := 0#32
  let v394 : BitVec 1 := Scalar.cmpi .slt c4_i32_187 c0_i32_191
  let v395 : BitVec 32 := Scalar.extui v394
  let v396 : BitVec 32 := Scalar.subi v393 v395
  let v397 : BitVec 1 := Scalar.cmpi .ne v391 v396
  let v398 : BitVec 32 := Scalar.remsi v20 c4_i32_187
  let c0_i32_192 : BitVec 32 := 0#32
  let v399 : BitVec 1 := Scalar.cmpi .ne v398 c0_i32_192
  let v400 : BitVec 1 := Scalar.andi v397 v399
  let v386 : BitVec 32 := Scalar.divsi v20 c4_i32_187
  let c1_i32_193 : BitVec 32 := 1#32
  let v401 : BitVec 32 := Scalar.subi v386 c1_i32_193
  let v402 : BitVec 32 := Scalar.select v400 v401 v386
  let v403 : BitVec 32 := Scalar.subi v402 c0_i32_194
  let c1_i32_195 : BitVec 32 := 1#32
  let v405 : BitVec 32 := Scalar.divsi v403 c1_i32_195
  let v406 : BitVec 32 := Scalar.muli v405 c1_i32_195
  let v407 : BitVec 32 := Scalar.addi c0_i32_194 v406
  let v404 : BitVec 32 := Scalar.addi c0_i32_194 v403
  let c1_i32_197 : BitVec 32 := 1#32
  ⟨v407, v404, c1_i32_197⟩
def k0_mult28 (i : grid0.Coords) (k0_t7 : Fin (k0_t7_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v387 : BitVec 1 := Scalar.cmpi .sgt v20 c0_i32_188
  let v388 : BitVec 32 := Scalar.extui v387
  let c0_i32_189 : BitVec 32 := 0#32
  let v389 : BitVec 1 := Scalar.cmpi .slt v20 c0_i32_189
  let v390 : BitVec 32 := Scalar.extui v389
  let v391 : BitVec 32 := Scalar.subi v388 v390
  let c4_i32_187 : BitVec 32 := 4#32
  let c0_i32_190 : BitVec 32 := 0#32
  let v392 : BitVec 1 := Scalar.cmpi .sgt c4_i32_187 c0_i32_190
  let v393 : BitVec 32 := Scalar.extui v392
  let c0_i32_191 : BitVec 32 := 0#32
  let v394 : BitVec 1 := Scalar.cmpi .slt c4_i32_187 c0_i32_191
  let v395 : BitVec 32 := Scalar.extui v394
  let v396 : BitVec 32 := Scalar.subi v393 v395
  let v397 : BitVec 1 := Scalar.cmpi .ne v391 v396
  let v398 : BitVec 32 := Scalar.remsi v20 c4_i32_187
  let c0_i32_192 : BitVec 32 := 0#32
  let v399 : BitVec 1 := Scalar.cmpi .ne v398 c0_i32_192
  let v400 : BitVec 1 := Scalar.andi v397 v399
  let v386 : BitVec 32 := Scalar.divsi v20 c4_i32_187
  let c1_i32_193 : BitVec 32 := 1#32
  let v401 : BitVec 32 := Scalar.subi v386 c1_i32_193
  let v402 : BitVec 32 := Scalar.select v400 v401 v386
  let v403 : BitVec 32 := Scalar.subi v402 c0_i32_194
  let c1_i32_195 : BitVec 32 := 1#32
  let v405 : BitVec 32 := Scalar.divsi v403 c1_i32_195
  let v406 : BitVec 32 := Scalar.muli v405 c1_i32_195
  let v407 : BitVec 32 := Scalar.addi c0_i32_194 v406
  let c1_i32_197 : BitVec 32 := 1#32
  let arg18 : BitVec 32 := Scf.iv v407 c1_i32_197 k0_t7
  let c1024_i32_217 : BitVec 32 := 1024#32
  let v448 : BitVec 32 := Scalar.muli arg18 c1024_i32_217
  v448
def k0_mult29 (i : grid0.Coords) (k0_t7 : Fin (k0_t7_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v387 : BitVec 1 := Scalar.cmpi .sgt v20 c0_i32_188
  let v388 : BitVec 32 := Scalar.extui v387
  let c0_i32_189 : BitVec 32 := 0#32
  let v389 : BitVec 1 := Scalar.cmpi .slt v20 c0_i32_189
  let v390 : BitVec 32 := Scalar.extui v389
  let v391 : BitVec 32 := Scalar.subi v388 v390
  let c4_i32_187 : BitVec 32 := 4#32
  let c0_i32_190 : BitVec 32 := 0#32
  let v392 : BitVec 1 := Scalar.cmpi .sgt c4_i32_187 c0_i32_190
  let v393 : BitVec 32 := Scalar.extui v392
  let c0_i32_191 : BitVec 32 := 0#32
  let v394 : BitVec 1 := Scalar.cmpi .slt c4_i32_187 c0_i32_191
  let v395 : BitVec 32 := Scalar.extui v394
  let v396 : BitVec 32 := Scalar.subi v393 v395
  let v397 : BitVec 1 := Scalar.cmpi .ne v391 v396
  let v398 : BitVec 32 := Scalar.remsi v20 c4_i32_187
  let c0_i32_192 : BitVec 32 := 0#32
  let v399 : BitVec 1 := Scalar.cmpi .ne v398 c0_i32_192
  let v400 : BitVec 1 := Scalar.andi v397 v399
  let v386 : BitVec 32 := Scalar.divsi v20 c4_i32_187
  let c1_i32_193 : BitVec 32 := 1#32
  let v401 : BitVec 32 := Scalar.subi v386 c1_i32_193
  let v402 : BitVec 32 := Scalar.select v400 v401 v386
  let v403 : BitVec 32 := Scalar.subi v402 c0_i32_194
  let c1_i32_195 : BitVec 32 := 1#32
  let v405 : BitVec 32 := Scalar.divsi v403 c1_i32_195
  let v406 : BitVec 32 := Scalar.muli v405 c1_i32_195
  let v407 : BitVec 32 := Scalar.addi c0_i32_194 v406
  let c1_i32_197 : BitVec 32 := 1#32
  let arg18 : BitVec 32 := Scf.iv v407 c1_i32_197 k0_t7
  let c1024_i32_217 : BitVec 32 := 1024#32
  let v448 : BitVec 32 := Scalar.muli arg18 c1024_i32_217
  let v449 : BitVec 32 := v448
  let c0_i32_219 : BitVec 32 := 0#32
  let v451 : BitVec 1 := Scalar.cmpi .sgt v449 c0_i32_219
  let v452 : BitVec 32 := Scalar.extui v451
  let c0_i32_220 : BitVec 32 := 0#32
  let v453 : BitVec 1 := Scalar.cmpi .slt v449 c0_i32_220
  let v454 : BitVec 32 := Scalar.extui v453
  let v455 : BitVec 32 := Scalar.subi v452 v454
  let c2_i32_218 : BitVec 32 := 2#32
  let c0_i32_221 : BitVec 32 := 0#32
  let v456 : BitVec 1 := Scalar.cmpi .sgt c2_i32_218 c0_i32_221
  let v457 : BitVec 32 := Scalar.extui v456
  let c0_i32_222 : BitVec 32 := 0#32
  let v458 : BitVec 1 := Scalar.cmpi .slt c2_i32_218 c0_i32_222
  let v459 : BitVec 32 := Scalar.extui v458
  let v460 : BitVec 32 := Scalar.subi v457 v459
  let v461 : BitVec 1 := Scalar.cmpi .ne v455 v460
  let v462 : BitVec 32 := Scalar.remsi v449 c2_i32_218
  let c0_i32_223 : BitVec 32 := 0#32
  let v463 : BitVec 1 := Scalar.cmpi .ne v462 c0_i32_223
  let v464 : BitVec 1 := Scalar.andi v461 v463
  let v450 : BitVec 32 := Scalar.divsi v449 c2_i32_218
  let c1_i32_224 : BitVec 32 := 1#32
  let v465 : BitVec 32 := Scalar.subi v450 c1_i32_224
  let v466 : BitVec 32 := Scalar.select v464 v465 v450
  v466
def k0_off20 (i : grid0.Coords) (k0_t7 : Fin (k0_t7_loop i).trips) : Fin 2 → Nat :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v387 : BitVec 1 := Scalar.cmpi .sgt v20 c0_i32_188
  let v388 : BitVec 32 := Scalar.extui v387
  let c0_i32_189 : BitVec 32 := 0#32
  let v389 : BitVec 1 := Scalar.cmpi .slt v20 c0_i32_189
  let v390 : BitVec 32 := Scalar.extui v389
  let v391 : BitVec 32 := Scalar.subi v388 v390
  let c4_i32_187 : BitVec 32 := 4#32
  let c0_i32_190 : BitVec 32 := 0#32
  let v392 : BitVec 1 := Scalar.cmpi .sgt c4_i32_187 c0_i32_190
  let v393 : BitVec 32 := Scalar.extui v392
  let c0_i32_191 : BitVec 32 := 0#32
  let v394 : BitVec 1 := Scalar.cmpi .slt c4_i32_187 c0_i32_191
  let v395 : BitVec 32 := Scalar.extui v394
  let v396 : BitVec 32 := Scalar.subi v393 v395
  let v397 : BitVec 1 := Scalar.cmpi .ne v391 v396
  let v398 : BitVec 32 := Scalar.remsi v20 c4_i32_187
  let c0_i32_192 : BitVec 32 := 0#32
  let v399 : BitVec 1 := Scalar.cmpi .ne v398 c0_i32_192
  let v400 : BitVec 1 := Scalar.andi v397 v399
  let v386 : BitVec 32 := Scalar.divsi v20 c4_i32_187
  let c1_i32_193 : BitVec 32 := 1#32
  let v401 : BitVec 32 := Scalar.subi v386 c1_i32_193
  let v402 : BitVec 32 := Scalar.select v400 v401 v386
  let v403 : BitVec 32 := Scalar.subi v402 c0_i32_194
  let c1_i32_195 : BitVec 32 := 1#32
  let v405 : BitVec 32 := Scalar.divsi v403 c1_i32_195
  let v406 : BitVec 32 := Scalar.muli v405 c1_i32_195
  let v407 : BitVec 32 := Scalar.addi c0_i32_194 v406
  let c1_i32_197 : BitVec 32 := 1#32
  let arg18 : BitVec 32 := Scf.iv v407 c1_i32_197 k0_t7
  let c1024_i32_217 : BitVec 32 := 1024#32
  let v448 : BitVec 32 := Scalar.muli arg18 c1024_i32_217
  let v449 : BitVec 32 := v448
  let c0_i32_219 : BitVec 32 := 0#32
  let v451 : BitVec 1 := Scalar.cmpi .sgt v449 c0_i32_219
  let v452 : BitVec 32 := Scalar.extui v451
  let c0_i32_220 : BitVec 32 := 0#32
  let v453 : BitVec 1 := Scalar.cmpi .slt v449 c0_i32_220
  let v454 : BitVec 32 := Scalar.extui v453
  let v455 : BitVec 32 := Scalar.subi v452 v454
  let c2_i32_218 : BitVec 32 := 2#32
  let c0_i32_221 : BitVec 32 := 0#32
  let v456 : BitVec 1 := Scalar.cmpi .sgt c2_i32_218 c0_i32_221
  let v457 : BitVec 32 := Scalar.extui v456
  let c0_i32_222 : BitVec 32 := 0#32
  let v458 : BitVec 1 := Scalar.cmpi .slt c2_i32_218 c0_i32_222
  let v459 : BitVec 32 := Scalar.extui v458
  let v460 : BitVec 32 := Scalar.subi v457 v459
  let v461 : BitVec 1 := Scalar.cmpi .ne v455 v460
  let v462 : BitVec 32 := Scalar.remsi v449 c2_i32_218
  let c0_i32_223 : BitVec 32 := 0#32
  let v463 : BitVec 1 := Scalar.cmpi .ne v462 c0_i32_223
  let v464 : BitVec 1 := Scalar.andi v461 v463
  let v450 : BitVec 32 := Scalar.divsi v449 c2_i32_218
  let c1_i32_224 : BitVec 32 := 1#32
  let v465 : BitVec 32 := Scalar.subi v450 c1_i32_224
  let v466 : BitVec 32 := Scalar.select v464 v465 v450
  let v467 : BitVec 32 := v466
  let v468 : Index := Scalar.indexCast v467
  let c0_225 : Index := 0#32
  ![v468.toNat, 0]
def k0_cond3 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c4_i32_198 : BitVec 32 := 4#32
  let c0_i32_199 : BitVec 32 := 0#32
  let v410 : BitVec 1 := Scalar.cmpi .eq c4_i32_198 c0_i32_199
  let c1_i32_200 : BitVec 32 := 1#32
  let v411 : BitVec 32 := Scalar.select v410 c1_i32_200 c4_i32_198
  let v412 : BitVec 32 := Scalar.remsi v20 v411
  let c0_i32_202 : BitVec 32 := 0#32
  let v414 : BitVec 1 := Scalar.cmpi .slt v412 c0_i32_202
  let c0_i32_203 : BitVec 32 := 0#32
  let v415 : BitVec 1 := Scalar.cmpi .slt v411 c0_i32_203
  let v416 : BitVec 1 := Scalar.xori v414 v415
  let c0_i32_201 : BitVec 32 := 0#32
  let v413 : BitVec 1 := Scalar.cmpi .ne v412 c0_i32_201
  let v417 : BitVec 1 := Scalar.andi v416 v413
  let v418 : BitVec 32 := Scalar.addi v412 v411
  let v419 : BitVec 32 := Scalar.select v417 v418 v412
  let c2_i32_204 : BitVec 32 := 2#32
  let v420 : BitVec 1 := Scalar.cmpi .sge v419 c2_i32_204
  let v421 : BitVec 32 := Scalar.extui v420
  let c0_i32_205 : BitVec 32 := 0#32
  let v422 : BitVec 1 := Scalar.cmpi .ne v421 c0_i32_205
  v422

def k0_mult30 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v387 : BitVec 1 := Scalar.cmpi .sgt v20 c0_i32_188
  let v388 : BitVec 32 := Scalar.extui v387
  let c0_i32_189 : BitVec 32 := 0#32
  let v389 : BitVec 1 := Scalar.cmpi .slt v20 c0_i32_189
  let v390 : BitVec 32 := Scalar.extui v389
  let v391 : BitVec 32 := Scalar.subi v388 v390
  let c4_i32_187 : BitVec 32 := 4#32
  let c0_i32_190 : BitVec 32 := 0#32
  let v392 : BitVec 1 := Scalar.cmpi .sgt c4_i32_187 c0_i32_190
  let v393 : BitVec 32 := Scalar.extui v392
  let c0_i32_191 : BitVec 32 := 0#32
  let v394 : BitVec 1 := Scalar.cmpi .slt c4_i32_187 c0_i32_191
  let v395 : BitVec 32 := Scalar.extui v394
  let v396 : BitVec 32 := Scalar.subi v393 v395
  let v397 : BitVec 1 := Scalar.cmpi .ne v391 v396
  let v398 : BitVec 32 := Scalar.remsi v20 c4_i32_187
  let c0_i32_192 : BitVec 32 := 0#32
  let v399 : BitVec 1 := Scalar.cmpi .ne v398 c0_i32_192
  let v400 : BitVec 1 := Scalar.andi v397 v399
  let v386 : BitVec 32 := Scalar.divsi v20 c4_i32_187
  let c1_i32_193 : BitVec 32 := 1#32
  let v401 : BitVec 32 := Scalar.subi v386 c1_i32_193
  let v402 : BitVec 32 := Scalar.select v400 v401 v386
  let c1024_i32_217 : BitVec 32 := 1024#32
  let v448 : BitVec 32 := Scalar.muli v402 c1024_i32_217
  v448
def k0_mult31 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v387 : BitVec 1 := Scalar.cmpi .sgt v20 c0_i32_188
  let v388 : BitVec 32 := Scalar.extui v387
  let c0_i32_189 : BitVec 32 := 0#32
  let v389 : BitVec 1 := Scalar.cmpi .slt v20 c0_i32_189
  let v390 : BitVec 32 := Scalar.extui v389
  let v391 : BitVec 32 := Scalar.subi v388 v390
  let c4_i32_187 : BitVec 32 := 4#32
  let c0_i32_190 : BitVec 32 := 0#32
  let v392 : BitVec 1 := Scalar.cmpi .sgt c4_i32_187 c0_i32_190
  let v393 : BitVec 32 := Scalar.extui v392
  let c0_i32_191 : BitVec 32 := 0#32
  let v394 : BitVec 1 := Scalar.cmpi .slt c4_i32_187 c0_i32_191
  let v395 : BitVec 32 := Scalar.extui v394
  let v396 : BitVec 32 := Scalar.subi v393 v395
  let v397 : BitVec 1 := Scalar.cmpi .ne v391 v396
  let v398 : BitVec 32 := Scalar.remsi v20 c4_i32_187
  let c0_i32_192 : BitVec 32 := 0#32
  let v399 : BitVec 1 := Scalar.cmpi .ne v398 c0_i32_192
  let v400 : BitVec 1 := Scalar.andi v397 v399
  let v386 : BitVec 32 := Scalar.divsi v20 c4_i32_187
  let c1_i32_193 : BitVec 32 := 1#32
  let v401 : BitVec 32 := Scalar.subi v386 c1_i32_193
  let v402 : BitVec 32 := Scalar.select v400 v401 v386
  let c1024_i32_217 : BitVec 32 := 1024#32
  let v448 : BitVec 32 := Scalar.muli v402 c1024_i32_217
  let v449 : BitVec 32 := v448
  let c0_i32_219 : BitVec 32 := 0#32
  let v451 : BitVec 1 := Scalar.cmpi .sgt v449 c0_i32_219
  let v452 : BitVec 32 := Scalar.extui v451
  let c0_i32_220 : BitVec 32 := 0#32
  let v453 : BitVec 1 := Scalar.cmpi .slt v449 c0_i32_220
  let v454 : BitVec 32 := Scalar.extui v453
  let v455 : BitVec 32 := Scalar.subi v452 v454
  let c2_i32_218 : BitVec 32 := 2#32
  let c0_i32_221 : BitVec 32 := 0#32
  let v456 : BitVec 1 := Scalar.cmpi .sgt c2_i32_218 c0_i32_221
  let v457 : BitVec 32 := Scalar.extui v456
  let c0_i32_222 : BitVec 32 := 0#32
  let v458 : BitVec 1 := Scalar.cmpi .slt c2_i32_218 c0_i32_222
  let v459 : BitVec 32 := Scalar.extui v458
  let v460 : BitVec 32 := Scalar.subi v457 v459
  let v461 : BitVec 1 := Scalar.cmpi .ne v455 v460
  let v462 : BitVec 32 := Scalar.remsi v449 c2_i32_218
  let c0_i32_223 : BitVec 32 := 0#32
  let v463 : BitVec 1 := Scalar.cmpi .ne v462 c0_i32_223
  let v464 : BitVec 1 := Scalar.andi v461 v463
  let v450 : BitVec 32 := Scalar.divsi v449 c2_i32_218
  let c1_i32_224 : BitVec 32 := 1#32
  let v465 : BitVec 32 := Scalar.subi v450 c1_i32_224
  let v466 : BitVec 32 := Scalar.select v464 v465 v450
  v466
def k0_off21 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v387 : BitVec 1 := Scalar.cmpi .sgt v20 c0_i32_188
  let v388 : BitVec 32 := Scalar.extui v387
  let c0_i32_189 : BitVec 32 := 0#32
  let v389 : BitVec 1 := Scalar.cmpi .slt v20 c0_i32_189
  let v390 : BitVec 32 := Scalar.extui v389
  let v391 : BitVec 32 := Scalar.subi v388 v390
  let c4_i32_187 : BitVec 32 := 4#32
  let c0_i32_190 : BitVec 32 := 0#32
  let v392 : BitVec 1 := Scalar.cmpi .sgt c4_i32_187 c0_i32_190
  let v393 : BitVec 32 := Scalar.extui v392
  let c0_i32_191 : BitVec 32 := 0#32
  let v394 : BitVec 1 := Scalar.cmpi .slt c4_i32_187 c0_i32_191
  let v395 : BitVec 32 := Scalar.extui v394
  let v396 : BitVec 32 := Scalar.subi v393 v395
  let v397 : BitVec 1 := Scalar.cmpi .ne v391 v396
  let v398 : BitVec 32 := Scalar.remsi v20 c4_i32_187
  let c0_i32_192 : BitVec 32 := 0#32
  let v399 : BitVec 1 := Scalar.cmpi .ne v398 c0_i32_192
  let v400 : BitVec 1 := Scalar.andi v397 v399
  let v386 : BitVec 32 := Scalar.divsi v20 c4_i32_187
  let c1_i32_193 : BitVec 32 := 1#32
  let v401 : BitVec 32 := Scalar.subi v386 c1_i32_193
  let v402 : BitVec 32 := Scalar.select v400 v401 v386
  let c1024_i32_217 : BitVec 32 := 1024#32
  let v448 : BitVec 32 := Scalar.muli v402 c1024_i32_217
  let v449 : BitVec 32 := v448
  let c0_i32_219 : BitVec 32 := 0#32
  let v451 : BitVec 1 := Scalar.cmpi .sgt v449 c0_i32_219
  let v452 : BitVec 32 := Scalar.extui v451
  let c0_i32_220 : BitVec 32 := 0#32
  let v453 : BitVec 1 := Scalar.cmpi .slt v449 c0_i32_220
  let v454 : BitVec 32 := Scalar.extui v453
  let v455 : BitVec 32 := Scalar.subi v452 v454
  let c2_i32_218 : BitVec 32 := 2#32
  let c0_i32_221 : BitVec 32 := 0#32
  let v456 : BitVec 1 := Scalar.cmpi .sgt c2_i32_218 c0_i32_221
  let v457 : BitVec 32 := Scalar.extui v456
  let c0_i32_222 : BitVec 32 := 0#32
  let v458 : BitVec 1 := Scalar.cmpi .slt c2_i32_218 c0_i32_222
  let v459 : BitVec 32 := Scalar.extui v458
  let v460 : BitVec 32 := Scalar.subi v457 v459
  let v461 : BitVec 1 := Scalar.cmpi .ne v455 v460
  let v462 : BitVec 32 := Scalar.remsi v449 c2_i32_218
  let c0_i32_223 : BitVec 32 := 0#32
  let v463 : BitVec 1 := Scalar.cmpi .ne v462 c0_i32_223
  let v464 : BitVec 1 := Scalar.andi v461 v463
  let v450 : BitVec 32 := Scalar.divsi v449 c2_i32_218
  let c1_i32_224 : BitVec 32 := 1#32
  let v465 : BitVec 32 := Scalar.subi v450 c1_i32_224
  let v466 : BitVec 32 := Scalar.select v464 v465 v450
  let v467 : BitVec 32 := v466
  let v468 : Index := Scalar.indexCast v467
  let c0_225 : Index := 0#32
  ![v468.toNat, 0]
def k0_cond4 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c2_i32_206 : BitVec 32 := 2#32
  let c0_i32_207 : BitVec 32 := 0#32
  let v424 : BitVec 1 := Scalar.cmpi .eq c2_i32_206 c0_i32_207
  let c1_i32_208 : BitVec 32 := 1#32
  let v425 : BitVec 32 := Scalar.select v424 c1_i32_208 c2_i32_206
  let v426 : BitVec 32 := Scalar.remsi v20 v425
  let c0_i32_210 : BitVec 32 := 0#32
  let v428 : BitVec 1 := Scalar.cmpi .slt v426 c0_i32_210
  let c0_i32_211 : BitVec 32 := 0#32
  let v429 : BitVec 1 := Scalar.cmpi .slt v425 c0_i32_211
  let v430 : BitVec 1 := Scalar.xori v428 v429
  let c0_i32_209 : BitVec 32 := 0#32
  let v427 : BitVec 1 := Scalar.cmpi .ne v426 c0_i32_209
  let v431 : BitVec 1 := Scalar.andi v430 v427
  let v432 : BitVec 32 := Scalar.addi v426 v425
  let v433 : BitVec 32 := Scalar.select v431 v432 v426
  let c1_i32_212 : BitVec 32 := 1#32
  let v434 : BitVec 1 := Scalar.cmpi .eq v433 c1_i32_212
  let v435 : BitVec 32 := Scalar.extui v434
  let c0_i32_213 : BitVec 32 := 0#32
  let v436 : BitVec 1 := Scalar.cmpi .ne v435 c0_i32_213
  v436

def k0_mult32 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_217 : BitVec 32 := 1#32
  let v448 : BitVec 32 := Scalar.subi v20 c1_i32_217
  let c256_i32_218 : BitVec 32 := 256#32
  let v449 : BitVec 32 := Scalar.muli v448 c256_i32_218
  v449
def k0_mult33 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_217 : BitVec 32 := 1#32
  let v448 : BitVec 32 := Scalar.subi v20 c1_i32_217
  let c256_i32_218 : BitVec 32 := 256#32
  let v449 : BitVec 32 := Scalar.muli v448 c256_i32_218
  let v450 : BitVec 32 := v449
  let c0_i32_220 : BitVec 32 := 0#32
  let v452 : BitVec 1 := Scalar.cmpi .sgt v450 c0_i32_220
  let v453 : BitVec 32 := Scalar.extui v452
  let c0_i32_221 : BitVec 32 := 0#32
  let v454 : BitVec 1 := Scalar.cmpi .slt v450 c0_i32_221
  let v455 : BitVec 32 := Scalar.extui v454
  let v456 : BitVec 32 := Scalar.subi v453 v455
  let c2_i32_219 : BitVec 32 := 2#32
  let c0_i32_222 : BitVec 32 := 0#32
  let v457 : BitVec 1 := Scalar.cmpi .sgt c2_i32_219 c0_i32_222
  let v458 : BitVec 32 := Scalar.extui v457
  let c0_i32_223 : BitVec 32 := 0#32
  let v459 : BitVec 1 := Scalar.cmpi .slt c2_i32_219 c0_i32_223
  let v460 : BitVec 32 := Scalar.extui v459
  let v461 : BitVec 32 := Scalar.subi v458 v460
  let v462 : BitVec 1 := Scalar.cmpi .ne v456 v461
  let v463 : BitVec 32 := Scalar.remsi v450 c2_i32_219
  let c0_i32_224 : BitVec 32 := 0#32
  let v464 : BitVec 1 := Scalar.cmpi .ne v463 c0_i32_224
  let v465 : BitVec 1 := Scalar.andi v462 v464
  let v451 : BitVec 32 := Scalar.divsi v450 c2_i32_219
  let c1_i32_225 : BitVec 32 := 1#32
  let v466 : BitVec 32 := Scalar.subi v451 c1_i32_225
  let v467 : BitVec 32 := Scalar.select v465 v466 v451
  v467
def k0_off22 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_217 : BitVec 32 := 1#32
  let v448 : BitVec 32 := Scalar.subi v20 c1_i32_217
  let c256_i32_218 : BitVec 32 := 256#32
  let v449 : BitVec 32 := Scalar.muli v448 c256_i32_218
  let v450 : BitVec 32 := v449
  let c0_i32_220 : BitVec 32 := 0#32
  let v452 : BitVec 1 := Scalar.cmpi .sgt v450 c0_i32_220
  let v453 : BitVec 32 := Scalar.extui v452
  let c0_i32_221 : BitVec 32 := 0#32
  let v454 : BitVec 1 := Scalar.cmpi .slt v450 c0_i32_221
  let v455 : BitVec 32 := Scalar.extui v454
  let v456 : BitVec 32 := Scalar.subi v453 v455
  let c2_i32_219 : BitVec 32 := 2#32
  let c0_i32_222 : BitVec 32 := 0#32
  let v457 : BitVec 1 := Scalar.cmpi .sgt c2_i32_219 c0_i32_222
  let v458 : BitVec 32 := Scalar.extui v457
  let c0_i32_223 : BitVec 32 := 0#32
  let v459 : BitVec 1 := Scalar.cmpi .slt c2_i32_219 c0_i32_223
  let v460 : BitVec 32 := Scalar.extui v459
  let v461 : BitVec 32 := Scalar.subi v458 v460
  let v462 : BitVec 1 := Scalar.cmpi .ne v456 v461
  let v463 : BitVec 32 := Scalar.remsi v450 c2_i32_219
  let c0_i32_224 : BitVec 32 := 0#32
  let v464 : BitVec 1 := Scalar.cmpi .ne v463 c0_i32_224
  let v465 : BitVec 1 := Scalar.andi v462 v464
  let v451 : BitVec 32 := Scalar.divsi v450 c2_i32_219
  let c1_i32_225 : BitVec 32 := 1#32
  let v466 : BitVec 32 := Scalar.subi v451 c1_i32_225
  let v467 : BitVec 32 := Scalar.select v465 v466 v451
  let v468 : BitVec 32 := v467
  let v469 : Index := Scalar.indexCast v468
  let c0_226 : Index := 0#32
  ![v469.toNat, 0]
@[reducible] def k0_t8_loop : Scf.Loop 32 :=
  let c0_i32_61 : BitVec 32 := 0#32
  let c17_i32_62 : BitVec 32 := 17#32
  let v139 : BitVec 32 := Scalar.addi c0_i32_61 c17_i32_62
  let c1_i32_63 : BitVec 32 := 1#32
  ⟨c0_i32_61, v139, c1_i32_63⟩
@[reducible] def k0_t9_loop (i : grid0.Coords) : Scf.Loop 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v384 : BitVec 1 := Scalar.cmpi .sgt v20 c0_i32_188
  let v385 : BitVec 32 := Scalar.extui v384
  let c0_i32_189 : BitVec 32 := 0#32
  let v386 : BitVec 1 := Scalar.cmpi .slt v20 c0_i32_189
  let v387 : BitVec 32 := Scalar.extui v386
  let v388 : BitVec 32 := Scalar.subi v385 v387
  let c4_i32_187 : BitVec 32 := 4#32
  let c0_i32_190 : BitVec 32 := 0#32
  let v389 : BitVec 1 := Scalar.cmpi .sgt c4_i32_187 c0_i32_190
  let v390 : BitVec 32 := Scalar.extui v389
  let c0_i32_191 : BitVec 32 := 0#32
  let v391 : BitVec 1 := Scalar.cmpi .slt c4_i32_187 c0_i32_191
  let v392 : BitVec 32 := Scalar.extui v391
  let v393 : BitVec 32 := Scalar.subi v390 v392
  let v394 : BitVec 1 := Scalar.cmpi .ne v388 v393
  let v395 : BitVec 32 := Scalar.remsi v20 c4_i32_187
  let c0_i32_192 : BitVec 32 := 0#32
  let v396 : BitVec 1 := Scalar.cmpi .ne v395 c0_i32_192
  let v397 : BitVec 1 := Scalar.andi v394 v396
  let v383 : BitVec 32 := Scalar.divsi v20 c4_i32_187
  let c1_i32_193 : BitVec 32 := 1#32
  let v398 : BitVec 32 := Scalar.subi v383 c1_i32_193
  let v399 : BitVec 32 := Scalar.select v397 v398 v383
  let v400 : BitVec 32 := Scalar.subi v399 c0_i32_194
  let c1_i32_195 : BitVec 32 := 1#32
  let v402 : BitVec 32 := Scalar.divsi v400 c1_i32_195
  let v403 : BitVec 32 := Scalar.muli v402 c1_i32_195
  let v404 : BitVec 32 := Scalar.addi c0_i32_194 v403
  let c1_i32_196 : BitVec 32 := 1#32
  ⟨c0_i32_194, v404, c1_i32_196⟩
def k0_mult34 (i : grid0.Coords) (k0_t9 : Fin (k0_t9_loop i).trips) : BitVec 32 :=
  let c0_i32_194 : BitVec 32 := 0#32
  let c1_i32_196 : BitVec 32 := 1#32
  let arg18 : BitVec 32 := Scf.iv c0_i32_194 c1_i32_196 k0_t9
  let c1024_i32_216 : BitVec 32 := 1024#32
  let v440 : BitVec 32 := Scalar.muli arg18 c1024_i32_216
  v440
def k0_off23 (i : grid0.Coords) (k0_t9 : Fin (k0_t9_loop i).trips) : Fin 2 → Nat :=
  let c0_i32_194 : BitVec 32 := 0#32
  let c1_i32_196 : BitVec 32 := 1#32
  let arg18 : BitVec 32 := Scf.iv c0_i32_194 c1_i32_196 k0_t9
  let c1024_i32_216 : BitVec 32 := 1024#32
  let v440 : BitVec 32 := Scalar.muli arg18 c1024_i32_216
  let v441 : BitVec 32 := v440
  let v442 : Index := Scalar.indexCast v441
  let c0_217 : Index := 0#32
  ![v442.toNat, 0]
@[reducible] def k0_t10_loop (i : grid0.Coords) : Scf.Loop 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v384 : BitVec 1 := Scalar.cmpi .sgt v20 c0_i32_188
  let v385 : BitVec 32 := Scalar.extui v384
  let c0_i32_189 : BitVec 32 := 0#32
  let v386 : BitVec 1 := Scalar.cmpi .slt v20 c0_i32_189
  let v387 : BitVec 32 := Scalar.extui v386
  let v388 : BitVec 32 := Scalar.subi v385 v387
  let c4_i32_187 : BitVec 32 := 4#32
  let c0_i32_190 : BitVec 32 := 0#32
  let v389 : BitVec 1 := Scalar.cmpi .sgt c4_i32_187 c0_i32_190
  let v390 : BitVec 32 := Scalar.extui v389
  let c0_i32_191 : BitVec 32 := 0#32
  let v391 : BitVec 1 := Scalar.cmpi .slt c4_i32_187 c0_i32_191
  let v392 : BitVec 32 := Scalar.extui v391
  let v393 : BitVec 32 := Scalar.subi v390 v392
  let v394 : BitVec 1 := Scalar.cmpi .ne v388 v393
  let v395 : BitVec 32 := Scalar.remsi v20 c4_i32_187
  let c0_i32_192 : BitVec 32 := 0#32
  let v396 : BitVec 1 := Scalar.cmpi .ne v395 c0_i32_192
  let v397 : BitVec 1 := Scalar.andi v394 v396
  let v383 : BitVec 32 := Scalar.divsi v20 c4_i32_187
  let c1_i32_193 : BitVec 32 := 1#32
  let v398 : BitVec 32 := Scalar.subi v383 c1_i32_193
  let v399 : BitVec 32 := Scalar.select v397 v398 v383
  let v400 : BitVec 32 := Scalar.subi v399 c0_i32_194
  let c1_i32_195 : BitVec 32 := 1#32
  let v402 : BitVec 32 := Scalar.divsi v400 c1_i32_195
  let v403 : BitVec 32 := Scalar.muli v402 c1_i32_195
  let v404 : BitVec 32 := Scalar.addi c0_i32_194 v403
  let v401 : BitVec 32 := Scalar.addi c0_i32_194 v400
  let c1_i32_197 : BitVec 32 := 1#32
  ⟨v404, v401, c1_i32_197⟩
def k0_mult35 (i : grid0.Coords) (k0_t10 : Fin (k0_t10_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v384 : BitVec 1 := Scalar.cmpi .sgt v20 c0_i32_188
  let v385 : BitVec 32 := Scalar.extui v384
  let c0_i32_189 : BitVec 32 := 0#32
  let v386 : BitVec 1 := Scalar.cmpi .slt v20 c0_i32_189
  let v387 : BitVec 32 := Scalar.extui v386
  let v388 : BitVec 32 := Scalar.subi v385 v387
  let c4_i32_187 : BitVec 32 := 4#32
  let c0_i32_190 : BitVec 32 := 0#32
  let v389 : BitVec 1 := Scalar.cmpi .sgt c4_i32_187 c0_i32_190
  let v390 : BitVec 32 := Scalar.extui v389
  let c0_i32_191 : BitVec 32 := 0#32
  let v391 : BitVec 1 := Scalar.cmpi .slt c4_i32_187 c0_i32_191
  let v392 : BitVec 32 := Scalar.extui v391
  let v393 : BitVec 32 := Scalar.subi v390 v392
  let v394 : BitVec 1 := Scalar.cmpi .ne v388 v393
  let v395 : BitVec 32 := Scalar.remsi v20 c4_i32_187
  let c0_i32_192 : BitVec 32 := 0#32
  let v396 : BitVec 1 := Scalar.cmpi .ne v395 c0_i32_192
  let v397 : BitVec 1 := Scalar.andi v394 v396
  let v383 : BitVec 32 := Scalar.divsi v20 c4_i32_187
  let c1_i32_193 : BitVec 32 := 1#32
  let v398 : BitVec 32 := Scalar.subi v383 c1_i32_193
  let v399 : BitVec 32 := Scalar.select v397 v398 v383
  let v400 : BitVec 32 := Scalar.subi v399 c0_i32_194
  let c1_i32_195 : BitVec 32 := 1#32
  let v402 : BitVec 32 := Scalar.divsi v400 c1_i32_195
  let v403 : BitVec 32 := Scalar.muli v402 c1_i32_195
  let v404 : BitVec 32 := Scalar.addi c0_i32_194 v403
  let c1_i32_197 : BitVec 32 := 1#32
  let arg18 : BitVec 32 := Scf.iv v404 c1_i32_197 k0_t10
  let c1024_i32_216 : BitVec 32 := 1024#32
  let v440 : BitVec 32 := Scalar.muli arg18 c1024_i32_216
  v440
def k0_off24 (i : grid0.Coords) (k0_t10 : Fin (k0_t10_loop i).trips) : Fin 2 → Nat :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v384 : BitVec 1 := Scalar.cmpi .sgt v20 c0_i32_188
  let v385 : BitVec 32 := Scalar.extui v384
  let c0_i32_189 : BitVec 32 := 0#32
  let v386 : BitVec 1 := Scalar.cmpi .slt v20 c0_i32_189
  let v387 : BitVec 32 := Scalar.extui v386
  let v388 : BitVec 32 := Scalar.subi v385 v387
  let c4_i32_187 : BitVec 32 := 4#32
  let c0_i32_190 : BitVec 32 := 0#32
  let v389 : BitVec 1 := Scalar.cmpi .sgt c4_i32_187 c0_i32_190
  let v390 : BitVec 32 := Scalar.extui v389
  let c0_i32_191 : BitVec 32 := 0#32
  let v391 : BitVec 1 := Scalar.cmpi .slt c4_i32_187 c0_i32_191
  let v392 : BitVec 32 := Scalar.extui v391
  let v393 : BitVec 32 := Scalar.subi v390 v392
  let v394 : BitVec 1 := Scalar.cmpi .ne v388 v393
  let v395 : BitVec 32 := Scalar.remsi v20 c4_i32_187
  let c0_i32_192 : BitVec 32 := 0#32
  let v396 : BitVec 1 := Scalar.cmpi .ne v395 c0_i32_192
  let v397 : BitVec 1 := Scalar.andi v394 v396
  let v383 : BitVec 32 := Scalar.divsi v20 c4_i32_187
  let c1_i32_193 : BitVec 32 := 1#32
  let v398 : BitVec 32 := Scalar.subi v383 c1_i32_193
  let v399 : BitVec 32 := Scalar.select v397 v398 v383
  let v400 : BitVec 32 := Scalar.subi v399 c0_i32_194
  let c1_i32_195 : BitVec 32 := 1#32
  let v402 : BitVec 32 := Scalar.divsi v400 c1_i32_195
  let v403 : BitVec 32 := Scalar.muli v402 c1_i32_195
  let v404 : BitVec 32 := Scalar.addi c0_i32_194 v403
  let c1_i32_197 : BitVec 32 := 1#32
  let arg18 : BitVec 32 := Scf.iv v404 c1_i32_197 k0_t10
  let c1024_i32_216 : BitVec 32 := 1024#32
  let v440 : BitVec 32 := Scalar.muli arg18 c1024_i32_216
  let v441 : BitVec 32 := v440
  let v442 : Index := Scalar.indexCast v441
  let c0_217 : Index := 0#32
  ![v442.toNat, 0]
def k0_cond5 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c4_i32_198 : BitVec 32 := 4#32
  let c0_i32_199 : BitVec 32 := 0#32
  let v407 : BitVec 1 := Scalar.cmpi .eq c4_i32_198 c0_i32_199
  let c1_i32_200 : BitVec 32 := 1#32
  let v408 : BitVec 32 := Scalar.select v407 c1_i32_200 c4_i32_198
  let v409 : BitVec 32 := Scalar.remsi v20 v408
  let c0_i32_202 : BitVec 32 := 0#32
  let v411 : BitVec 1 := Scalar.cmpi .slt v409 c0_i32_202
  let c0_i32_203 : BitVec 32 := 0#32
  let v412 : BitVec 1 := Scalar.cmpi .slt v408 c0_i32_203
  let v413 : BitVec 1 := Scalar.xori v411 v412
  let c0_i32_201 : BitVec 32 := 0#32
  let v410 : BitVec 1 := Scalar.cmpi .ne v409 c0_i32_201
  let v414 : BitVec 1 := Scalar.andi v413 v410
  let v415 : BitVec 32 := Scalar.addi v409 v408
  let v416 : BitVec 32 := Scalar.select v414 v415 v409
  let c2_i32_204 : BitVec 32 := 2#32
  let v417 : BitVec 1 := Scalar.cmpi .sge v416 c2_i32_204
  let v418 : BitVec 32 := Scalar.extui v417
  let c0_i32_205 : BitVec 32 := 0#32
  let v419 : BitVec 1 := Scalar.cmpi .ne v418 c0_i32_205
  v419

def k0_mult36 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v384 : BitVec 1 := Scalar.cmpi .sgt v20 c0_i32_188
  let v385 : BitVec 32 := Scalar.extui v384
  let c0_i32_189 : BitVec 32 := 0#32
  let v386 : BitVec 1 := Scalar.cmpi .slt v20 c0_i32_189
  let v387 : BitVec 32 := Scalar.extui v386
  let v388 : BitVec 32 := Scalar.subi v385 v387
  let c4_i32_187 : BitVec 32 := 4#32
  let c0_i32_190 : BitVec 32 := 0#32
  let v389 : BitVec 1 := Scalar.cmpi .sgt c4_i32_187 c0_i32_190
  let v390 : BitVec 32 := Scalar.extui v389
  let c0_i32_191 : BitVec 32 := 0#32
  let v391 : BitVec 1 := Scalar.cmpi .slt c4_i32_187 c0_i32_191
  let v392 : BitVec 32 := Scalar.extui v391
  let v393 : BitVec 32 := Scalar.subi v390 v392
  let v394 : BitVec 1 := Scalar.cmpi .ne v388 v393
  let v395 : BitVec 32 := Scalar.remsi v20 c4_i32_187
  let c0_i32_192 : BitVec 32 := 0#32
  let v396 : BitVec 1 := Scalar.cmpi .ne v395 c0_i32_192
  let v397 : BitVec 1 := Scalar.andi v394 v396
  let v383 : BitVec 32 := Scalar.divsi v20 c4_i32_187
  let c1_i32_193 : BitVec 32 := 1#32
  let v398 : BitVec 32 := Scalar.subi v383 c1_i32_193
  let v399 : BitVec 32 := Scalar.select v397 v398 v383
  let c1024_i32_216 : BitVec 32 := 1024#32
  let v440 : BitVec 32 := Scalar.muli v399 c1024_i32_216
  v440
def k0_off25 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_188 : BitVec 32 := 0#32
  let v384 : BitVec 1 := Scalar.cmpi .sgt v20 c0_i32_188
  let v385 : BitVec 32 := Scalar.extui v384
  let c0_i32_189 : BitVec 32 := 0#32
  let v386 : BitVec 1 := Scalar.cmpi .slt v20 c0_i32_189
  let v387 : BitVec 32 := Scalar.extui v386
  let v388 : BitVec 32 := Scalar.subi v385 v387
  let c4_i32_187 : BitVec 32 := 4#32
  let c0_i32_190 : BitVec 32 := 0#32
  let v389 : BitVec 1 := Scalar.cmpi .sgt c4_i32_187 c0_i32_190
  let v390 : BitVec 32 := Scalar.extui v389
  let c0_i32_191 : BitVec 32 := 0#32
  let v391 : BitVec 1 := Scalar.cmpi .slt c4_i32_187 c0_i32_191
  let v392 : BitVec 32 := Scalar.extui v391
  let v393 : BitVec 32 := Scalar.subi v390 v392
  let v394 : BitVec 1 := Scalar.cmpi .ne v388 v393
  let v395 : BitVec 32 := Scalar.remsi v20 c4_i32_187
  let c0_i32_192 : BitVec 32 := 0#32
  let v396 : BitVec 1 := Scalar.cmpi .ne v395 c0_i32_192
  let v397 : BitVec 1 := Scalar.andi v394 v396
  let v383 : BitVec 32 := Scalar.divsi v20 c4_i32_187
  let c1_i32_193 : BitVec 32 := 1#32
  let v398 : BitVec 32 := Scalar.subi v383 c1_i32_193
  let v399 : BitVec 32 := Scalar.select v397 v398 v383
  let c1024_i32_216 : BitVec 32 := 1024#32
  let v440 : BitVec 32 := Scalar.muli v399 c1024_i32_216
  let v441 : BitVec 32 := v440
  let v442 : Index := Scalar.indexCast v441
  let c0_217 : Index := 0#32
  ![v442.toNat, 0]
def k0_cond6 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c2_i32_206 : BitVec 32 := 2#32
  let c0_i32_207 : BitVec 32 := 0#32
  let v421 : BitVec 1 := Scalar.cmpi .eq c2_i32_206 c0_i32_207
  let c1_i32_208 : BitVec 32 := 1#32
  let v422 : BitVec 32 := Scalar.select v421 c1_i32_208 c2_i32_206
  let v423 : BitVec 32 := Scalar.remsi v20 v422
  let c0_i32_210 : BitVec 32 := 0#32
  let v425 : BitVec 1 := Scalar.cmpi .slt v423 c0_i32_210
  let c0_i32_211 : BitVec 32 := 0#32
  let v426 : BitVec 1 := Scalar.cmpi .slt v422 c0_i32_211
  let v427 : BitVec 1 := Scalar.xori v425 v426
  let c0_i32_209 : BitVec 32 := 0#32
  let v424 : BitVec 1 := Scalar.cmpi .ne v423 c0_i32_209
  let v428 : BitVec 1 := Scalar.andi v427 v424
  let v429 : BitVec 32 := Scalar.addi v423 v422
  let v430 : BitVec 32 := Scalar.select v428 v429 v423
  let c1_i32_212 : BitVec 32 := 1#32
  let v431 : BitVec 1 := Scalar.cmpi .eq v430 c1_i32_212
  let v432 : BitVec 32 := Scalar.extui v431
  let c0_i32_213 : BitVec 32 := 0#32
  let v433 : BitVec 1 := Scalar.cmpi .ne v432 c0_i32_213
  v433

def k0_mult37 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_216 : BitVec 32 := 1#32
  let v440 : BitVec 32 := Scalar.subi v20 c1_i32_216
  let c256_i32_217 : BitVec 32 := 256#32
  let v441 : BitVec 32 := Scalar.muli v440 c256_i32_217
  v441
def k0_off26 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_216 : BitVec 32 := 1#32
  let v440 : BitVec 32 := Scalar.subi v20 c1_i32_216
  let c256_i32_217 : BitVec 32 := 256#32
  let v441 : BitVec 32 := Scalar.muli v440 c256_i32_217
  let v442 : BitVec 32 := v441
  let v443 : Index := Scalar.indexCast v442
  let c0_218 : Index := 0#32
  ![v443.toNat, 0]
@[reducible] def k0_t11_loop (i : grid0.Coords) : Scf.Loop 32 :=
  let c0_i32_73 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_67 : BitVec 32 := 0#32
  let v145 : BitVec 1 := Scalar.cmpi .sgt v20 c0_i32_67
  let v146 : BitVec 32 := Scalar.extui v145
  let c0_i32_68 : BitVec 32 := 0#32
  let v147 : BitVec 1 := Scalar.cmpi .slt v20 c0_i32_68
  let v148 : BitVec 32 := Scalar.extui v147
  let v149 : BitVec 32 := Scalar.subi v146 v148
  let c4_i32_66 : BitVec 32 := 4#32
  let c0_i32_69 : BitVec 32 := 0#32
  let v150 : BitVec 1 := Scalar.cmpi .sgt c4_i32_66 c0_i32_69
  let v151 : BitVec 32 := Scalar.extui v150
  let c0_i32_70 : BitVec 32 := 0#32
  let v152 : BitVec 1 := Scalar.cmpi .slt c4_i32_66 c0_i32_70
  let v153 : BitVec 32 := Scalar.extui v152
  let v154 : BitVec 32 := Scalar.subi v151 v153
  let v155 : BitVec 1 := Scalar.cmpi .ne v149 v154
  let v156 : BitVec 32 := Scalar.remsi v20 c4_i32_66
  let c0_i32_71 : BitVec 32 := 0#32
  let v157 : BitVec 1 := Scalar.cmpi .ne v156 c0_i32_71
  let v158 : BitVec 1 := Scalar.andi v155 v157
  let v144 : BitVec 32 := Scalar.divsi v20 c4_i32_66
  let c1_i32_72 : BitVec 32 := 1#32
  let v159 : BitVec 32 := Scalar.subi v144 c1_i32_72
  let v160 : BitVec 32 := Scalar.select v158 v159 v144
  let v161 : BitVec 32 := Scalar.subi v160 c0_i32_73
  let c1_i32_74 : BitVec 32 := 1#32
  let v163 : BitVec 32 := Scalar.divsi v161 c1_i32_74
  let v164 : BitVec 32 := Scalar.muli v163 c1_i32_74
  let v165 : BitVec 32 := Scalar.addi c0_i32_73 v164
  let c1_i32_75 : BitVec 32 := 1#32
  ⟨c0_i32_73, v165, c1_i32_75⟩
def k0_mult38 (i : grid0.Coords) (k0_t11 : Fin (k0_t11_loop i).trips) : BitVec 32 :=
  let c0_i32_73 : BitVec 32 := 0#32
  let c1_i32_75 : BitVec 32 := 1#32
  let arg16 : BitVec 32 := Scf.iv c0_i32_73 c1_i32_75 k0_t11
  let c1024_i32_185 : BitVec 32 := 1024#32
  let v378 : BitVec 32 := Scalar.muli arg16 c1024_i32_185
  v378
def k0_off27 (i : grid0.Coords) (k0_t11 : Fin (k0_t11_loop i).trips) : Fin 2 → Nat :=
  let c0_i32_73 : BitVec 32 := 0#32
  let c1_i32_75 : BitVec 32 := 1#32
  let arg16 : BitVec 32 := Scf.iv c0_i32_73 c1_i32_75 k0_t11
  let c1024_i32_185 : BitVec 32 := 1024#32
  let v378 : BitVec 32 := Scalar.muli arg16 c1024_i32_185
  let v379 : BitVec 32 := v378
  let v380 : Index := Scalar.indexCast v379
  let c0_186 : Index := 0#32
  ![v380.toNat, 0]
@[reducible] def k0_t12_loop (i : grid0.Coords) : Scf.Loop 32 :=
  let c0_i32_73 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_67 : BitVec 32 := 0#32
  let v145 : BitVec 1 := Scalar.cmpi .sgt v20 c0_i32_67
  let v146 : BitVec 32 := Scalar.extui v145
  let c0_i32_68 : BitVec 32 := 0#32
  let v147 : BitVec 1 := Scalar.cmpi .slt v20 c0_i32_68
  let v148 : BitVec 32 := Scalar.extui v147
  let v149 : BitVec 32 := Scalar.subi v146 v148
  let c4_i32_66 : BitVec 32 := 4#32
  let c0_i32_69 : BitVec 32 := 0#32
  let v150 : BitVec 1 := Scalar.cmpi .sgt c4_i32_66 c0_i32_69
  let v151 : BitVec 32 := Scalar.extui v150
  let c0_i32_70 : BitVec 32 := 0#32
  let v152 : BitVec 1 := Scalar.cmpi .slt c4_i32_66 c0_i32_70
  let v153 : BitVec 32 := Scalar.extui v152
  let v154 : BitVec 32 := Scalar.subi v151 v153
  let v155 : BitVec 1 := Scalar.cmpi .ne v149 v154
  let v156 : BitVec 32 := Scalar.remsi v20 c4_i32_66
  let c0_i32_71 : BitVec 32 := 0#32
  let v157 : BitVec 1 := Scalar.cmpi .ne v156 c0_i32_71
  let v158 : BitVec 1 := Scalar.andi v155 v157
  let v144 : BitVec 32 := Scalar.divsi v20 c4_i32_66
  let c1_i32_72 : BitVec 32 := 1#32
  let v159 : BitVec 32 := Scalar.subi v144 c1_i32_72
  let v160 : BitVec 32 := Scalar.select v158 v159 v144
  let v161 : BitVec 32 := Scalar.subi v160 c0_i32_73
  let c1_i32_74 : BitVec 32 := 1#32
  let v163 : BitVec 32 := Scalar.divsi v161 c1_i32_74
  let v164 : BitVec 32 := Scalar.muli v163 c1_i32_74
  let v165 : BitVec 32 := Scalar.addi c0_i32_73 v164
  let v162 : BitVec 32 := Scalar.addi c0_i32_73 v161
  let c1_i32_76 : BitVec 32 := 1#32
  ⟨v165, v162, c1_i32_76⟩
def k0_mult39 (i : grid0.Coords) (k0_t12 : Fin (k0_t12_loop i).trips) : BitVec 32 :=
  let c0_i32_73 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_67 : BitVec 32 := 0#32
  let v145 : BitVec 1 := Scalar.cmpi .sgt v20 c0_i32_67
  let v146 : BitVec 32 := Scalar.extui v145
  let c0_i32_68 : BitVec 32 := 0#32
  let v147 : BitVec 1 := Scalar.cmpi .slt v20 c0_i32_68
  let v148 : BitVec 32 := Scalar.extui v147
  let v149 : BitVec 32 := Scalar.subi v146 v148
  let c4_i32_66 : BitVec 32 := 4#32
  let c0_i32_69 : BitVec 32 := 0#32
  let v150 : BitVec 1 := Scalar.cmpi .sgt c4_i32_66 c0_i32_69
  let v151 : BitVec 32 := Scalar.extui v150
  let c0_i32_70 : BitVec 32 := 0#32
  let v152 : BitVec 1 := Scalar.cmpi .slt c4_i32_66 c0_i32_70
  let v153 : BitVec 32 := Scalar.extui v152
  let v154 : BitVec 32 := Scalar.subi v151 v153
  let v155 : BitVec 1 := Scalar.cmpi .ne v149 v154
  let v156 : BitVec 32 := Scalar.remsi v20 c4_i32_66
  let c0_i32_71 : BitVec 32 := 0#32
  let v157 : BitVec 1 := Scalar.cmpi .ne v156 c0_i32_71
  let v158 : BitVec 1 := Scalar.andi v155 v157
  let v144 : BitVec 32 := Scalar.divsi v20 c4_i32_66
  let c1_i32_72 : BitVec 32 := 1#32
  let v159 : BitVec 32 := Scalar.subi v144 c1_i32_72
  let v160 : BitVec 32 := Scalar.select v158 v159 v144
  let v161 : BitVec 32 := Scalar.subi v160 c0_i32_73
  let c1_i32_74 : BitVec 32 := 1#32
  let v163 : BitVec 32 := Scalar.divsi v161 c1_i32_74
  let v164 : BitVec 32 := Scalar.muli v163 c1_i32_74
  let v165 : BitVec 32 := Scalar.addi c0_i32_73 v164
  let c1_i32_76 : BitVec 32 := 1#32
  let arg16 : BitVec 32 := Scf.iv v165 c1_i32_76 k0_t12
  let c1024_i32_185 : BitVec 32 := 1024#32
  let v378 : BitVec 32 := Scalar.muli arg16 c1024_i32_185
  v378
def k0_off28 (i : grid0.Coords) (k0_t12 : Fin (k0_t12_loop i).trips) : Fin 2 → Nat :=
  let c0_i32_73 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_67 : BitVec 32 := 0#32
  let v145 : BitVec 1 := Scalar.cmpi .sgt v20 c0_i32_67
  let v146 : BitVec 32 := Scalar.extui v145
  let c0_i32_68 : BitVec 32 := 0#32
  let v147 : BitVec 1 := Scalar.cmpi .slt v20 c0_i32_68
  let v148 : BitVec 32 := Scalar.extui v147
  let v149 : BitVec 32 := Scalar.subi v146 v148
  let c4_i32_66 : BitVec 32 := 4#32
  let c0_i32_69 : BitVec 32 := 0#32
  let v150 : BitVec 1 := Scalar.cmpi .sgt c4_i32_66 c0_i32_69
  let v151 : BitVec 32 := Scalar.extui v150
  let c0_i32_70 : BitVec 32 := 0#32
  let v152 : BitVec 1 := Scalar.cmpi .slt c4_i32_66 c0_i32_70
  let v153 : BitVec 32 := Scalar.extui v152
  let v154 : BitVec 32 := Scalar.subi v151 v153
  let v155 : BitVec 1 := Scalar.cmpi .ne v149 v154
  let v156 : BitVec 32 := Scalar.remsi v20 c4_i32_66
  let c0_i32_71 : BitVec 32 := 0#32
  let v157 : BitVec 1 := Scalar.cmpi .ne v156 c0_i32_71
  let v158 : BitVec 1 := Scalar.andi v155 v157
  let v144 : BitVec 32 := Scalar.divsi v20 c4_i32_66
  let c1_i32_72 : BitVec 32 := 1#32
  let v159 : BitVec 32 := Scalar.subi v144 c1_i32_72
  let v160 : BitVec 32 := Scalar.select v158 v159 v144
  let v161 : BitVec 32 := Scalar.subi v160 c0_i32_73
  let c1_i32_74 : BitVec 32 := 1#32
  let v163 : BitVec 32 := Scalar.divsi v161 c1_i32_74
  let v164 : BitVec 32 := Scalar.muli v163 c1_i32_74
  let v165 : BitVec 32 := Scalar.addi c0_i32_73 v164
  let c1_i32_76 : BitVec 32 := 1#32
  let arg16 : BitVec 32 := Scf.iv v165 c1_i32_76 k0_t12
  let c1024_i32_185 : BitVec 32 := 1024#32
  let v378 : BitVec 32 := Scalar.muli arg16 c1024_i32_185
  let v379 : BitVec 32 := v378
  let v380 : Index := Scalar.indexCast v379
  let c0_186 : Index := 0#32
  ![v380.toNat, 0]
def k0_cond7 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c4_i32_77 : BitVec 32 := 4#32
  let c0_i32_78 : BitVec 32 := 0#32
  let v168 : BitVec 1 := Scalar.cmpi .eq c4_i32_77 c0_i32_78
  let c1_i32_79 : BitVec 32 := 1#32
  let v169 : BitVec 32 := Scalar.select v168 c1_i32_79 c4_i32_77
  let v170 : BitVec 32 := Scalar.remsi v20 v169
  let c0_i32_81 : BitVec 32 := 0#32
  let v172 : BitVec 1 := Scalar.cmpi .slt v170 c0_i32_81
  let c0_i32_82 : BitVec 32 := 0#32
  let v173 : BitVec 1 := Scalar.cmpi .slt v169 c0_i32_82
  let v174 : BitVec 1 := Scalar.xori v172 v173
  let c0_i32_80 : BitVec 32 := 0#32
  let v171 : BitVec 1 := Scalar.cmpi .ne v170 c0_i32_80
  let v175 : BitVec 1 := Scalar.andi v174 v171
  let v176 : BitVec 32 := Scalar.addi v170 v169
  let v177 : BitVec 32 := Scalar.select v175 v176 v170
  let c2_i32_83 : BitVec 32 := 2#32
  let v178 : BitVec 1 := Scalar.cmpi .sge v177 c2_i32_83
  let v179 : BitVec 32 := Scalar.extui v178
  let c0_i32_84 : BitVec 32 := 0#32
  let v180 : BitVec 1 := Scalar.cmpi .ne v179 c0_i32_84
  v180

def k0_mult40 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_67 : BitVec 32 := 0#32
  let v145 : BitVec 1 := Scalar.cmpi .sgt v20 c0_i32_67
  let v146 : BitVec 32 := Scalar.extui v145
  let c0_i32_68 : BitVec 32 := 0#32
  let v147 : BitVec 1 := Scalar.cmpi .slt v20 c0_i32_68
  let v148 : BitVec 32 := Scalar.extui v147
  let v149 : BitVec 32 := Scalar.subi v146 v148
  let c4_i32_66 : BitVec 32 := 4#32
  let c0_i32_69 : BitVec 32 := 0#32
  let v150 : BitVec 1 := Scalar.cmpi .sgt c4_i32_66 c0_i32_69
  let v151 : BitVec 32 := Scalar.extui v150
  let c0_i32_70 : BitVec 32 := 0#32
  let v152 : BitVec 1 := Scalar.cmpi .slt c4_i32_66 c0_i32_70
  let v153 : BitVec 32 := Scalar.extui v152
  let v154 : BitVec 32 := Scalar.subi v151 v153
  let v155 : BitVec 1 := Scalar.cmpi .ne v149 v154
  let v156 : BitVec 32 := Scalar.remsi v20 c4_i32_66
  let c0_i32_71 : BitVec 32 := 0#32
  let v157 : BitVec 1 := Scalar.cmpi .ne v156 c0_i32_71
  let v158 : BitVec 1 := Scalar.andi v155 v157
  let v144 : BitVec 32 := Scalar.divsi v20 c4_i32_66
  let c1_i32_72 : BitVec 32 := 1#32
  let v159 : BitVec 32 := Scalar.subi v144 c1_i32_72
  let v160 : BitVec 32 := Scalar.select v158 v159 v144
  let c1024_i32_185 : BitVec 32 := 1024#32
  let v378 : BitVec 32 := Scalar.muli v160 c1024_i32_185
  v378
def k0_off29 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_67 : BitVec 32 := 0#32
  let v145 : BitVec 1 := Scalar.cmpi .sgt v20 c0_i32_67
  let v146 : BitVec 32 := Scalar.extui v145
  let c0_i32_68 : BitVec 32 := 0#32
  let v147 : BitVec 1 := Scalar.cmpi .slt v20 c0_i32_68
  let v148 : BitVec 32 := Scalar.extui v147
  let v149 : BitVec 32 := Scalar.subi v146 v148
  let c4_i32_66 : BitVec 32 := 4#32
  let c0_i32_69 : BitVec 32 := 0#32
  let v150 : BitVec 1 := Scalar.cmpi .sgt c4_i32_66 c0_i32_69
  let v151 : BitVec 32 := Scalar.extui v150
  let c0_i32_70 : BitVec 32 := 0#32
  let v152 : BitVec 1 := Scalar.cmpi .slt c4_i32_66 c0_i32_70
  let v153 : BitVec 32 := Scalar.extui v152
  let v154 : BitVec 32 := Scalar.subi v151 v153
  let v155 : BitVec 1 := Scalar.cmpi .ne v149 v154
  let v156 : BitVec 32 := Scalar.remsi v20 c4_i32_66
  let c0_i32_71 : BitVec 32 := 0#32
  let v157 : BitVec 1 := Scalar.cmpi .ne v156 c0_i32_71
  let v158 : BitVec 1 := Scalar.andi v155 v157
  let v144 : BitVec 32 := Scalar.divsi v20 c4_i32_66
  let c1_i32_72 : BitVec 32 := 1#32
  let v159 : BitVec 32 := Scalar.subi v144 c1_i32_72
  let v160 : BitVec 32 := Scalar.select v158 v159 v144
  let c1024_i32_185 : BitVec 32 := 1024#32
  let v378 : BitVec 32 := Scalar.muli v160 c1024_i32_185
  let v379 : BitVec 32 := v378
  let v380 : Index := Scalar.indexCast v379
  let c0_186 : Index := 0#32
  ![v380.toNat, 0]
def k0_cond8 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c2_i32_85 : BitVec 32 := 2#32
  let c0_i32_86 : BitVec 32 := 0#32
  let v182 : BitVec 1 := Scalar.cmpi .eq c2_i32_85 c0_i32_86
  let c1_i32_87 : BitVec 32 := 1#32
  let v183 : BitVec 32 := Scalar.select v182 c1_i32_87 c2_i32_85
  let v184 : BitVec 32 := Scalar.remsi v20 v183
  let c0_i32_89 : BitVec 32 := 0#32
  let v186 : BitVec 1 := Scalar.cmpi .slt v184 c0_i32_89
  let c0_i32_90 : BitVec 32 := 0#32
  let v187 : BitVec 1 := Scalar.cmpi .slt v183 c0_i32_90
  let v188 : BitVec 1 := Scalar.xori v186 v187
  let c0_i32_88 : BitVec 32 := 0#32
  let v185 : BitVec 1 := Scalar.cmpi .ne v184 c0_i32_88
  let v189 : BitVec 1 := Scalar.andi v188 v185
  let v190 : BitVec 32 := Scalar.addi v184 v183
  let v191 : BitVec 32 := Scalar.select v189 v190 v184
  let c1_i32_91 : BitVec 32 := 1#32
  let v192 : BitVec 1 := Scalar.cmpi .eq v191 c1_i32_91
  let v193 : BitVec 32 := Scalar.extui v192
  let c0_i32_92 : BitVec 32 := 0#32
  let v194 : BitVec 1 := Scalar.cmpi .ne v193 c0_i32_92
  v194

def k0_mult41 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  v379
def k0_off30 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v381 : Index := Scalar.indexCast v380
  let c0_187 : Index := 0#32
  ![v381.toNat, 0]
@[reducible] def k0_t13_loop (i : grid0.Coords) : Scf.Loop 32 :=
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_129 : BitVec 32 := 1#32
  ⟨c0_i32_127, v272, c1_i32_129⟩
def k0_mult42 (i : grid0.Coords) (k0_t13 : Fin (k0_t13_loop i).trips) : BitVec 32 :=
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  v378
def k0_off31 (i : grid0.Coords) (k0_t13 : Fin (k0_t13_loop i).trips) (c0_i32_187 : BitVec 32) : Fin 2 → Nat :=
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v386 : BitVec 32 := Scalar.addi v379 c0_i32_187
  let v387 : Index := Scalar.indexCast v386
  let c0_188 : Index := 0#32
  ![v387.toNat, 0]
def k0_off32 (i : grid0.Coords) (k0_t13 : Fin (k0_t13_loop i).trips) (c0_i32_221 : BitVec 32) : Fin 3 → Nat :=
  let c0_222 : Index := 0#32
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v487 : BitVec 32 := Scalar.addi v379 c0_i32_221
  let v488 : Index := Scalar.indexCast v487
  let c0_223 : Index := 0#32
  ![0, v488.toNat, 0]
def k0_off33 (i : grid0.Coords) (k0_t13 : Fin (k0_t13_loop i).trips) (c0_i32_229 : BitVec 32) : Fin 3 → Nat :=
  let c0_230 : Index := 0#32
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v498 : BitVec 32 := Scalar.addi v379 c0_i32_229
  let v499 : Index := Scalar.indexCast v498
  let c128_231 : Index := 128#32
  ![0, v499.toNat, 128]
def k0_off34 (i : grid0.Coords) (k0_t13 : Fin (k0_t13_loop i).trips) : Fin 3 → Nat :=
  let c0_249 : Index := 0#32
  let c0_250 : Index := 0#32
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v543 : Index := Scalar.indexCast v379
  ![0, 0, v543.toNat]
def k0_off35 (i : grid0.Coords) (k0_t13 : Fin (k0_t13_loop i).trips) (c0_i32_266 : BitVec 32) : Fin 3 → Nat :=
  let c0_267 : Index := 0#32
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v578 : BitVec 32 := Scalar.addi v379 c0_i32_266
  let v579 : Index := Scalar.indexCast v578
  let c256_268 : Index := 256#32
  ![0, v579.toNat, 256]
def k0_off36 (i : grid0.Coords) (k0_t13 : Fin (k0_t13_loop i).trips) : Fin 3 → Nat :=
  let c0_286 : Index := 0#32
  let c128_287 : Index := 128#32
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v623 : Index := Scalar.indexCast v379
  ![0, 128, v623.toNat]
def k0_off37 (i : grid0.Coords) (k0_t13 : Fin (k0_t13_loop i).trips) (c0_i32_303 : BitVec 32) : Fin 3 → Nat :=
  let c0_304 : Index := 0#32
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v658 : BitVec 32 := Scalar.addi v379 c0_i32_303
  let v659 : Index := Scalar.indexCast v658
  let c384_305 : Index := 384#32
  ![0, v659.toNat, 384]
def k0_off38 (i : grid0.Coords) (k0_t13 : Fin (k0_t13_loop i).trips) : Fin 3 → Nat :=
  let c0_323 : Index := 0#32
  let c256_324 : Index := 256#32
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v703 : Index := Scalar.indexCast v379
  ![0, 256, v703.toNat]
def k0_off39 (i : grid0.Coords) (k0_t13 : Fin (k0_t13_loop i).trips) : Fin 3 → Nat :=
  let c0_352 : Index := 0#32
  let c384_353 : Index := 384#32
  let c0_i32_127 : BitVec 32 := 0#32
  let c1_i32_129 : BitVec 32 := 1#32
  let arg16 : BitVec 32 := Scf.iv c0_i32_127 c1_i32_129 k0_t13
  let c1024_i32_185 : BitVec 32 := 1024#32
  let v378 : BitVec 32 := Scalar.muli arg16 c1024_i32_185
  let v379 : BitVec 32 := v378
  let v772 : Index := Scalar.indexCast v379
  ![0, 384, v772.toNat]
@[reducible] def k0_t14_loop (i : grid0.Coords) : Scf.Loop 32 :=
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let v269 : BitVec 32 := Scalar.addi c0_i32_127 v268
  let c1_i32_130 : BitVec 32 := 1#32
  ⟨v272, v269, c1_i32_130⟩
def k0_mult43 (i : grid0.Coords) (k0_t14 : Fin (k0_t14_loop i).trips) : BitVec 32 :=
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  v378
def k0_off40 (i : grid0.Coords) (k0_t14 : Fin (k0_t14_loop i).trips) (c0_i32_187 : BitVec 32) : Fin 2 → Nat :=
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v386 : BitVec 32 := Scalar.addi v379 c0_i32_187
  let v387 : Index := Scalar.indexCast v386
  let c0_188 : Index := 0#32
  ![v387.toNat, 0]
def k0_off41 (i : grid0.Coords) (k0_t14 : Fin (k0_t14_loop i).trips) (c0_i32_221 : BitVec 32) : Fin 3 → Nat :=
  let c0_222 : Index := 0#32
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v487 : BitVec 32 := Scalar.addi v379 c0_i32_221
  let v488 : Index := Scalar.indexCast v487
  let c0_223 : Index := 0#32
  ![0, v488.toNat, 0]
def k0_off42 (i : grid0.Coords) (k0_t14 : Fin (k0_t14_loop i).trips) (c0_i32_229 : BitVec 32) : Fin 3 → Nat :=
  let c0_230 : Index := 0#32
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v498 : BitVec 32 := Scalar.addi v379 c0_i32_229
  let v499 : Index := Scalar.indexCast v498
  let c128_231 : Index := 128#32
  ![0, v499.toNat, 128]
def k0_off43 (i : grid0.Coords) (k0_t14 : Fin (k0_t14_loop i).trips) : Fin 3 → Nat :=
  let c0_249 : Index := 0#32
  let c0_250 : Index := 0#32
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v543 : Index := Scalar.indexCast v379
  ![0, 0, v543.toNat]
def k0_off44 (i : grid0.Coords) (k0_t14 : Fin (k0_t14_loop i).trips) (c0_i32_266 : BitVec 32) : Fin 3 → Nat :=
  let c0_267 : Index := 0#32
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v578 : BitVec 32 := Scalar.addi v379 c0_i32_266
  let v579 : Index := Scalar.indexCast v578
  let c256_268 : Index := 256#32
  ![0, v579.toNat, 256]
def k0_off45 (i : grid0.Coords) (k0_t14 : Fin (k0_t14_loop i).trips) : Fin 3 → Nat :=
  let c0_286 : Index := 0#32
  let c128_287 : Index := 128#32
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v623 : Index := Scalar.indexCast v379
  ![0, 128, v623.toNat]
def k0_off46 (i : grid0.Coords) (k0_t14 : Fin (k0_t14_loop i).trips) (c0_i32_303 : BitVec 32) : Fin 3 → Nat :=
  let c0_304 : Index := 0#32
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v658 : BitVec 32 := Scalar.addi v379 c0_i32_303
  let v659 : Index := Scalar.indexCast v658
  let c384_305 : Index := 384#32
  ![0, v659.toNat, 384]
def k0_off47 (i : grid0.Coords) (k0_t14 : Fin (k0_t14_loop i).trips) : Fin 3 → Nat :=
  let c0_323 : Index := 0#32
  let c256_324 : Index := 256#32
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v703 : Index := Scalar.indexCast v379
  ![0, 256, v703.toNat]
def k0_off48 (i : grid0.Coords) (k0_t14 : Fin (k0_t14_loop i).trips) : Fin 3 → Nat :=
  let c0_352 : Index := 0#32
  let c384_353 : Index := 384#32
  let c0_i32_127 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let v268 : BitVec 32 := Scalar.subi v267 c0_i32_127
  let c1_i32_128 : BitVec 32 := 1#32
  let v270 : BitVec 32 := Scalar.divsi v268 c1_i32_128
  let v271 : BitVec 32 := Scalar.muli v270 c1_i32_128
  let v272 : BitVec 32 := Scalar.addi c0_i32_127 v271
  let c1_i32_130 : BitVec 32 := 1#32
  let arg16 : BitVec 32 := Scf.iv v272 c1_i32_130 k0_t14
  let c1024_i32_185 : BitVec 32 := 1024#32
  let v378 : BitVec 32 := Scalar.muli arg16 c1024_i32_185
  let v379 : BitVec 32 := v378
  let v772 : Index := Scalar.indexCast v379
  ![0, 384, v772.toNat]
def k0_cond9 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c4_i32_131 : BitVec 32 := 4#32
  let c0_i32_132 : BitVec 32 := 0#32
  let v275 : BitVec 1 := Scalar.cmpi .eq c4_i32_131 c0_i32_132
  let c1_i32_133 : BitVec 32 := 1#32
  let v276 : BitVec 32 := Scalar.select v275 c1_i32_133 c4_i32_131
  let v277 : BitVec 32 := Scalar.remsi v20 v276
  let c0_i32_135 : BitVec 32 := 0#32
  let v279 : BitVec 1 := Scalar.cmpi .slt v277 c0_i32_135
  let c0_i32_136 : BitVec 32 := 0#32
  let v280 : BitVec 1 := Scalar.cmpi .slt v276 c0_i32_136
  let v281 : BitVec 1 := Scalar.xori v279 v280
  let c0_i32_134 : BitVec 32 := 0#32
  let v278 : BitVec 1 := Scalar.cmpi .ne v277 c0_i32_134
  let v282 : BitVec 1 := Scalar.andi v281 v278
  let v283 : BitVec 32 := Scalar.addi v277 v276
  let v284 : BitVec 32 := Scalar.select v282 v283 v277
  let c2_i32_137 : BitVec 32 := 2#32
  let v285 : BitVec 1 := Scalar.cmpi .sge v284 c2_i32_137
  let v286 : BitVec 32 := Scalar.extui v285
  let c0_i32_138 : BitVec 32 := 0#32
  let v287 : BitVec 1 := Scalar.cmpi .ne v286 c0_i32_138
  v287

def k0_mult44 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  v378
def k0_off49 (i : grid0.Coords) (c0_i32_187 : BitVec 32) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v386 : BitVec 32 := Scalar.addi v379 c0_i32_187
  let v387 : Index := Scalar.indexCast v386
  let c0_188 : Index := 0#32
  ![v387.toNat, 0]
def k0_off50 (i : grid0.Coords) (c0_i32_207 : BitVec 32) : Fin 3 → Nat :=
  let c0_208 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v437 : BitVec 32 := Scalar.addi v379 c0_i32_207
  let v438 : Index := Scalar.indexCast v437
  let c0_209 : Index := 0#32
  ![0, v438.toNat, 0]
def k0_off51 (i : grid0.Coords) (c0_i32_215 : BitVec 32) : Fin 3 → Nat :=
  let c0_216 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v448 : BitVec 32 := Scalar.addi v379 c0_i32_215
  let v449 : Index := Scalar.indexCast v448
  let c128_217 : Index := 128#32
  ![0, v449.toNat, 128]
def k0_off52 (i : grid0.Coords) : Fin 3 → Nat :=
  let c0_235 : Index := 0#32
  let c0_236 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v493 : Index := Scalar.indexCast v379
  ![0, 0, v493.toNat]
def k0_off53 (i : grid0.Coords) (c0_i32_252 : BitVec 32) : Fin 3 → Nat :=
  let c0_253 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v528 : BitVec 32 := Scalar.addi v379 c0_i32_252
  let v529 : Index := Scalar.indexCast v528
  let c256_254 : Index := 256#32
  ![0, v529.toNat, 256]
def k0_off54 (i : grid0.Coords) : Fin 3 → Nat :=
  let c0_272 : Index := 0#32
  let c128_273 : Index := 128#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v573 : Index := Scalar.indexCast v379
  ![0, 128, v573.toNat]
def k0_off55 (i : grid0.Coords) (c0_i32_289 : BitVec 32) : Fin 3 → Nat :=
  let c0_290 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v608 : BitVec 32 := Scalar.addi v379 c0_i32_289
  let v609 : Index := Scalar.indexCast v608
  let c384_291 : Index := 384#32
  ![0, v609.toNat, 384]
def k0_off56 (i : grid0.Coords) : Fin 3 → Nat :=
  let c0_309 : Index := 0#32
  let c256_310 : Index := 256#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v653 : Index := Scalar.indexCast v379
  ![0, 256, v653.toNat]
def k0_off57 (i : grid0.Coords) : Fin 3 → Nat :=
  let c0_338 : Index := 0#32
  let c384_339 : Index := 384#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c0_i32_121 : BitVec 32 := 0#32
  let v252 : BitVec 1 := Scalar.cmpi .sgt v20 c0_i32_121
  let v253 : BitVec 32 := Scalar.extui v252
  let c0_i32_122 : BitVec 32 := 0#32
  let v254 : BitVec 1 := Scalar.cmpi .slt v20 c0_i32_122
  let v255 : BitVec 32 := Scalar.extui v254
  let v256 : BitVec 32 := Scalar.subi v253 v255
  let c4_i32_120 : BitVec 32 := 4#32
  let c0_i32_123 : BitVec 32 := 0#32
  let v257 : BitVec 1 := Scalar.cmpi .sgt c4_i32_120 c0_i32_123
  let v258 : BitVec 32 := Scalar.extui v257
  let c0_i32_124 : BitVec 32 := 0#32
  let v259 : BitVec 1 := Scalar.cmpi .slt c4_i32_120 c0_i32_124
  let v260 : BitVec 32 := Scalar.extui v259
  let v261 : BitVec 32 := Scalar.subi v258 v260
  let v262 : BitVec 1 := Scalar.cmpi .ne v256 v261
  let v263 : BitVec 32 := Scalar.remsi v20 c4_i32_120
  let c0_i32_125 : BitVec 32 := 0#32
  let v264 : BitVec 1 := Scalar.cmpi .ne v263 c0_i32_125
  let v265 : BitVec 1 := Scalar.andi v262 v264
  let v251 : BitVec 32 := Scalar.divsi v20 c4_i32_120
  let c1_i32_126 : BitVec 32 := 1#32
  let v266 : BitVec 32 := Scalar.subi v251 c1_i32_126
  let v267 : BitVec 32 := Scalar.select v265 v266 v251
  let c1024_i32_185 : BitVec 32 := 1024#32
  let v378 : BitVec 32 := Scalar.muli v267 c1024_i32_185
  let v379 : BitVec 32 := v378
  let v722 : Index := Scalar.indexCast v379
  ![0, 384, v722.toNat]
def k0_cond10 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c2_i32_139 : BitVec 32 := 2#32
  let c0_i32_140 : BitVec 32 := 0#32
  let v289 : BitVec 1 := Scalar.cmpi .eq c2_i32_139 c0_i32_140
  let c1_i32_141 : BitVec 32 := 1#32
  let v290 : BitVec 32 := Scalar.select v289 c1_i32_141 c2_i32_139
  let v291 : BitVec 32 := Scalar.remsi v20 v290
  let c0_i32_143 : BitVec 32 := 0#32
  let v293 : BitVec 1 := Scalar.cmpi .slt v291 c0_i32_143
  let c0_i32_144 : BitVec 32 := 0#32
  let v294 : BitVec 1 := Scalar.cmpi .slt v290 c0_i32_144
  let v295 : BitVec 1 := Scalar.xori v293 v294
  let c0_i32_142 : BitVec 32 := 0#32
  let v292 : BitVec 1 := Scalar.cmpi .ne v291 c0_i32_142
  let v296 : BitVec 1 := Scalar.andi v295 v292
  let v297 : BitVec 32 := Scalar.addi v291 v290
  let v298 : BitVec 32 := Scalar.select v296 v297 v291
  let c1_i32_145 : BitVec 32 := 1#32
  let v299 : BitVec 1 := Scalar.cmpi .eq v298 c1_i32_145
  let v300 : BitVec 32 := Scalar.extui v299
  let c0_i32_146 : BitVec 32 := 0#32
  let v301 : BitVec 1 := Scalar.cmpi .ne v300 c0_i32_146
  v301

def k0_mult45 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  v379
def k0_off58 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let c0_i32_188 : BitVec 32 := 0#32
  let v387 : BitVec 32 := Scalar.addi v380 c0_i32_188
  let v388 : Index := Scalar.indexCast v387
  let c0_189 : Index := 0#32
  ![v388.toNat, 0]
def k0_off59 (i : grid0.Coords) (c0_i32_199 : BitVec 32) : Fin 3 → Nat :=
  let c0_200 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v412 : BitVec 32 := Scalar.addi v380 c0_i32_199
  let v413 : Index := Scalar.indexCast v412
  let c0_201 : Index := 0#32
  ![0, v413.toNat, 0]
def k0_off60 (i : grid0.Coords) (c0_i32_207 : BitVec 32) : Fin 3 → Nat :=
  let c0_208 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v423 : BitVec 32 := Scalar.addi v380 c0_i32_207
  let v424 : Index := Scalar.indexCast v423
  let c128_209 : Index := 128#32
  ![0, v424.toNat, 128]
def k0_off61 (i : grid0.Coords) : Fin 3 → Nat :=
  let c0_227 : Index := 0#32
  let c0_228 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v468 : Index := Scalar.indexCast v380
  ![0, 0, v468.toNat]
def k0_off62 (i : grid0.Coords) (c0_i32_244 : BitVec 32) : Fin 3 → Nat :=
  let c0_245 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v503 : BitVec 32 := Scalar.addi v380 c0_i32_244
  let v504 : Index := Scalar.indexCast v503
  let c256_246 : Index := 256#32
  ![0, v504.toNat, 256]
def k0_off63 (i : grid0.Coords) : Fin 3 → Nat :=
  let c0_264 : Index := 0#32
  let c128_265 : Index := 128#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v548 : Index := Scalar.indexCast v380
  ![0, 128, v548.toNat]
def k0_off64 (i : grid0.Coords) (c0_i32_281 : BitVec 32) : Fin 3 → Nat :=
  let c0_282 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v583 : BitVec 32 := Scalar.addi v380 c0_i32_281
  let v584 : Index := Scalar.indexCast v583
  let c384_283 : Index := 384#32
  ![0, v584.toNat, 384]
def k0_off65 (i : grid0.Coords) : Fin 3 → Nat :=
  let c0_301 : Index := 0#32
  let c256_302 : Index := 256#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v628 : Index := Scalar.indexCast v380
  ![0, 256, v628.toNat]
def k0_off66 (i : grid0.Coords) : Fin 3 → Nat :=
  let c0_330 : Index := 0#32
  let c384_331 : Index := 384#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_185 : BitVec 32 := 1#32
  let v378 : BitVec 32 := Scalar.subi v20 c1_i32_185
  let c256_i32_186 : BitVec 32 := 256#32
  let v379 : BitVec 32 := Scalar.muli v378 c256_i32_186
  let v380 : BitVec 32 := v379
  let v697 : Index := Scalar.indexCast v380
  ![0, 384, v697.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S4x8192x1024 : Shape := ⟨3, ![4, 8192, 1024]⟩
abbrev S4x6x1024 : Shape := ⟨3, ![4, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S1x512x1024 : Shape := ⟨3, ![1, 512, 1024]⟩
abbrev S1x8x1024 : Shape := ⟨3, ![1, 8, 1024]⟩
abbrev S1x6x1024 : Shape := ⟨3, ![1, 6, 1024]⟩
abbrev S1024x2816 : Shape := ⟨2, ![1024, 2816]⟩
abbrev S3x2816 : Shape := ⟨2, ![3, 2816]⟩
abbrev S1x2816 : Shape := ⟨2, ![1, 2816]⟩
abbrev S6x1024 : Shape := ⟨2, ![6, 1024]⟩
abbrev S512x1024 : Shape := ⟨2, ![512, 1024]⟩
abbrev S8x1024 : Shape := ⟨2, ![8, 1024]⟩
abbrev S520x1024 : Shape := ⟨2, ![520, 1024]⟩
abbrev S520x2816 : Shape := ⟨2, ![520, 2816]⟩
abbrev S512x2816 : Shape := ⟨2, ![512, 2816]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x2816, .bf16⟩
  | .local _ .vmem, ⟨7, _⟩ => ⟨S1024x2816, .bf16⟩
  | .local _ .vmem, ⟨8, _⟩ => ⟨S3x2816, .f32⟩
  | .local _ .vmem, ⟨9, _⟩ => ⟨S3x2816, .f32⟩
  | .local _ .vmem, ⟨10, _⟩ => ⟨S1x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S4x6x1024 : Shape := ⟨3, ![4, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S4x1x1024 : Shape := ⟨3, ![4, 1, 1024]⟩
abbrev S_ : Shape := ⟨0, ![]⟩
abbrev S4x8192x5632 : Shape := ⟨3, ![4, 8192, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x5632, .f32⟩
  | .hbm, ⟨19, _⟩ => ⟨S_, .i32⟩
  | .hbm, ⟨20, _⟩ => ⟨S_, .f32⟩
  | .hbm, ⟨21, _⟩ => ⟨S4x8194x5632, .f32⟩
  | .hbm, ⟨22, _⟩ => ⟨S4x8192x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S4x8192x5632, .f32⟩
  | .hbm, ⟨27, _⟩ => ⟨S4x8192x5632, .f32⟩
  | .hbm, ⟨28, _⟩ => ⟨S_, .f32⟩
  | .hbm, ⟨29, _⟩ => ⟨S4x8192x5632, .f32⟩
  | .hbm, ⟨30, _⟩ => ⟨S4x8192x5632, .f32⟩
  | .hbm, ⟨31, _⟩ => ⟨S4x8192x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S4x8192x5632, .f32⟩
  | .hbm, ⟨36, _⟩ => ⟨S4x8192x5632, .f32⟩
  | .hbm, ⟨37, _⟩ => ⟨S4x8192x5632, .f32⟩
  | .hbm, ⟨38, _⟩ => ⟨S4x8192x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S4x8192x5632, .f32⟩
  | .hbm, ⟨43, _⟩ => ⟨S4x8192x5632, .f32⟩
  | .hbm, ⟨44, _⟩ => ⟨S4x8192x5632, .f32⟩
  | .hbm, ⟨45, _⟩ => ⟨S1x1x5632, .f32⟩
  | .hbm, ⟨46, _⟩ => ⟨S4x8192x5632, .f32⟩
  | .hbm, ⟨47, _⟩ => ⟨S4x8192x5632, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S4x8192x2816, .f32⟩
  | .hbm, ⟨52, _⟩ => ⟨S_, .f32⟩
  | .hbm, ⟨53, _⟩ => ⟨S4x8192x2816, .f32⟩
  | .hbm, ⟨54, _⟩ => ⟨S4x8192x2816, .f32⟩
  | .hbm, ⟨55, _⟩ => ⟨S_, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S4x8192x1024, .f32⟩
  | .hbm, ⟨61, _⟩ => ⟨S_, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S_, .f32⟩
  | .hbm, ⟨77, _⟩ => ⟨S4x8192, .f32⟩
  | .hbm, ⟨78, _⟩ => ⟨S4x8192x1, .f32⟩
  | .hbm, ⟨79, _⟩ => ⟨S_, .f32⟩
  | .hbm, ⟨80, _⟩ => ⟨S4x8192x1, .f32⟩
  | .hbm, ⟨81, _⟩ => ⟨S4x8192x1, .f32⟩
  | .hbm, ⟨82, _⟩ => ⟨S4x8192x1024, .f32⟩
  | .hbm, ⟨83, _⟩ => ⟨S4x8192x1024, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S4x8192x1, .f32⟩
  | .hbm, ⟨88, _⟩ => ⟨S4x8192x1024, .f32⟩
  | .hbm, ⟨89, _⟩ => ⟨S4x8192x1024, .f32⟩
  | .hbm, ⟨90, _⟩ => ⟨S1x1x1024, .f32⟩
  | .hbm, ⟨91, _⟩ => ⟨S4x8192x1024, .f32⟩
  | .hbm, ⟨92, _⟩ => ⟨S4x8192x1024, .f32⟩
  | .hbm, ⟨93, _⟩ => ⟨S1x1x1024, .f32⟩
  | .hbm, ⟨94, _⟩ => ⟨S4x8192x1024, .f32⟩
  | .hbm, ⟨95, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x6x1024 : Shape := ⟨3, ![4, 6, 1024]⟩
abbrev S1024x1792 : Shape := ⟨2, ![1024, 1792]⟩
abbrev S1024x1536 : Shape := ⟨2, ![1024, 1536]⟩
abbrev S1024x384 : Shape := ⟨2, ![1024, 384]⟩
abbrev S64 : Shape := ⟨1, ![64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x128 : Shape := ⟨2, ![8192, 128]⟩
abbrev S128 : Shape := ⟨1, ![128]⟩
abbrev S1x128 : Shape := ⟨2, ![1, 128]⟩
abbrev S4x8192x1792 : Shape := ⟨3, ![4, 8192, 1792]⟩
abbrev S4x512x8192 : Shape := ⟨3, ![4, 512, 8192]⟩
abbrev S4x8192x512 : Shape := ⟨3, ![4, 8192, 512]⟩
abbrev S4x256x8192 : Shape := ⟨3, ![4, 256, 8192]⟩
abbrev S4x8192x64 : Shape := ⟨3, ![4, 8192, 64]⟩
abbrev S4x8x8192 : Shape := ⟨3, ![4, 8, 8192]⟩
abbrev S1x256x1024 : Shape := ⟨3, ![1, 256, 1024]⟩
abbrev S1x6x1024 : Shape := ⟨3, ![1, 6, 1024]⟩
abbrev S256x128 : Shape := ⟨2, ![256, 128]⟩
abbrev S1x256x1792 : Shape := ⟨3, ![1, 256, 1792]⟩
abbrev S1x512x256 : Shape := ⟨3, ![1, 512, 256]⟩
abbrev S1x256x512 : Shape := ⟨3, ![1, 256, 512]⟩
abbrev S1x256x256 : Shape := ⟨3, ![1, 256, 256]⟩
abbrev S1x256x64 : Shape := ⟨3, ![1, 256, 64]⟩
abbrev S1x8x256 : Shape := ⟨3, ![1, 8, 256]⟩
abbrev S6x1024 : Shape := ⟨2, ![6, 1024]⟩
abbrev S256x1024 : Shape := ⟨2, ![256, 1024]⟩
abbrev S1x1024 : Shape := ⟨2, ![1, 1024]⟩
abbrev S256x1792 : Shape := ⟨2, ![256, 1792]⟩
abbrev S256x1536 : Shape := ⟨2, ![256, 1536]⟩
abbrev S256x512 : Shape := ⟨2, ![256, 512]⟩
abbrev S512x256 : Shape := ⟨2, ![512, 256]⟩
abbrev S256x384 : Shape := ⟨2, ![256, 384]⟩
abbrev S256x256 : Shape := ⟨2, ![256, 256]⟩
abbrev S256 : Shape := ⟨1, ![256]⟩
abbrev S256x1 : Shape := ⟨2, ![256, 1]⟩
abbrev S256x64 : Shape := ⟨2, ![256, 64]⟩
abbrev S128x256 : Shape := ⟨2, ![128, 256]⟩
abbrev S8x256 : Shape := ⟨2, ![8, 256]⟩

abbrev nBuf : Space → Nat
  | .hbm => 54
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x1792, .bf16⟩
  | .hbm, ⟨3, _⟩ => ⟨S1024x1536, .bf16⟩
  | .hbm, ⟨4, _⟩ => ⟨S1024x384, .bf16⟩
  | .hbm, ⟨5, _⟩ => ⟨S64, .f32⟩
  | .hbm, ⟨6, _⟩ => ⟨S64, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192, .f32⟩
  | .hbm, ⟨22, _⟩ => ⟨S8192x1, .f32⟩
  | .hbm, ⟨23, _⟩ => ⟨S1x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S_, .f32⟩
  | .hbm, ⟨32, _⟩ => ⟨S8192x48, .f32⟩
  | .hbm, ⟨33, _⟩ => ⟨S_, .f32⟩
  | .hbm, ⟨34, _⟩ => ⟨S8192x8, .f32⟩
  | .hbm, ⟨35, _⟩ => ⟨S8192x128, .f32⟩
  | .hbm, ⟨36, _⟩ => ⟨S8192x8, .f32⟩
  | .hbm, ⟨37, _⟩ => ⟨S8192x128, .f32⟩
  | .hbm, ⟨38, _⟩ => ⟨S8192x128, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S4x8192x1792, .f32⟩
  | .hbm, ⟨48, _⟩ => ⟨S4x512x8192, .bf16⟩
  | .hbm, ⟨49, _⟩ => ⟨S4x8192x512, .bf16⟩
  | .hbm, ⟨50, _⟩ => ⟨S4x512x8192, .bf16⟩
  | .hbm, ⟨51, _⟩ => ⟨S4x256x8192, .bf16⟩
  | .hbm, ⟨52, _⟩ => ⟨S4x8192x64, .bf16⟩
  | .hbm, ⟨53, _⟩ => ⟨S4x8x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x1792, .bf16⟩
  | .local _ .vmem, ⟨5, _⟩ => ⟨S1024x1536, .bf16⟩
  | .local _ .vmem, ⟨6, _⟩ => ⟨S1024x384, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x128, .f32⟩
  | .local _ .vmem, ⟨14, _⟩ => ⟨S1x128, .f32⟩
  | .local _ .vmem, ⟨15, _⟩ => ⟨S1x256x1792, .f32⟩
  | .local _ .vmem, ⟨16, _⟩ => ⟨S1x256x1792, .f32⟩
  | .local _ .vmem, ⟨17, _⟩ => ⟨S1x512x256, .bf16⟩
  | .local _ .vmem, ⟨18, _⟩ => ⟨S1x512x256, .bf16⟩
  | .local _ .vmem, ⟨19, _⟩ => ⟨S1x256x512, .bf16⟩
  | .local _ .vmem, ⟨20, _⟩ => ⟨S1x256x512, .bf16⟩
  | .local _ .vmem, ⟨21, _⟩ => ⟨S1x512x256, .bf16⟩
  | .local _ .vmem, ⟨22, _⟩ => ⟨S1x512x256, .bf16⟩
  | .local _ .vmem, ⟨23, _⟩ => ⟨S1x256x256, .bf16⟩
  | .local _ .vmem, ⟨24, _⟩ => ⟨S1x256x256, .bf16⟩
  | .local _ .vmem, ⟨25, _⟩ => ⟨S1x256x64, .bf16⟩
  | .local _ .vmem, ⟨26, _⟩ => ⟨S1x256x64, .bf16⟩
  | .local _ .vmem, ⟨27, _⟩ => ⟨S1x8x256, .f32⟩
  | .local _ .vmem, ⟨28, _⟩ => ⟨S1x8x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v29_3 : Ref sig .tc := ⟨.hbm, 50, rfl⟩
abbrev main_v29_4 : Ref sig .tc := ⟨.hbm, 51, rfl⟩
abbrev main_v29_5 : Ref sig .tc := ⟨.hbm, 52, rfl⟩
abbrev main_v29_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S4x8192x1024 : Shape := ⟨3, ![4, 8192, 1024]⟩
abbrev S4x6x1024 : Shape := ⟨3, ![4, 6, 1024]⟩
abbrev S1024x1792 : Shape := ⟨2, ![1024, 1792]⟩
abbrev S1024x1536 : Shape := ⟨2, ![1024, 1536]⟩
abbrev S1024x384 : Shape := ⟨2, ![1024, 384]⟩
abbrev S64 : Shape := ⟨1, ![64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S4x1x1024 : Shape := ⟨3, ![4, 1, 1024]⟩
abbrev S4x8192x1792 : Shape := ⟨3, ![4, 8192, 1792]⟩
abbrev S4x8192x1536 : Shape := ⟨3, ![4, 8192, 1536]⟩
abbrev S4x8192x512 : Shape := ⟨3, ![4, 8192, 512]⟩
abbrev S4x8192x384 : Shape := ⟨3, ![4, 8192, 384]⟩
abbrev S4x8192x256 : Shape := ⟨3, ![4, 8192, 256]⟩
abbrev S4x8192x64 : Shape := ⟨3, ![4, 8192, 64]⟩
abbrev S4x8192x8 : Shape := ⟨3, ![4, 8192, 8]⟩
abbrev S4x8192x8x64 : Shape := ⟨4, ![4, 8192, 8, 64]⟩
abbrev S1x8192x1x8 : Shape := ⟨4, ![1, 8192, 1, 8]⟩
abbrev S4x8192x8x8 : Shape := ⟨4, ![4, 8192, 8, 8]⟩
abbrev S4x8192x8x48 : Shape := ⟨4, ![4, 8192, 8, 48]⟩
abbrev S4x8192x4x64 : Shape := ⟨4, ![4, 8192, 4, 64]⟩
abbrev S4x8192x4x8 : Shape := ⟨4, ![4, 8192, 4, 8]⟩
abbrev S4x8192x4x48 : Shape := ⟨4, ![4, 8192, 4, 48]⟩
abbrev S4x8192 : Shape := ⟨2, ![4, 8192]⟩
abbrev S4x8192x1 : Shape := ⟨3, ![4, 8192, 1]⟩
abbrev S1x1x64 : Shape := ⟨3, ![1, 1, 64]⟩
abbrev S4x8192x1x64 : Shape := ⟨4, ![4, 8192, 1, 64]⟩
abbrev S4x8192x1x8 : Shape := ⟨4, ![4, 8192, 1, 8]⟩
abbrev S4x8192x1x48 : Shape := ⟨4, ![4, 8192, 1, 48]⟩
abbrev S4x512x8192 : Shape := ⟨3, ![4, 512, 8192]⟩
abbrev S4x256x8192 : Shape := ⟨3, ![4, 256, 8192]⟩
abbrev S4x8x8192 : Shape := ⟨3, ![4, 8, 8192]⟩

abbrev nBuf : Space → Nat
  | .hbm => 166
  | .vmem => 0
  | .smem => 0
  | _ => 0

abbrev hbmTy0_0 (i : Nat) : BufTy := match i % 128 with
  | 0 => ⟨S4x8192x1024, .f32⟩
  | 1 => ⟨S4x6x1024, .f32⟩
  | 2 => ⟨S1024x1792, .bf16⟩
  | 3 => ⟨S1024x1536, .bf16⟩
  | 4 => ⟨S1024x384, .bf16⟩
  | 5 => ⟨S64, .f32⟩
  | 6 => ⟨S64, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8192, .f32⟩
  | 22 => ⟨S8192x1, .f32⟩
  | 23 => ⟨S1x8, .f32⟩
  | 24 => ⟨S8192x8, .f32⟩
  | 25 => ⟨S8192x8, .f32⟩
  | 26 => ⟨S8192x8, .f32⟩
  | 27 => ⟨S8192x8, .f32⟩
  | 28 => ⟨S8192x8, .f32⟩
  | 29 => ⟨S4x1x1024, .f32⟩
  | 30 => ⟨S_, .f32⟩
  | 31 => ⟨S4x1x1024, .f32⟩
  | 32 => ⟨S4x1x1024, .f32⟩
  | 33 => ⟨S4x8192x1024, .f32⟩
  | 34 => ⟨S4x8192x1024, .f32⟩
  | 35 => ⟨S4x1x1024, .f32⟩
  | 36 => ⟨S4x8192x1024, .f32⟩
  | 37 => ⟨S4x8192x1024, .f32⟩
  | 38 => ⟨S1024x1792, .f32⟩
  | 39 => ⟨S4x8192x1792, .f32⟩
  | 40 => ⟨S1024x1536, .f32⟩
  | 41 => ⟨S4x8192x1536, .f32⟩
  | 42 => ⟨S4x8192x512, .f32⟩
  | 43 => ⟨S4x8192x512, .f32⟩
  | 44 => ⟨S4x8192x512, .f32⟩
  | 45 => ⟨S1024x384, .f32⟩
  | 46 => ⟨S4x8192x384, .f32⟩
  | 47 => ⟨S4x8192x256, .f32⟩
  | 48 => ⟨S4x8192x64, .f32⟩
  | 49 => ⟨S4x8192x8, .f32⟩
  | 50 => ⟨S4x8192x8x64, .f32⟩
  | 51 => ⟨S1x8192x1x8, .f32⟩
  | 52 => ⟨S1x8192x1x8, .f32⟩
  | 53 => ⟨S4x8192x8x8, .f32⟩
  | 54 => ⟨S4x8192x8x8, .f32⟩
  | 55 => ⟨S4x8192x8x48, .f32⟩
  | 56 => ⟨S4x8192x8x8, .f32⟩
  | 57 => ⟨S4x8192x8x8, .f32⟩
  | 58 => ⟨S4x8192x8x8, .f32⟩
  | 59 => ⟨S4x8192x8x8, .f32⟩
  | 60 => ⟨S4x8192x8x8, .f32⟩
  | 61 => ⟨S4x8192x8x8, .f32⟩
  | 62 => ⟨S4x8192x8x8, .f32⟩
  | 63 => ⟨S4x8192x8x8, .f32⟩
  | 64 => ⟨S4x8192x8x8, .f32⟩
  | 65 => ⟨S4x8192x8x8, .f32⟩
  | 66 => ⟨S4x8192x8x64, .f32⟩
  | 67 => ⟨S4x8192x512, .f32⟩
  | 68 => ⟨S_, .f32⟩
  | 69 => ⟨S4x8192x512, .f32⟩
  | 70 => ⟨S4x8192x512, .f32⟩
  | 71 => ⟨S4x8192x8x64, .f32⟩
  | 72 => ⟨S1x8192x1x8, .f32⟩
  | 73 => ⟨S1x8192x1x8, .f32⟩
  | 74 => ⟨S4x8192x8x8, .f32⟩
  | 75 => ⟨S4x8192x8x8, .f32⟩
  | 76 => ⟨S4x8192x8x48, .f32⟩
  | 77 => ⟨S4x8192x8x8, .f32⟩
  | 78 => ⟨S4x8192x8x8, .f32⟩
  | 79 => ⟨S4x8192x8x8, .f32⟩
  | 80 => ⟨S4x8192x8x8, .f32⟩
  | 81 => ⟨S4x8192x8x8, .f32⟩
  | 82 => ⟨S4x8192x8x8, .f32⟩
  | 83 => ⟨S4x8192x8x8, .f32⟩
  | 84 => ⟨S4x8192x8x8, .f32⟩
  | 85 => ⟨S4x8192x8x8, .f32⟩
  | 86 => ⟨S4x8192x8x8, .f32⟩
  | 87 => ⟨S4x8192x8x64, .f32⟩
  | 88 => ⟨S4x8192x512, .f32⟩
  | 89 => ⟨S4x8192x4x64, .f32⟩
  | 90 => ⟨S1x8192x1x8, .f32⟩
  | 91 => ⟨S1x8192x1x8, .f32⟩
  | 92 => ⟨S4x8192x4x8, .f32⟩
  | 93 => ⟨S4x8192x4x8, .f32⟩
  | 94 => ⟨S4x8192x4x48, .f32⟩
  | 95 => ⟨S4x8192x4x8, .f32⟩
  | 96 => ⟨S4x8192x4x8, .f32⟩
  | 97 => ⟨S4x8192x4x8, .f32⟩
  | 98 => ⟨S4x8192x4x8, .f32⟩
  | 99 => ⟨S4x8192x4x8, .f32⟩
  | 100 => ⟨S4x8192x4x8, .f32⟩
  | 101 => ⟨S4x8192x4x8, .f32⟩
  | 102 => ⟨S4x8192x4x8, .f32⟩
  | 103 => ⟨S4x8192x4x8, .f32⟩
  | 104 => ⟨S4x8192x4x8, .f32⟩
  | 105 => ⟨S4x8192x4x64, .f32⟩
  | 106 => ⟨S4x8192x256, .f32⟩
  | 107 => ⟨S_, .f32⟩
  | 108 => ⟨S4x8192, .f32⟩
  | 109 => ⟨S4x8192x1, .f32⟩
  | 110 => ⟨S_, .f32⟩
  | 111 => ⟨S4x8192x1, .f32⟩
  | 112 => ⟨S4x8192x1, .f32⟩
  | 113 => ⟨S4x8192x64, .f32⟩
  | 114 => ⟨S4x8192x64, .f32⟩
  | 115 => ⟨S4x8192x64, .f32⟩
  | 116 => ⟨S_, .f32⟩
  | 117 => ⟨S4x8192, .f32⟩
  | 118 => ⟨S4x8192x1, .f32⟩
  | 119 => ⟨S_, .f32⟩
  | 120 => ⟨S4x8192x1, .f32⟩
  | 121 => ⟨S4x8192x1, .f32⟩
  | 122 => ⟨S4x8192x64, .f32⟩
  | 123 => ⟨S4x8192x64, .f32⟩
  | 124 => ⟨S_, .f32⟩
  | 125 => ⟨S4x8192x1, .f32⟩
  | 126 => ⟨S4x8192x1, .f32⟩
  | 127 => ⟨S4x8192x1, .f32⟩
  | _ => ⟨S4x8192x1024, .f32⟩

abbrev hbmTy0_1 (i : Nat) : BufTy := match i % 128 with
  | 0 => ⟨S4x8192x64, .f32⟩
  | 1 => ⟨S4x8192x64, .f32⟩
  | 2 => ⟨S1x1x64, .f32⟩
  | 3 => ⟨S4x8192x64, .f32⟩
  | 4 => ⟨S4x8192x64, .f32⟩
  | 5 => ⟨S1x1x64, .f32⟩
  | 6 => ⟨S4x8192x64, .f32⟩
  | 7 => ⟨S4x8192x64, .f32⟩
  | 8 => ⟨S4x8192x1x64, .f32⟩
  | 9 => ⟨S1x8192x1x8, .f32⟩
  | 10 => ⟨S1x8192x1x8, .f32⟩
  | 11 => ⟨S4x8192x1x8, .f32⟩
  | 12 => ⟨S4x8192x1x8, .f32⟩
  | 13 => ⟨S4x8192x1x48, .f32⟩
  | 14 => ⟨S4x8192x1x8, .f32⟩
  | 15 => ⟨S4x8192x1x8, .f32⟩
  | 16 => ⟨S4x8192x1x8, .f32⟩
  | 17 => ⟨S4x8192x1x8, .f32⟩
  | 18 => ⟨S4x8192x1x8, .f32⟩
  | 19 => ⟨S4x8192x1x8, .f32⟩
  | 20 => ⟨S4x8192x1x8, .f32⟩
  | 21 => ⟨S4x8192x1x8, .f32⟩
  | 22 => ⟨S4x8192x1x8, .f32⟩
  | 23 => ⟨S4x8192x1x8, .f32⟩
  | 24 => ⟨S4x8192x1x64, .f32⟩
  | 25 => ⟨S4x8192x64, .f32⟩
  | 26 => ⟨S_, .f32⟩
  | 27 => ⟨S4x8192x8, .f32⟩
  | 28 => ⟨S4x8192x8, .f32⟩
  | 29 => ⟨S4x512x8192, .f32⟩
  | 30 => ⟨S4x512x8192, .bf16⟩
  | 31 => ⟨S4x8192x512, .bf16⟩
  | 32 => ⟨S4x512x8192, .f32⟩
  | 33 => ⟨S4x512x8192, .bf16⟩
  | 34 => ⟨S4x256x8192, .f32⟩
  | 35 => ⟨S4x256x8192, .bf16⟩
  | 36 => ⟨S4x8192x64, .bf16⟩
  | 37 => ⟨S4x8x8192, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_5 : Ref sig .tc := ⟨.hbm, 107, rfl⟩
abbrev main_v94 : Ref sig .tc := ⟨.hbm, 108, rfl⟩
abbrev main_v95 : Ref sig .tc := ⟨.hbm, 109, rfl⟩
abbrev main_cst_6 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_7 : Ref sig .tc := ⟨.hbm, 116, rfl⟩
abbrev main_v101 : Ref sig .tc := ⟨.hbm, 117, rfl⟩
abbrev main_v102 : Ref sig .tc := ⟨.hbm, 118, rfl⟩
abbrev main_cst_8 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_9 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_cst_10 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩

abbrev nD : Nat := 1
abbrev τ : Topo := Topo.v7x

variable {F : FTy → Type} [FloatOps F]
-- ==== Kernel4.lean ====
abbrev S4x8192x512 : Shape := ⟨3, ![4, 8192, 512]⟩
abbrev S1024x1024 : Shape := ⟨2, ![1024, 1024]⟩
abbrev S4x8192x1024 : Shape := ⟨3, ![4, 8192, 1024]⟩
abbrev S4x6x1024 : Shape := ⟨3, ![4, 6, 1024]⟩
abbrev S1024 : Shape := ⟨1, ![1024]⟩
abbrev S512x1024 : Shape := ⟨2, ![512, 1024]⟩
abbrev S1x1024 : Shape := ⟨2, ![1, 1024]⟩
abbrev S1x512x512 : Shape := ⟨3, ![1, 512, 512]⟩
abbrev S1x512x1024 : Shape := ⟨3, ![1, 512, 1024]⟩
abbrev S1x6x1024 : Shape := ⟨3, ![1, 6, 1024]⟩
abbrev S512x512 : Shape := ⟨2, ![512, 512]⟩
abbrev S6x1024 : Shape := ⟨2, ![6, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S1024x1024, .f32⟩
  | .hbm, ⟨3, _⟩ => ⟨S4x8192x1024, .f32⟩
  | .hbm, ⟨4, _⟩ => ⟨S4x6x1024, .f32⟩
  | .hbm, ⟨5, _⟩ => ⟨S1024, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1x1024, .f32⟩
  | .hbm, ⟨13, _⟩ => ⟨S4x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x8192x512 : Shape := ⟨3, ![4, 8192, 512]⟩
abbrev S1024x1024 : Shape := ⟨2, ![1024, 1024]⟩
abbrev S4x8192x1024 : Shape := ⟨3, ![4, 8192, 1024]⟩
abbrev S4x6x1024 : Shape := ⟨3, ![4, 6, 1024]⟩
abbrev S1024 : Shape := ⟨1, ![1024]⟩
abbrev S_ : Shape := ⟨0, ![]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S1024x1024, .f32⟩
  | .hbm, ⟨3, _⟩ => ⟨S4x8192x1024, .f32⟩
  | .hbm, ⟨4, _⟩ => ⟨S4x6x1024, .f32⟩
  | .hbm, ⟨5, _⟩ => ⟨S1024, .f32⟩
  | .hbm, ⟨6, _⟩ => ⟨S1024, .f32⟩
  | .hbm, ⟨7, _⟩ => ⟨S4x8192x1024, .bf16⟩
  | .hbm, ⟨8, _⟩ => ⟨S4x8192x1024, .f32⟩
  | .hbm, ⟨9, _⟩ => ⟨S4x8192x1024, .f32⟩
  | .hbm, ⟨10, _⟩ => ⟨S_, .f32⟩
  | .hbm, ⟨11, _⟩ => ⟨S4x8192x1024, .f32⟩
  | .hbm, ⟨12, _⟩ => ⟨S4x8192x1024, .f32⟩
  | .hbm, ⟨13, _⟩ => ⟨S4x1x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x1024, .f32⟩
  | .hbm, ⟨39, _⟩ => ⟨S4x8192x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x6x1024 : Shape := ⟨3, ![4, 6, 1024]⟩
abbrev S1024x1536 : Shape := ⟨2, ![1024, 1536]⟩
abbrev S4x128x128 : Shape := ⟨3, ![4, 128, 128]⟩
abbrev S512 : Shape := ⟨1, ![512]⟩
abbrev S4x128 : Shape := ⟨2, ![4, 128]⟩
abbrev S1024x1024 : Shape := ⟨2, ![1024, 1024]⟩
abbrev S1024 : Shape := ⟨1, ![1024]⟩
abbrev S1x512 : Shape := ⟨2, ![1, 512]⟩
abbrev S128x4 : Shape := ⟨2, ![128, 4]⟩
abbrev S1x1024 : Shape := ⟨2, ![1, 1024]⟩
abbrev S1x256x1024 : Shape := ⟨3, ![1, 256, 1024]⟩
abbrev S1x16x1024 : Shape := ⟨3, ![1, 16, 1024]⟩
abbrev S1x6x1024 : Shape := ⟨3, ![1, 6, 1024]⟩
abbrev S256x1024 : Shape := ⟨2, ![256, 1024]⟩
abbrev S6x1024 : Shape := ⟨2, ![6, 1024]⟩
abbrev S256x1536 : Shape := ⟨2, ![256, 1536]⟩
abbrev S16x1024 : Shape := ⟨2, ![16, 1024]⟩
abbrev S1024x512 : Shape := ⟨2, ![1024, 512]⟩
abbrev S16x512 : Shape := ⟨2, ![16, 512]⟩
abbrev S256x1 : Shape := ⟨2, ![256, 1]⟩
abbrev S256x128 : Shape := ⟨2, ![256, 128]⟩
abbrev S16x128 : Shape := ⟨2, ![16, 128]⟩
abbrev S272x128 : Shape := ⟨2, ![272, 128]⟩
abbrev S271x128 : Shape := ⟨2, ![271, 128]⟩
abbrev S1x128x128 : Shape := ⟨3, ![1, 128, 128]⟩
abbrev S128x128 : Shape := ⟨2, ![128, 128]⟩
abbrev S1x128 : Shape := ⟨2, ![1, 128]⟩
abbrev S269x128 : Shape := ⟨2, ![269, 128]⟩
abbrev S265x128 : Shape := ⟨2, ![265, 128]⟩
abbrev S257x128 : Shape := ⟨2, ![257, 128]⟩
abbrev S256x512 : Shape := ⟨2, ![256, 512]⟩
abbrev S256 : Shape := ⟨1, ![256]⟩
abbrev S128x1 : Shape := ⟨2, ![128, 1]⟩

abbrev nBuf : Space → Nat
  | .hbm => 22
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x1536, .f32⟩
  | .hbm, ⟨3, _⟩ => ⟨S4x128x128, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4x128x128, .f32⟩
  | .hbm, ⟨8, _⟩ => ⟨S4x128, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1536, .bf16⟩
  | .hbm, ⟨13, _⟩ => ⟨S4x128x128, .bf16⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S128x4, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1536, .bf16⟩
  | .local _ .vmem, ⟨7, _⟩ => ⟨S4x128x128, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S4x128x128, .f32⟩
  | .local _ .vmem, ⟨12, _⟩ => ⟨S128x4, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | .local _ .vmem, ⟨18, _⟩ => ⟨S256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S4x8192x1024 : Shape := ⟨3, ![4, 8192, 1024]⟩
abbrev S4x6x1024 : Shape := ⟨3, ![4, 6, 1024]⟩
abbrev S1024x1536 : Shape := ⟨2, ![1024, 1536]⟩
abbrev S4x128x128 : Shape := ⟨3, ![4, 128, 128]⟩
abbrev S512 : Shape := ⟨1, ![512]⟩
abbrev S4x128 : Shape := ⟨2, ![4, 128]⟩
abbrev S1024x1024 : Shape := ⟨2, ![1024, 1024]⟩
abbrev S1024 : Shape := ⟨1, ![1024]⟩
abbrev S4x1x1024 : Shape := ⟨3, ![4, 1, 1024]⟩
abbrev S_ : Shape := ⟨0, ![]⟩
abbrev S4x8192x1536 : Shape := ⟨3, ![4, 8192, 1536]⟩
abbrev S4x8192x512 : Shape := ⟨3, ![4, 8192, 512]⟩
abbrev S8192 : Shape := ⟨1, ![8192]⟩
abbrev S4x8192x128 : Shape := ⟨3, ![4, 8192, 128]⟩
abbrev S4x8193x128 : Shape := ⟨3, ![4, 8193, 128]⟩
abbrev S1x8192x1 : Shape := ⟨3, ![1, 8192, 1]⟩
abbrev S1x128x128 : Shape := ⟨3, ![1, 128, 128]⟩
abbrev S128x128 : Shape := ⟨2, ![128, 128]⟩
abbrev S4x8195x128 : Shape := ⟨3, ![4, 8195, 128]⟩
abbrev S4x8199x128 : Shape := ⟨3, ![4, 8199, 128]⟩
abbrev S4x8207x128 : Shape := ⟨3, ![4, 8207, 128]⟩
abbrev S1x1x512 : Shape := ⟨3, ![1, 1, 512]⟩
abbrev S4x8192 : Shape := ⟨2, ![4, 8192]⟩
abbrev S4x8192x1 : Shape := ⟨3, ![4, 8192, 1]⟩
abbrev S4x64x128x4x128 : Shape := ⟨5, ![4, 64, 128, 4, 128]⟩
abbrev S4x4x64x128x128 : Shape := ⟨5, ![4, 4, 64, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x1x1024 : Shape := ⟨3, ![1, 1, 1024]⟩

abbrev nBuf : Space → Nat
  | .hbm => 267
  | .vmem => 0
  | .smem => 0
  | _ => 0

abbrev hbmTy0_0 (i : Nat) : BufTy := match i % 128 with
  | 0 => ⟨S4x8192x1024, .f32⟩
  | 1 => ⟨S4x6x1024, .f32⟩
  | 2 => ⟨S1024x1536, .f32⟩
  | 3 => ⟨S4x128x128, .f32⟩
  | 4 => ⟨S512, .f32⟩
  | 5 => ⟨S512, .f32⟩
  | 6 => ⟨S512, .f32⟩
  | 7 => ⟨S4x128x128, .f32⟩
  | 8 => ⟨S4x128, .f32⟩
  | 9 => ⟨S1024x1024, .f32⟩
  | 10 => ⟨S1024, .f32⟩
  | 11 => ⟨S1024, .f32⟩
  | 12 => ⟨S4x1x1024, .f32⟩
  | 13 => ⟨S_, .f32⟩
  | 14 => ⟨S4x1x1024, .f32⟩
  | 15 => ⟨S4x1x1024, .f32⟩
  | 16 => ⟨S4x8192x1024, .f32⟩
  | 17 => ⟨S4x8192x1024, .f32⟩
  | 18 => ⟨S4x1x1024, .f32⟩
  | 19 => ⟨S4x8192x1024, .f32⟩
  | 20 => ⟨S4x8192x1024, .f32⟩
  | 21 => ⟨S4x8192x1536, .f32⟩
  | 22 => ⟨S4x8192x512, .f32⟩
  | 23 => ⟨S8192, .f32⟩
  | 24 => ⟨S4x8192x128, .f32⟩
  | 25 => ⟨S_, .i32⟩
  | 26 => ⟨S_, .f32⟩
  | 27 => ⟨S4x8193x128, .f32⟩
  | 28 => ⟨S4x8192x128, .f32⟩
  | 29 => ⟨S4x8192x128, .f32⟩
  | 30 => ⟨S4x8192x128, .f32⟩
  | 31 => ⟨S_, .f32⟩
  | 32 => ⟨S8192, .f32⟩
  | 33 => ⟨S8192, .f32⟩
  | 34 => ⟨S_, .f32⟩
  | 35 => ⟨S8192, .f32⟩
  | 36 => ⟨S8192, .f32⟩
  | 37 => ⟨S1x8192x1, .f32⟩
  | 38 => ⟨S4x8192x128, .f32⟩
  | 39 => ⟨S4x8192x128, .f32⟩
  | 40 => ⟨S4x8192x128, .f32⟩
  | 41 => ⟨S1x128x128, .f32⟩
  | 42 => ⟨S128x128, .f32⟩
  | 43 => ⟨S4x8192x128, .f32⟩
  | 44 => ⟨S4x8192x128, .f32⟩
  | 45 => ⟨S_, .i32⟩
  | 46 => ⟨S_, .f32⟩
  | 47 => ⟨S4x8195x128, .f32⟩
  | 48 => ⟨S4x8192x128, .f32⟩
  | 49 => ⟨S4x8192x128, .f32⟩
  | 50 => ⟨S4x8192x128, .f32⟩
  | 51 => ⟨S4x8192x128, .f32⟩
  | 52 => ⟨S4x8192x128, .f32⟩
  | 53 => ⟨S4x8192x128, .f32⟩
  | 54 => ⟨S4x8192x128, .f32⟩
  | 55 => ⟨S_, .f32⟩
  | 56 => ⟨S8192, .f32⟩
  | 57 => ⟨S8192, .f32⟩
  | 58 => ⟨S_, .f32⟩
  | 59 => ⟨S8192, .f32⟩
  | 60 => ⟨S8192, .f32⟩
  | 61 => ⟨S1x8192x1, .f32⟩
  | 62 => ⟨S4x8192x128, .f32⟩
  | 63 => ⟨S4x8192x128, .f32⟩
  | 64 => ⟨S4x8192x128, .f32⟩
  | 65 => ⟨S1x128x128, .f32⟩
  | 66 => ⟨S128x128, .f32⟩
  | 67 => ⟨S4x8192x128, .f32⟩
  | 68 => ⟨S4x8192x128, .f32⟩
  | 69 => ⟨S_, .i32⟩
  | 70 => ⟨S_, .f32⟩
  | 71 => ⟨S4x8199x128, .f32⟩
  | 72 => ⟨S4x8192x128, .f32⟩
  | 73 => ⟨S4x8192x128, .f32⟩
  | 74 => ⟨S4x8192x128, .f32⟩
  | 75 => ⟨S4x8192x128, .f32⟩
  | 76 => ⟨S4x8192x128, .f32⟩
  | 77 => ⟨S4x8192x128, .f32⟩
  | 78 => ⟨S4x8192x128, .f32⟩
  | 79 => ⟨S4x8192x128, .f32⟩
  | 80 => ⟨S4x8192x128, .f32⟩
  | 81 => ⟨S4x8192x128, .f32⟩
  | 82 => ⟨S4x8192x128, .f32⟩
  | 83 => ⟨S4x8192x128, .f32⟩
  | 84 => ⟨S4x8192x128, .f32⟩
  | 85 => ⟨S4x8192x128, .f32⟩
  | 86 => ⟨S4x8192x128, .f32⟩
  | 87 => ⟨S_, .f32⟩
  | 88 => ⟨S8192, .f32⟩
  | 89 => ⟨S8192, .f32⟩
  | 90 => ⟨S_, .f32⟩
  | 91 => ⟨S8192, .f32⟩
  | 92 => ⟨S8192, .f32⟩
  | 93 => ⟨S1x8192x1, .f32⟩
  | 94 => ⟨S4x8192x128, .f32⟩
  | 95 => ⟨S4x8192x128, .f32⟩
  | 96 => ⟨S4x8192x128, .f32⟩
  | 97 => ⟨S1x128x128, .f32⟩
  | 98 => ⟨S128x128, .f32⟩
  | 99 => ⟨S4x8192x128, .f32⟩
  | 100 => ⟨S4x8192x128, .f32⟩
  | 101 => ⟨S_, .i32⟩
  | 102 => ⟨S_, .f32⟩
  | 103 => ⟨S4x8207x128, .f32⟩
  | 104 => ⟨S4x8192x128, .f32⟩
  | 105 => ⟨S4x8192x128, .f32⟩
  | 106 => ⟨S4x8192x128, .f32⟩
  | 107 => ⟨S4x8192x128, .f32⟩
  | 108 => ⟨S4x8192x128, .f32⟩
  | 109 => ⟨S4x8192x128, .f32⟩
  | 110 => ⟨S4x8192x128, .f32⟩
  | 111 => ⟨S4x8192x128, .f32⟩
  | 112 => ⟨S4x8192x128, .f32⟩
  | 113 => ⟨S4x8192x128, .f32⟩
  | 114 => ⟨S4x8192x128, .f32⟩
  | 115 => ⟨S4x8192x128, .f32⟩
  | 116 => ⟨S4x8192x128, .f32⟩
  | 117 => ⟨S4x8192x128, .f32⟩
  | 118 => ⟨S4x8192x128, .f32⟩
  | 119 => ⟨S4x8192x128, .f32⟩
  | 120 => ⟨S4x8192x128, .f32⟩
  | 121 => ⟨S4x8192x128, .f32⟩
  | 122 => ⟨S4x8192x128, .f32⟩
  | 123 => ⟨S4x8192x128, .f32⟩
  | 124 => ⟨S4x8192x128, .f32⟩
  | 125 => ⟨S4x8192x128, .f32⟩
  | 126 => ⟨S4x8192x128, .f32⟩
  | 127 => ⟨S4x8192x128, .f32⟩
  | _ => ⟨S4x8192x1024, .f32⟩

abbrev hbmTy0_1 (i : Nat) : BufTy := match i % 128 with
  | 0 => ⟨S4x8192x128, .f32⟩
  | 1 => ⟨S4x8192x128, .f32⟩
  | 2 => ⟨S4x8192x128, .f32⟩
  | 3 => ⟨S4x8192x128, .f32⟩
  | 4 => ⟨S4x8192x128, .f32⟩
  | 5 => ⟨S4x8192x128, .f32⟩
  | 6 => ⟨S4x8192x128, .f32⟩
  | 7 => ⟨S_, .f32⟩
  | 8 => ⟨S8192, .f32⟩
  | 9 => ⟨S8192, .f32⟩
  | 10 => ⟨S_, .f32⟩
  | 11 => ⟨S8192, .f32⟩
  | 12 => ⟨S8192, .f32⟩
  | 13 => ⟨S1x8192x1, .f32⟩
  | 14 => ⟨S4x8192x128, .f32⟩
  | 15 => ⟨S4x8192x128, .f32⟩
  | 16 => ⟨S4x8192x128, .f32⟩
  | 17 => ⟨S1x128x128, .f32⟩
  | 18 => ⟨S128x128, .f32⟩
  | 19 => ⟨S4x8192x128, .f32⟩
  | 20 => ⟨S4x8192x512, .f32⟩
  | 21 => ⟨S1x1x512, .f32⟩
  | 22 => ⟨S4x8192x512, .f32⟩
  | 23 => ⟨S4x8192x512, .f32⟩
  | 24 => ⟨S4x8192x512, .f32⟩
  | 25 => ⟨S4x8192x512, .f32⟩
  | 26 => ⟨S_, .f32⟩
  | 27 => ⟨S4x8192x512, .f32⟩
  | 28 => ⟨S4x8192x512, .f32⟩
  | 29 => ⟨S_, .f32⟩
  | 30 => ⟨S4x8192x512, .f32⟩
  | 31 => ⟨S4x8192x512, .f32⟩
  | 32 => ⟨S4x8192x512, .f32⟩
  | 33 => ⟨S_, .f32⟩
  | 34 => ⟨S4x8192x512, .f32⟩
  | 35 => ⟨S4x8192x512, .f32⟩
  | 36 => ⟨S4x8192x512, .f32⟩
  | 37 => ⟨S_, .f32⟩
  | 38 => ⟨S4x8192x512, .f32⟩
  | 39 => ⟨S4x8192x512, .f32⟩
  | 40 => ⟨S_, .f32⟩
  | 41 => ⟨S4x8192x512, .f32⟩
  | 42 => ⟨S4x8192x512, .f32⟩
  | 43 => ⟨S4x8192x512, .f32⟩
  | 44 => ⟨S_, .f32⟩
  | 45 => ⟨S4x8192x512, .f32⟩
  | 46 => ⟨S4x8192x512, .f32⟩
  | 47 => ⟨S4x8192x512, .f32⟩
  | 48 => ⟨S_, .f32⟩
  | 49 => ⟨S4x8192, .f32⟩
  | 50 => ⟨S4x8192x1, .f32⟩
  | 51 => ⟨S_, .f32⟩
  | 52 => ⟨S4x8192x1, .f32⟩
  | 53 => ⟨S4x8192x1, .f32⟩
  | 54 => ⟨S4x8192x512, .f32⟩
  | 55 => ⟨S4x8192x512, .f32⟩
  | 56 => ⟨S4x8192x512, .f32⟩
  | 57 => ⟨S_, .f32⟩
  | 58 => ⟨S4x8192, .f32⟩
  | 59 => ⟨S4x8192x1, .f32⟩
  | 60 => ⟨S_, .f32⟩
  | 61 => ⟨S4x8192x1, .f32⟩
  | 62 => ⟨S4x8192x1, .f32⟩
  | 63 => ⟨S4x8192x512, .f32⟩
  | 64 => ⟨S4x8192x512, .f32⟩
  | 65 => ⟨S_, .f32⟩
  | 66 => ⟨S4x8192x1, .f32⟩
  | 67 => ⟨S4x8192x1, .f32⟩
  | 68 => ⟨S4x8192x1, .f32⟩
  | 69 => ⟨S4x8192x512, .f32⟩
  | 70 => ⟨S4x8192x512, .f32⟩
  | 71 => ⟨S1x1x512, .f32⟩
  | 72 => ⟨S4x8192x512, .f32⟩
  | 73 => ⟨S4x8192x512, .f32⟩
  | 74 => ⟨S1x1x512, .f32⟩
  | 75 => ⟨S4x8192x512, .f32⟩
  | 76 => ⟨S4x8192x512, .f32⟩
  | 77 => ⟨S4x64x128x4x128, .f32⟩
  | 78 => ⟨S_, .f32⟩
  | 79 => ⟨S128x128, .f32⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S1x128x128, .f32⟩
  | 90 => ⟨S4x128x128, .f32⟩
  | 91 => ⟨S4x128x128, .f32⟩
  | 92 => ⟨S4x4x64x128x128, .f32⟩
  | 93 => ⟨S4x64x128x4x128, .f32⟩
  | 94 => ⟨S128x4, .f32⟩
  | 95 => ⟨S128x4x1, .f32⟩
  | 96 => ⟨S1x1x128x4x1, .f32⟩
  | 97 => ⟨S4x64x128x4x128, .f32⟩
  | 98 => ⟨S4x64x128x4x128, .f32⟩
  | 99 => ⟨S4x8192x512, .f32⟩
  | 100 => ⟨S4x8192x512, .f32⟩
  | 101 => ⟨S4x8192x1024, .f32⟩
  | 102 => ⟨S4x8192x1024, .f32⟩
  | 103 => ⟨S_, .f32⟩
  | 104 => ⟨S4x8192x1024, .f32⟩
  | 105 => ⟨S4x8192x1024, .f32⟩
  | 106 => ⟨S4x1x1024, .f32⟩
  | 107 => ⟨S4x8192x1024, .f32⟩
  | 108 => ⟨S4x8192x1024, .f32⟩
  | 109 => ⟨S4x8192x1024, .f32⟩
  | 110 => ⟨S_, .f32⟩
  | 111 => ⟨S4x8192, .f32⟩
  | 112 => ⟨S4x8192x1, .f32⟩
  | 113 => ⟨S_, .f32⟩
  | 114 => ⟨S4x8192x1, .f32⟩
  | 115 => ⟨S4x8192x1, .f32⟩
  | 116 => ⟨S4x8192x1024, .f32⟩
  | 117 => ⟨S4x8192x1024, .f32⟩
  | 118 => ⟨S4x8192x1024, .f32⟩
  | 119 => ⟨S_, .f32⟩
  | 120 => ⟨S4x8192, .f32⟩
  | 121 => ⟨S4x8192x1, .f32⟩
  | 122 => ⟨S_, .f32⟩
  | 123 => ⟨S4x8192x1, .f32⟩
  | 124 => ⟨S4x8192x1, .f32⟩
  | 125 => ⟨S4x8192x1024, .f32⟩
  | 126 => ⟨S4x8192x1024, .f32⟩
  | 127 => ⟨S_, .f32⟩
  | _ => ⟨S4x8192x1024, .f32⟩

abbrev hbmTy0_2 (i : Nat) : BufTy := match i % 128 with
  | 0 => ⟨S4x8192x1, .f32⟩
  | 1 => ⟨S4x8192x1, .f32⟩
  | 2 => ⟨S4x8192x1, .f32⟩
  | 3 => ⟨S4x8192x1024, .f32⟩
  | 4 => ⟨S4x8192x1024, .f32⟩
  | 5 => ⟨S1x1x1024, .f32⟩
  | 6 => ⟨S4x8192x1024, .f32⟩
  | 7 => ⟨S4x8192x1024, .f32⟩
  | 8 => ⟨S1x1x1024, .f32⟩
  | 9 => ⟨S4x8192x1024, .f32⟩
  | 10 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_2 : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_call2_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_6 : Ref sig .tc := ⟨.hbm, 87, rfl⟩
abbrev main_v64 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_8 : Ref sig .tc := ⟨.hbm, 101, rfl⟩
abbrev main_call3_v0 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_9 : Ref sig .tc := ⟨.hbm, 135, rfl⟩
abbrev main_v108 : Ref sig .tc := ⟨.hbm, 136, rfl⟩
abbrev main_v109 : Ref sig .tc := ⟨.hbm, 137, rfl⟩
abbrev main_cst_10 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_11 : Ref sig .tc := ⟨.hbm, 154, rfl⟩
abbrev main_v125 : Ref sig .tc := ⟨.hbm, 155, rfl⟩
abbrev main_v126 : Ref sig .tc := ⟨.hbm, 156, rfl⟩
abbrev main_cst_12 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_13 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_14 : Ref sig .tc := ⟨.hbm, 165, rfl⟩
abbrev main_v133 : Ref sig .tc := ⟨.hbm, 166, rfl⟩
abbrev main_v134 : Ref sig .tc := ⟨.hbm, 167, rfl⟩
abbrev main_cst_15 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_16 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_17 : Ref sig .tc := ⟨.hbm, 176, rfl⟩
abbrev main_v141 : Ref sig .tc := ⟨.hbm, 177, rfl⟩
abbrev main_v142 : Ref sig .tc := ⟨.hbm, 178, rfl⟩
abbrev main_cst_18 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_19 : Ref sig .tc := ⟨.hbm, 185, rfl⟩
abbrev main_v148 : Ref sig .tc := ⟨.hbm, 186, rfl⟩
abbrev main_v149 : Ref sig .tc := ⟨.hbm, 187, rfl⟩
abbrev main_cst_20 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_21 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_cst_22 : Ref sig .tc := ⟨.hbm, 206, rfl⟩
abbrev main_v166 : Ref sig .tc := ⟨.hbm, 207, rfl⟩
abbrev main_call4_v0 : Ref sig .tc := ⟨.hbm, 208, rfl⟩
abbrev main_call4_c : Ref sig .tc := ⟨.hbm, 209, rfl⟩
abbrev main_call4_v1 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_cst : Ref sig .tc := ⟨.hbm, 214, rfl⟩
abbrev main_call4_v5 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_cst_23 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_24 : Ref sig .tc := ⟨.hbm, 238, rfl⟩
abbrev main_v188 : Ref sig .tc := ⟨.hbm, 239, rfl⟩
abbrev main_v189 : Ref sig .tc := ⟨.hbm, 240, rfl⟩
abbrev main_cst_25 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_26 : Ref sig .tc := ⟨.hbm, 247, rfl⟩
abbrev main_v195 : Ref sig .tc := ⟨.hbm, 248, rfl⟩
abbrev main_v196 : Ref sig .tc := ⟨.hbm, 249, rfl⟩
abbrev main_cst_27 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_cst_28 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩

abbrev nD : Nat := 1
abbrev τ : Topo := Topo.v7x

variable {F : FTy → Type} [FloatOps F]
-- ==== Proof.Keeps.lean ====
/- The frame of the sparse-attention call, compositionally: a predicate `Keeps` on programs (run from a resource, they
   hand that resource back), closed under sequencing, branching and counted loops, and met by every load of a buffer
   the resource reads and every store to one it owns at some contents. The kernel's printed parts are then gone
   through one by one; no contents are followed, so no branch of the kernel is decided. -/
module

public import proofs.«01_k».proof.Proof.Gen.Kernel.Skeleton
public import proofs.«01_k».proof.Proof.Gen.Kernel.Frame
public import Idealize.ShloMosaic.Lib.Tactic
public import Idealize.ShloMosaic.Lib.Scf
public import Idealize.ShloMosaic.Lib.Pipeline.Kit

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- Memref `m`'s elements on core `c`, held whole at contents `f`. -/
abbrev heldAt (c : Dev nD) {sp : Space} {S : Shape} {e : EltTy} (m : Memref sig .tc sp S e)
    (f : Buf (Elt F) (m.view.loc (c : Thread nD τ))) : sProp (MT nD τ sig Unit (Elt F) ℕ (UR sig nD τ) ℕ) :=
  iprop(m.view.loc (c : Thread nD τ) ↦[m.view.set]{fullShare} f)

/-- A program run from `R` hands `R` back, whatever it returns. -/
def Keeps (c : Dev nD) (R : sProp (MT nD τ sig Unit (Elt F) ℕ (UR sig nD τ) ℕ)) {α : Type} (p : Prog (TpuEff nD τ sig (Elt F) Λ₀ .tc) α) : Prop :=
  R ⊢ wp frame (wpE (defs₀ (F := F)) Variants.none (c : Thread nD τ) none) Set.univ p (fun _ => R)

/-- `R` lends `m` at some contents, and takes it back at the same. -/
def Reads (c : Dev nD) (R : sProp (MT nD τ sig Unit (Elt F) ℕ (UR sig nD τ) ℕ)) {sp : Space} {S : Shape} {e : EltTy} (m : Memref sig .tc sp S e) : Prop :=
  R ⊢ iprop(∃ f, heldAt c m f ∗ (heldAt c m f -∗ R))

/-- `R` lends `m` at some contents, and takes it back at any. -/
def Writes (c : Dev nD) (R : sProp (MT nD τ sig Unit (Elt F) ℕ (UR sig nD τ) ℕ)) {sp : Space} {S : Shape} {e : EltTy} (m : Memref sig .tc sp S e) : Prop :=
  R ⊢ iprop(∃ f, heldAt c m f ∗ (∀ f', heldAt c m f' -∗ R))

variable {c : Dev nD} {R : sProp (MT nD τ sig Unit (Elt F) ℕ (UR sig nD τ) ℕ)}

theorem Writes.reads {sp : Space} {S : Shape} {e : EltTy} {m : Memref sig .tc sp S e} (h : Writes c R m) : Reads c R m := by
  refine BIBase.Entails.trans h ?_
  iintro ⟨%f, H, HR⟩
  iexists f
  isplitl [H]; · iexact H
  iapply HR

theorem Keeps.pure {α : Type} (a : α) : Keeps c R (pure a) := by
  unfold Keeps; rw [wp_pure]; exact fupd_intro

theorem Keeps.bind {α β : Type} {p : Prog (TpuEff nD τ sig (Elt F) Λ₀ .tc) α} {q : α → Prog (TpuEff nD τ sig (Elt F) Λ₀ .tc) β}
    (hp : Keeps c R p) (hq : ∀ a, Keeps c R (q a)) : Keeps c R (p >>= q) := by
  unfold Keeps; rw [wp_bind]; exact BIBase.Entails.trans hp (wp_mono _ _ _ hq)

theorem Keeps.dite {α : Type} {C : Prop} [Decidable C] {p : C → Prog (TpuEff nD τ sig (Elt F) Λ₀ .tc) α}
    {q : ¬C → Prog (TpuEff nD τ sig (Elt F) Λ₀ .tc) α} (hp : ∀ h, Keeps c R (p h)) (hq : ∀ h, Keeps c R (q h)) :
    Keeps c R (if h : C then p h else q h) := by
  by_cases h : C
  · rw [dif_pos h]; exact hp h
  · rw [dif_neg h]; exact hq h

theorem Keeps.loop {w : Nat} {σ : Type} (l : Scf.Loop w) (hok : l.OK) (init : σ)
    {body : Fin l.trips → σ → Prog (TpuEff nD τ sig (Elt F) Λ₀ .tc) σ} (hb : ∀ k a, Keeps c R (body k a)) :
    Keeps c R (Scf.Loop.for l hok init body) := by
  unfold Keeps
  refine BIBase.Entails.trans ?_ (Scf.wp_for _ _ _ l.lb l.ub l.st hok init body (fun _ _ => R) hb)
  iintro H
  isplitl [H]; · iexact H
  iintro %acc H; iexact H

theorem Keeps.load {cs : CoreSpace} {s : Shape} {e : EltTy} {m : Memref sig .tc cs s e} (h : Reads c R m)
    (r : LoadRect s) (hl : m.view.LoadsAt r) : Keeps c R (Prog.lift (.load m r hl)) := by
  unfold Keeps
  refine BIBase.Entails.trans h ?_
  iintro ⟨%f, H, HR⟩
  iapply (wp_load Variants.none (c : Thread nD τ) none Set.univ (k := Prog.ret) (View.setOn_subset_set _ _)) $$ H
  iintro H
  iapply (le_wp_ret frame _ Set.univ _ (fun _ => R))
  iapply HR; iexact H

theorem Keeps.store {cs : CoreSpace} {s : Shape} {e : EltTy} {m : Memref sig .tc cs s e} (h : Writes c R m)
    (r : Rect s) (w : r.shape.Idx → Elt F e) (hx : (m.access r).Stores Finset.univ) (hm : Finset.univ = Finset.univ ∨ ∀ a, r.stride a = 1) :
    Keeps c R (Prog.lift (.store m r w Finset.univ hx hm)) := by
  unfold Keeps
  refine BIBase.Entails.trans h ?_
  iintro ⟨%f, H, HR⟩
  iapply (wp_store (f := f) Variants.none (c : Thread nD τ) none Set.univ (k := Prog.ret) (m.setOn_access_subset r _)) $$ H
  iintro H
  iapply (le_wp_ret frame _ Set.univ _ (fun _ => R))
  iapply HR; iexact H

variable (i : grid0.Coords) (arg2 : Memref sig .tc .vmem S1x512x128 .bf16) (harg2 : arg2.IsWhole) (arg3 : Memref sig .tc .vmem S1x8192x512 .bf16) (harg3 : arg3.IsWhole) (arg4 : Memref sig .tc .vmem S1x512x8192 .bf16) (harg4 : arg4.IsWhole) (arg5 : Memref sig .tc .vmem S1x256x128 .bf16) (harg5 : arg5.IsWhole) (arg6 : Memref sig .tc .vmem S1x8192x64 .bf16) (harg6 : arg6.IsWhole) (arg7 : Memref sig .tc .vmem S1x8x128 .f32) (harg7 : arg7.IsWhole) (arg8 : Memref sig .tc .vmem S256x256 .bf16) (harg8 : arg8.IsWhole) (arg9 : Memref sig .tc .vmem S1x128x512 .bf16) (harg9 : arg9.IsWhole) (arg10 : Memref sig .tc .vmem S8192x128 .i32) (harg10 : arg10.IsWhole) (arg11 : Memref sig .tc .vmem S4096x128 .i32) (harg11 : arg11.IsWhole) (arg12 : Memref sig .tc .vmem S1024x128 .f32) (harg12 : arg12.IsWhole) (arg13 : Memref sig .tc .vmem S4x128x128 .f32) (harg13 : arg13.IsWhole) (arg14 : Memref sig .tc .vmem S8x128 .f32) (harg14 : arg14.IsWhole) (arg15 : Memref sig .tc .vmem S8x128 .f32) (harg15 : arg15.IsWhole)
  (h2 : Reads c R arg2) (h3 : Reads c R arg3) (h4 : Reads c R arg4) (h5 : Reads c R arg5) (h6 : Reads c R arg6) (h7 : Reads c R arg7) (h8 : Reads c R arg8) (h9 : Writes c R arg9) (h10 : Writes c R arg10) (h11 : Writes c R arg11) (h12 : Writes c R arg12) (h13 : Writes c R arg13) (h14 : Writes c R arg14) (h15 : Writes c R arg15)

include F h2 h3 h4 h5 h6 h7 h8 h9 h10 h11 h12 h13 h14 h15

theorem keeps_part1 (v53 : FVec F S8x128 .f32) (v60 : FVec F S64x512 .bf16) (c0_i32_28 : BitVec 32) (c1_i32_30 : BitVec 32) (k0_t1 : Fin (k0_t1_loop i).trips) :
    Keeps c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 v53 v60 c0_i32_28 c1_i32_30 k0_t1) := by
  rw [k0_part1_eq_skeleton (F := F)]; unfold k0_part1_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part2 (k0_t1 : Fin (k0_t1_loop i).trips) (v379 : BitVec 32) (v420 : IVec S1024x128 32) :
    Keeps c R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 k0_t1 v379 v420) := by
  rw [k0_part2_eq_skeleton (F := F)]; unfold k0_part2_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part3 (k0_t1 : Fin (k0_t1_loop i).trips) (v379 : BitVec 32) (v428 : IVec S1024x128 32) (v461 : IVec S128x128 32) (v462 : BitVec 32) (c2_i32_208 : BitVec 32) (v463 : BitVec 32) (v465 : BitVec 32) :
    Keeps c R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 k0_t1 v379 v428 v461 v462 c2_i32_208 v463 v465) := by
  rw [k0_part3_eq_skeleton (F := F)]; unfold k0_part3_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part4 (v53 : FVec F S8x128 .f32) (v60 : FVec F S64x512 .bf16) (v83 : BitVec 32) (c1_i32_31 : BitVec 32) (k0_t2 : Fin (k0_t2_loop i).trips) :
    Keeps c R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 v53 v60 v83 c1_i32_31 k0_t2) := by
  rw [k0_part4_eq_skeleton (F := F)]; unfold k0_part4_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part5 (k0_t2 : Fin (k0_t2_loop i).trips) (v379 : BitVec 32) (v420 : IVec S1024x128 32) :
    Keeps c R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 k0_t2 v379 v420) := by
  rw [k0_part5_eq_skeleton (F := F)]; unfold k0_part5_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part6 (k0_t2 : Fin (k0_t2_loop i).trips) (v379 : BitVec 32) (v428 : IVec S1024x128 32) (v461 : IVec S128x128 32) (v462 : BitVec 32) (c2_i32_208 : BitVec 32) (v463 : BitVec 32) (v465 : BitVec 32) :
    Keeps c R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 k0_t2 v379 v428 v461 v462 c2_i32_208 v463 v465) := by
  rw [k0_part6_eq_skeleton (F := F)]; unfold k0_part6_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part7 (v51 : IVec S1x128 32) (v53 : FVec F S8x128 .f32) (v60 : FVec F S64x512 .bf16) (v78 : BitVec 32) (c1_i32_40 : BitVec 32) (k0_t3 : Fin (k0_t3_loop i).trips) :
    Keeps c R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 v51 v53 v60 v78 c1_i32_40 k0_t3) := by
  rw [k0_part7_eq_skeleton (F := F)]; unfold k0_part7_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part8 (k0_t3 : Fin (k0_t3_loop i).trips) (v379 : BitVec 32) (v420 : IVec S1024x128 32) (v423 : IVec S1024x128 32) (v424 : IVec S1024x128 32) :
    Keeps c R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 k0_t3 v379 v420 v423 v424) := by
  rw [k0_part8_eq_skeleton (F := F)]; unfold k0_part8_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part9 (k0_t3 : Fin (k0_t3_loop i).trips) (v379 : BitVec 32) (v435 : IVec S1024x128 32) (v466 : IVec S128x128 32) (v467 : IVec S128x128 32) :
    Keeps c R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 k0_t3 v379 v435 v466 v467) := by
  rw [k0_part9_eq_skeleton (F := F)]; unfold k0_part9_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part10 (v51 : IVec S1x128 32) (v53 : FVec F S8x128 .f32) (v60 : FVec F S64x512 .bf16) (v105 : BitVec 32) (c1_i32_41 : BitVec 32) (k0_t4 : Fin (k0_t4_loop i).trips) :
    Keeps c R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 v51 v53 v60 v105 c1_i32_41 k0_t4) := by
  rw [k0_part10_eq_skeleton (F := F)]; unfold k0_part10_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part11 (k0_t4 : Fin (k0_t4_loop i).trips) (v379 : BitVec 32) (v420 : IVec S1024x128 32) (v423 : IVec S1024x128 32) (v424 : IVec S1024x128 32) :
    Keeps c R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 k0_t4 v379 v420 v423 v424) := by
  rw [k0_part11_eq_skeleton (F := F)]; unfold k0_part11_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part12 (k0_t4 : Fin (k0_t4_loop i).trips) (v379 : BitVec 32) (v435 : IVec S1024x128 32) (v466 : IVec S128x128 32) (v467 : IVec S128x128 32) :
    Keeps c R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 k0_t4 v379 v435 v466 v467) := by
  rw [k0_part12_eq_skeleton (F := F)]; unfold k0_part12_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part13 (v51 : IVec S1x128 32) (v53 : FVec F S8x128 .f32) (v60 : FVec F S64x512 .bf16) (v100 : BitVec 32) (k0_h1 : k0_cond1 i = 1#1) :
    Keeps c R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 v51 v53 v60 v100 k0_h1) := by
  rw [k0_part13_eq_skeleton (F := F)]; unfold k0_part13_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part14 (k0_h1 : k0_cond1 i = 1#1) (v379 : BitVec 32) (v420 : IVec S512x128 32) (v425 : IVec S512x128 1) :
    Keeps c R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 k0_h1 v379 v420 v425) := by
  rw [k0_part14_eq_skeleton (F := F)]; unfold k0_part14_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part15 (v20 : BitVec 32) (v53 : FVec F S8x128 .f32) (v60 : FVec F S64x512 .bf16) (k0_h2 : k0_cond2 i = 1#1) :
    Keeps c R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 v20 v53 v60 k0_h2) := by
  rw [k0_part15_eq_skeleton (F := F)]; unfold k0_part15_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part16 (v20 : BitVec 32) (c0_i32_58 : BitVec 32) (c1_i32_59 : BitVec 32) (k0_t5 : Fin k0_t5_loop.trips) (arg17 : IVec S1x128 32) :
    Keeps c R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 v20 c0_i32_58 c1_i32_59 k0_t5 arg17) := by
  rw [k0_part16_eq_skeleton (F := F)]; unfold k0_part16_skel k0_t6_body k0_t7_body
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part17 (v20 : BitVec 32) (c0_i32_61 : BitVec 32) (c1_i32_63 : BitVec 32) (k0_t8 : Fin k0_t8_loop.trips) (arg17 : IVec S1x128 32) :
    Keeps c R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 v20 c0_i32_61 c1_i32_63 k0_t8 arg17) := by
  rw [k0_part17_eq_skeleton (F := F)]; unfold k0_part17_skel k0_t9_body k0_t10_body
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part18 (v140 : IVec S1x128 32) (v202 : FVec F S1x128 .f32) (v215 : Vec F S256x256 .bf16) (c0_i32_127 : BitVec 32) (c1_i32_129 : BitVec 32) (k0_t13 : Fin (k0_t13_loop i).trips) (arg17 : FVec F S1x128 .f32) :
    Keeps c R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 v140 v202 v215 c0_i32_127 c1_i32_129 k0_t13 arg17) := by
  rw [k0_part18_eq_skeleton (F := F)]; unfold k0_part18_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part19 (v140 : IVec S1x128 32) (v202 : FVec F S1x128 .f32) (v215 : Vec F S256x256 .bf16) (k0_t13 : Fin (k0_t13_loop i).trips) (v379 : BitVec 32) (v410 : FVec F S1x128 .f32) (v413 : Vec F S256x128 .i32) (v415 : IVec S256x128 1) (v419 : FVec F S256x128 .bf16) (cst_200 : FVec F S256x128 .f32) :
    Keeps c R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 v140 v202 v215 k0_t13 v379 v410 v413 v415 v419 cst_200) := by
  rw [k0_part19_eq_skeleton (F := F)]; unfold k0_part19_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part20 (v140 : IVec S1x128 32) (v202 : FVec F S1x128 .f32) (v215 : Vec F S256x256 .bf16) (v228 : FVec F S128x256 .bf16) (k0_t13 : Fin (k0_t13_loop i).trips) (v379 : BitVec 32) (v460 : FVec F S1x128 .f32) :
    Keeps c R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 v140 v202 v215 v228 k0_t13 v379 v460) := by
  rw [k0_part20_eq_skeleton (F := F)]; unfold k0_part20_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part21 (v235 : FVec F S128x256 .bf16) (k0_t13 : Fin (k0_t13_loop i).trips) (v379 : BitVec 32) (v486 : Vec F S1024x128 .f32) (v497 : FVec F S1024x256 .f32) (v501 : FVec F S512x128 .bf16) :
    Keeps c R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 v235 k0_t13 v379 v486 v497 v501) := by
  rw [k0_part21_eq_skeleton (F := F)]; unfold k0_part21_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part22 (v218 : IVec S128x128 1) (k0_t13 : Fin (k0_t13_loop i).trips) (v379 : BitVec 32) (v385 : FVec F S16x1024 .bf16) (v520 : FVec F S1024x128 .bf16) (v522 : FVec F S1x128 .f32) (v537 : FVec F S1024x128 .bf16) (v539 : FVec F S1x128 .f32) :
    Keeps c R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_t13 v379 v385 v520 v522 v537 v539) := by
  rw [k0_part22_eq_skeleton (F := F)]; unfold k0_part22_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part23 (v242 : FVec F S128x256 .bf16) (k0_t13 : Fin (k0_t13_loop i).trips) (v379 : BitVec 32) (v486 : Vec F S1024x128 .f32) (v508 : FVec F S1024x256 .f32) :
    Keeps c R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 v242 k0_t13 v379 v486 v508) := by
  rw [k0_part23_eq_skeleton (F := F)]; unfold k0_part23_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part24 (v218 : IVec S128x128 1) (k0_t13 : Fin (k0_t13_loop i).trips) (v379 : BitVec 32) (v385 : FVec F S16x1024 .bf16) (v600 : FVec F S1024x128 .bf16) (v602 : FVec F S1x128 .f32) (v613 : FVec F S1x128 .f32) (v617 : FVec F S1024x128 .bf16) (v619 : FVec F S1x128 .f32) :
    Keeps c R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_t13 v379 v385 v600 v602 v613 v617 v619) := by
  rw [k0_part24_eq_skeleton (F := F)]; unfold k0_part24_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part25 (v249 : FVec F S128x256 .bf16) (k0_t13 : Fin (k0_t13_loop i).trips) (v379 : BitVec 32) (v486 : Vec F S1024x128 .f32) (v588 : FVec F S1024x256 .f32) (v658 : BitVec 32) :
    Keeps c R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 v249 k0_t13 v379 v486 v588 v658) := by
  rw [k0_part25_eq_skeleton (F := F)]; unfold k0_part25_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part26 (v218 : IVec S128x128 1) (k0_t13 : Fin (k0_t13_loop i).trips) (v379 : BitVec 32) (v385 : FVec F S16x1024 .bf16) (v668 : FVec F S1024x256 .f32) (v680 : FVec F S1024x128 .bf16) (v682 : FVec F S1x128 .f32) (v693 : FVec F S1x128 .f32) (v697 : FVec F S1024x128 .bf16) (v699 : FVec F S1x128 .f32) :
    Keeps c R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_t13 v379 v385 v668 v680 v682 v693 v697 v699) := by
  rw [k0_part26_eq_skeleton (F := F)]; unfold k0_part26_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part27 (k0_t13 : Fin (k0_t13_loop i).trips) (v379 : BitVec 32) (v385 : FVec F S16x1024 .bf16) (v486 : Vec F S1024x128 .f32) (v668 : FVec F S1024x256 .f32) (v738 : FVec F S1024x128 .f32) :
    Keeps c R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 k0_t13 v379 v385 v486 v668 v738) := by
  rw [k0_part27_eq_skeleton (F := F)]; unfold k0_part27_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part28 (v140 : IVec S1x128 32) (v202 : FVec F S1x128 .f32) (v215 : Vec F S256x256 .bf16) (v272 : BitVec 32) (c1_i32_130 : BitVec 32) (k0_t14 : Fin (k0_t14_loop i).trips) (arg17 : FVec F S1x128 .f32) :
    Keeps c R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 v140 v202 v215 v272 c1_i32_130 k0_t14 arg17) := by
  rw [k0_part28_eq_skeleton (F := F)]; unfold k0_part28_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part29 (v140 : IVec S1x128 32) (v202 : FVec F S1x128 .f32) (v215 : Vec F S256x256 .bf16) (k0_t14 : Fin (k0_t14_loop i).trips) (v379 : BitVec 32) (v410 : FVec F S1x128 .f32) (v413 : Vec F S256x128 .i32) (v415 : IVec S256x128 1) (v419 : FVec F S256x128 .bf16) (cst_200 : FVec F S256x128 .f32) :
    Keeps c R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 v140 v202 v215 k0_t14 v379 v410 v413 v415 v419 cst_200) := by
  rw [k0_part29_eq_skeleton (F := F)]; unfold k0_part29_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part30 (v140 : IVec S1x128 32) (v202 : FVec F S1x128 .f32) (v215 : Vec F S256x256 .bf16) (v228 : FVec F S128x256 .bf16) (k0_t14 : Fin (k0_t14_loop i).trips) (v379 : BitVec 32) (v460 : FVec F S1x128 .f32) :
    Keeps c R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 v140 v202 v215 v228 k0_t14 v379 v460) := by
  rw [k0_part30_eq_skeleton (F := F)]; unfold k0_part30_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part31 (v235 : FVec F S128x256 .bf16) (k0_t14 : Fin (k0_t14_loop i).trips) (v379 : BitVec 32) (v486 : Vec F S1024x128 .f32) (v497 : FVec F S1024x256 .f32) (v501 : FVec F S512x128 .bf16) :
    Keeps c R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 v235 k0_t14 v379 v486 v497 v501) := by
  rw [k0_part31_eq_skeleton (F := F)]; unfold k0_part31_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part32 (v218 : IVec S128x128 1) (k0_t14 : Fin (k0_t14_loop i).trips) (v379 : BitVec 32) (v385 : FVec F S16x1024 .bf16) (v520 : FVec F S1024x128 .bf16) (v522 : FVec F S1x128 .f32) (v537 : FVec F S1024x128 .bf16) (v539 : FVec F S1x128 .f32) :
    Keeps c R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_t14 v379 v385 v520 v522 v537 v539) := by
  rw [k0_part32_eq_skeleton (F := F)]; unfold k0_part32_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part33 (v242 : FVec F S128x256 .bf16) (k0_t14 : Fin (k0_t14_loop i).trips) (v379 : BitVec 32) (v486 : Vec F S1024x128 .f32) (v508 : FVec F S1024x256 .f32) :
    Keeps c R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 v242 k0_t14 v379 v486 v508) := by
  rw [k0_part33_eq_skeleton (F := F)]; unfold k0_part33_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part34 (v218 : IVec S128x128 1) (k0_t14 : Fin (k0_t14_loop i).trips) (v379 : BitVec 32) (v385 : FVec F S16x1024 .bf16) (v600 : FVec F S1024x128 .bf16) (v602 : FVec F S1x128 .f32) (v613 : FVec F S1x128 .f32) (v617 : FVec F S1024x128 .bf16) (v619 : FVec F S1x128 .f32) :
    Keeps c R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_t14 v379 v385 v600 v602 v613 v617 v619) := by
  rw [k0_part34_eq_skeleton (F := F)]; unfold k0_part34_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part35 (v249 : FVec F S128x256 .bf16) (k0_t14 : Fin (k0_t14_loop i).trips) (v379 : BitVec 32) (v486 : Vec F S1024x128 .f32) (v588 : FVec F S1024x256 .f32) (v658 : BitVec 32) :
    Keeps c R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 v249 k0_t14 v379 v486 v588 v658) := by
  rw [k0_part35_eq_skeleton (F := F)]; unfold k0_part35_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part36 (v218 : IVec S128x128 1) (k0_t14 : Fin (k0_t14_loop i).trips) (v379 : BitVec 32) (v385 : FVec F S16x1024 .bf16) (v668 : FVec F S1024x256 .f32) (v680 : FVec F S1024x128 .bf16) (v682 : FVec F S1x128 .f32) (v693 : FVec F S1x128 .f32) (v697 : FVec F S1024x128 .bf16) (v699 : FVec F S1x128 .f32) :
    Keeps c R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_t14 v379 v385 v668 v680 v682 v693 v697 v699) := by
  rw [k0_part36_eq_skeleton (F := F)]; unfold k0_part36_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part37 (k0_t14 : Fin (k0_t14_loop i).trips) (v379 : BitVec 32) (v385 : FVec F S16x1024 .bf16) (v486 : Vec F S1024x128 .f32) (v668 : FVec F S1024x256 .f32) (v738 : FVec F S1024x128 .f32) :
    Keeps c R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 k0_t14 v379 v385 v486 v668 v738) := by
  rw [k0_part37_eq_skeleton (F := F)]; unfold k0_part37_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part38 (v140 : IVec S1x128 32) (v202 : FVec F S1x128 .f32) (v215 : Vec F S256x256 .bf16) (v267 : BitVec 32) (v274 : FVec F S1x128 .f32) (k0_h9 : k0_cond9 i = 1#1) :
    Keeps c R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 v140 v202 v215 v267 v274 k0_h9) := by
  rw [k0_part38_eq_skeleton (F := F)]; unfold k0_part38_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part39 (v140 : IVec S1x128 32) (v202 : FVec F S1x128 .f32) (v228 : FVec F S128x256 .bf16) (v235 : FVec F S128x256 .bf16) (k0_h9 : k0_cond9 i = 1#1) (v379 : BitVec 32) (v410 : FVec F S1x128 .f32) (v413 : Vec F S256x128 .i32) (v415 : IVec S256x128 1) (v420 : FVec F S256x128 .f32) :
    Keeps c R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 v140 v202 v228 v235 k0_h9 v379 v410 v413 v415 v420) := by
  rw [k0_part39_eq_skeleton (F := F)]; unfold k0_part39_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part40 (k0_h9 : k0_cond9 i = 1#1) (v379 : BitVec 32) (v385 : FVec F S16x512 .bf16) (v436 : Vec F S512x128 .f32) (v447 : FVec F S512x256 .f32) (v452 : FVec F S256x256 .f32) (v457 : FVec F S256x256 .f32) :
    Keeps c R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 k0_h9 v379 v385 v436 v447 v452 v457) := by
  rw [k0_part40_eq_skeleton (F := F)]; unfold k0_part40_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part41 (v218 : IVec S128x128 1) (v242 : FVec F S128x256 .bf16) (k0_h9 : k0_cond9 i = 1#1) (v379 : BitVec 32) (v472 : FVec F S1x128 .f32) (v489 : FVec F S1x128 .f32) (v498 : FVec F S144x256 .f32) :
    Keeps c R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 v218 v242 k0_h9 v379 v472 v489 v498) := by
  rw [k0_part41_eq_skeleton (F := F)]; unfold k0_part41_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part42 (v242 : FVec F S128x256 .bf16) (k0_h9 : k0_cond9 i = 1#1) (v379 : BitVec 32) (v385 : FVec F S16x512 .bf16) (v436 : Vec F S512x128 .f32) (v458 : FVec F S512x256 .f32) (v532 : FVec F S256x256 .f32) (v536 : FVec F S256x128 .bf16) :
    Keeps c R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 v242 k0_h9 v379 v385 v436 v458 v532 v536) := by
  rw [k0_part42_eq_skeleton (F := F)]; unfold k0_part42_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part43 (v218 : IVec S128x128 1) (v249 : FVec F S128x256 .bf16) (k0_h9 : k0_cond9 i = 1#1) (v379 : BitVec 32) (v552 : FVec F S1x128 .f32) (v569 : FVec F S1x128 .f32) (v578 : FVec F S144x256 .f32) :
    Keeps c R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 v218 v249 k0_h9 v379 v552 v569 v578) := by
  rw [k0_part43_eq_skeleton (F := F)]; unfold k0_part43_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part44 (v249 : FVec F S128x256 .bf16) (k0_h9 : k0_cond9 i = 1#1) (v379 : BitVec 32) (v385 : FVec F S16x512 .bf16) (v436 : Vec F S512x128 .f32) (v538 : FVec F S512x256 .f32) (v612 : FVec F S256x256 .f32) :
    Keeps c R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 v249 k0_h9 v379 v385 v436 v538 v612) := by
  rw [k0_part44_eq_skeleton (F := F)]; unfold k0_part44_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part45 (v218 : IVec S128x128 1) (v436 : Vec F S512x128 .f32) (v618 : FVec F S512x256 .f32) (v632 : FVec F S1x128 .f32) (v649 : FVec F S1x128 .f32) (v656 : FVec F S144x512 .bf16) (v657 : FVec F S512x256 .bf16) :
    Keeps c R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 v218 v436 v618 v632 v649 v656 v657) := by
  rw [k0_part45_eq_skeleton (F := F)]; unfold k0_part45_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part46 (k0_h9 : k0_cond9 i = 1#1) (v379 : BitVec 32) (v385 : FVec F S16x512 .bf16) (v436 : Vec F S512x128 .f32) (v618 : FVec F S512x256 .f32) (v689 : FVec F S512x128 .f32) (v690 : Vec F S1x128 .f32) (v695 : FVec F S1x128 .f32) :
    Keeps c R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 k0_h9 v379 v385 v436 v618 v689 v690 v695) := by
  rw [k0_part46_eq_skeleton (F := F)]; unfold k0_part46_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part47 (v20 : BitVec 32) (v140 : IVec S1x128 32) (v202 : FVec F S1x128 .f32) (v215 : Vec F S256x256 .bf16) (v228 : FVec F S128x256 .bf16) (v288 : FVec F S1x128 .f32) (k0_h10 : k0_cond10 i = 1#1) :
    Keeps c R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 v20 v140 v202 v215 v228 v288 k0_h10) := by
  rw [k0_part47_eq_skeleton (F := F)]; unfold k0_part47_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part48 (v228 : FVec F S128x256 .bf16) (v235 : FVec F S128x256 .bf16) (k0_h10 : k0_cond10 i = 1#1) (v380 : BitVec 32) (v411 : Vec F S256x128 .f32) (v416 : FVec F S128x256 .f32) (v417 : BitVec 32) :
    Keeps c R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 v228 v235 k0_h10 v380 v411 v416 v417) := by
  rw [k0_part48_eq_skeleton (F := F)]; unfold k0_part48_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part49 (v218 : IVec S128x128 1) (k0_h10 : k0_cond10 i = 1#1) (v380 : BitVec 32) (v386 : FVec F S16x256 .bf16) (v445 : FVec F S256x128 .bf16) (v447 : FVec F S1x128 .f32) (v452 : FVec F S256x128 .f32) (v453 : Vec F S1x128 .f32) (v455 : FVec F S64x128 .f32) :
    Keeps c R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_h10 v380 v386 v445 v447 v452 v453 v455) := by
  rw [k0_part49_eq_skeleton (F := F)]; unfold k0_part49_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part50 (v242 : FVec F S128x256 .bf16) (k0_h10 : k0_cond10 i = 1#1) (v380 : BitVec 32) (v411 : Vec F S256x128 .f32) (v433 : FVec F S256x256 .f32) (v490 : FVec F S128x128 .f32) (v495 : FVec F S128x128 .f32) (v496 : Vec F S1x128x128 .f32) :
    Keeps c R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 v242 k0_h10 v380 v411 v433 v490 v495 v496) := by
  rw [k0_part50_eq_skeleton (F := F)]; unfold k0_part50_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part51 (v218 : IVec S128x128 1) (k0_h10 : k0_cond10 i = 1#1) (v380 : BitVec 32) (v386 : FVec F S16x256 .bf16) (v525 : FVec F S256x128 .bf16) (v527 : FVec F S1x128 .f32) (v532 : FVec F S256x128 .f32) (v533 : Vec F S1x128 .f32) (v534 : FVec F S4x64x128 .f32) :
    Keeps c R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_h10 v380 v386 v525 v527 v532 v533 v534) := by
  rw [k0_part51_eq_skeleton (F := F)]; unfold k0_part51_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part52 (v249 : FVec F S128x256 .bf16) (k0_h10 : k0_cond10 i = 1#1) (v380 : BitVec 32) (v411 : Vec F S256x128 .f32) (v513 : FVec F S256x256 .f32) (v570 : FVec F S128x128 .f32) (v575 : FVec F S128x128 .f32) :
    Keeps c R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 v249 k0_h10 v380 v411 v513 v570 v575) := by
  rw [k0_part52_eq_skeleton (F := F)]; unfold k0_part52_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part53 (v218 : IVec S128x128 1) (k0_h10 : k0_cond10 i = 1#1) (v380 : BitVec 32) (v386 : FVec F S16x256 .bf16) (v605 : FVec F S256x128 .bf16) (v607 : FVec F S1x128 .f32) (v612 : FVec F S256x128 .f32) (v613 : Vec F S1x128 .f32) :
    Keeps c R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 v218 k0_h10 v380 v386 v605 v607 v612 v613) := by
  rw [k0_part53_eq_skeleton (F := F)]; unfold k0_part53_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part54 (v411 : Vec F S256x128 .f32) (v593 : FVec F S256x256 .f32) (v650 : FVec F S128x128 .f32) (v655 : FVec F S128x128 .f32) :
    Keeps c R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 v411 v593 v650 v655) := by
  rw [k0_part54_eq_skeleton (F := F)]; unfold k0_part54_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part55 (v20 : BitVec 32) (v140 : IVec S1x128 32) (v202 : FVec F S1x128 .f32) (v215 : Vec F S256x256 .bf16) (v218 : IVec S128x128 1) (v228 : FVec F S128x256 .bf16) (v235 : FVec F S128x256 .bf16) (v242 : FVec F S128x256 .bf16) (v249 : FVec F S128x256 .bf16) (v288 : FVec F S1x128 .f32) (k0_h10 : k0_cond10 i = 1#1) :
    Keeps c R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 v20 v140 v202 v215 v218 v228 v235 v242 v249 v288 k0_h10) := by
  rw [k0_part55_eq_skeleton (F := F)]; unfold k0_part55_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible exact keeps_part47 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part48 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part49 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _
    | with_reducible exact keeps_part50 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part51 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _
    | with_reducible exact keeps_part52 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part53 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part54 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _
    | with_reducible refine Keeps.bind ?_ fun _ => ?_
    | with_reducible refine Keeps.dite (fun _ => ?_) (fun _ => ?_)
    | with_reducible refine Keeps.loop _ _ _ fun _ _ => ?_
    | split

theorem keeps_part56  :
    Keeps c R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 ) := by
  rw [k0_part56_eq_skeleton (F := F)]; unfold k0_part56_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part57 (v0 : BitVec 32) (v23 : IVec S1x128 32) (v37 : IVec S1x128 1) (v39 : IVec S1x128 32) (v40 : IVec S1x128 32) :
    Keeps c R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 v0 v23 v37 v39 v40) := by
  rw [k0_part57_eq_skeleton (F := F)]; unfold k0_part57_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part58 (v20 : BitVec 32) (v51 : IVec S1x128 32) (v53 : FVec F S8x128 .f32) (v60 : FVec F S64x512 .bf16) (v78 : BitVec 32) (c0_i32_28 : BitVec 32) (v79 : BitVec 32) (c1_i32_29 : BitVec 32) :
    Keeps c R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 v20 v51 v53 v60 v78 c0_i32_28 v79 c1_i32_29) := by
  rw [k0_part58_eq_skeleton (F := F)]; unfold k0_part58_skel k0_t1_body k0_t2_body k0_t3_body k0_t4_body
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible exact keeps_part1 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part2 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _
    | with_reducible exact keeps_part3 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part4 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part5 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _
    | with_reducible exact keeps_part6 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part7 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part8 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part9 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part10 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part11 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part12 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible refine Keeps.bind ?_ fun _ => ?_
    | with_reducible refine Keeps.dite (fun _ => ?_) (fun _ => ?_)
    | with_reducible refine Keeps.loop _ _ _ fun _ _ => ?_
    | split

theorem keeps_part59 (v20 : BitVec 32) (v51 : IVec S1x128 32) (v53 : FVec F S8x128 .f32) (v60 : FVec F S64x512 .bf16) (v100 : BitVec 32) (v116 : BitVec 1) :
    Keeps c R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 v20 v51 v53 v60 v100 v116) := by
  rw [k0_part59_eq_skeleton (F := F)]; unfold k0_part59_skel k0_t5_body k0_t8_body
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible exact keeps_part13 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part14 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _
    | with_reducible exact keeps_part15 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _
    | with_reducible exact keeps_part16 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part17 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible refine Keeps.bind ?_ fun _ => ?_
    | with_reducible refine Keeps.dite (fun _ => ?_) (fun _ => ?_)
    | with_reducible refine Keeps.loop _ _ _ fun _ _ => ?_
    | split

theorem keeps_part60 (v20 : BitVec 32) (v140 : IVec S1x128 32) (v143 : IVec S64x128 32) (c4_i32_66 : BitVec 32) (v144 : BitVec 32) (v149 : BitVec 32) :
    Keeps c R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 v20 v140 v143 c4_i32_66 v144 v149) := by
  rw [k0_part60_eq_skeleton (F := F)]; unfold k0_part60_skel k0_t11_body k0_t12_body
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part61 (v20 : BitVec 32) (v140 : IVec S1x128 32) (v142 : IVec S1x128 1) (v181 : IVec S64x128 32) (v183 : BitVec 32) (v184 : BitVec 32) (v185 : BitVec 1) (v186 : BitVec 1) (v187 : BitVec 1) :
    Keeps c R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 v20 v140 v142 v181 v183 v184 v185 v186 v187) := by
  rw [k0_part61_eq_skeleton (F := F)]; unfold k0_part61_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part62 (v20 : BitVec 32) (v218 : IVec S128x128 1) (v221 : FVec F S512x128 .f32) (v222 : FVec F S128x128 .f32) (cst_111 : F .f32) :
    Keeps c R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 v20 v218 v221 v222 cst_111) := by
  rw [k0_part62_eq_skeleton (F := F)]; unfold k0_part62_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part63 (v20 : BitVec 32) (v140 : IVec S1x128 32) (v202 : FVec F S1x128 .f32) (v215 : Vec F S256x256 .bf16) (v218 : IVec S128x128 1) (v228 : FVec F S128x256 .bf16) (v235 : FVec F S128x256 .bf16) (v242 : FVec F S128x256 .bf16) (v249 : FVec F S128x256 .bf16) (v250 : FVec F S1x128 .f32) (v267 : BitVec 32) :
    Keeps c R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 v20 v140 v202 v215 v218 v228 v235 v242 v249 v250 v267) := by
  rw [k0_part63_eq_skeleton (F := F)]; unfold k0_part63_skel k0_t13_body k0_t14_body
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible exact keeps_part18 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part19 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _ _
    | with_reducible exact keeps_part20 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part21 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part22 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part23 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part24 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _
    | with_reducible exact keeps_part25 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part26 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _ _
    | with_reducible exact keeps_part27 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part28 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part29 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _ _
    | with_reducible exact keeps_part30 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part31 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part32 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part33 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part34 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _
    | with_reducible exact keeps_part35 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part36 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _ _
    | with_reducible exact keeps_part37 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part38 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part39 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _ _
    | with_reducible exact keeps_part40 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part41 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part42 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part43 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part44 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part45 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _
    | with_reducible exact keeps_part46 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part55 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _ _ _
    | with_reducible refine Keeps.bind ?_ fun _ => ?_
    | with_reducible refine Keeps.dite (fun _ => ?_) (fun _ => ?_)
    | with_reducible refine Keeps.loop _ _ _ fun _ _ => ?_
    | split

theorem keeps_part64 (v218 : IVec S128x128 1) (v302 : Vec F S1x128 .f32) (v303 : FVec F S1x128 .f32) :
    Keeps c R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 v218 v302 v303) := by
  rw [k0_part64_eq_skeleton (F := F)]; unfold k0_part64_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_part65 (v218 : IVec S128x128 1) :
    Keeps c R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 v218) := by
  rw [k0_part65_eq_skeleton (F := F)]; unfold k0_part65_skel
  repeat' first
    | with_reducible exact Keeps.pure _
    | with_reducible exact Keeps.load h2 _ _
    | with_reducible exact Keeps.load h3 _ _
    | with_reducible exact Keeps.load h4 _ _
    | with_reducible exact Keeps.load h5 _ _
    | with_reducible exact Keeps.load h6 _ _
    | with_reducible exact Keeps.load h7 _ _
    | with_reducible exact Keeps.load h8 _ _
    | with_reducible exact Keeps.load h9.reads _ _
    | with_reducible exact Keeps.load h10.reads _ _
    | with_reducible exact Keeps.load h11.reads _ _
    | with_reducible exact Keeps.load h12.reads _ _
    | with_reducible exact Keeps.load h13.reads _ _
    | with_reducible exact Keeps.load h14.reads _ _
    | with_reducible exact Keeps.load h15.reads _ _
    | with_reducible exact Keeps.store h9 _ _ _ _
    | with_reducible exact Keeps.store h10 _ _ _ _
    | with_reducible exact Keeps.store h11 _ _ _ _
    | with_reducible exact Keeps.store h12 _ _ _ _
    | with_reducible exact Keeps.store h13 _ _ _ _
    | with_reducible exact Keeps.store h14 _ _ _ _
    | with_reducible exact Keeps.store h15 _ _ _ _
    | with_reducible refine Keeps.bind ?_ fun _ => ?_
    | with_reducible refine Keeps.dite (fun _ => ?_) (fun _ => ?_)
    | with_reducible refine Keeps.loop _ _ _ fun _ _ => ?_
    | split

theorem keeps_root : Keeps c R (cc0_dsa_mix (F := F) i arg2 harg2 arg3 harg3 arg4 harg4 arg5 harg5 arg6 harg6 arg7 harg7 arg8 harg8 arg9 harg9 arg10 harg10 arg11 harg11 arg12 harg12 arg13 harg13 arg14 harg14 arg15 harg15) := by
  rw [cc0_dsa_mix_eq_skeleton (F := F)]; unfold cc0_dsa_mix_skel
  repeat' first
    | with_reducible exact Keeps.pure _
    | with_reducible exact Keeps.store h9 _ _ _ _
    | with_reducible exact keeps_part56 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15
    | with_reducible exact keeps_part57 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part58 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _
    | with_reducible exact keeps_part59 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part60 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _
    | with_reducible exact keeps_part61 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _
    | with_reducible exact keeps_part62 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _
    | with_reducible exact keeps_part63 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _ _ _ _ _ _ _ _ _
    | with_reducible exact keeps_part64 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _ _ _
    | with_reducible exact keeps_part65 i arg2 harg2 arg3 harg3 arg4 harg4 arg5 harg5 arg6 harg6 arg7 harg7 arg8 harg8 arg9 harg9 arg10 harg10 arg11 harg11 arg12 harg12 arg13 harg13 arg14 harg14 arg15 harg15 h2 h3 h4 h5 h6 h7 h8 h9 h10 h11 h12 h13 h14 h15 _
    | with_reducible refine Keeps.bind ?_ fun _ => ?_
    | split

end Cert.Proof.Kernel

end
-- ==== Proof.Body.lean ====
/- The frame of the sparse-attention call: the body's triple from `keeps_root`, the output forgotten, and the launch. -/
module

public import proofs.«01_k».proof.Proof.Keeps
public import proofs.«01_k».proof.Proof.Gen.Kernel.Frame
public import proofs.«01_k».proof.Proof.Gen.Kernel.Points
public import Idealize.ShloMosaic.Lib.Pipeline.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

/-! ## Lending out of a conjunction -/

section Lend

variable {c : Dev nD} {A B : sProp (MT nD τ sig Unit (Elt F) ℕ (UR sig nD τ) ℕ)} {sp : Space} {S : Shape} {e : EltTy} {M : Memref sig .tc sp S e}

theorem Reads.left (h : Reads c A M) : Reads c iprop(A ∗ B) M := by
  unfold Reads at h ⊢
  iintro ⟨HA, HB⟩
  ihave HA := h $$ HA
  icases HA with ⟨%f, H, HR⟩
  iexists f
  isplitl [H]; · iexact H
  iintro H
  isplitr [HB]; · iapply HR; iexact H
  iexact HB

theorem Reads.right (h : Reads c B M) : Reads c iprop(A ∗ B) M := by
  unfold Reads at h ⊢
  iintro ⟨HA, HB⟩
  ihave HB := h $$ HB
  icases HB with ⟨%f, H, HR⟩
  iexists f
  isplitl [H]; · iexact H
  iintro H
  isplitl [HA]; · iexact HA
  iapply HR; iexact H

theorem Writes.left (h : Writes c A M) : Writes c iprop(A ∗ B) M := by
  unfold Writes at h ⊢
  iintro ⟨HA, HB⟩
  ihave HA := h $$ HA
  icases HA with ⟨%f, H, HR⟩
  iexists f
  isplitl [H]; · iexact H
  iintro %f' H
  isplitr [HB]; · iapply HR; iexact H
  iexact HB

theorem Writes.right (h : Writes c B M) : Writes c iprop(A ∗ B) M := by
  unfold Writes at h ⊢
  iintro ⟨HA, HB⟩
  ihave HB := h $$ HB
  icases HB with ⟨%f, H, HR⟩
  iexists f
  isplitl [H]; · iexact H
  iintro %f' H
  isplitl [HA]; · iexact HA
  iapply HR; iexact H

theorem Reads.owns (d : S.Idx → Elt F e) : Reads c (owns (c : Thread nD τ) M fullShare d) M := by
  unfold Reads heldAt Idealize.ShloMosaic.owns
  iintro ⟨%f, %hf, H⟩
  iexists f
  isplitl [H]; · iexact H
  iintro H
  iexists f; isplitr; · ipureintro; exact hf
  iexact H

theorem Writes.owns : Writes c (iprop(∃ d : S.Idx → Elt F e, owns (c : Thread nD τ) M fullShare d)) M := by
  unfold Writes heldAt Idealize.ShloMosaic.owns
  iintro ⟨%d, %f, -, H⟩
  iexists f
  isplitl [H]; · iexact H
  iintro %f' H
  iexists _, f'; isplitr; swap; · iexact H
  ipureintro; rfl

end Lend

/-! ## The body's triple -/

/-- What the body is run from and hands back: every input's staging memref at its contents, the output's and the
    scratch at some. -/
abbrev bodyRes (c : Dev nD) (arg2 : Memref sig .tc .vmem S1x512x128 .bf16) (arg3 : Memref sig .tc .vmem S1x8192x512 .bf16) (arg4 : Memref sig .tc .vmem S1x512x8192 .bf16) (arg5 : Memref sig .tc .vmem S1x256x128 .bf16) (arg6 : Memref sig .tc .vmem S1x8192x64 .bf16) (arg7 : Memref sig .tc .vmem S1x8x128 .f32) (arg8 : Memref sig .tc .vmem S256x256 .bf16) (arg9 : Memref sig .tc .vmem S1x128x512 .bf16) (arg10 : Memref sig .tc .vmem S8192x128 .i32) (arg11 : Memref sig .tc .vmem S4096x128 .i32) (arg12 : Memref sig .tc .vmem S1024x128 .f32) (arg13 : Memref sig .tc .vmem S4x128x128 .f32) (arg14 : Memref sig .tc .vmem S8x128 .f32) (arg15 : Memref sig .tc .vmem S8x128 .f32) (d2 : S1x512x128.Idx → Elt F .bf16) (d3 : S1x8192x512.Idx → Elt F .bf16) (d4 : S1x512x8192.Idx → Elt F .bf16) (d5 : S1x256x128.Idx → Elt F .bf16) (d6 : S1x8192x64.Idx → Elt F .bf16) (d7 : S1x8x128.Idx → Elt F .f32) (d8 : S256x256.Idx → Elt F .bf16) (X : sProp (MT nD τ sig Unit (Elt F) ℕ (UR sig nD τ) ℕ)) :
    sProp (MT nD τ sig Unit (Elt F) ℕ (UR sig nD τ) ℕ) :=
  iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ X)

theorem bodyKeeps (c : Dev nD) (i : grid0.Coords) (arg2 : Memref sig .tc .vmem S1x512x128 .bf16) (harg2 : arg2.IsWhole) (arg3 : Memref sig .tc .vmem S1x8192x512 .bf16) (harg3 : arg3.IsWhole) (arg4 : Memref sig .tc .vmem S1x512x8192 .bf16) (harg4 : arg4.IsWhole) (arg5 : Memref sig .tc .vmem S1x256x128 .bf16) (harg5 : arg5.IsWhole) (arg6 : Memref sig .tc .vmem S1x8192x64 .bf16) (harg6 : arg6.IsWhole) (arg7 : Memref sig .tc .vmem S1x8x128 .f32) (harg7 : arg7.IsWhole) (arg8 : Memref sig .tc .vmem S256x256 .bf16) (harg8 : arg8.IsWhole) (arg9 : Memref sig .tc .vmem S1x128x512 .bf16) (harg9 : arg9.IsWhole) (arg10 : Memref sig .tc .vmem S8192x128 .i32) (harg10 : arg10.IsWhole) (arg11 : Memref sig .tc .vmem S4096x128 .i32) (harg11 : arg11.IsWhole) (arg12 : Memref sig .tc .vmem S1024x128 .f32) (harg12 : arg12.IsWhole) (arg13 : Memref sig .tc .vmem S4x128x128 .f32) (harg13 : arg13.IsWhole) (arg14 : Memref sig .tc .vmem S8x128 .f32) (harg14 : arg14.IsWhole) (arg15 : Memref sig .tc .vmem S8x128 .f32) (harg15 : arg15.IsWhole) (d2 : S1x512x128.Idx → Elt F .bf16) (d3 : S1x8192x512.Idx → Elt F .bf16) (d4 : S1x512x8192.Idx → Elt F .bf16) (d5 : S1x256x128.Idx → Elt F .bf16) (d6 : S1x8192x64.Idx → Elt F .bf16) (d7 : S1x8x128.Idx → Elt F .f32) (d8 : S256x256.Idx → Elt F .bf16) (X : sProp (MT nD τ sig Unit (Elt F) ℕ (UR sig nD τ) ℕ)) :
    Keeps c (bodyRes c arg2 arg3 arg4 arg5 arg6 arg7 arg8 arg9 arg10 arg11 arg12 arg13 arg14 arg15 d2 d3 d4 d5 d6 d7 d8 X) (cc0_dsa_mix (F := F) i arg2 harg2 arg3 harg3 arg4 harg4 arg5 harg5 arg6 harg6 arg7 harg7 arg8 harg8 arg9 harg9 arg10 harg10 arg11 harg11 arg12 harg12 arg13 harg13 arg14 harg14 arg15 harg15) :=
  keeps_root i arg2 harg2 arg3 harg3 arg4 harg4 arg5 harg5 arg6 harg6 arg7 harg7 arg8 harg8 arg9 harg9 arg10 harg10 arg11 harg11 arg12 harg12 arg13 harg13 arg14 harg14 arg15 harg15 (Reads.left (Reads.owns _)) (Reads.right (Reads.left (Reads.owns _))) (Reads.right (Reads.right (Reads.left (Reads.owns _)))) (Reads.right (Reads.right (Reads.right (Reads.left (Reads.owns _))))) (Reads.right (Reads.right (Reads.right (Reads.right (Reads.left (Reads.owns _)))))) (Reads.right (Reads.right (Reads.right (Reads.right (Reads.right (Reads.left (Reads.owns _))))))) (Reads.right (Reads.right (Reads.right (Reads.right (Reads.right (Reads.right (Reads.left (Reads.owns _)))))))) (Writes.right (Writes.right (Writes.right (Writes.right (Writes.right (Writes.right (Writes.right (Writes.left Writes.owns)))))))) (Writes.right (Writes.right (Writes.right (Writes.right (Writes.right (Writes.right (Writes.right (Writes.right (Writes.left Writes.owns))))))))) (Writes.right (Writes.right (Writes.right (Writes.right (Writes.right (Writes.right (Writes.right (Writes.right (Writes.right (Writes.left Writes.owns)))))))))) (Writes.right (Writes.right (Writes.right (Writes.right (Writes.right (Writes.right (Writes.right (Writes.right (Writes.right (Writes.right (Writes.left Writes.owns))))))))))) (Writes.right (Writes.right (Writes.right (Writes.right (Writes.right (Writes.right (Writes.right (Writes.right (Writes.right (Writes.right (Writes.right (Writes.left Writes.owns)))))))))))) (Writes.right (Writes.right (Writes.right (Writes.right (Writes.right (Writes.right (Writes.right (Writes.right (Writes.right (Writes.right (Writes.right (Writes.right (Writes.left Writes.owns))))))))))))) (Writes.right (Writes.right (Writes.right (Writes.right (Writes.right (Writes.right (Writes.right (Writes.right (Writes.right (Writes.right (Writes.right (Writes.right (Writes.right (Writes.left Writes.owns))))))))))))))

variable (m : (ℓ : Loc nD τ sig) → Buf (Elt F) ℓ) (ρ : Dev nD → PrngReg)

/-! ## The proof data and the body obligation -/

/-- Only the output window is forgotten. -/
def forgets0 : Fin 8 → Bool := fun w => w.val == 7

/-- The proof data on core `c`: every array as the region finds it, every input's block left in place, the output's
    unnamed; full shares; nothing owed. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, t => iblk m c 5 t
    | 6, t => iblk m c 6 t
    | 7, t => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (by dsimp only [dats]) (fun _ => by dsimp only [dats]) t d
theorem before_1 (c : Dev nD) (t : Fin cfg0.N) (d) : (dats m 0 c).before 1 t d = iblk m c 1 t :=
  before0_1_of m (dats m 0 c) (by dsimp only [dats]) (fun _ => by dsimp only [dats]) t d
theorem before_2 (c : Dev nD) (t : Fin cfg0.N) (d) : (dats m 0 c).before 2 t d = iblk m c 2 t :=
  before0_2_of m (dats m 0 c) (by dsimp only [dats]) (fun _ => by dsimp only [dats]) t d
theorem before_3 (c : Dev nD) (t : Fin cfg0.N) (d) : (dats m 0 c).before 3 t d = iblk m c 3 t :=
  before0_3_of m (dats m 0 c) (by dsimp only [dats]) (fun _ => by dsimp only [dats]) t d
theorem before_4 (c : Dev nD) (t : Fin cfg0.N) (d) : (dats m 0 c).before 4 t d = iblk m c 4 t :=
  before0_4_of m (dats m 0 c) (by dsimp only [dats]) (fun _ => by dsimp only [dats]) t d
theorem before_5 (c : Dev nD) (t : Fin cfg0.N) (d) : (dats m 0 c).before 5 t d = iblk m c 5 t :=
  before0_5_of m (dats m 0 c) (by dsimp only [dats]) (fun _ => by dsimp only [dats]) t d
theorem before_6 (c : Dev nD) (t : Fin cfg0.N) (d) : (dats m 0 c).before 6 t d = iblk m c 6 t :=
  before0_6_of m (dats m 0 c) (by dsimp only [dats]) (fun _ => by dsimp only [dats]) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ (∃ d, owns (c : Thread nD τ) (st0_7 t) fullShare d))

theorem phiA_eq (c : Dev nD) :
    (Pipeline.ΦA (U := UR sig nD τ) (Val := Elt F) spec0 c : sProp (MT nD τ sig Unit (Elt F) ℕ (UR sig nD τ) ℕ))
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA; rw [scopedRest0_eq]; simp only [owns_whole]; try rfl

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phiA_eq]
  simp only [before_0, before_1, before_2, before_3, before_4, before_5, before_6]
  have hk := bodyKeeps (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) iprop((∃ r, prngReg c r) ∗ (dats m 0 c).owesAt () t.castSucc)
  unfold Keeps bodyRes at hk
  refine BIBase.Entails.trans ?_ (BIBase.Entails.trans hk (wp_mono _ _ _ fun _ => ?_))
  · iintro ⟨⟨⟨HS0, HS1, HS2, HS3, HS4, HS5⟩, Hg⟩, HO, ⟨%d0, H0⟩, ⟨%d1, H1⟩, ⟨%d2, H2⟩, ⟨%d3, H3⟩, ⟨%d4, H4⟩, ⟨%d5, H5⟩, ⟨%d6, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [Hg]; · iexact Hg
    iexact HO
  · iintro ⟨H0, H1, H2, H3, H4, H5, H6, H7, HS0, HS1, HS2, HS3, HS4, HS5, Hg, HO⟩
    isplitl [HS0 HS1 HS2 HS3 HS4 HS5 Hg]
    · isplitr [Hg]; swap; · iexact Hg
      isplitl [HS0]; · iexact HS0
      isplitl [HS1]; · iexact HS1
      isplitl [HS2]; · iexact HS2
      isplitl [HS3]; · iexact HS3
      isplitl [HS4]; · iexact HS4
      iexact HS5
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every execution of @main terminates, every input array ends as the region finds
    it and every semaphore counter ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Argument 0 after the run is as launched. -/
theorem final_arg0 {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- Argument 1 after the run is as launched. -/
theorem final_arg1 {r : PUnit × MemSt nD τ sig (Elt F)}
    (h : Pipeline.RDat.FramePost (cfgs 0) (fun c => (dats (F := F) m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- Argument 2 after the run is as launched. -/
theorem final_arg2 {r : PUnit × MemSt nD τ sig (Elt F)}
    (h : Pipeline.RDat.FramePost (cfgs 0) (fun c => (dats (F := F) m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

/-- Argument 3 after the run is as launched. -/
theorem final_arg3 {r : PUnit × MemSt nD τ sig (Elt F)}
    (h : Pipeline.RDat.FramePost (cfgs 0) (fun c => (dats (F := F) m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- Argument 4 after the run is as launched. -/
theorem final_arg4 {r : PUnit × MemSt nD τ sig (Elt F)}
    (h : Pipeline.RDat.FramePost (cfgs 0) (fun c => (dats (F := F) m 0 c).toRForget forgets0) (V m) r) (c : Dev nD) :
    r.2.mem ((c : Thread nD τ).loc main_arg4) = m ((c : Thread nD τ).loc main_arg4) :=
  (Pipeline.RDat.FramePost.arr_in h c 4 rfl).trans ((A_eq m c 4).trans (V_main_arg4 m c))

/-- Argument 5 after the run is as launched. -/
theorem final_arg5 {r : PUnit × MemSt nD τ sig (Elt F)}
    (h : Pipeline.RDat.FramePost (cfgs 0) (fun c => (dats (F := F) m 0 c).toRForget forgets0) (V m) r) (c : Dev nD) :
    r.2.mem ((c : Thread nD τ).loc main_arg5) = m ((c : Thread nD τ).loc main_arg5) :=
  (Pipeline.RDat.FramePost.arr_in h c 5 rfl).trans ((A_eq m c 5).trans (V_main_arg5 m c))

end Cert.Proof.Kernel

end
-- ==== Proof.Ref2.lean ====
module

public import proofs.«01_k».proof.Proof.Gen.Reference2Ideal
public import Idealize.ShloMosaic.Lib.StableHlo.Run
public import Idealize.ShloMosaic.Lib.StableHlo.RunRead
public import Idealize.ShloMosaic.Lib.Quiescent

/-! The reference of the convolutional feed-forward half, run as a line of host operations in four stages: the up
product, the causal convolution, the residual sum, the layer norm. -/

@[expose] public section

noncomputable section

namespace Cert.Proof.Ref2

open Cert.Reference2Ideal Cert.Reference2Ideal.Gen Idealize.ShloMosaic Idealize.ShloMosaic.TcCoe Idealize.SL.Sem Idealize.ShloMosaic.StableHlo

variable {F : FTy → Type} [FloatOps F]

abbrev opsU : List (HloOp τ sig (Elt F)) :=
  [ unary main_arg1 main_v0 ((extractStridedSlice S4x1x1024 ![0, 3, 0] · slices_S4x6x1024_S4x1x1024_0_3_0) : (⟨S4x6x1024, .f32⟩ : BufTy).Contents (Elt F) → (⟨S4x1x1024, .f32⟩ : BufTy).Contents (Elt F)),
    unary main_arg1 main_v1 ((extractStridedSlice S4x1x1024 ![0, 4, 0] · slices_S4x6x1024_S4x1x1024_0_4_0) : (⟨S4x6x1024, .f32⟩ : BufTy).Contents (Elt F) → (⟨S4x1x1024, .f32⟩ : BufTy).Contents (Elt F)),
    unary main_arg1 main_v2 ((extractStridedSlice S4x1x1024 ![0, 5, 0] · slices_S4x6x1024_S4x1x1024_0_5_0) : (⟨S4x6x1024, .f32⟩ : BufTy).Contents (Elt F) → (⟨S4x1x1024, .f32⟩ : BufTy).Contents (Elt F)),
    nullary main_cst (constant S_ .f32 0x3F800000#32),
    unary main_cst main_v3 (broadcastInDim S4x1x1024 ![] bcast_S_S4x1x1024 : (⟨S_, .f32⟩ : BufTy).Contents (Elt F) → (⟨S4x1x1024, .f32⟩ : BufTy).Contents (Elt F)),
    binary main_v3 main_v1 main_v4 (addf : (⟨S4x1x1024, .f32⟩ : BufTy).Contents (Elt F) → (⟨S4x1x1024, .f32⟩ : BufTy).Contents (Elt F) → (⟨S4x1x1024, .f32⟩ : BufTy).Contents (Elt F)),
    unary main_v4 main_v5 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_arg0 main_v5 main_v6 (mulf : (⟨S4x8192x1024, .f32⟩ : BufTy).Contents (Elt F) → (⟨S4x8192x1024, .f32⟩ : BufTy).Contents (Elt F) → (⟨S4x8192x1024, .f32⟩ : BufTy).Contents (Elt F)),
    unary main_v0 main_v7 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v6 main_v7 main_v8 (addf : (⟨S4x8192x1024, .f32⟩ : BufTy).Contents (Elt F) → (⟨S4x8192x1024, .f32⟩ : BufTy).Contents (Elt F) → (⟨S4x8192x1024, .f32⟩ : BufTy).Contents (Elt F)),
    binary main_v8 main_arg2 main_v9 ((fun l r => Host.dotGeneral dot_S4x8192x1024_S1024x5632_S4x8192x5632_2_0_01_1_n_n none l r) : (⟨S4x8192x1024, .f32⟩ : BufTy).Contents (Elt F) → (⟨S1024x5632, .f32⟩ : BufTy).Contents (Elt F) → (⟨S4x8192x5632, .f32⟩ : BufTy).Contents (Elt F)) ]

abbrev opsC : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x8192x5632, .f32⟩) main_v9) (TRef.of (T := ⟨S_, .f32⟩) main_call0_v0) (TRef.of (T := ⟨S4x8194x5632, .f32⟩) main_v10) (fun x v => pad S4x8194x5632 ![0, 2, 0] ![0, 0, 0] ![0, 0, 0] x v pads_S4x8192x5632_S4x8194x5632_000_200_000 h_S_),
    unary main_v10 main_v11 ((extractStridedSlice S4x8192x5632 ![0, 0, 0] · slices_S4x8194x5632_S4x8192x5632_0_0_0) : (⟨S4x8194x5632, .f32⟩ : BufTy).Contents (Elt F) → (⟨S4x8192x5632, .f32⟩ : BufTy).Contents (Elt F)),
    unary main_arg3 main_v12 ((extractStridedSlice S1x5632 ![0, 0] · slices_S3x5632_S1x5632_0_0) : (⟨S3x5632, .f32⟩ : BufTy).Contents (Elt F) → (⟨S1x5632, .f32⟩ : BufTy).Contents (Elt F)),
    reshape main_v12 main_v13 (rfl : (.f32 : EltTy) = .f32) shapeCasts_S1x5632_S5632,
    unary main_v13 main_v14 (broadcastInDim S1x1x5632 ![2] bcast_S5632_S1x1x5632_2 : (⟨S5632, .f32⟩ : BufTy).Contents (Elt F) → (⟨S1x1x5632, .f32⟩ : BufTy).Contents (Elt F)),
    unary main_v14 main_v15 (broadcastInDim S4x8192x5632 ![0, 1, 2] bcast_S1x1x5632_S4x8192x5632_0_1_2 : (⟨S1x1x5632, .f32⟩ : BufTy).Contents (Elt F) → (⟨S4x8192x5632, .f32⟩ : BufTy).Contents (Elt F)),
    binary main_v11 main_v15 main_v16 (mulf : (⟨S4x8192x5632, .f32⟩ : BufTy).Contents (Elt F) → (⟨S4x8192x5632, .f32⟩ : BufTy).Contents (Elt F) → (⟨S4x8192x5632, .f32⟩ : BufTy).Contents (Elt F)),
    nullary main_cst_0 (constant S_ .f32 0x00000000#32),
    unary main_cst_0 main_v17 (broadcastInDim S4x8192x5632 ![] bcast_S_S4x8192x5632 : (⟨S_, .f32⟩ : BufTy).Contents (Elt F) → (⟨S4x8192x5632, .f32⟩ : BufTy).Contents (Elt F)),
    binary main_v17 main_v16 main_v18 (addf : (⟨S4x8192x5632, .f32⟩ : BufTy).Contents (Elt F) → (⟨S4x8192x5632, .f32⟩ : BufTy).Contents (Elt F) → (⟨S4x8192x5632, .f32⟩ : BufTy).Contents (Elt F)),
    unary main_v10 main_v19 ((extractStridedSlice S4x8192x5632 ![0, 1, 0] · slices_S4x8194x5632_S4x8192x5632_0_1_0) : (⟨S4x8194x5632, .f32⟩ : BufTy).Contents (Elt F) → (⟨S4x8192x5632, .f32⟩ : BufTy).Contents (Elt F)),
    unary main_arg3 main_v20 ((extractStridedSlice S1x5632 ![1, 0] · slices_S3x5632_S1x5632_1_0) : (⟨S3x5632, .f32⟩ : BufTy).Contents (Elt F) → (⟨S1x5632, .f32⟩ : BufTy).Contents (Elt F)),
    reshape main_v20 main_v21 (rfl : (.f32 : EltTy) = .f32) shapeCasts_S1x5632_S5632,
    unary main_v21 main_v22 (broadcastInDim S1x1x5632 ![2] bcast_S5632_S1x1x5632_2 : (⟨S5632, .f32⟩ : BufTy).Contents (Elt F) → (⟨S1x1x5632, .f32⟩ : BufTy).Contents (Elt F)),
    unary main_v22 main_v23 (broadcastInDim S4x8192x5632 ![0, 1, 2] bcast_S1x1x5632_S4x8192x5632_0_1_2 : (⟨S1x1x5632, .f32⟩ : BufTy).Contents (Elt F) → (⟨S4x8192x5632, .f32⟩ : BufTy).Contents (Elt F)),
    binary main_v19 main_v23 main_v24 (mulf : (⟨S4x8192x5632, .f32⟩ : BufTy).Contents (Elt F) → (⟨S4x8192x5632, .f32⟩ : BufTy).Contents (Elt F) → (⟨S4x8192x5632, .f32⟩ : BufTy).Contents (Elt F)),
    binary main_v18 main_v24 main_v25 (addf : (⟨S4x8192x5632, .f32⟩ : BufTy).Contents (Elt F) → (⟨S4x8192x5632, .f32⟩ : BufTy).Contents (Elt F) → (⟨S4x8192x5632, .f32⟩ : BufTy).Contents (Elt F)),
    unary main_v10 main_v26 ((extractStridedSlice S4x8192x5632 ![0, 2, 0] · slices_S4x8194x5632_S4x8192x5632_0_2_0) : (⟨S4x8194x5632, .f32⟩ : BufTy).Contents (Elt F) → (⟨S4x8192x5632, .f32⟩ : BufTy).Contents (Elt F)),
    unary main_arg3 main_v27 ((extractStridedSlice S1x5632 ![2, 0] · slices_S3x5632_S1x5632_2_0) : (⟨S3x5632, .f32⟩ : BufTy).Contents (Elt F) → (⟨S1x5632, .f32⟩ : BufTy).Contents (Elt F)),
    reshape main_v27 main_v28 (rfl : (.f32 : EltTy) = .f32) shapeCasts_S1x5632_S5632,
    unary main_v28 main_v29 (broadcastInDim S1x1x5632 ![2] bcast_S5632_S1x1x5632_2 : (⟨S5632, .f32⟩ : BufTy).Contents (Elt F) → (⟨S1x1x5632, .f32⟩ : BufTy).Contents (Elt F)),
    unary main_v29 main_v30 (broadcastInDim S4x8192x5632 ![0, 1, 2] bcast_S1x1x5632_S4x8192x5632_0_1_2 : (⟨S1x1x5632, .f32⟩ : BufTy).Contents (Elt F) → (⟨S4x8192x5632, .f32⟩ : BufTy).Contents (Elt F)),
    binary main_v26 main_v30 main_v31 (mulf : (⟨S4x8192x5632, .f32⟩ : BufTy).Contents (Elt F) → (⟨S4x8192x5632, .f32⟩ : BufTy).Contents (Elt F) → (⟨S4x8192x5632, .f32⟩ : BufTy).Contents (Elt F)),
    binary main_v25 main_v31 main_v32 (addf : (⟨S4x8192x5632, .f32⟩ : BufTy).Contents (Elt F) → (⟨S4x8192x5632, .f32⟩ : BufTy).Contents (Elt F) → (⟨S4x8192x5632, .f32⟩ : BufTy).Contents (Elt F)),
    unary main_arg4 main_v33 (broadcastInDim S1x1x5632 ![2] bcast_S5632_S1x1x5632_2 : (⟨S5632, .f32⟩ : BufTy).Contents (Elt F) → (⟨S1x1x5632, .f32⟩ : BufTy).Contents (Elt F)),
    unary main_v33 main_v34 (broadcastInDim S4x8192x5632 ![0, 1, 2] bcast_S1x1x5632_S4x8192x5632_0_1_2 : (⟨S1x1x5632, .f32⟩ : BufTy).Contents (Elt F) → (⟨S4x8192x5632, .f32⟩ : BufTy).Contents (Elt F)),
    binary main_v34 main_v32 main_v35 (addf : (⟨S4x8192x5632, .f32⟩ : BufTy).Contents (Elt F) → (⟨S4x8192x5632, .f32⟩ : BufTy).Contents (Elt F) → (⟨S4x8192x5632, .f32⟩ : BufTy).Contents (Elt F)) ]

abbrev opsR : List (HloOp τ sig (Elt F)) :=
  [ unary main_v35 main_v36 ((extractStridedSlice S4x8192x2816 ![0, 0, 0] · slices_S4x8192x5632_S4x8192x2816_0_0_0) : (⟨S4x8192x5632, .f32⟩ : BufTy).Contents (Elt F) → (⟨S4x8192x2816, .f32⟩ : BufTy).Contents (Elt F)),
    unary main_v35 main_v37 ((extractStridedSlice S4x8192x2816 ![0, 0, 2816] · slices_S4x8192x5632_S4x8192x2816_0_0_2816) : (⟨S4x8192x5632, .f32⟩ : BufTy).Contents (Elt F) → (⟨S4x8192x2816, .f32⟩ : BufTy).Contents (Elt F)),
    TRef.unary (TRef.of (T := ⟨S4x8192x2816, .f32⟩) main_v36) (TRef.of (T := ⟨S4x8192x2816, .f32⟩) main_call1_v0) Host.negf,
    TRef.unary (TRef.of (T := ⟨S4x8192x2816, .f32⟩) main_call1_v0) (TRef.of (T := ⟨S4x8192x2816, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4x8192x2816, .f32⟩) main_call1_v2) (broadcastInDim S4x8192x2816 ![] bcast_S_S4x8192x2816),
    TRef.binary (TRef.of (T := ⟨S4x8192x2816, .f32⟩) main_call1_v2) (TRef.of (T := ⟨S4x8192x2816, .f32⟩) main_call1_v1) (TRef.of (T := ⟨S4x8192x2816, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4x8192x2816, .f32⟩) main_call1_v4) (broadcastInDim S4x8192x2816 ![] bcast_S_S4x8192x2816),
    TRef.binary (TRef.of (T := ⟨S4x8192x2816, .f32⟩) main_call1_v4) (TRef.of (T := ⟨S4x8192x2816, .f32⟩) main_call1_v3) (TRef.of (T := ⟨S4x8192x2816, .f32⟩) main_call1_v5) Host.divf,
    TRef.binary (TRef.of (T := ⟨S4x8192x2816, .f32⟩) main_v36) (TRef.of (T := ⟨S4x8192x2816, .f32⟩) main_call1_v5) (TRef.of (T := ⟨S4x8192x2816, .f32⟩) main_v38) mulf,
    binary main_v38 main_v37 main_v39 (mulf : (⟨S4x8192x2816, .f32⟩ : BufTy).Contents (Elt F) → (⟨S4x8192x2816, .f32⟩ : BufTy).Contents (Elt F) → (⟨S4x8192x2816, .f32⟩ : BufTy).Contents (Elt F)),
    binary main_v39 main_arg5 main_v40 ((fun l r => Host.dotGeneral dot_S4x8192x2816_S2816x1024_S4x8192x1024_2_0_01_1_n_n none l r) : (⟨S4x8192x2816, .f32⟩ : BufTy).Contents (Elt F) → (⟨S2816x1024, .f32⟩ : BufTy).Contents (Elt F) → (⟨S4x8192x1024, .f32⟩ : BufTy).Contents (Elt F)),
    nullary main_cst_1 (constant S_ .f32 0x3FD744FD#32),
    unary main_cst_1 main_v41 (broadcastInDim S4x8192x1024 ![] bcast_S_S4x8192x1024 : (⟨S_, .f32⟩ : BufTy).Contents (Elt F) → (⟨S4x8192x1024, .f32⟩ : BufTy).Contents (Elt F)),
    binary main_v41 main_arg0 main_v42 (mulf : (⟨S4x8192x1024, .f32⟩ : BufTy).Contents (Elt F) → (⟨S4x8192x1024, .f32⟩ : BufTy).Contents (Elt F) → (⟨S4x8192x1024, .f32⟩ : BufTy).Contents (Elt F)),
    unary main_v2 main_v43 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v43 main_v40 main_v44 (mulf : (⟨S4x8192x1024, .f32⟩ : BufTy).Contents (Elt F) → (⟨S4x8192x1024, .f32⟩ : BufTy).Contents (Elt F) → (⟨S4x8192x1024, .f32⟩ : BufTy).Contents (Elt F)),
    binary main_v42 main_v44 main_v45 (addf : (⟨S4x8192x1024, .f32⟩ : BufTy).Contents (Elt F) → (⟨S4x8192x1024, .f32⟩ : BufTy).Contents (Elt F) → (⟨S4x8192x1024, .f32⟩ : BufTy).Contents (Elt F)) ]

abbrev opsN : List (HloOp τ sig (Elt F)) :=
  [ nullary main_cst_2 (constant S_ .f32 0x00000000#32),
    binary main_v45 main_cst_2 main_v46 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v46 main_v47 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_3 (constant S_ .f32 0x44800000#32),
    unary main_cst_3 main_v48 (broadcastInDim S4x8192x1 ![] bcast_S_S4x8192x1 : (⟨S_, .f32⟩ : BufTy).Contents (Elt F) → (⟨S4x8192x1, .f32⟩ : BufTy).Contents (Elt F)),
    binary main_v47 main_v48 main_v49 (Host.divf : (⟨S4x8192x1, .f32⟩ : BufTy).Contents (Elt F) → (⟨S4x8192x1, .f32⟩ : BufTy).Contents (Elt F) → (⟨S4x8192x1, .f32⟩ : BufTy).Contents (Elt F)),
    unary main_v49 main_v50 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v45 main_v50 main_v51 (subf : (⟨S4x8192x1024, .f32⟩ : BufTy).Contents (Elt F) → (⟨S4x8192x1024, .f32⟩ : BufTy).Contents (Elt F) → (⟨S4x8192x1024, .f32⟩ : BufTy).Contents (Elt F)),
    binary main_v51 main_v51 main_v52 (mulf : (⟨S4x8192x1024, .f32⟩ : BufTy).Contents (Elt F) → (⟨S4x8192x1024, .f32⟩ : BufTy).Contents (Elt F) → (⟨S4x8192x1024, .f32⟩ : BufTy).Contents (Elt F)),
    nullary main_cst_4 (constant S_ .f32 0x00000000#32),
    binary main_v52 main_cst_4 main_v53 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v53 main_v54 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_5 (constant S_ .f32 0x44800000#32),
    unary main_cst_5 main_v55 (broadcastInDim S4x8192x1 ![] bcast_S_S4x8192x1 : (⟨S_, .f32⟩ : BufTy).Contents (Elt F) → (⟨S4x8192x1, .f32⟩ : BufTy).Contents (Elt F)),
    binary main_v54 main_v55 main_v56 (Host.divf : (⟨S4x8192x1, .f32⟩ : BufTy).Contents (Elt F) → (⟨S4x8192x1, .f32⟩ : BufTy).Contents (Elt F) → (⟨S4x8192x1, .f32⟩ : BufTy).Contents (Elt F)),
    unary main_v49 main_v57 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v45 main_v57 main_v58 (subf : (⟨S4x8192x1024, .f32⟩ : BufTy).Contents (Elt F) → (⟨S4x8192x1024, .f32⟩ : BufTy).Contents (Elt F) → (⟨S4x8192x1024, .f32⟩ : BufTy).Contents (Elt F)),
    nullary main_cst_6 (constant S_ .f32 0x3727C5AC#32),
    unary main_cst_6 main_v59 (broadcastInDim S4x8192x1 ![] bcast_S_S4x8192x1 : (⟨S_, .f32⟩ : BufTy).Contents (Elt F) → (⟨S4x8192x1, .f32⟩ : BufTy).Contents (Elt F)),
    binary main_v56 main_v59 main_v60 (addf : (⟨S4x8192x1, .f32⟩ : BufTy).Contents (Elt F) → (⟨S4x8192x1, .f32⟩ : BufTy).Contents (Elt F) → (⟨S4x8192x1, .f32⟩ : BufTy).Contents (Elt F)),
    unary main_v60 main_v61 (Host.rsqrt : (⟨S4x8192x1, .f32⟩ : BufTy).Contents (Elt F) → (⟨S4x8192x1, .f32⟩ : BufTy).Contents (Elt F)),
    unary main_v61 main_v62 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v58 main_v62 main_v63 (mulf : (⟨S4x8192x1024, .f32⟩ : BufTy).Contents (Elt F) → (⟨S4x8192x1024, .f32⟩ : BufTy).Contents (Elt F) → (⟨S4x8192x1024, .f32⟩ : BufTy).Contents (Elt F)),
    unary main_arg6 main_v64 (broadcastInDim S1x1x1024 ![2] bcast_S1024_S1x1x1024_2 : (⟨S1024, .f32⟩ : BufTy).Contents (Elt F) → (⟨S1x1x1024, .f32⟩ : BufTy).Contents (Elt F)),
    unary main_v64 main_v65 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v63 main_v65 main_v66 (mulf : (⟨S4x8192x1024, .f32⟩ : BufTy).Contents (Elt F) → (⟨S4x8192x1024, .f32⟩ : BufTy).Contents (Elt F) → (⟨S4x8192x1024, .f32⟩ : BufTy).Contents (Elt F)),
    unary main_arg7 main_v67 (broadcastInDim S1x1x1024 ![2] bcast_S1024_S1x1x1024_2 : (⟨S1024, .f32⟩ : BufTy).Contents (Elt F) → (⟨S1x1x1024, .f32⟩ : BufTy).Contents (Elt F)),
    unary main_v67 main_v68 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v66 main_v68 main_v69 (addf : (⟨S4x8192x1024, .f32⟩ : BufTy).Contents (Elt F) → (⟨S4x8192x1024, .f32⟩ : BufTy).Contents (Elt F) → (⟨S4x8192x1024, .f32⟩ : BufTy).Contents (Elt F)) ]

/-- The whole line. -/
abbrev ops : List (HloOp τ sig (Elt F)) := opsU ++ (opsC ++ (opsR ++ opsN))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The up projection of the modulated input. -/
def stU (X : FVec F S4x8192x1024 .f32) (M : FVec F S4x6x1024 .f32) (W : FVec F S1024x5632 .f32) : FVec F S4x8192x5632 .f32 :=
  Host.dotGeneral dot_S4x8192x1024_S1024x5632_S4x8192x5632_2_0_01_1_n_n none
    (addf (mulf X (broadcastInDim S4x8192x1024 ![0, 1, 2] bcast_S4x1x1024_S4x8192x1024_0_1_2
        (addf (broadcastInDim S4x1x1024 ![] bcast_S_S4x1x1024 (constant S_ .f32 0x3F800000#32))
          (extractStridedSlice S4x1x1024 ![0, 4, 0] M slices_S4x6x1024_S4x1x1024_0_4_0))))
      (broadcastInDim S4x8192x1024 ![0, 1, 2] bcast_S4x1x1024_S4x8192x1024_0_1_2
        (extractStridedSlice S4x1x1024 ![0, 3, 0] M slices_S4x6x1024_S4x1x1024_0_3_0))) W

/-- Row `o` of the taps, along the channels. -/
def tapRow (o : ℕ) (hs : S3x5632.Slices ![o, 0] S1x5632) (K : FVec F S3x5632 .f32) : FVec F S4x8192x5632 .f32 :=
  broadcastInDim S4x8192x5632 ![0, 1, 2] bcast_S1x1x5632_S4x8192x5632_0_1_2
    (broadcastInDim S1x1x5632 ![2] bcast_S5632_S1x1x5632_2
      (shapeCast S5632 (extractStridedSlice S1x5632 ![o, 0] K hs) shapeCasts_S1x5632_S5632))

/-- The projection with two rows of zeros in front. -/
def padded (U : FVec F S4x8192x5632 .f32) : FVec F S4x8194x5632 .f32 :=
  pad S4x8194x5632 ![0, 2, 0] ![0, 0, 0] ![0, 0, 0] U (sitofp .f32 (constantI S_ 32 0#32)) pads_S4x8192x5632_S4x8194x5632_000_200_000 h_S_

/-- The causal convolution of width three. -/
def stC (U : FVec F S4x8192x5632 .f32) (K : FVec F S3x5632 .f32) (B : FVec F S5632 .f32) : FVec F S4x8192x5632 .f32 :=
  addf (broadcastInDim S4x8192x5632 ![0, 1, 2] bcast_S1x1x5632_S4x8192x5632_0_1_2 (broadcastInDim S1x1x5632 ![2] bcast_S5632_S1x1x5632_2 B))
    (addf (addf (addf (broadcastInDim S4x8192x5632 ![] bcast_S_S4x8192x5632 (constant S_ .f32 0x00000000#32))
        (mulf (extractStridedSlice S4x8192x5632 ![0, 0, 0] (padded U) slices_S4x8194x5632_S4x8192x5632_0_0_0) (tapRow 0 slices_S3x5632_S1x5632_0_0 K)))
        (mulf (extractStridedSlice S4x8192x5632 ![0, 1, 0] (padded U) slices_S4x8194x5632_S4x8192x5632_0_1_0) (tapRow 1 slices_S3x5632_S1x5632_1_0 K)))
        (mulf (extractStridedSlice S4x8192x5632 ![0, 2, 0] (padded U) slices_S4x8194x5632_S4x8192x5632_0_2_0) (tapRow 2 slices_S3x5632_S1x5632_2_0 K)))

/-- The gated activation. -/
def act (C : FVec F S4x8192x5632 .f32) : FVec F S4x8192x2816 .f32 :=
  have G : FVec F S4x8192x2816 .f32 := extractStridedSlice S4x8192x2816 ![0, 0, 0] C slices_S4x8192x5632_S4x8192x2816_0_0_0
  mulf (mulf G (Host.divf (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf G)))))
    (extractStridedSlice S4x8192x2816 ![0, 0, 2816] C slices_S4x8192x5632_S4x8192x2816_0_0_2816)

/-- The residual sum, gated. -/
def stR (X : FVec F S4x8192x1024 .f32) (G2 : FVec F S4x1x1024 .f32) (C : FVec F S4x8192x5632 .f32) (W : FVec F S2816x1024 .f32) : FVec F S4x8192x1024 .f32 :=
  addf (mulf (broadcastInDim S4x8192x1024 ![] bcast_S_S4x8192x1024 (constant S_ .f32 0x3FD744FD#32)) X)
    (mulf (broadcastInDim S4x8192x1024 ![0, 1, 2] bcast_S4x1x1024_S4x8192x1024_0_1_2 G2)
      (Host.dotGeneral dot_S4x8192x2816_S2816x1024_S4x8192x1024_2_0_01_1_n_n none (act C) W))

/-- The mean of each row. -/
def mean (R : FVec F S4x8192x1024 .f32) : FVec F S4x8192x1 .f32 :=
  Host.divf (broadcastInDim S4x8192x1 ![0, 1] bcast_S4x8192_S4x8192x1_0_1
      (Host.reduceAdd R (constant S_ .f32 0x00000000#32) reducesTo_S4x8192x1024_S4x8192_d2 h_S_))
    (broadcastInDim S4x8192x1 ![] bcast_S_S4x8192x1 (constant S_ .f32 0x44800000#32))

/-- Each row less its mean. -/
def centred (R : FVec F S4x8192x1024 .f32) : FVec F S4x8192x1024 .f32 :=
  subf R (broadcastInDim S4x8192x1024 ![0, 1, 2] bcast_S4x8192x1_S4x8192x1024_0_1_2 (mean R))

/-- The layer norm. -/
def stN (R : FVec F S4x8192x1024 .f32) (G : FVec F S1024 .f32) (B : FVec F S1024 .f32) : FVec F S4x8192x1024 .f32 :=
  addf (mulf (mulf (centred R) (broadcastInDim S4x8192x1024 ![0, 1, 2] bcast_S4x8192x1_S4x8192x1024_0_1_2
        (Host.rsqrt (addf (mean (mulf (centred R) (centred R))) (broadcastInDim S4x8192x1 ![] bcast_S_S4x8192x1 (constant S_ .f32 0x3727C5AC#32))))))
      (broadcastInDim S4x8192x1024 ![0, 1, 2] bcast_S1x1x1024_S4x8192x1024_0_1_2 (broadcastInDim S1x1x1024 ![2] bcast_S1024_S1x1x1024_2 G)))
    (broadcastInDim S4x8192x1024 ![0, 1, 2] bcast_S1x1x1024_S4x8192x1024_0_1_2 (broadcastInDim S1x1x1024 ![2] bcast_S1024_S1x1x1024_2 B))

variable (V : Valuation τ sig (Elt F))

theorem opsU_u : after opsU V (Proc.devRef .tc main_v9) = stU (V (Proc.devRef .tc main_arg0)) (V (Proc.devRef .tc main_arg1)) (V (Proc.devRef .tc main_arg2)) := by
  after_reads_simp; rfl
theorem opsU_g : after opsU V (Proc.devRef .tc main_v2)
    = (extractStridedSlice S4x1x1024 ![0, 5, 0] (V (Proc.devRef .tc main_arg1)) slices_S4x6x1024_S4x1x1024_0_5_0 : FVec F S4x1x1024 .f32) := by
  after_reads_simp
set_option maxRecDepth 8192 in
theorem opsC_c : after opsC V (Proc.devRef .tc main_v35) = stC (V (Proc.devRef .tc main_v9)) (V (Proc.devRef .tc main_arg3)) (V (Proc.devRef .tc main_arg4)) := by
  simp only [opsC, TRef.binary, TRef.nullary, TRef.unary, TRef.toBuf, TRef.ofBuf, cast_eq]
  after_reads_simp; rfl
theorem opsC_g : after opsC V (Proc.devRef .tc main_v2) = V (Proc.devRef .tc main_v2) := by
  simp only [opsC, TRef.binary, TRef.nullary, TRef.unary, TRef.toBuf, TRef.ofBuf, cast_eq]
  after_reads_simp
theorem opsR_r : after opsR V (Proc.devRef .tc main_v45)
    = stR (V (Proc.devRef .tc main_arg0)) (V (Proc.devRef .tc main_v2)) (V (Proc.devRef .tc main_v35)) (V (Proc.devRef .tc main_arg5)) := by
  simp only [opsR, TRef.binary, TRef.nullary, TRef.unary, TRef.toBuf, TRef.ofBuf, cast_eq]
  after_reads_simp; rfl
theorem opsN_n : after opsN V (Proc.devRef .tc main_v69) = stN (V (Proc.devRef .tc main_v45)) (V (Proc.devRef .tc main_arg6)) (V (Proc.devRef .tc main_arg7)) := by
  after_reads_simp; rfl
theorem opsU_a0 : after opsU V (Proc.devRef .tc main_arg0) = V (Proc.devRef .tc main_arg0) := by
  after_reads_simp
theorem opsU_a1 : after opsU V (Proc.devRef .tc main_arg1) = V (Proc.devRef .tc main_arg1) := by
  after_reads_simp
theorem opsU_a2 : after opsU V (Proc.devRef .tc main_arg2) = V (Proc.devRef .tc main_arg2) := by
  after_reads_simp
theorem opsU_a3 : after opsU V (Proc.devRef .tc main_arg3) = V (Proc.devRef .tc main_arg3) := by
  after_reads_simp
theorem opsU_a4 : after opsU V (Proc.devRef .tc main_arg4) = V (Proc.devRef .tc main_arg4) := by
  after_reads_simp
theorem opsU_a5 : after opsU V (Proc.devRef .tc main_arg5) = V (Proc.devRef .tc main_arg5) := by
  after_reads_simp
theorem opsU_a6 : after opsU V (Proc.devRef .tc main_arg6) = V (Proc.devRef .tc main_arg6) := by
  after_reads_simp
theorem opsU_a7 : after opsU V (Proc.devRef .tc main_arg7) = V (Proc.devRef .tc main_arg7) := by
  after_reads_simp
theorem opsC_a0 : after opsC V (Proc.devRef .tc main_arg0) = V (Proc.devRef .tc main_arg0) := by
  simp only [opsC, TRef.binary, TRef.nullary, TRef.unary, TRef.toBuf, TRef.ofBuf, cast_eq]
  after_reads_simp
theorem opsC_a1 : after opsC V (Proc.devRef .tc main_arg1) = V (Proc.devRef .tc main_arg1) := by
  simp only [opsC, TRef.binary, TRef.nullary, TRef.unary, TRef.toBuf, TRef.ofBuf, cast_eq]
  after_reads_simp
theorem opsC_a2 : after opsC V (Proc.devRef .tc main_arg2) = V (Proc.devRef .tc main_arg2) := by
  simp only [opsC, TRef.binary, TRef.nullary, TRef.unary, TRef.toBuf, TRef.ofBuf, cast_eq]
  after_reads_simp
theorem opsC_a3 : after opsC V (Proc.devRef .tc main_arg3) = V (Proc.devRef .tc main_arg3) := by
  simp only [opsC, TRef.binary, TRef.nullary, TRef.unary, TRef.toBuf, TRef.ofBuf, cast_eq]
  after_reads_simp
theorem opsC_a4 : after opsC V (Proc.devRef .tc main_arg4) = V (Proc.devRef .tc main_arg4) := by
  simp only [opsC, TRef.binary, TRef.nullary, TRef.unary, TRef.toBuf, TRef.ofBuf, cast_eq]
  after_reads_simp
theorem opsC_a5 : after opsC V (Proc.devRef .tc main_arg5) = V (Proc.devRef .tc main_arg5) := by
  simp only [opsC, TRef.binary, TRef.nullary, TRef.unary, TRef.toBuf, TRef.ofBuf, cast_eq]
  after_reads_simp
theorem opsC_a6 : after opsC V (Proc.devRef .tc main_arg6) = V (Proc.devRef .tc main_arg6) := by
  simp only [opsC, TRef.binary, TRef.nullary, TRef.unary, TRef.toBuf, TRef.ofBuf, cast_eq]
  after_reads_simp
theorem opsC_a7 : after opsC V (Proc.devRef .tc main_arg7) = V (Proc.devRef .tc main_arg7) := by
  simp only [opsC, TRef.binary, TRef.nullary, TRef.unary, TRef.toBuf, TRef.ofBuf, cast_eq]
  after_reads_simp
theorem opsR_a0 : after opsR V (Proc.devRef .tc main_arg0) = V (Proc.devRef .tc main_arg0) := by
  simp only [opsR, TRef.binary, TRef.nullary, TRef.unary, TRef.toBuf, TRef.ofBuf, cast_eq]
  after_reads_simp
theorem opsR_a1 : after opsR V (Proc.devRef .tc main_arg1) = V (Proc.devRef .tc main_arg1) := by
  simp only [opsR, TRef.binary, TRef.nullary, TRef.unary, TRef.toBuf, TRef.ofBuf, cast_eq]
  after_reads_simp
theorem opsR_a2 : after opsR V (Proc.devRef .tc main_arg2) = V (Proc.devRef .tc main_arg2) := by
  simp only [opsR, TRef.binary, TRef.nullary, TRef.unary, TRef.toBuf, TRef.ofBuf, cast_eq]
  after_reads_simp
theorem opsR_a3 : after opsR V (Proc.devRef .tc main_arg3) = V (Proc.devRef .tc main_arg3) := by
  simp only [opsR, TRef.binary, TRef.nullary, TRef.unary, TRef.toBuf, TRef.ofBuf, cast_eq]
  after_reads_simp
theorem opsR_a4 : after opsR V (Proc.devRef .tc main_arg4) = V (Proc.devRef .tc main_arg4) := by
  simp only [opsR, TRef.binary, TRef.nullary, TRef.unary, TRef.toBuf, TRef.ofBuf, cast_eq]
  after_reads_simp
theorem opsR_a5 : after opsR V (Proc.devRef .tc main_arg5) = V (Proc.devRef .tc main_arg5) := by
  simp only [opsR, TRef.binary, TRef.nullary, TRef.unary, TRef.toBuf, TRef.ofBuf, cast_eq]
  after_reads_simp
theorem opsR_a6 : after opsR V (Proc.devRef .tc main_arg6) = V (Proc.devRef .tc main_arg6) := by
  simp only [opsR, TRef.binary, TRef.nullary, TRef.unary, TRef.toBuf, TRef.ofBuf, cast_eq]
  after_reads_simp
theorem opsR_a7 : after opsR V (Proc.devRef .tc main_arg7) = V (Proc.devRef .tc main_arg7) := by
  simp only [opsR, TRef.binary, TRef.nullary, TRef.unary, TRef.toBuf, TRef.ofBuf, cast_eq]
  after_reads_simp
theorem opsN_a0 : after opsN V (Proc.devRef .tc main_arg0) = V (Proc.devRef .tc main_arg0) := by
  after_reads_simp
theorem opsN_a1 : after opsN V (Proc.devRef .tc main_arg1) = V (Proc.devRef .tc main_arg1) := by
  after_reads_simp
theorem opsN_a2 : after opsN V (Proc.devRef .tc main_arg2) = V (Proc.devRef .tc main_arg2) := by
  after_reads_simp
theorem opsN_a3 : after opsN V (Proc.devRef .tc main_arg3) = V (Proc.devRef .tc main_arg3) := by
  after_reads_simp
theorem opsN_a4 : after opsN V (Proc.devRef .tc main_arg4) = V (Proc.devRef .tc main_arg4) := by
  after_reads_simp
theorem opsN_a5 : after opsN V (Proc.devRef .tc main_arg5) = V (Proc.devRef .tc main_arg5) := by
  after_reads_simp
theorem opsN_a6 : after opsN V (Proc.devRef .tc main_arg6) = V (Proc.devRef .tc main_arg6) := by
  after_reads_simp
theorem opsN_a7 : after opsN V (Proc.devRef .tc main_arg7) = V (Proc.devRef .tc main_arg7) := by
  after_reads_simp

/-- The result as a function of the arguments. -/
def result (X : FVec F S4x8192x1024 .f32) (M : FVec F S4x6x1024 .f32) (W : FVec F S1024x5632 .f32) (K : FVec F S3x5632 .f32)
    (B : FVec F S5632 .f32) (D : FVec F S2816x1024 .f32) (LG LB : FVec F S1024 .f32) : FVec F S4x8192x1024 .f32 :=
  stN (stR X (extractStridedSlice S4x1x1024 ![0, 5, 0] M slices_S4x6x1024_S4x1x1024_0_5_0) (stC (stU X M W) K B) D) LG LB

theorem ops_split : after ops V = after opsN (after opsR (after opsC (after opsU V))) := rfl

theorem ops_result : after ops V (Proc.devRef .tc main_v69)
    = result (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  rw [ops_split, opsN_n, opsR_r, opsR_a6, opsR_a7, opsC_c, opsC_g, opsC_a0, opsC_a5, opsC_a6, opsC_a7, opsU_u, opsU_g, opsU_a0, opsU_a3, opsU_a4,
    opsU_a5, opsU_a6, opsU_a7]
  rfl
theorem ops_a0 : after ops V (Proc.devRef .tc main_arg0) = V (Proc.devRef .tc main_arg0) := by
  rw [ops_split, opsN_a0, opsR_a0, opsC_a0, opsU_a0]
theorem ops_a1 : after ops V (Proc.devRef .tc main_arg1) = V (Proc.devRef .tc main_arg1) := by
  rw [ops_split, opsN_a1, opsR_a1, opsC_a1, opsU_a1]
theorem ops_a2 : after ops V (Proc.devRef .tc main_arg2) = V (Proc.devRef .tc main_arg2) := by
  rw [ops_split, opsN_a2, opsR_a2, opsC_a2, opsU_a2]
theorem ops_a3 : after ops V (Proc.devRef .tc main_arg3) = V (Proc.devRef .tc main_arg3) := by
  rw [ops_split, opsN_a3, opsR_a3, opsC_a3, opsU_a3]
theorem ops_a4 : after ops V (Proc.devRef .tc main_arg4) = V (Proc.devRef .tc main_arg4) := by
  rw [ops_split, opsN_a4, opsR_a4, opsC_a4, opsU_a4]
theorem ops_a5 : after ops V (Proc.devRef .tc main_arg5) = V (Proc.devRef .tc main_arg5) := by
  rw [ops_split, opsN_a5, opsR_a5, opsC_a5, opsU_a5]
theorem ops_a6 : after ops V (Proc.devRef .tc main_arg6) = V (Proc.devRef .tc main_arg6) := by
  rw [ops_split, opsN_a6, opsR_a6, opsC_a6, opsU_a6]
theorem ops_a7 : after ops V (Proc.devRef .tc main_arg7) = V (Proc.devRef .tc main_arg7) := by
  rw [ops_split, opsN_a7, opsR_a7, opsC_a7, opsU_a7]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v69).trans (ops_result _), (h c main_arg0).trans (ops_a0 _), (h c main_arg1).trans (ops_a1 _), (h c main_arg2).trans (ops_a2 _), (h c main_arg3).trans (ops_a3 _), (h c main_arg4).trans (ops_a4 _), (h c main_arg5).trans (ops_a5 _), (h c main_arg6).trans (ops_a6 _), (h c main_arg7).trans (ops_a7 _)⟩)
    (run_seq scopedRefs_eq scopedSems_eq defs main (fun _ => ops) main_eq (fun _ => ops_sub) m ρ)

end Cert.Proof.Ref2

end
-- ==== Proof.Ffn.lean ====
module

public import proofs.«01_k».proof.Proof.Ref2
public import proofs.«01_k».proof.Proof.Gen.Kernel2Ideal.Frame
public import Idealize.ShloMosaic.Lib.Pointwise

/-! The feed-forward half at the ideal instance: what the kernel's body stores at an index of its block is the
reference's result at the array index that index sits at. -/

@[expose] public section

set_option maxRecDepth 16384

noncomputable section

namespace Cert.Proof.Ffn

open Idealize.ShloMosaic Idealize.SL.Sem

/-! ## The reference's stages at an index -/

/-- The layer norm of a row, at one column. -/
def lnS (f : Fin 1024 → EReal) (g b : EReal) (n : Fin 1024) : EReal :=
  (f n - Ideal.div (∑ x, f x) (Ideal.ofBits .f32 0x44800000#32))
      * Ideal.rsqrt (Ideal.div (∑ x, (f x - Ideal.div (∑ x, f x) (Ideal.ofBits .f32 0x44800000#32))
            * (f x - Ideal.div (∑ x, f x) (Ideal.ofBits .f32 0x44800000#32))) (Ideal.ofBits .f32 0x44800000#32)
          + Ideal.ofBits .f32 0x3727C5AC#32)
      * g + b

section
open Cert.Reference2Ideal

theorem stN_at (R : FVec Ideal S4x8192x1024 .f32) (G B : FVec Ideal S1024 .f32) (b : Fin 4) (s : Fin 8192) (n : Fin 1024) :
    Ref2.stN R G B (ix3 b s n) = lnS (fun k => R (ix3 b s k)) (G (ix1 n)) (B (ix1 n)) n := by
  unfold lnS
  pointwise [Ref2.stN, Ref2.centred, Ref2.mean]

theorem stU_at (X : FVec Ideal S4x8192x1024 .f32) (M : FVec Ideal S4x6x1024 .f32) (W : FVec Ideal S1024x5632 .f32) (b : Fin 4) (s : Fin 8192)
    (n : Fin 5632) :
    Ref2.stU X M W (ix3 b s n) = ∑ k : Fin 1024, (X (ix3 b s k) * (1 + M (ix3 b 4 k)) + M (ix3 b 3 k)) * W (ix2 k n) := by
  pointwise [Ref2.stU]

/-- The projection `j` rows above row `s`, zero above the first row. -/
def back (U : FVec Ideal S4x8192x5632 .f32) (b : Fin 4) (s j : ℕ) (n : Fin 5632) : EReal :=
  if h : j ≤ s ∧ s - j < 8192 then U (ix3 b ⟨s - j, h.2⟩ n) else 0

theorem stC_at (U : FVec Ideal S4x8192x5632 .f32) (K : FVec Ideal S3x5632 .f32) (B : FVec Ideal S5632 .f32) (b : Fin 4) (s : Fin 8192) (n : Fin 5632) :
    Ref2.stC U K B (ix3 b s n)
      = B (ix1 n) + back U b s 2 n * K (ix2 0 n) + back U b s 1 n * K (ix2 1 n) + back U b s 0 n * K (ix2 2 n) := by
  have h2 : back U b s 2 n = if h : 2 ≤ (s : ℕ) ∧ (s : ℕ) - 2 < 8192 then U (ix3 b ⟨(s : ℕ) - 2, h.2⟩ n) else FloatOps.sitofp .f32 (0#32) := by
    unfold back; split <;> simp [FloatOps.sitofp]
  have h1 : back U b s 1 n = if h : 2 ≤ 1 + (s : ℕ) ∧ 1 + (s : ℕ) - 2 < 8192 then U (ix3 b ⟨1 + (s : ℕ) - 2, h.2⟩ n) else FloatOps.sitofp .f32 (0#32) := by
    unfold back
    by_cases h : 1 ≤ (s : ℕ)
    · rw [dif_pos ⟨h, by omega⟩, dif_pos ⟨by omega, by omega⟩]
      congr 2; apply Fin.ext; show (s : ℕ) - 1 = 1 + (s : ℕ) - 2; omega
    · rw [dif_neg (by omega), dif_neg (by omega)]; simp [FloatOps.sitofp]
  have h0 : back U b s 0 n = U (ix3 b s n) := by
    unfold back; rw [dif_pos ⟨by omega, by omega⟩]; rfl
  rw [h2, h1, h0]
  pointwise [Ref2.stC, Ref2.padded, Ref2.tapRow]
  simp only [add_assoc]

theorem stR_at (X : FVec Ideal S4x8192x1024 .f32) (G2 : FVec Ideal S4x1x1024 .f32) (C : FVec Ideal S4x8192x5632 .f32) (W : FVec Ideal S2816x1024 .f32)
    (b : Fin 4) (s : Fin 8192) (n : Fin 1024) :
    Ref2.stR X G2 C W (ix3 b s n) = Ideal.ofBits .f32 0x3FD744FD#32 * X (ix3 b s n) + G2 (ix3 b 0 n)
      * ∑ x : Fin 2816, C (ix3 b s ⟨x, by omega⟩) * Ideal.logistic (C (ix3 b s ⟨x, by omega⟩)) * C (ix3 b s ⟨2816 + x, by omega⟩) * W (ix2 x n) := by
  unfold Ideal.logistic
  pointwise [Ref2.stR, Ref2.act]

end

/-! ## The body's payloads at an index -/

open Cert.Kernel2Ideal Cert.Kernel2Ideal.Gen

theorem pay1_at (A B : FVec Ideal S512x1024 .f32) (g b : FVec Ideal S1x1024 .f32) (r : Fin 512) (n : Fin 1024) :
    k0_pay1 (F := Ideal) A B g b (ix3 0 r n) = lnS (fun k => A (ix2 r k) + B (ix2 r k)) (g (ix2 0 n)) (b (ix2 0 n)) n := by
  unfold lnS
  pointwise [k0_pay1]

theorem live_at : ∀ i : Fin 16, (Scalar.extui (Scalar.cmpi .sgt (BitVec.ofNat 32 i.val) 0#32) : BitVec 32).toInt = if i.val = 0 then 0 else 1 := by
  decide

/-- A row of the modulated input, the rows before it in front: the row itself, or zero above the array. -/
theorem pay4_at (i : grid0.Coords) (M : FVec Ideal S1x6x1024 .f32) (X : FVec Ideal S1x512x1024 .f32) (H : FVec Ideal S1x8x1024 .f32)
    (r : Fin 520) (k : Fin 1024) :
    k0_pay4 (F := Ideal) i M X H (ix2 r k)
      = if h : r.val < 8 then (if (i 1).val = 0 then 0 else H (ix3 0 ⟨r.val, h⟩ k) * (1 + M (ix3 0 4 k)) + M (ix3 0 3 k))
        else X (ix3 0 ⟨r.val - 8, by omega⟩ k) * (1 + M (ix3 0 4 k)) + M (ix3 0 3 k) := by
  have hl := live_at (i 1)
  pointwise [k0_pay4, k0_pay2, k0_pay3]
  rw [hl]
  split_ifs <;> simp

theorem pay10_at (M : FVec Ideal S6x1024 .f32) (P : FVec Ideal S520x1024 .bf16) (U : FVec Ideal S520x2816 .f32) (K : FVec Ideal S3x2816 .f32)
    (U1 : FVec Ideal S520x2816 .f32) (C : FVec Ideal S512x2816 .f32) (CB : FVec Ideal S512x2816 .f32) (W : FVec Ideal S1024x2816 .bf16)
    (K' : FVec Ideal S3x2816 .f32) (B' : FVec Ideal S1x2816 .f32) (D : FVec Ideal S2816x1024 .bf16) (r : Fin 512) (n : Fin 1024) :
    k0_pay10 (F := Ideal) M P U K U1 C CB W K' B' D (ix2 r n) = M (ix2 5 n)
      * ∑ x : Fin 2816, (CB (ix2 r x) + C (ix2 r x) + U1 (ix2 ⟨8 + r, by omega⟩ x) * K (ix2 1 x) + U (ix2 ⟨8 + r, by omega⟩ x) * K (ix2 2 x))
          * Ideal.logistic (CB (ix2 r x) + C (ix2 r x) + U1 (ix2 ⟨8 + r, by omega⟩ x) * K (ix2 1 x) + U (ix2 ⟨8 + r, by omega⟩ x) * K (ix2 2 x))
          * (B' (ix2 0 x) + (∑ k : Fin 1024, P (ix2 ⟨6 + r, by omega⟩ k) * W (ix2 k x)) * K' (ix2 0 x)
              + (∑ k : Fin 1024, P (ix2 ⟨7 + r, by omega⟩ k) * W (ix2 k x)) * K' (ix2 1 x)
              + (∑ k : Fin 1024, P (ix2 ⟨8 + r, by omega⟩ k) * W (ix2 k x)) * K' (ix2 2 x))
          * D (ix2 x n) := by
  have e6 : (⟨6 + r, by omega⟩ : Fin 520) = ⟨(8 + (r : ℕ) + 520 - 2) % 520, Nat.mod_lt _ (by omega)⟩ := Fin.ext (by show 6 + (r : ℕ) = (8 + (r : ℕ) + 520 - 2) % 520; omega)
  have e7 : (⟨7 + r, by omega⟩ : Fin 520) = ⟨(8 + (r : ℕ) + 520 - 1) % 520, Nat.mod_lt _ (by omega)⟩ := Fin.ext (by show 7 + (r : ℕ) = (8 + (r : ℕ) + 520 - 1) % 520; omega)
  rw [e6, e7]
  pointwise [k0_pay10]

theorem pay5_at (i : grid0.Coords) (M : FVec Ideal S1x6x1024 .f32) (X : FVec Ideal S1x512x1024 .f32) (H : FVec Ideal S1x8x1024 .f32)
    (W : FVec Ideal S1024x2816 .bf16) (r : Fin 520) (x : Fin 2816) :
    k0_pay5 (F := Ideal) i M X H W (ix2 r x) = ∑ k : Fin 1024, k0_pay4 (F := Ideal) i M X H (ix2 r k) * W (ix2 k x) := by
  pointwise [k0_pay5]

theorem pay6_at (i : grid0.Coords) (M : FVec Ideal S1x6x1024 .f32) (X : FVec Ideal S1x512x1024 .f32) (H : FVec Ideal S1x8x1024 .f32)
    (W : FVec Ideal S1024x2816 .bf16) (r : Fin 512) (x : Fin 2816) :
    k0_pay6 (F := Ideal) i M X H W (ix2 ⟨8 + r, by omega⟩ x) = k0_pay5 (F := Ideal) i M X H W (ix2 ⟨7 + r, by omega⟩ x) := by
  have e7 : (⟨7 + r, by omega⟩ : Fin 520) = ⟨(8 + (r : ℕ) + 520 - 1) % 520, Nat.mod_lt _ (by omega)⟩ := Fin.ext (by show 7 + (r : ℕ) = (8 + (r : ℕ) + 520 - 1) % 520; omega)
  rw [e7]
  pointwise [k0_pay6]

theorem pay7_at (i : grid0.Coords) (M : FVec Ideal S1x6x1024 .f32) (X : FVec Ideal S1x512x1024 .f32) (H : FVec Ideal S1x8x1024 .f32)
    (W : FVec Ideal S1024x2816 .bf16) (K : FVec Ideal S3x2816 .f32) (r : Fin 512) (x : Fin 2816) :
    k0_pay7 (F := Ideal) i M X H W K (ix2 r x) = k0_pay5 (F := Ideal) i M X H W (ix2 ⟨6 + r, by omega⟩ x) * K (ix2 0 x) := by
  have e6 : (⟨6 + r, by omega⟩ : Fin 520) = ⟨(8 + (r : ℕ) + 520 - 2) % 520, Nat.mod_lt _ (by omega)⟩ := Fin.ext (by show 6 + (r : ℕ) = (8 + (r : ℕ) + 520 - 2) % 520; omega)
  rw [e6]
  pointwise [k0_pay7]

theorem pay8_at (B : FVec Ideal S1x2816 .f32) (r : Fin 512) (x : Fin 2816) : k0_pay8 (F := Ideal) B (ix2 r x) = B (ix2 0 x) := by
  pointwise [k0_pay8]

theorem pay9_at (X : FVec Ideal S1x512x1024 .f32) (r : Fin 512) (n : Fin 1024) :
    k0_pay9 (F := Ideal) (k0_pay3 (F := Ideal) X) (ix2 r n) = Ideal.ofBits .f32 0x3FD744FD#32 * X (ix3 0 r n) := by
  pointwise [k0_pay9, k0_pay3]

theorem pay2_at (M : FVec Ideal S1x6x1024 .f32) (a : Fin 6) (n : Fin 1024) : k0_pay2 (F := Ideal) M (ix2 a n) = M (ix3 0 a n) := by
  pointwise [k0_pay2]

/-! ## The stored block -/

section
variable (i : grid0.Coords) (X : FVec Ideal S4x8192x1024 .f32) (M : FVec Ideal S4x6x1024 .f32) (W : FVec Ideal S1024x5632 .f32)
  (K : FVec Ideal S3x5632 .f32) (B : FVec Ideal Cert.Reference2Ideal.S5632 .f32) (D : FVec Ideal S2816x1024 .f32) (LG LB : FVec Ideal Cert.Reference2Ideal.S1024 .f32)
  (x0 : FVec Ideal S1x512x1024 .f32) (x1 : FVec Ideal S1x8x1024 .f32) (x2 : FVec Ideal S1x6x1024 .f32) (b : Fin 4) (j : ℕ) (hj : j < 16) (hi : (i 1).val = j)
  (h0 : ∀ (r : Fin 512) (k : Fin 1024) (s : Fin 8192), s.val = 512 * j + r → x0 (ix3 0 r k) = X (ix3 b s k))
  (h1 : ∀ (r : Fin 8) (k : Fin 1024) (s : Fin 8192), s.val + 8 = 512 * j + r → x1 (ix3 0 r k) = X (ix3 b s k))
  (h2 : ∀ (a : Fin 6) (k : Fin 1024), x2 (ix3 0 a k) = M (ix3 b a k))

include hj hi h0 h1 h2 in
/-- A row of the halved up product: the reference's projection that many rows above, zero above the first row. -/
theorem up_at (w : FVec Ideal S1024x2816 .bf16) (n : Fin 5632) (x : Fin 2816) (hw : ∀ k : Fin 1024, w (ix2 k x) = W (ix2 k n))
    (r : Fin 512) (d : ℕ) (hd : d ≤ 2) :
    (∑ k : Fin 1024, k0_pay4 (F := Ideal) i x2 x0 x1 (ix2 ⟨8 - d + r, by omega⟩ k) * w (ix2 k x))
      = back (Ref2.stU X M W) b (512 * j + r) d n := by
  unfold back
  by_cases hlt : d ≤ 512 * j + (r : ℕ)
  · rw [dif_pos ⟨hlt, by omega⟩, stU_at]
    refine Finset.sum_congr rfl fun k _ => ?_
    rw [hw k, pay4_at, h2, h2]
    congr 1
    by_cases h8 : 8 - d + (r : ℕ) < 8
    · have hjp : 0 < j := by omega
      rw [dif_pos (show (⟨8 - d + (r : ℕ), _⟩ : Fin 520).val < 8 from h8), if_neg (by omega)]
      rw [h1 _ k ⟨512 * j + (r : ℕ) - d, by omega⟩ (by show 512 * j + (r : ℕ) - d + 8 = 512 * j + (8 - d + (r : ℕ)); omega)]
    · rw [dif_neg (show ¬ (⟨8 - d + (r : ℕ), _⟩ : Fin 520).val < 8 from h8),
        h0 _ k ⟨512 * j + (r : ℕ) - d, by omega⟩ (by show 512 * j + (r : ℕ) - d = 512 * j + (8 - d + (r : ℕ) - 8); omega)]
  · rw [dif_neg (by omega)]
    refine Finset.sum_eq_zero fun k _ => ?_
    rw [pay4_at, dif_pos (show (⟨8 - d + (r : ℕ), _⟩ : Fin 520).val < 8 by show 8 - d + (r : ℕ) < 8; omega), if_pos (by omega), zero_mul]

variable (x3 x4 : FVec Ideal S1024x2816 .bf16) (x5 x6 : FVec Ideal S3x2816 .f32) (x7 x8 : FVec Ideal S1x2816 .f32) (x9 : FVec Ideal S2816x1024 .bf16)
  (x10 x11 : FVec Ideal S1x1024 .f32)
  (h3 : ∀ (k : Fin 1024) (x : Fin 2816) (n : Fin 5632), n.val = x → x3 (ix2 k x) = W (ix2 k n))
  (h4 : ∀ (k : Fin 1024) (x : Fin 2816) (n : Fin 5632), n.val = 2816 + x → x4 (ix2 k x) = W (ix2 k n))
  (h5 : ∀ (a : Fin 3) (x : Fin 2816) (n : Fin 5632), n.val = x → x5 (ix2 a x) = K (ix2 a n))
  (h6 : ∀ (a : Fin 3) (x : Fin 2816) (n : Fin 5632), n.val = 2816 + x → x6 (ix2 a x) = K (ix2 a n))
  (h7 : ∀ (x : Fin 2816) (n : Fin 5632), n.val = x → x7 (ix2 0 x) = B (ix1 n))
  (h8 : ∀ (x : Fin 2816) (n : Fin 5632), n.val = 2816 + x → x8 (ix2 0 x) = B (ix1 n))
  (h9 : ∀ (x : Fin 2816) (n : Fin 1024), x9 (ix2 x n) = D (ix2 x n))
  (h10 : ∀ n : Fin 1024, x10 (ix2 0 n) = LG (ix1 n))
  (h11 : ∀ n : Fin 1024, x11 (ix2 0 n) = LB (ix1 n))

include hj hi h0 h1 h2 h3 h4 h5 h6 h7 h8 h9 h10 h11 in
theorem block_at (r : Fin 512) (n : Fin 1024) (s : Fin 8192) (hs : s.val = 512 * j + r) :
    k0_pay1 (F := Ideal) (k0_pay9 (F := Ideal) (k0_pay3 (F := Ideal) x0)) (k0_pay10 (F := Ideal) (k0_pay2 (F := Ideal) x2) (k0_pay4 (F := Ideal) i x2 x0 x1)
        (k0_pay5 (F := Ideal) i x2 x0 x1 x3) x5 (k0_pay6 (F := Ideal) i x2 x0 x1 x3) (k0_pay7 (F := Ideal) i x2 x0 x1 x3 x5) (k0_pay8 (F := Ideal) x7) x4 x6 x8 x9) x10 x11 (ix3 0 r n)
      = Ref2.result (F := Ideal) X M W K B D LG LB (ix3 b s n) := by
  have es : s = ⟨512 * j + r, by clear hs; omega⟩ := Fin.ext hs
  clear hs
  subst es
  unfold Ref2.result
  rw [pay1_at, stN_at, h10, h11]
  congr 1
  funext k
  rw [pay9_at, pay10_at, stR_at, h0 r k ⟨512 * j + r, by omega⟩ rfl, pay2_at, h2]
  have hg : ∀ x : Fin 2816,
      k0_pay8 (F := Ideal) x7 (ix2 r x) + k0_pay7 (F := Ideal) i x2 x0 x1 x3 x5 (ix2 r x)
          + k0_pay6 (F := Ideal) i x2 x0 x1 x3 (ix2 ⟨8 + r, by omega⟩ x) * x5 (ix2 1 x)
          + k0_pay5 (F := Ideal) i x2 x0 x1 x3 (ix2 ⟨8 + r, by omega⟩ x) * x5 (ix2 2 x)
        = Ref2.stC (Ref2.stU X M W) K B (ix3 b ⟨512 * j + r, by omega⟩ ⟨x, by omega⟩) := fun x => by
    rw [stC_at, pay8_at, pay7_at, pay6_at, pay5_at, pay5_at, pay5_at, h7 x ⟨x, by omega⟩ rfl, h5 0 x ⟨x, by omega⟩ rfl, h5 1 x ⟨x, by omega⟩ rfl, h5 2 x ⟨x, by omega⟩ rfl]
    congr 1; congr 1; congr 1
    · congr 1; exact up_at i X M W x0 x1 x2 b j hj hi h0 h1 h2 x3 _ x (fun k => h3 k x _ rfl) r 2 (by omega)
    · congr 1; exact up_at i X M W x0 x1 x2 b j hj hi h0 h1 h2 x3 _ x (fun k => h3 k x _ rfl) r 1 (by omega)
    · congr 1; exact up_at i X M W x0 x1 x2 b j hj hi h0 h1 h2 x3 _ x (fun k => h3 k x _ rfl) r 0 (by omega)
  have hv : ∀ x : Fin 2816,
      x8 (ix2 0 x) + (∑ k : Fin 1024, k0_pay4 (F := Ideal) i x2 x0 x1 (ix2 ⟨6 + r, by omega⟩ k) * x4 (ix2 k x)) * x6 (ix2 0 x)
          + (∑ k : Fin 1024, k0_pay4 (F := Ideal) i x2 x0 x1 (ix2 ⟨7 + r, by omega⟩ k) * x4 (ix2 k x)) * x6 (ix2 1 x)
          + (∑ k : Fin 1024, k0_pay4 (F := Ideal) i x2 x0 x1 (ix2 ⟨8 + r, by omega⟩ k) * x4 (ix2 k x)) * x6 (ix2 2 x)
        = Ref2.stC (Ref2.stU X M W) K B (ix3 b ⟨512 * j + r, by omega⟩ ⟨2816 + x, by omega⟩) := fun x => by
    rw [stC_at, h8 x ⟨2816 + x, by omega⟩ rfl, h6 0 x ⟨2816 + x, by omega⟩ rfl, h6 1 x ⟨2816 + x, by omega⟩ rfl, h6 2 x ⟨2816 + x, by omega⟩ rfl]
    congr 1; congr 1; congr 1
    · congr 1; exact up_at i X M W x0 x1 x2 b j hj hi h0 h1 h2 x4 _ x (fun k => h4 k x _ rfl) r 2 (by omega)
    · congr 1; exact up_at i X M W x0 x1 x2 b j hj hi h0 h1 h2 x4 _ x (fun k => h4 k x _ rfl) r 1 (by omega)
    · congr 1; exact up_at i X M W x0 x1 x2 b j hj hi h0 h1 h2 x4 _ x (fun k => h4 k x _ rfl) r 0 (by omega)
  congr 1
  have hG2 : (extractStridedSlice Cert.Reference2Ideal.S4x1x1024 ![0, 5, 0] M Cert.Reference2Ideal.Gen.slices_S4x6x1024_S4x1x1024_0_5_0 : FVec Ideal Cert.Reference2Ideal.S4x1x1024 .f32) (ix3 b 0 k) = M (ix3 b 5 k) := by
    pointwise
  rw [hG2]
  congr 1
  refine Finset.sum_congr rfl fun x _ => ?_
  rw [hg x, hv x, h9]

end

end Cert.Proof.Ffn

end
-- ==== Proof.FfnRun.lean ====
module

public import proofs.«01_k».proof.Proof.Ffn
public import Idealize.ShloMosaic.Lib.Pipeline.ValueKit
public import Idealize.ShloMosaic.Lib.Claim

/-! The feed-forward half's result array at the ideal instance: the blocks cover it, and each is the reference's. -/

@[expose] public section

set_option maxRecDepth 16384

noncomputable section

namespace Cert.Proof.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The windows' block indices at every point. -/
theorem idx : ∀ t : Fin cfg0.N, win0_0.index t = ![t.val / 16, t.val % 16, 0] ∧ win0_1.index t = ![t.val / 16, t.val % 16 * 64 - 1, 0]
    ∧ win0_2.index t = ![t.val / 16, 0, 0] ∧ win0_3.index t = ![0, 0] ∧ win0_4.index t = ![0, 1] ∧ win0_5.index t = ![0, 0] ∧ win0_6.index t = ![0, 1]
    ∧ win0_7.index t = ![0, 0] ∧ win0_8.index t = ![0, 1] ∧ win0_9.index t = ![0, 0] ∧ win0_10.index t = ![0, 0] ∧ win0_11.index t = ![0, 0]
    ∧ win0_12.index t = ![t.val / 16, t.val % 16, 0] ∧ (grid0.coords t 1).val = t.val % 16 ∧ t.val / 16 < 4 :=
  (by decide +kernel : ∀ t : Fin grid0.N, _)

section
variable (c : Dev nD) (t : Fin cfg0.N)

theorem rd0 (r : Fin 512) (k : Fin 1024) (s : Fin 8192) (hs : s.val = 512 * (t.val % 16) + r) : (show FVec Ideal S1x512x1024 .f32 from iblk m c 0 t) (ix3 0 r k)
    = (show FVec Ideal S4x8192x1024 .f32 from m ((c : Thread nD τ).loc main_arg0)) (ix3 ⟨t.val / 16, (idx t).2.2.2.2.2.2.2.2.2.2.2.2.2.2⟩ s k) := by
  blk_ext [iblk, V, idx t]
theorem rd1 (r : Fin 8) (k : Fin 1024) (s : Fin 8192) (hs : s.val + 8 = 512 * (t.val % 16) + r) : (show FVec Ideal S1x8x1024 .f32 from iblk m c 1 t) (ix3 0 r k)
    = (show FVec Ideal S4x8192x1024 .f32 from m ((c : Thread nD τ).loc main_arg0)) (ix3 ⟨t.val / 16, (idx t).2.2.2.2.2.2.2.2.2.2.2.2.2.2⟩ s k) := by
  blk_ext [iblk, V, idx t]
theorem rd2 (a : Fin 6) (k : Fin 1024) : (show FVec Ideal S1x6x1024 .f32 from iblk m c 2 t) (ix3 0 a k)
    = (show FVec Ideal S4x6x1024 .f32 from m ((c : Thread nD τ).loc main_arg1)) (ix3 ⟨t.val / 16, (idx t).2.2.2.2.2.2.2.2.2.2.2.2.2.2⟩ a k) := by
  blk_ext [iblk, V, idx t]
theorem rd3 (k : Fin 1024) (x : Fin 2816) (n : Fin 5632) (hn : n.val = x) : (show FVec Ideal S1024x2816 .bf16 from iblk m c 3 t) (ix2 k x)
    = (show FVec Ideal S1024x5632 .f32 from m ((c : Thread nD τ).loc main_arg2)) (ix2 k n) := by
  blk_point [iblk, V, idx t]
theorem rd4 (k : Fin 1024) (x : Fin 2816) (n : Fin 5632) (hn : n.val = 2816 + x) : (show FVec Ideal S1024x2816 .bf16 from iblk m c 4 t) (ix2 k x)
    = (show FVec Ideal S1024x5632 .f32 from m ((c : Thread nD τ).loc main_arg2)) (ix2 k n) := by
  blk_point [iblk, V, idx t]
theorem rd5 (a : Fin 3) (x : Fin 2816) (n : Fin 5632) (hn : n.val = x) : (show FVec Ideal S3x2816 .f32 from iblk m c 5 t) (ix2 a x)
    = (show FVec Ideal S3x5632 .f32 from m ((c : Thread nD τ).loc main_arg3)) (ix2 a n) := by
  blk_point [iblk, V, idx t]
theorem rd6 (a : Fin 3) (x : Fin 2816) (n : Fin 5632) (hn : n.val = 2816 + x) : (show FVec Ideal S3x2816 .f32 from iblk m c 6 t) (ix2 a x)
    = (show FVec Ideal S3x5632 .f32 from m ((c : Thread nD τ).loc main_arg3)) (ix2 a n) := by
  blk_point [iblk, V, idx t]
theorem rd7 (x : Fin 2816) (n : Fin 5632) (hn : n.val = x) : (show FVec Ideal S1x2816 .f32 from iblk m c 7 t) (ix2 0 x)
    = (show FVec Ideal Cert.Reference2Ideal.S5632 .f32 from m ((c : Thread nD τ).loc main_arg4)) (ix1 n) := by
  blk_point [iblk, V, idx t]
theorem rd8 (x : Fin 2816) (n : Fin 5632) (hn : n.val = 2816 + x) : (show FVec Ideal S1x2816 .f32 from iblk m c 8 t) (ix2 0 x)
    = (show FVec Ideal Cert.Reference2Ideal.S5632 .f32 from m ((c : Thread nD τ).loc main_arg4)) (ix1 n) := by
  blk_point [iblk, V, idx t]
theorem rd9 (x : Fin 2816) (n : Fin 1024) : (show FVec Ideal S2816x1024 .bf16 from iblk m c 9 t) (ix2 x n)
    = (show FVec Ideal S2816x1024 .f32 from m ((c : Thread nD τ).loc main_arg5)) (ix2 x n) := by
  blk_point [iblk, V, idx t]
theorem rd10 (n : Fin 1024) : (show FVec Ideal S1x1024 .f32 from iblk m c 10 t) (ix2 0 n)
    = (show FVec Ideal Cert.Reference2Ideal.S1024 .f32 from m ((c : Thread nD τ).loc main_arg6)) (ix1 n) := by
  blk_point [iblk, V, idx t]
theorem rd11 (n : Fin 1024) : (show FVec Ideal S1x1024 .f32 from iblk m c 11 t) (ix2 0 n)
    = (show FVec Ideal Cert.Reference2Ideal.S1024 .f32 from m ((c : Thread nD τ).loc main_arg7)) (ix1 n) := by
  blk_point [iblk, V, idx t]
end

/-- The reference's result of the kernel's argument arrays. -/
abbrev REF (c : Dev nD) : FVec Ideal S4x8192x1024 .f32 :=
  Ref2.result (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

theorem final (c : Dev nD) : (dats m 0 c).arrAt 12 (cfgs 0).N = REF m c := by
  refine (dats m 0 c).arrAt_eq_of_covers 12 _ (by decide +kernel) fun t _ y => ?_
  blk_simp
  rw [after0_12]
  frame_out
  obtain ⟨a, r, n, rfl⟩ : ∃ (a : Fin 1) (r : Fin 512) (n : Fin 1024), y = ix3 a r n := ⟨y 0, y 1, y 2, eq_ix3 y⟩
  obtain rfl : a = 0 := Subsingleton.elim _ _
  have e : ((cfg0.win 12).blk t).view.emb (ix3 (0 : Fin 1) r n) = ix3 (⟨t.val / 16, (idx t).2.2.2.2.2.2.2.2.2.2.2.2.2.2⟩ : Fin 4) (⟨512 * (t.val % 16) + r, by omega⟩ : Fin 8192) n := by
    blk_ext [idx t]
  refine (block_at (grid0.coords t) _ _ _ _ _ _ _ _ _ _ _ ⟨t.val / 16, (idx t).2.2.2.2.2.2.2.2.2.2.2.2.2.2⟩ (t.val % 16) (Nat.mod_lt _ (by omega)) (idx t).2.2.2.2.2.2.2.2.2.2.2.2.2.1
    (rd0 m c t) (rd1 m c t) (rd2 m c t) _ _ _ _ _ _ _ _ _ (rd3 m c t) (rd4 m c t) (rd5 m c t) (rd6 m c t) (rd7 m c t) (rd8 m c t) (rd9 m c t) (rd10 m c t) (rd11 m c t) r n
    ⟨512 * (t.val % 16) + r, by omega⟩ rfl).trans ?_
  exact congrArg (REF m c) e.symm

end Cert.Proof.Ffn

end
-- ==== Proof.Ref3.lean ====
module

public import proofs.«01_k».proof.Proof.Gen.Reference3Ideal.Run
public import Idealize.ShloMosaic.Lib.Pointwise

/-! The reference of the even layers' input projection, cut in stages: the modulated rows, the three products, the rotary
tables, the rotation of the heads, the layer norm of the indexer's key. -/

@[expose] public section

set_option maxRecDepth 16384

noncomputable section

namespace Cert.Proof.Ref3

open Cert.Reference3Ideal Cert.Reference3Ideal.Gen Idealize.ShloMosaic Idealize.ShloMosaic.TcCoe Idealize.SL.Sem

/-- The modulated rows. -/
def hid (X : FVec Ideal S4x8192x1024 .f32) (M : FVec Ideal S4x6x1024 .f32) : FVec Ideal S4x8192x1024 .f32 :=
  addf (mulf X (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 1, 0] M slices_S4x6x1024_S4x1x1024_0_1_0)))) (broadcastInDim S4x8192x1024 ![0, 1, 2] bcast_S4x1x1024_S4x8192x1024_0_1_2 (extractStridedSlice S4x1x1024 ![0, 0, 0] M slices_S4x6x1024_S4x1x1024_0_0_0))

/-- The rows by the recurrence's, the attention's and the indexer's weights. -/
def prjR (X : FVec Ideal S4x8192x1024 .f32) (M : FVec Ideal S4x6x1024 .f32) (R : FVec Ideal S1024x1792 .bf16) : FVec Ideal S4x8192x1792 .f32 :=
  Host.dotGeneral dot_S4x8192x1024_S1024x1792_S4x8192x1792_2_0_01_1_n_n none (hid X M) (extf .f32 R bitsLt_bf16_f32)

/-- The same by the attention's weights. -/
def prjQ (X : FVec Ideal S4x8192x1024 .f32) (M : FVec Ideal S4x6x1024 .f32) (Q : FVec Ideal S1024x1536 .bf16) : FVec Ideal S4x8192x1536 .f32 :=
  Host.dotGeneral dot_S4x8192x1024_S1024x1536_S4x8192x1536_2_0_01_1_n_n none (hid X M) (extf .f32 Q bitsLt_bf16_f32)

/-- The same by the indexer's weights. -/
def prjI (X : FVec Ideal S4x8192x1024 .f32) (M : FVec Ideal S4x6x1024 .f32) (I : FVec Ideal S1024x384 .bf16) : FVec Ideal S4x8192x384 .f32 :=
  Host.dotGeneral dot_S4x8192x1024_S1024x384_S4x8192x384_2_0_01_1_n_n none (hid X M) (extf .f32 I bitsLt_bf16_f32)

/-- The rotary angles, by position and frequency. -/
def ang : FVec Ideal S8192x8 .f32 :=
  mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- Their cosines and sines. -/
def cosT : FVec Ideal S8192x8 .f32 := Host.cos ang
def sinT : FVec Ideal S8192x8 .f32 := Host.sin ang

/-- The rotation of the first sixteen columns of every head, for eight, four and one heads. -/
def rope8 (H : FVec Ideal S4x8192x8x64 .f32) (C S : FVec Ideal S8192x8 .f32) : FVec Ideal S4x8192x8x64 .f32 :=
  (concatenate S4x8192x8x64 3 [⟨S4x8192x8x8, ((subf (mulf (extractStridedSlice S4x8192x8x8 ![0, 0, 0, 0] H slices_S4x8192x8x64_S4x8192x8x8_0_0_0_0) (broadcastInDim S4x8192x8x8 ![0, 1, 2, 3] bcast_S1x8192x1x8_S4x8192x8x8_0_1_2_3 (broadcastInDim S1x8192x1x8 ![1, 3] bcast_S8192x8_S1x8192x1x8_1_3 C))) (mulf (extractStridedSlice S4x8192x8x8 ![0, 0, 0, 8] H slices_S4x8192x8x64_S4x8192x8x8_0_0_0_8) (broadcastInDim S4x8192x8x8 ![0, 1, 2, 3] bcast_S1x8192x1x8_S4x8192x8x8_0_1_2_3 (broadcastInDim S1x8192x1x8 ![1, 3] bcast_S8192x8_S1x8192x1x8_1_3 S)))) : (⟨S4x8192x8x8, .f32⟩ : BufTy).Contents (Elt Ideal))⟩, ⟨S4x8192x8x8, ((addf (mulf (extractStridedSlice S4x8192x8x8 ![0, 0, 0, 0] H slices_S4x8192x8x64_S4x8192x8x8_0_0_0_0) (broadcastInDim S4x8192x8x8 ![0, 1, 2, 3] bcast_S1x8192x1x8_S4x8192x8x8_0_1_2_3 (broadcastInDim S1x8192x1x8 ![1, 3] bcast_S8192x8_S1x8192x1x8_1_3 S))) (mulf (extractStridedSlice S4x8192x8x8 ![0, 0, 0, 8] H slices_S4x8192x8x64_S4x8192x8x8_0_0_0_8) (broadcastInDim S4x8192x8x8 ![0, 1, 2, 3] bcast_S1x8192x1x8_S4x8192x8x8_0_1_2_3 (broadcastInDim S1x8192x1x8 ![1, 3] bcast_S8192x8_S1x8192x1x8_1_3 C)))) : (⟨S4x8192x8x8, .f32⟩ : BufTy).Contents (Elt Ideal))⟩, ⟨S4x8192x8x48, ((extractStridedSlice S4x8192x8x48 ![0, 0, 0, 16] H slices_S4x8192x8x64_S4x8192x8x48_0_0_0_16) : (⟨S4x8192x8x48, .f32⟩ : BufTy).Contents (Elt Ideal))⟩] concatenates_S4x8192x8x8_S4x8192x8x8_S4x8192x8x48_S4x8192x8x64_d3 : (⟨S4x8192x8x64, .f32⟩ : BufTy).Contents (Elt Ideal))

/-- The same for four heads. -/
def rope4 (H : FVec Ideal S4x8192x4x64 .f32) (C S : FVec Ideal S8192x8 .f32) : FVec Ideal S4x8192x4x64 .f32 :=
  (concatenate S4x8192x4x64 3 [⟨S4x8192x4x8, ((subf (mulf (extractStridedSlice S4x8192x4x8 ![0, 0, 0, 0] H slices_S4x8192x4x64_S4x8192x4x8_0_0_0_0) (broadcastInDim S4x8192x4x8 ![0, 1, 2, 3] bcast_S1x8192x1x8_S4x8192x4x8_0_1_2_3 (broadcastInDim S1x8192x1x8 ![1, 3] bcast_S8192x8_S1x8192x1x8_1_3 C))) (mulf (extractStridedSlice S4x8192x4x8 ![0, 0, 0, 8] H slices_S4x8192x4x64_S4x8192x4x8_0_0_0_8) (broadcastInDim S4x8192x4x8 ![0, 1, 2, 3] bcast_S1x8192x1x8_S4x8192x4x8_0_1_2_3 (broadcastInDim S1x8192x1x8 ![1, 3] bcast_S8192x8_S1x8192x1x8_1_3 S)))) : (⟨S4x8192x4x8, .f32⟩ : BufTy).Contents (Elt Ideal))⟩, ⟨S4x8192x4x8, ((addf (mulf (extractStridedSlice S4x8192x4x8 ![0, 0, 0, 0] H slices_S4x8192x4x64_S4x8192x4x8_0_0_0_0) (broadcastInDim S4x8192x4x8 ![0, 1, 2, 3] bcast_S1x8192x1x8_S4x8192x4x8_0_1_2_3 (broadcastInDim S1x8192x1x8 ![1, 3] bcast_S8192x8_S1x8192x1x8_1_3 S))) (mulf (extractStridedSlice S4x8192x4x8 ![0, 0, 0, 8] H slices_S4x8192x4x64_S4x8192x4x8_0_0_0_8) (broadcastInDim S4x8192x4x8 ![0, 1, 2, 3] bcast_S1x8192x1x8_S4x8192x4x8_0_1_2_3 (broadcastInDim S1x8192x1x8 ![1, 3] bcast_S8192x8_S1x8192x1x8_1_3 C)))) : (⟨S4x8192x4x8, .f32⟩ : BufTy).Contents (Elt Ideal))⟩, ⟨S4x8192x4x48, ((extractStridedSlice S4x8192x4x48 ![0, 0, 0, 16] H slices_S4x8192x4x64_S4x8192x4x48_0_0_0_16) : (⟨S4x8192x4x48, .f32⟩ : BufTy).Contents (Elt Ideal))⟩] concatenates_S4x8192x4x8_S4x8192x4x8_S4x8192x4x48_S4x8192x4x64_d3 : (⟨S4x8192x4x64, .f32⟩ : BufTy).Contents (Elt Ideal))

/-- The same for one head. -/
def rope1 (H : FVec Ideal S4x8192x1x64 .f32) (C S : FVec Ideal S8192x8 .f32) : FVec Ideal S4x8192x1x64 .f32 :=
  (concatenate S4x8192x1x64 3 [⟨S4x8192x1x8, ((subf (mulf (extractStridedSlice S4x8192x1x8 ![0, 0, 0, 0] H slices_S4x8192x1x64_S4x8192x1x8_0_0_0_0) (broadcastInDim S4x8192x1x8 ![0, 1, 2, 3] bcast_S1x8192x1x8_S4x8192x1x8_0_1_2_3 (broadcastInDim S1x8192x1x8 ![1, 3] bcast_S8192x8_S1x8192x1x8_1_3 C))) (mulf (extractStridedSlice S4x8192x1x8 ![0, 0, 0, 8] H slices_S4x8192x1x64_S4x8192x1x8_0_0_0_8) (broadcastInDim S4x8192x1x8 ![0, 1, 2, 3] bcast_S1x8192x1x8_S4x8192x1x8_0_1_2_3 (broadcastInDim S1x8192x1x8 ![1, 3] bcast_S8192x8_S1x8192x1x8_1_3 S)))) : (⟨S4x8192x1x8, .f32⟩ : BufTy).Contents (Elt Ideal))⟩, ⟨S4x8192x1x8, ((addf (mulf (extractStridedSlice S4x8192x1x8 ![0, 0, 0, 0] H slices_S4x8192x1x64_S4x8192x1x8_0_0_0_0) (broadcastInDim S4x8192x1x8 ![0, 1, 2, 3] bcast_S1x8192x1x8_S4x8192x1x8_0_1_2_3 (broadcastInDim S1x8192x1x8 ![1, 3] bcast_S8192x8_S1x8192x1x8_1_3 S))) (mulf (extractStridedSlice S4x8192x1x8 ![0, 0, 0, 8] H slices_S4x8192x1x64_S4x8192x1x8_0_0_0_8) (broadcastInDim S4x8192x1x8 ![0, 1, 2, 3] bcast_S1x8192x1x8_S4x8192x1x8_0_1_2_3 (broadcastInDim S1x8192x1x8 ![1, 3] bcast_S8192x8_S1x8192x1x8_1_3 C)))) : (⟨S4x8192x1x8, .f32⟩ : BufTy).Contents (Elt Ideal))⟩, ⟨S4x8192x1x48, ((extractStridedSlice S4x8192x1x48 ![0, 0, 0, 16] H slices_S4x8192x1x64_S4x8192x1x48_0_0_0_16) : (⟨S4x8192x1x48, .f32⟩ : BufTy).Contents (Elt Ideal))⟩] concatenates_S4x8192x1x8_S4x8192x1x8_S4x8192x1x48_S4x8192x1x64_d3 : (⟨S4x8192x1x64, .f32⟩ : BufTy).Contents (Elt Ideal))

/-- A key row less its mean. -/
def cen (Y : FVec Ideal S4x8192x64 .f32) : FVec Ideal S4x8192x64 .f32 :=
  subf Y (broadcastInDim S4x8192x64 ![0, 1, 2] bcast_S4x8192x1_S4x8192x64_0_1_2 (Host.divf (broadcastInDim S4x8192x1 ![0, 1] bcast_S4x8192_S4x8192x1_0_1 (Host.reduceAdd Y (constant S_ .f32 0x00000000#32) reducesTo_S4x8192x64_S4x8192_d2 h_S_)) (broadcastInDim S4x8192x1 ![] bcast_S_S4x8192x1 (constant S_ .f32 0x42800000#32))))

/-- The layer norm of the key rows. -/
def norm (Y : FVec Ideal S4x8192x64 .f32) (G B : FVec Ideal S64 .f32) : FVec Ideal S4x8192x64 .f32 :=
  addf (mulf (mulf (cen Y) (broadcastInDim S4x8192x64 ![0, 1, 2] bcast_S4x8192x1_S4x8192x64_0_1_2 (Host.rsqrt (addf (Host.divf (broadcastInDim S4x8192x1 ![0, 1] bcast_S4x8192_S4x8192x1_0_1 (Host.reduceAdd (mulf (cen Y) (cen Y)) (constant S_ .f32 0x00000000#32) reducesTo_S4x8192x64_S4x8192_d2 h_S_)) (broadcastInDim S4x8192x1 ![] bcast_S_S4x8192x1 (constant S_ .f32 0x42800000#32))) (broadcastInDim S4x8192x1 ![] bcast_S_S4x8192x1 (constant S_ .f32 0x3727C5AC#32)))))) (broadcastInDim S4x8192x64 ![0, 1, 2] bcast_S1x1x64_S4x8192x64_0_1_2 (broadcastInDim S1x1x64 ![2] bcast_S64_S1x1x64_2 G))) (broadcastInDim S4x8192x64 ![0, 1, 2] bcast_S1x1x64_S4x8192x64_0_1_2 (broadcastInDim S1x1x64 ![2] bcast_S64_S1x1x64_2 B))

/-- The queries, rotated and scaled; the keys, rotated; the values. -/
def outQ (X : FVec Ideal S4x8192x1024 .f32) (M : FVec Ideal S4x6x1024 .f32) (Q : FVec Ideal S1024x1536 .bf16) : FVec Ideal S4x512x8192 .bf16 :=
  truncf .bf16 (transpose S4x512x8192 [0, 2, 1] (mulf (shapeCast S4x8192x512 (rope8 (shapeCast S4x8192x8x64 (extractStridedSlice S4x8192x512 ![0, 0, 0] (prjQ X M Q) slices_S4x8192x1536_S4x8192x512_0_0_0) shapeCasts_S4x8192x512_S4x8192x8x64) cosT sinT) shapeCasts_S4x8192x8x64_S4x8192x512) (broadcastInDim S4x8192x512 ![] bcast_S_S4x8192x512 (constant S_ .f32 0x3E38AA3B#32))) transposes_S4x8192x512_S4x512x8192_0_2_1) bitsLt_bf16_f32

/-- The keys, rotated. -/
def outK (X : FVec Ideal S4x8192x1024 .f32) (M : FVec Ideal S4x6x1024 .f32) (Q : FVec Ideal S1024x1536 .bf16) : FVec Ideal S4x8192x512 .bf16 :=
  truncf .bf16 (shapeCast S4x8192x512 (rope8 (shapeCast S4x8192x8x64 (extractStridedSlice S4x8192x512 ![0, 0, 512] (prjQ X M Q) slices_S4x8192x1536_S4x8192x512_0_0_512) shapeCasts_S4x8192x512_S4x8192x8x64) cosT sinT) shapeCasts_S4x8192x8x64_S4x8192x512) bitsLt_bf16_f32

/-- The values. -/
def outV (X : FVec Ideal S4x8192x1024 .f32) (M : FVec Ideal S4x6x1024 .f32) (Q : FVec Ideal S1024x1536 .bf16) : FVec Ideal S4x512x8192 .bf16 :=
  truncf .bf16 (transpose S4x512x8192 [0, 2, 1] (extractStridedSlice S4x8192x512 ![0, 0, 1024] (prjQ X M Q) slices_S4x8192x1536_S4x8192x512_0_0_1024) transposes_S4x8192x512_S4x512x8192_0_2_1) bitsLt_bf16_f32

/-- The indexer's queries, rotated. -/
def outI (X : FVec Ideal S4x8192x1024 .f32) (M : FVec Ideal S4x6x1024 .f32) (I : FVec Ideal S1024x384 .bf16) : FVec Ideal S4x256x8192 .bf16 :=
  truncf .bf16 (transpose S4x256x8192 [0, 2, 1] (shapeCast S4x8192x256 (rope4 (shapeCast S4x8192x4x64 (extractStridedSlice S4x8192x256 ![0, 0, 0] (prjI X M I) slices_S4x8192x384_S4x8192x256_0_0_0) shapeCasts_S4x8192x256_S4x8192x4x64) cosT sinT) shapeCasts_S4x8192x4x64_S4x8192x256) transposes_S4x8192x256_S4x256x8192_0_2_1) bitsLt_bf16_f32

/-- The indexer's key, normed and rotated. -/
def outN (X : FVec Ideal S4x8192x1024 .f32) (M : FVec Ideal S4x6x1024 .f32) (I : FVec Ideal S1024x384 .bf16) (G B : FVec Ideal S64 .f32) : FVec Ideal S4x8192x64 .bf16 :=
  truncf .bf16 (shapeCast S4x8192x64 (rope1 (broadcastInDim S4x8192x1x64 ![0, 1, 3] bcast_S4x8192x64_S4x8192x1x64_0_1_3 (norm (extractStridedSlice S4x8192x64 ![0, 0, 256] (prjI X M I) slices_S4x8192x384_S4x8192x64_0_0_256) G B)) cosT sinT) shapeCasts_S4x8192x1x64_S4x8192x64) bitsLt_bf16_f32

/-- The indexer's head weights, scaled. -/
def outW (X : FVec Ideal S4x8192x1024 .f32) (M : FVec Ideal S4x6x1024 .f32) (I : FVec Ideal S1024x384 .bf16) : FVec Ideal S4x8x8192 .f32 :=
  transpose S4x8x8192 [0, 2, 1] (mulf (extractStridedSlice S4x8192x8 ![0, 0, 320] (prjI X M I) slices_S4x8192x384_S4x8192x8_0_0_320) (broadcastInDim S4x8192x8 ![] bcast_S_S4x8192x8 (constant S_ .f32 0x3D800000#32))) transposes_S4x8192x8_S4x8x8192_0_2_1

section
variable (m : (ℓ : Loc nD τ sig) → Buf (Elt Ideal) ℓ) (c : Dev nD)

theorem run3 (ρ : Dev nD → PrngReg) :
    θ_run defs (onTc (τ := τ) (main (F := Ideal))) ⟨m, fun _ => 0, ρ⟩ fun r => ∀ c : Dev nD,
      r.2.mem ((c.tc : Thread nD τ).loc main_v27) = prjR (m ((c.tc : Thread nD τ).loc main_arg0)) (m ((c.tc : Thread nD τ).loc main_arg1)) (m ((c.tc : Thread nD τ).loc main_arg2))
      ∧ r.2.mem ((c.tc : Thread nD τ).loc main_v139) = outQ (m ((c.tc : Thread nD τ).loc main_arg0)) (m ((c.tc : Thread nD τ).loc main_arg1)) (m ((c.tc : Thread nD τ).loc main_arg3))
      ∧ r.2.mem ((c.tc : Thread nD τ).loc main_v140) = outK (m ((c.tc : Thread nD τ).loc main_arg0)) (m ((c.tc : Thread nD τ).loc main_arg1)) (m ((c.tc : Thread nD τ).loc main_arg3))
      ∧ r.2.mem ((c.tc : Thread nD τ).loc main_v142) = outV (m ((c.tc : Thread nD τ).loc main_arg0)) (m ((c.tc : Thread nD τ).loc main_arg1)) (m ((c.tc : Thread nD τ).loc main_arg3))
      ∧ r.2.mem ((c.tc : Thread nD τ).loc main_v144) = outI (m ((c.tc : Thread nD τ).loc main_arg0)) (m ((c.tc : Thread nD τ).loc main_arg1)) (m ((c.tc : Thread nD τ).loc main_arg4))
      ∧ r.2.mem ((c.tc : Thread nD τ).loc main_v145) = outN (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_v146) = outW (m ((c.tc : Thread nD τ).loc main_arg0)) (m ((c.tc : Thread nD τ).loc main_arg1)) (m ((c.tc : Thread nD τ).loc main_arg4))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2⟩)
    (Value.run (F := Ideal) m ρ)

end

end Cert.Proof.Ref3

end
-- ==== Proof.In.lean ====
module

public import proofs.«01_k».proof.Proof.Gen.Kernel3Ideal.Frame
public import Idealize.ShloMosaic.Lib.Pointwise
public import proofs.«01_k».proof.Proof.Ref3

/-! The even layers' input projection at the ideal instance, element by element. A row `f` of heads of 64 columns, rotated by
the cosines `c` and sines `s` of its position, is `rot f c s` by column; both the reference's concatenated slices and the
kernel's two lane rotations against three tables read as it. -/

@[expose] public section

set_option maxRecDepth 16384

noncomputable section

namespace Cert.Proof.In

open Idealize.ShloMosaic Idealize.SL.Sem

/-- A row by the number of its column. -/
def nat {N : ℕ} (y : Fin N → EReal) (n : ℕ) : EReal := if h : n < N then y ⟨n, h⟩ else 0

theorem eq_nat {N : ℕ} (y : Fin N → EReal) (k : Fin N) (n : ℕ) (h : k.val = n) : y k = nat y n := by
  subst h
  rw [nat, dif_pos k.isLt]

/-- A row of heads, the first sixteen columns of each rotated. -/
def rot (f c s : ℕ → EReal) (n : ℕ) : EReal :=
  if n % 64 < 8 then f n * c (n % 64) - f (n + 8) * s (n % 64)
  else if n % 64 < 16 then f (n - 8) * s (n % 64 - 8) + f n * c (n % 64 - 8)
  else f n

/-- The kernel's three tables by lane: the factor of the column, of the column eight after, of the column eight before. -/
def ct (c : ℕ → EReal) (n : ℕ) : EReal := if n % 64 < 8 then c (n % 64) else if n % 64 < 16 then c (n % 64 - 8) else 1
def sa (s : ℕ → EReal) (n : ℕ) : EReal := if n % 64 < 8 then -(s (n % 64)) else 0
def sb (s : ℕ → EReal) (n : ℕ) : EReal := if n % 64 < 8 then 0 else if n % 64 < 16 then s (n % 64 - 8) else 0

theorem rot_eq (f c s : ℕ → EReal) (n : ℕ) {x xp xm tc ta tb : EReal} (hx : x = f n) (hc : tc = ct c n)
    (hp : n % 64 < 8 → xp = f (n + 8)) (ha : ta = sa s n) (hm : 8 ≤ n % 64 → n % 64 < 16 → xm = f (n - 8)) (hb : tb = sb s n) :
    x * tc + xp * ta + xm * tb = rot f c s n := by
  subst hx hc ha hb
  by_cases h : n % 64 < 8
  · rw [hp h]
    simp only [ct, sa, sb, rot, h, if_true]
    rw [mul_zero, add_zero, mul_neg, sub_eq_add_neg]
  · by_cases h' : n % 64 < 16
    · rw [hm (by omega) h']
      simp only [ct, sa, sb, rot, h, h', if_true, if_false]
      rw [mul_zero, add_zero, add_comm]
    · simp only [ct, sa, sb, rot, h, h', if_false]
      rw [mul_zero, mul_zero, mul_one, add_zero, add_zero]

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem div_64 (x : EReal) : Ideal.div x (Ideal.ofBits .f32 0x42800000#32) = x * Ideal.ofBits .f32 0x3C800000#32 := by
  rw [ofBits_64, ofBits_64th, Ideal.div_coe (by norm_num)]

/-- A sum over 128 lanes that is zero from the 64th on. -/
theorem sum_half (g : Fin 128 → EReal) (h : Fin 64 → EReal) (hl : ∀ (x : Fin 128) (y : Fin 64), x.val = y.val → g x = h y)
    (hr : ∀ x : Fin 128, 64 ≤ x.val → g x = 0) : ∑ x, g x = ∑ y, h y := by
  refine (Fin.sum_univ_add (a := 64) (b := 64) g).trans ?_
  refine (congrArg₂ (· + ·) (Finset.sum_congr rfl fun y _ => hl (Fin.castAdd 64 y) y rfl)
    (Finset.sum_eq_zero fun y _ => hr (Fin.natAdd 64 y) ?_)).trans (add_zero _)
  show 64 ≤ 64 + y.val
  omega

/-- The lanes kept by the kernel's comparison. -/
theorem lane : ∀ x : Fin 128, IntOp.cmpi .slt (BitVec.ofNat 32 x.val) 64#32 = if x.val < 64 then 1#1 else 0#1 := by
  decide +kernel

/-- The layer norm of a row of 64. -/
def avg (y : Fin 64 → EReal) : EReal := Ideal.div (∑ k, y k) (Ideal.ofBits .f32 0x42800000#32)
def nrm (y g b : Fin 64 → EReal) (n : Fin 64) : EReal :=
  (y n - avg y) * Ideal.rsqrt (avg (fun k => (y k - avg y) * (y k - avg y)) + Ideal.ofBits .f32 0x3727C5AC#32) * g n + b n

section Reference
open Cert.Reference3Ideal Cert.Reference3Ideal.Gen

variable (C S : FVec Ideal S8192x8 .f32)

theorem rope8_at (Y : FVec Ideal S4x8192x512 .f32) (b : Fin 4) (s : Fin 8192) (n : Fin 512) :
    (shapeCast S4x8192x512 (Ref3.rope8 (shapeCast S4x8192x8x64 Y shapeCasts_S4x8192x512_S4x8192x8x64) C S)
      shapeCasts_S4x8192x8x64_S4x8192x512) (ix3 b s n)
      = rot (nat fun k : Fin 512 => Y (ix3 b s k)) (nat fun a : Fin 8 => C (ix2 s a)) (nat fun a : Fin 8 => S (ix2 s a)) n := by
  pointwise [Ref3.rope8]
  rw [rot]
  (repeat' split) <;> first
    | omega
    | (refine congrArg₂ (· - ·) (congrArg₂ (· * ·) (eq_nat (fun k : Fin 512 => Y (ix3 b s k)) _ _ ?_) (eq_nat (fun a : Fin 8 => C (ix2 s a)) _ _ ?_))
        (congrArg₂ (· * ·) (eq_nat (fun k : Fin 512 => Y (ix3 b s k)) _ _ ?_) (eq_nat (fun a : Fin 8 => S (ix2 s a)) _ _ ?_)) <;> dsimp only <;> omega)
    | (refine congrArg₂ (· + ·) (congrArg₂ (· * ·) (eq_nat (fun k : Fin 512 => Y (ix3 b s k)) _ _ ?_) (eq_nat (fun a : Fin 8 => S (ix2 s a)) _ _ ?_))
        (congrArg₂ (· * ·) (eq_nat (fun k : Fin 512 => Y (ix3 b s k)) _ _ ?_) (eq_nat (fun a : Fin 8 => C (ix2 s a)) _ _ ?_)) <;> dsimp only <;> omega)
    | (refine eq_nat (fun k : Fin 512 => Y (ix3 b s k)) _ _ ?_ <;> dsimp only <;> omega)

theorem rope4_at (Y : FVec Ideal S4x8192x256 .f32) (b : Fin 4) (s : Fin 8192) (n : Fin 256) :
    (shapeCast S4x8192x256 (Ref3.rope4 (shapeCast S4x8192x4x64 Y shapeCasts_S4x8192x256_S4x8192x4x64) C S)
      shapeCasts_S4x8192x4x64_S4x8192x256) (ix3 b s n)
      = rot (nat fun k : Fin 256 => Y (ix3 b s k)) (nat fun a : Fin 8 => C (ix2 s a)) (nat fun a : Fin 8 => S (ix2 s a)) n := by
  pointwise [Ref3.rope4]
  rw [rot]
  (repeat' split) <;> first
    | omega
    | (refine congrArg₂ (· - ·) (congrArg₂ (· * ·) (eq_nat (fun k : Fin 256 => Y (ix3 b s k)) _ _ ?_) (eq_nat (fun a : Fin 8 => C (ix2 s a)) _ _ ?_))
        (congrArg₂ (· * ·) (eq_nat (fun k : Fin 256 => Y (ix3 b s k)) _ _ ?_) (eq_nat (fun a : Fin 8 => S (ix2 s a)) _ _ ?_)) <;> dsimp only <;> omega)
    | (refine congrArg₂ (· + ·) (congrArg₂ (· * ·) (eq_nat (fun k : Fin 256 => Y (ix3 b s k)) _ _ ?_) (eq_nat (fun a : Fin 8 => S (ix2 s a)) _ _ ?_))
        (congrArg₂ (· * ·) (eq_nat (fun k : Fin 256 => Y (ix3 b s k)) _ _ ?_) (eq_nat (fun a : Fin 8 => C (ix2 s a)) _ _ ?_)) <;> dsimp only <;> omega)
    | (refine eq_nat (fun k : Fin 256 => Y (ix3 b s k)) _ _ ?_ <;> dsimp only <;> omega)

theorem rope1_at (Y : FVec Ideal S4x8192x64 .f32) (b : Fin 4) (s : Fin 8192) (n : Fin 64) :
    (shapeCast S4x8192x64 (Ref3.rope1 (broadcastInDim S4x8192x1x64 ![0, 1, 3] bcast_S4x8192x64_S4x8192x1x64_0_1_3 Y) C S)
      shapeCasts_S4x8192x1x64_S4x8192x64) (ix3 b s n)
      = rot (nat fun k : Fin 64 => Y (ix3 b s k)) (nat fun a : Fin 8 => C (ix2 s a)) (nat fun a : Fin 8 => S (ix2 s a)) n := by
  pointwise [Ref3.rope1]
  rw [rot]
  (repeat' split) <;> first
    | omega
    | (refine congrArg₂ (· - ·) (congrArg₂ (· * ·) (eq_nat (fun k : Fin 64 => Y (ix3 b s k)) _ _ ?_) (eq_nat (fun a : Fin 8 => C (ix2 s a)) _ _ ?_))
        (congrArg₂ (· * ·) (eq_nat (fun k : Fin 64 => Y (ix3 b s k)) _ _ ?_) (eq_nat (fun a : Fin 8 => S (ix2 s a)) _ _ ?_)) <;> dsimp only <;> omega)
    | (refine congrArg₂ (· + ·) (congrArg₂ (· * ·) (eq_nat (fun k : Fin 64 => Y (ix3 b s k)) _ _ ?_) (eq_nat (fun a : Fin 8 => S (ix2 s a)) _ _ ?_))
        (congrArg₂ (· * ·) (eq_nat (fun k : Fin 64 => Y (ix3 b s k)) _ _ ?_) (eq_nat (fun a : Fin 8 => C (ix2 s a)) _ _ ?_)) <;> dsimp only <;> omega)
    | (refine eq_nat (fun k : Fin 64 => Y (ix3 b s k)) _ _ ?_ <;> dsimp only <;> omega)

theorem norm_at (Y : FVec Ideal S4x8192x64 .f32) (G B : FVec Ideal S64 .f32) (b : Fin 4) (s : Fin 8192) (n : Fin 64) :
    Ref3.norm Y G B (ix3 b s n) = nrm (fun k => Y (ix3 b s k)) (fun k => G (ix1 k)) (fun k => B (ix1 k)) n := by
  pointwise [Ref3.norm, Ref3.cen]
  simp [nrm, avg]

variable (X : FVec Ideal S4x8192x1024 .f32) (M : FVec Ideal S4x6x1024 .f32) (b : Fin 4) (s : Fin 8192)

/-- A modulated row. -/
def hrow (k : Fin 1024) : EReal := X (ix3 b s k) * (1 + M (ix3 b 1 k)) + M (ix3 b 0 k)

theorem prjR_at (R : FVec Ideal S1024x1792 .bf16) (n : Fin 1792) : Ref3.prjR X M R (ix3 b s n) = ∑ k, hrow X M b s k * R (ix2 k n) := by
  pointwise [Ref3.prjR, Ref3.hid]
  rfl
theorem prjQ_at (Q : FVec Ideal S1024x1536 .bf16) (n : Fin 1536) : Ref3.prjQ X M Q (ix3 b s n) = ∑ k, hrow X M b s k * Q (ix2 k n) := by
  pointwise [Ref3.prjQ, Ref3.hid]
  rfl
theorem prjI_at (I : FVec Ideal S1024x384 .bf16) (n : Fin 384) : Ref3.prjI X M I (ix3 b s n) = ∑ k, hrow X M b s k * I (ix2 k n) := by
  pointwise [Ref3.prjI, Ref3.hid]
  rfl

/-- The columns of a product row the rotations and the norm start from. -/
def qRow (Q : FVec Ideal S1024x1536 .bf16) : ℕ → EReal := nat fun k : Fin 512 =>
  extractStridedSlice S4x8192x512 ![0, 0, 0] (Ref3.prjQ X M Q) slices_S4x8192x1536_S4x8192x512_0_0_0 (ix3 b s k)
def kRow (Q : FVec Ideal S1024x1536 .bf16) : ℕ → EReal := nat fun k : Fin 512 =>
  extractStridedSlice S4x8192x512 ![0, 0, 512] (Ref3.prjQ X M Q) slices_S4x8192x1536_S4x8192x512_0_0_512 (ix3 b s k)
def iRow (I : FVec Ideal S1024x384 .bf16) : ℕ → EReal := nat fun k : Fin 256 =>
  extractStridedSlice S4x8192x256 ![0, 0, 0] (Ref3.prjI X M I) slices_S4x8192x384_S4x8192x256_0_0_0 (ix3 b s k)
def nRow (I : FVec Ideal S1024x384 .bf16) (k : Fin 64) : EReal :=
  extractStridedSlice S4x8192x64 ![0, 0, 256] (Ref3.prjI X M I) slices_S4x8192x384_S4x8192x64_0_0_256 (ix3 b s k)

theorem qRow_at (Q : FVec Ideal S1024x1536 .bf16) (k : Fin 1536) (n : ℕ) (h : k.val = n) (h' : n < 512) : Ref3.prjQ X M Q (ix3 b s k) = qRow X M b s Q n := by
  subst h
  refine Eq.trans ?_ (eq_nat _ ⟨k.val, h'⟩ k.val rfl)
  pointwise []
theorem kRow_at (Q : FVec Ideal S1024x1536 .bf16) (k : Fin 1536) (n : ℕ) (h : k.val = 512 + n) (h' : n < 512) : Ref3.prjQ X M Q (ix3 b s k) = kRow X M b s Q n := by
  refine Eq.trans ?_ (eq_nat _ ⟨n, h'⟩ n rfl)
  pointwise []
  exact congrArg (fun a => Ref3.prjQ X M Q (ix3 b s a)) (Fin.ext h)
theorem iRow_at (I : FVec Ideal S1024x384 .bf16) (k : Fin 384) (n : ℕ) (h : k.val = n) (h' : n < 256) : Ref3.prjI X M I (ix3 b s k) = iRow X M b s I n := by
  subst h
  refine Eq.trans ?_ (eq_nat _ ⟨k.val, h'⟩ k.val rfl)
  pointwise []
theorem nRow_at (I : FVec Ideal S1024x384 .bf16) (k : Fin 384) (n : Fin 64) (h : k.val = 256 + n) : Ref3.prjI X M I (ix3 b s k) = nRow X M b s I n := by
  pointwise [nRow]
  exact congrArg (fun a => Ref3.prjI X M I (ix3 b s a)) (Fin.ext h)

/-- The cosines and sines of a position, by number. -/
def cosN (s : Fin 8192) : ℕ → EReal := nat fun a : Fin 8 => Ref3.cosT (ix2 s a)
def sinN (s : Fin 8192) : ℕ → EReal := nat fun a : Fin 8 => Ref3.sinT (ix2 s a)

end Reference

theorem sel (p : Prop) [Decidable p] (a b : EReal) : Scalar.select (if p then 1#1 else 0#1) a b = if p then a else b := by
  split_ifs <;> rfl

theorem sum_lane (g : Fin 128 → EReal) (h : Fin 64 → EReal) (hl : ∀ (x : Fin 128) (y : Fin 64), x.val = y.val → g x = h y) :
    (∑ x : Fin 128, if x.val < 64 then g x else 0) = ∑ y, h y :=
  sum_half _ h (fun x y e => by rw [if_pos (by omega), hl x y e]) (fun x hx => if_neg (by omega))

section Kernel
open Cert.Kernel3Ideal Cert.Kernel3Ideal.Gen

theorem pay4_at (M : Vec Ideal S1x6x1024 .f32) (X : Vec Ideal S1x256x1024 .f32) (R : Vec Ideal S1024x1792 .bf16) (r : Fin 256) (n : Fin 1792) :
    k0_pay4 (F := Ideal) M X R (ix3 0 r n) = ∑ k : Fin 1024, (X (ix3 0 r k) * (1 + M (ix3 0 1 k)) + M (ix3 0 0 k)) * R (ix2 k n) := by
  pointwise [k0_pay4, k0_pay3]
theorem pay5_at (M : Vec Ideal S1x6x1024 .f32) (X : Vec Ideal S1x256x1024 .f32) (Q : Vec Ideal S1024x1536 .bf16) (r : Fin 256) (n : Fin 1536) :
    k0_pay5 (F := Ideal) M X Q (ix2 r n) = ∑ k : Fin 1024, (X (ix3 0 r k) * (1 + M (ix3 0 1 k)) + M (ix3 0 0 k)) * Q (ix2 k n) := by
  pointwise [k0_pay5, k0_pay3]
theorem pay14_at (M : Vec Ideal S1x6x1024 .f32) (X : Vec Ideal S1x256x1024 .f32) (I : Vec Ideal S1024x384 .bf16) (r : Fin 256) (n : Fin 384) :
    k0_pay14 (F := Ideal) (k0_pay3 M X) I (ix2 r n) = ∑ k : Fin 1024, (X (ix3 0 r k) * (1 + M (ix3 0 1 k)) + M (ix3 0 0 k)) * I (ix2 k n) := by
  pointwise [k0_pay14, k0_pay3]

/-- The block of values, and of the head weights. -/
theorem values_at (v : FVec Ideal S256x1536 .f32) (r : Fin 256) (n : Fin 512) (k : Fin 1536) (h : k.val = 1024 + n) :
    k0_pay13 (F := Ideal) v (ix3 0 n r) = v (ix2 r k) := by
  pointwise [k0_pay13]
  exact congrArg (fun a => v (ix2 r a)) (Fin.ext h.symm)
theorem weights_at (U : FVec Ideal S256x384 .f32) (r : Fin 256) (n : Fin 8) (k : Fin 384) (h : k.val = 320 + n) :
    k0_pay2 (F := Ideal) (k0_pay18 U) (ix3 0 n r) = U (ix2 r k) * Ideal.ofBits .f32 0x3D800000#32 := by
  pointwise [k0_pay2, k0_pay18]
  exact congrArg (fun a => U (ix2 r a) * Ideal.ofBits .f32 0x3D800000#32) (Fin.ext (by dsimp only; omega))

variable (T A B : Vec Ideal S256x128 .f32) (c s : ℕ → EReal) (r : Fin 256)
  (hT : ∀ (l : Fin 128) (n : ℕ), l.val % 64 = n % 64 → T (ix2 r l) = ct c n)
  (hA : ∀ (l : Fin 128) (n : ℕ), l.val % 64 = n % 64 → A (ix2 r l) = sa s n)
  (hB : ∀ (l : Fin 128) (n : ℕ), l.val % 64 = n % 64 → B (ix2 r l) = sb s n)
include hT hA hB

/-- The block of keys. -/
theorem keys_at (v : FVec Ideal S256x1536 .f32) (f : ℕ → EReal) (hf : ∀ (k : Fin 1536) (n : ℕ), k.val = 512 + n → n < 512 → v (ix2 r k) = f n) (n : Fin 512) :
    k0_pay12 (F := Ideal) v (k0_pay6 T) (k0_pay7 A) (k0_pay8 B) (ix3 0 r n) = rot f c s n := by
  pointwise [k0_pay12, k0_pay6, k0_pay7, k0_pay8]
  split_ifs <;>
    (refine rot_eq f c s n (hf _ _ ?_ ?_) (hT _ _ ?_) (fun _ => hf _ _ ?_ ?_) (hA _ _ ?_) (fun _ _ => hf _ _ ?_ ?_) (hB _ _ ?_) <;> (try dsimp only) <;> omega)

/-- The block of queries, turned and scaled. -/
theorem queries_at (M : Vec Ideal S1x6x1024 .f32) (X : Vec Ideal S1x256x1024 .f32) (W : Vec Ideal S1024x1536 .bf16) (f : ℕ → EReal)
    (hf : ∀ (k : Fin 1536) (n : ℕ), k.val = n → n < 512 → k0_pay5 (F := Ideal) M X W (ix2 r k) = f n) (n : Fin 512) :
    k0_pay11 (F := Ideal) (k0_pay8 B) (k0_pay9 M X W) (k0_pay10 M X W T A) 8#32 (ix3 0 n r) = rot f c s n * Ideal.ofBits .f32 0x3E38AA3B#32 := by
  pointwise [k0_pay11, k0_pay10, k0_pay9, k0_pay6, k0_pay7, k0_pay8]
  refine congrArg (· * Ideal.ofBits .f32 0x3E38AA3B#32) ?_
  split_ifs <;>
    (refine rot_eq f c s n (hf _ _ ?_ ?_) (hT _ _ ?_) (fun _ => hf _ _ ?_ ?_) (hA _ _ ?_) (fun _ _ => hf _ _ ?_ ?_) (hB _ _ ?_) <;> (try dsimp only) <;> omega)

/-- The block of the indexer's queries, turned. -/
theorem iqueries_at (H : FVec Ideal S256x1024 .bf16) (W : Vec Ideal S1024x384 .bf16) (f : ℕ → EReal)
    (hf : ∀ (k : Fin 384) (n : ℕ), k.val = n → n < 256 → k0_pay14 (F := Ideal) H W (ix2 r k) = f n) (n : Fin 256) :
    k0_pay17 (F := Ideal) (k0_pay8 B) (k0_pay15 H W) (k0_pay16 H (k0_pay6 T) (k0_pay7 A) W) (ix3 0 n r) = rot f c s n := by
  pointwise [k0_pay17, k0_pay15, k0_pay16, k0_pay6, k0_pay7, k0_pay8]
  split_ifs <;>
    (refine rot_eq f c s n (hf _ _ ?_ ?_) (hT _ _ ?_) (fun _ => hf _ _ ?_ ?_) (hA _ _ ?_) (fun _ _ => hf _ _ ?_ ?_) (hB _ _ ?_) <;> (try dsimp only) <;> omega)

/-- The block of the indexer's keys. -/
theorem ikeys_at (U : FVec Ideal S256x384 .f32) (G G' : Vec Ideal S1x128 .f32) (f : ℕ → EReal)
    (hf : ∀ (k : Fin 128) (n : ℕ), k.val = n → n < 64 → k0_pay19 (F := Ideal) U G G' (ix2 r k) = f n) (n : Fin 64) :
    k0_pay1 (F := Ideal) (k0_pay7 A) (k0_pay8 B) (k0_pay19 U G G') (k0_pay20 (k0_pay6 T) U G G') 120#32 (ix3 0 r n) = rot f c s n := by
  pointwise [k0_pay1, k0_pay20, k0_pay6, k0_pay7, k0_pay8]
  refine rot_eq f c s n (hf _ _ ?_ ?_) (hT _ _ ?_) (fun _ => hf _ _ ?_ ?_) (hA _ _ ?_) (fun _ _ => hf _ _ ?_ ?_) (hB _ _ ?_) <;> (try dsimp only) <;> omega

omit hT hA hB in
/-- A lane of the normed key, from the 64 lanes the norm keeps. -/
theorem knorm_at (U : FVec Ideal S256x384 .f32) (G G' : Vec Ideal S1x128 .f32) (y g b : Fin 64 → EReal)
    (hy : ∀ (k : Fin 384) (n : Fin 64), k.val = 256 + n → U (ix2 r k) = y n)
    (hg : ∀ (k : Fin 128) (n : Fin 64), k.val = n → G (ix2 0 k) = g n)
    (hb : ∀ (k : Fin 128) (n : Fin 64), k.val = n → G' (ix2 0 k) = b n) (k : Fin 128) (n : Fin 64) (hn : k.val = n) :
    k0_pay19 (F := Ideal) U G G' (ix2 r k) = nrm y g b n := by
  pointwise [k0_pay19, k0_pay18]
  simp only [lane, sel]
  rw [if_pos (by omega), hy _ n (by dsimp only; omega), hg k n hn, hb k n hn,
    sum_lane (fun x => U (ix2 r ⟨256 + x.val, by omega⟩)) y (fun x k e => hy _ k (by dsimp only; omega))]
  simp only [ite_self, ← ite_and, and_self]
  rw [sum_lane (fun x => (U (ix2 r ⟨256 + x.val, by omega⟩) - (∑ y_1, y y_1) * Ideal.ofBits .f32 0x3C800000#32)
      * (U (ix2 r ⟨256 + x.val, by omega⟩) - (∑ y_1, y y_1) * Ideal.ofBits .f32 0x3C800000#32))
    (fun k => (y k - avg y) * (y k - avg y)) (fun x k e => by
      rw [hy _ k (by dsimp only; omega), avg, div_64])]
  simp only [nrm, avg, div_64]

end Kernel

end Cert.Proof.In

end
-- ==== Proof.InTab.lean ====
module

public import proofs.«01_k».proof.Proof.In
public import Idealize.ShloMosaic.Lib.StableHlo.RunRead
public import Idealize.ShloMosaic.Lib.Pipeline.ValueKit
public import Idealize.ShloMosaic.Lib.Claim

/-! The arrays @main makes for the kernel: the three rotary tables over 128 lanes, and the norm's scale and shift padded to
128 lanes. -/

@[expose] public section

set_option maxRecDepth 16384

noncomputable section

namespace Cert.Proof.In

open Cert.Kernel3Ideal Cert.Kernel3Ideal.Gen Idealize.ShloMosaic Idealize.SL.Sem Idealize.ShloMosaic.TcCoe

variable (m : (ℓ : Loc nD τ sig) → Buf (Elt Ideal) ℓ)

/-- Two heads of lanes, each of two eights and the 48 lanes after. -/
def tab (C D : FVec Ideal S8192x8 .f32) (E : FVec Ideal S8192x48 .f32) : FVec Ideal S8192x128 .f32 :=
  concatenate S8192x128 1 [⟨S8192x8, C⟩, ⟨S8192x8, D⟩, ⟨S8192x48, E⟩, ⟨S8192x8, C⟩, ⟨S8192x8, D⟩, ⟨S8192x48, E⟩] concatenates_S8192x8_S8192x8_S8192x48_S8192x8_S8192x8_S8192x48_S8192x128_d1
def zer : FVec Ideal S8192x48 .f32 := broadcastInDim S8192x48 ![] bcast_S_S8192x48 (constant S_ .f32 0x00000000#32)
def one : FVec Ideal S8192x48 .f32 := broadcastInDim S8192x48 ![] bcast_S_S8192x48 (constant S_ .f32 0x3F800000#32)
def zer8 : FVec Ideal S8192x8 .f32 := broadcastInDim S8192x8 ![] bcast_S_S8192x8 (constant S_ .f32 0x00000000#32)

theorem tabC (c : Dev nD) : (show FVec Ideal S8192x128 .f32 from V m c main_v21) = tab Ref3.cosT Ref3.cosT one := by
  show StableHlo.after _ _ _ = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl
theorem tabA (c : Dev nD) : (show FVec Ideal S8192x128 .f32 from V m c main_v23) = tab (Host.negf Ref3.sinT) zer8 zer := by
  show StableHlo.after _ _ _ = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl
theorem tabB (c : Dev nD) : (show FVec Ideal S8192x128 .f32 from V m c main_v24) = tab zer8 Ref3.sinT zer := by
  show StableHlo.after _ _ _ = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

/-- A scale or shift of 64, and 64 lanes of padding after it. -/
def padded (g : FVec Ideal S64 .f32) : FVec Ideal S1x128 .f32 :=
  shapeCast S1x128 (pad S128 ![0] ![64] ![0] g (sitofp .f32 (constantI S_ 32 0#32)) pads_S64_S128_0640 h_S_) shapeCasts_S128_S1x128
theorem padG (c : Dev nD) : (show FVec Ideal S1x128 .f32 from V m c main_v26) = padded (m ((c : Thread nD τ).loc main_arg5)) := by
  show StableHlo.after _ _ _ = _
  simp only [hostOps0, hostOps0_1, hostOps0_2, hostOps0_3, hostOps0_4, List.flatten_cons, List.flatten_nil, List.append_nil, List.cons_append, List.nil_append]
  after_results_simp <;> rfl
theorem padB (c : Dev nD) : (show FVec Ideal S1x128 .f32 from V m c main_v28) = padded (m ((c : Thread nD τ).loc main_arg6)) := by
  show StableHlo.after _ _ _ = _
  simp only [hostOps0, hostOps0_1, hostOps0_2, hostOps0_3, hostOps0_4, List.flatten_cons, List.flatten_nil, List.append_nil, List.cons_append, List.nil_append]
  after_results_simp <;> rfl
theorem padded_at (g : FVec Ideal S64 .f32) (k : Fin 128) (n : Fin 64) (h : k.val = n) : padded g (ix2 0 k) = g (ix1 n) := by
  pointwise [padded]
  rw [dif_pos (by omega)]
  exact congrArg (fun a => g (ix1 a)) (Fin.ext h)

theorem tab_at (C D : FVec Ideal S8192x8 .f32) (E : FVec Ideal S8192x48 .f32) (s : Fin 8192) (l : Fin 128) (f : ℕ → EReal) (n : ℕ) (h : l.val % 64 = n % 64)
    (hC : ∀ a : Fin 8, n % 64 = a → C (ix2 s a) = f n) (hD : ∀ a : Fin 8, n % 64 = 8 + a → D (ix2 s a) = f n) (hE : ∀ a : Fin 48, n % 64 = 16 + a → E (ix2 s a) = f n) :
    tab C D E (ix2 s l) = f n := by
  pointwise [tab]
  (repeat' split) <;> first | (refine hC _ ?_ <;> dsimp only <;> omega) | (refine hD _ ?_ <;> dsimp only <;> omega) | (refine hE _ ?_ <;> dsimp only <;> omega)

theorem cos_at (s : Fin 8192) (l : Fin 128) (n : ℕ) (h : l.val % 64 = n % 64) : tab Ref3.cosT Ref3.cosT one (ix2 s l) = ct (cosN s) n := by
  refine tab_at _ _ _ s l _ n h (fun a e => ?_) (fun a e => ?_) (fun a e => ?_)
  · rw [ct, if_pos (by omega)]
    exact eq_nat (fun a : Fin 8 => Ref3.cosT (ix2 s a)) a _ (by omega)
  · rw [ct, if_neg (by omega), if_pos (by omega)]
    exact eq_nat (fun a : Fin 8 => Ref3.cosT (ix2 s a)) a _ (by omega)
  · rw [ct, if_neg (by omega), if_neg (by omega)]
    pointwise [one]

theorem sa_at (s : Fin 8192) (l : Fin 128) (n : ℕ) (h : l.val % 64 = n % 64) : tab (Host.negf Ref3.sinT) zer8 zer (ix2 s l) = sa (sinN s) n := by
  refine tab_at _ _ _ s l _ n h (fun a e => ?_) (fun a e => ?_) (fun a e => ?_)
  · rw [sa, if_pos (by omega)]
    pointwise []
    exact congrArg (fun x => -x) (eq_nat (fun a : Fin 8 => Ref3.sinT (ix2 s a)) a _ (by omega))
  · rw [sa, if_neg (by omega)]
    pointwise [zer8]
  · rw [sa, if_neg (by omega)]
    pointwise [zer]

theorem sb_at (s : Fin 8192) (l : Fin 128) (n : ℕ) (h : l.val % 64 = n % 64) : tab zer8 Ref3.sinT zer (ix2 s l) = sb (sinN s) n := by
  refine tab_at _ _ _ s l _ n h (fun a e => ?_) (fun a e => ?_) (fun a e => ?_)
  · rw [sb, if_pos (by omega)]
    pointwise [zer8]
  · rw [sb, if_neg (by omega), if_pos (by omega)]
    exact eq_nat (fun a : Fin 8 => Ref3.sinT (ix2 s a)) a _ (by omega)
  · rw [sb, if_neg (by omega), if_neg (by omega)]
    pointwise [zer]

end Cert.Proof.In

end
-- ==== Proof.InRef.lean ====
module

public import proofs.«01_k».proof.Proof.In

/-! The reference's seven results element by element, in the terms the kernel's blocks are read in. -/

@[expose] public section

set_option maxRecDepth 16384

noncomputable section

namespace Cert.Proof.In

open Idealize.ShloMosaic Idealize.SL.Sem
open Cert.Reference3Ideal Cert.Reference3Ideal.Gen

variable (X : FVec Ideal S4x8192x1024 .f32) (M : FVec Ideal S4x6x1024 .f32) (b : Fin 4) (s : Fin 8192)

theorem castQ (Z : FVec Ideal S4x8192x512 .f32) (n : Fin 512) : (truncf (F := Ideal) .bf16 (transpose S4x512x8192 [0, 2, 1]
    (mulf Z (broadcastInDim S4x8192x512 ![] bcast_S_S4x8192x512 (constant S_ .f32 0x3E38AA3B#32))) transposes_S4x8192x512_S4x512x8192_0_2_1) bitsLt_bf16_f32) (ix3 b n s)
      = Z (ix3 b s n) * Ideal.ofBits .f32 0x3E38AA3B#32 := by
  pointwise []

theorem outQ_at (Q : FVec Ideal S1024x1536 .bf16) (n : Fin 512) :
    Ref3.outQ X M Q (ix3 b n s) = rot (qRow X M b s Q) (cosN s) (sinN s) n * Ideal.ofBits .f32 0x3E38AA3B#32 := by
  unfold qRow cosN sinN
  rw [← rope8_at Ref3.cosT Ref3.sinT (extractStridedSlice S4x8192x512 ![0, 0, 0] (Ref3.prjQ X M Q) slices_S4x8192x1536_S4x8192x512_0_0_0) b s n, Ref3.outQ]
  exact castQ b s _ n

theorem castK (Z : FVec Ideal S4x8192x512 .f32) (n : Fin 512) : truncf (F := Ideal) .bf16 Z bitsLt_bf16_f32 (ix3 b s n) = Z (ix3 b s n) := rfl

theorem outK_at (Q : FVec Ideal S1024x1536 .bf16) (n : Fin 512) :
    Ref3.outK X M Q (ix3 b s n) = rot (kRow X M b s Q) (cosN s) (sinN s) n := by
  unfold kRow cosN sinN
  rw [← rope8_at Ref3.cosT Ref3.sinT (extractStridedSlice S4x8192x512 ![0, 0, 512] (Ref3.prjQ X M Q) slices_S4x8192x1536_S4x8192x512_0_0_512) b s n, Ref3.outK]
  exact castK b s _ n

theorem outV_at (Q : FVec Ideal S1024x1536 .bf16) (n : Fin 512) (k : Fin 1536) (h : k.val = 1024 + n) :
    Ref3.outV X M Q (ix3 b n s) = Ref3.prjQ X M Q (ix3 b s k) := by
  pointwise [Ref3.outV]
  exact congrArg (fun a => Ref3.prjQ X M Q (ix3 b s a)) (Fin.ext h.symm)

theorem castI (Z : FVec Ideal S4x8192x256 .f32) (n : Fin 256) : (truncf (F := Ideal) .bf16 (transpose S4x256x8192 [0, 2, 1]
    Z transposes_S4x8192x256_S4x256x8192_0_2_1) bitsLt_bf16_f32) (ix3 b n s) = Z (ix3 b s n) := by
  pointwise []

theorem outI_at (I : FVec Ideal S1024x384 .bf16) (n : Fin 256) :
    Ref3.outI X M I (ix3 b n s) = rot (iRow X M b s I) (cosN s) (sinN s) n := by
  unfold iRow cosN sinN
  rw [← rope4_at Ref3.cosT Ref3.sinT (extractStridedSlice S4x8192x256 ![0, 0, 0] (Ref3.prjI X M I) slices_S4x8192x384_S4x8192x256_0_0_0) b s n, Ref3.outI]
  exact castI b s _ n

theorem castN (Z : FVec Ideal S4x8192x64 .f32) (n : Fin 64) : truncf (F := Ideal) .bf16 Z bitsLt_bf16_f32 (ix3 b s n) = Z (ix3 b s n) := rfl

theorem outN_at (I : FVec Ideal S1024x384 .bf16) (G B : FVec Ideal S64 .f32) (n : Fin 64) :
    Ref3.outN X M I G B (ix3 b s n)
      = rot (nat (nrm (nRow X M b s I) (fun k => G (ix1 k)) (fun k => B (ix1 k)))) (cosN s) (sinN s) n := by
  have e : nrm (nRow X M b s I) (fun k => G (ix1 k)) (fun k => B (ix1 k)) = fun k : Fin 64 => Ref3.norm (extractStridedSlice S4x8192x64 ![0, 0, 256] (Ref3.prjI X M I) slices_S4x8192x384_S4x8192x64_0_0_256) G B (ix3 b s k) := by
    funext k
    rw [norm_at]
    rfl
  rw [e]
  unfold cosN sinN
  rw [← rope1_at Ref3.cosT Ref3.sinT (Ref3.norm (extractStridedSlice S4x8192x64 ![0, 0, 256] (Ref3.prjI X M I) slices_S4x8192x384_S4x8192x64_0_0_256) G B) b s n, Ref3.outN]
  exact castN b s _ n

theorem outW_at (I : FVec Ideal S1024x384 .bf16) (n : Fin 8) (k : Fin 384) (h : k.val = 320 + n) :
    Ref3.outW X M I (ix3 b n s) = Ref3.prjI X M I (ix3 b s k) * Ideal.ofBits .f32 0x3D800000#32 := by
  pointwise [Ref3.outW]
  exact congrArg (fun a => Ref3.prjI X M I (ix3 b s a) * Ideal.ofBits .f32 0x3D800000#32) (Fin.ext h.symm)

end Cert.Proof.In

end
-- ==== Proof.InRun.lean ====
module

public import proofs.«01_k».proof.Proof.InTab
public import proofs.«01_k».proof.Proof.InRef

/-! The input projection's seven result arrays at the ideal instance: the blocks cover each, and each block is the
reference's. -/

@[expose] public section

set_option maxRecDepth 16384

noncomputable section

namespace Cert.Proof.In

open Cert.Kernel3Ideal Cert.Kernel3Ideal.Gen Idealize.ShloMosaic Idealize.SL.Sem Idealize.ShloMosaic.TcCoe
open Idealize.ShloMosaic.Pipeline (Dat)

variable (m : (ℓ : Loc nD τ sig) → Buf (Elt Ideal) ℓ)

/-- The windows' block indices at every point. -/
theorem idx : ∀ t : Fin cfg0.N, win0_0.index t = ![t.val / 32, t.val % 32, 0] ∧ win0_1.index t = ![t.val / 32, 0, 0]
    ∧ win0_2.index t = ![0, 0] ∧ win0_3.index t = ![0, 0] ∧ win0_4.index t = ![0, 0] ∧ win0_5.index t = ![t.val % 32, 0] ∧ win0_6.index t = ![t.val % 32, 0]
    ∧ win0_7.index t = ![t.val % 32, 0] ∧ win0_8.index t = ![0, 0] ∧ win0_9.index t = ![0, 0]
    ∧ win0_10.index t = ![t.val / 32, t.val % 32, 0] ∧ win0_11.index t = ![t.val / 32, 0, t.val % 32] ∧ win0_12.index t = ![t.val / 32, t.val % 32, 0]
    ∧ win0_13.index t = ![t.val / 32, 0, t.val % 32] ∧ win0_14.index t = ![t.val / 32, 0, t.val % 32] ∧ win0_15.index t = ![t.val / 32, t.val % 32, 0]
    ∧ win0_16.index t = ![t.val / 32, 0, t.val % 32] ∧ t.val / 32 < 4 :=
  (by decide +kernel : ∀ t : Fin grid0.N, _)

/-- The batch of a point, and the position of a row of its block. -/
def bat (t : Fin cfg0.N) : Fin 4 := ⟨t.val / 32, (idx t).2.2.2.2.2.2.2.2.2.2.2.2.2.2.2.2.2⟩
def pos (t : Fin cfg0.N) (r : Fin 256) : Fin 8192 := ⟨256 * (t.val % 32) + r, by omega⟩

/-- The kernel's argument arrays. -/
abbrev aX (c : Dev nD) : FVec Ideal S4x8192x1024 .f32 := m ((c : Thread nD τ).loc main_arg0)
abbrev aM (c : Dev nD) : FVec Ideal S4x6x1024 .f32 := m ((c : Thread nD τ).loc main_arg1)
abbrev aR (c : Dev nD) : FVec Ideal S1024x1792 .bf16 := m ((c : Thread nD τ).loc main_arg2)
abbrev aQ (c : Dev nD) : FVec Ideal S1024x1536 .bf16 := m ((c : Thread nD τ).loc main_arg3)
abbrev aI (c : Dev nD) : FVec Ideal S1024x384 .bf16 := m ((c : Thread nD τ).loc main_arg4)
abbrev aG (c : Dev nD) : FVec Ideal S64 .f32 := m ((c : Thread nD τ).loc main_arg5)
abbrev aB (c : Dev nD) : FVec Ideal S64 .f32 := m ((c : Thread nD τ).loc main_arg6)

section
variable (c : Dev nD) (t : Fin cfg0.N)

theorem rd0 (r : Fin 256) (k : Fin 1024) : (show FVec Ideal S1x256x1024 .f32 from iblk m c 0 t) (ix3 0 r k) = aX m c (ix3 (bat t) (pos t r) k) := by
  blk_ext [iblk, V, idx t, bat, pos]
theorem rd1 (a : Fin 6) (k : Fin 1024) : (show FVec Ideal S1x6x1024 .f32 from iblk m c 1 t) (ix3 0 a k) = aM m c (ix3 (bat t) a k) := by
  blk_ext [iblk, V, idx t, bat]
theorem rd2 (k : Fin 1024) (n : Fin 1792) : (show FVec Ideal S1024x1792 .bf16 from iblk m c 2 t) (ix2 k n) = aR m c (ix2 k n) := by
  blk_point [iblk, V, idx t]
theorem rd3 (k : Fin 1024) (n : Fin 1536) : (show FVec Ideal S1024x1536 .bf16 from iblk m c 3 t) (ix2 k n) = aQ m c (ix2 k n) := by
  blk_point [iblk, V, idx t]
theorem rd4 (k : Fin 1024) (n : Fin 384) : (show FVec Ideal S1024x384 .bf16 from iblk m c 4 t) (ix2 k n) = aI m c (ix2 k n) := by
  blk_point [iblk, V, idx t]
theorem rd5 (r : Fin 256) (l : Fin 128) : (show FVec Ideal S256x128 .f32 from iblk m c 5 t) (ix2 r l) = (show FVec Ideal S8192x128 .f32 from V m c main_v21) (ix2 (pos t r) l) := by
  blk_ext [iblk, idx t, pos]
theorem rd6 (r : Fin 256) (l : Fin 128) : (show FVec Ideal S256x128 .f32 from iblk m c 6 t) (ix2 r l) = (show FVec Ideal S8192x128 .f32 from V m c main_v23) (ix2 (pos t r) l) := by
  blk_ext [iblk, idx t, pos]
theorem rd7 (r : Fin 256) (l : Fin 128) : (show FVec Ideal S256x128 .f32 from iblk m c 7 t) (ix2 r l) = (show FVec Ideal S8192x128 .f32 from V m c main_v24) (ix2 (pos t r) l) := by
  blk_ext [iblk, idx t, pos]
theorem rd8 (l : Fin 128) : (show FVec Ideal S1x128 .f32 from iblk m c 8 t) (ix2 0 l) = (show FVec Ideal S1x128 .f32 from V m c main_v26) (ix2 0 l) := by
  blk_ext [iblk, idx t]
theorem rd9 (l : Fin 128) : (show FVec Ideal S1x128 .f32 from iblk m c 9 t) (ix2 0 l) = (show FVec Ideal S1x128 .f32 from V m c main_v28) (ix2 0 l) := by
  blk_ext [iblk, idx t]

theorem tC (r : Fin 256) (l : Fin 128) (n : ℕ) (h : l.val % 64 = n % 64) : (show Vec Ideal S256x128 .f32 from iblk m c 5 t) (ix2 r l) = ct (cosN (pos t r)) n :=
  (rd5 m c t r l).trans ((congrFun (tabC m c) _).trans (cos_at (pos t r) l n h))
theorem tA (r : Fin 256) (l : Fin 128) (n : ℕ) (h : l.val % 64 = n % 64) : (show Vec Ideal S256x128 .f32 from iblk m c 6 t) (ix2 r l) = sa (sinN (pos t r)) n :=
  (rd6 m c t r l).trans ((congrFun (tabA m c) _).trans (sa_at (pos t r) l n h))
theorem tB (r : Fin 256) (l : Fin 128) (n : ℕ) (h : l.val % 64 = n % 64) : (show Vec Ideal S256x128 .f32 from iblk m c 7 t) (ix2 r l) = sb (sinN (pos t r)) n :=
  (rd7 m c t r l).trans ((congrFun (tabB m c) _).trans (sb_at (pos t r) l n h))
theorem tG (k : Fin 128) (n : Fin 64) (h : k.val = n) : (show Vec Ideal S1x128 .f32 from iblk m c 8 t) (ix2 0 k) = aG m c (ix1 n) :=
  (rd8 m c t k).trans ((congrFun (padG m c) _).trans (padded_at _ k n h))
theorem tS (k : Fin 128) (n : Fin 64) (h : k.val = n) : (show Vec Ideal S1x128 .f32 from iblk m c 9 t) (ix2 0 k) = aB m c (ix1 n) :=
  (rd9 m c t k).trans ((congrFun (padB m c) _).trans (padded_at _ k n h))

/-- A row of a block of modulated rows is the reference's. -/
theorem hrow_at (r : Fin 256) (k : Fin 1024) : (show Vec Ideal S1x256x1024 .f32 from iblk m c 0 t) (ix3 0 r k) * (1 + (show Vec Ideal S1x6x1024 .f32 from iblk m c 1 t) (ix3 0 1 k))
    + (show Vec Ideal S1x6x1024 .f32 from iblk m c 1 t) (ix3 0 0 k) = hrow (aX m c) (aM m c) (bat t) (pos t r) k :=
  congrArg₂ (· + ·) (congrArg₂ (· * ·) (rd0 m c t r k) (congrArg (1 + ·) (rd1 m c t 1 k))) (rd1 m c t 0 k)

theorem row4 (r : Fin 256) (n : Fin 1792) : k0_pay4 (F := Ideal) (iblk m c 1 t) (iblk m c 0 t) (iblk m c 2 t) (ix3 0 r n)
    = Ref3.prjR (aX m c) (aM m c) (aR m c) (ix3 (bat t) (pos t r) n) :=
  (pay4_at _ _ _ r n).trans ((Finset.sum_congr rfl fun k _ => congrArg₂ (· * ·) (hrow_at m c t r k) (rd2 m c t k n)).trans (prjR_at _ _ _ _ _ n).symm)
theorem row5 (r : Fin 256) (n : Fin 1536) : k0_pay5 (F := Ideal) (iblk m c 1 t) (iblk m c 0 t) (iblk m c 3 t) (ix2 r n)
    = Ref3.prjQ (aX m c) (aM m c) (aQ m c) (ix3 (bat t) (pos t r) n) :=
  (pay5_at _ _ _ r n).trans ((Finset.sum_congr rfl fun k _ => congrArg₂ (· * ·) (hrow_at m c t r k) (rd3 m c t k n)).trans (prjQ_at _ _ _ _ _ n).symm)
theorem row14 (r : Fin 256) (n : Fin 384) : k0_pay14 (F := Ideal) (k0_pay3 (iblk m c 1 t) (iblk m c 0 t)) (iblk m c 4 t) (ix2 r n)
    = Ref3.prjI (aX m c) (aM m c) (aI m c) (ix3 (bat t) (pos t r) n) :=
  (pay14_at _ _ _ r n).trans ((Finset.sum_congr rfl fun k _ => congrArg₂ (· * ·) (hrow_at m c t r k) (rd4 m c t k n)).trans (prjI_at _ _ _ _ _ n).symm)

/-- The blocks of the seven results. -/
theorem blk10 (r : Fin 256) (n : Fin 1792) : k0_pay4 (F := Ideal) (iblk m c 1 t) (iblk m c 0 t) (iblk m c 2 t) (ix3 0 r n)
    = Ref3.prjR (aX m c) (aM m c) (aR m c) (ix3 (bat t) (pos t r) n) := row4 m c t r n
theorem blk11 (r : Fin 256) (n : Fin 512) : k0_pay11 (F := Ideal) (k0_pay8 (iblk m c 7 t)) (k0_pay9 (iblk m c 1 t) (iblk m c 0 t) (iblk m c 3 t))
      (k0_pay10 (iblk m c 1 t) (iblk m c 0 t) (iblk m c 3 t) (iblk m c 5 t) (iblk m c 6 t)) 8#32 (ix3 0 n r)
    = Ref3.outQ (aX m c) (aM m c) (aQ m c) (ix3 (bat t) n (pos t r)) :=
  (queries_at _ _ _ _ _ r (tC m c t r) (tA m c t r) (tB m c t r) _ _ _ _
    (fun k n h h' => (row5 m c t r k).trans (qRow_at _ _ _ _ _ k n h h')) n).trans (outQ_at _ _ _ _ _ n).symm
theorem blk12 (r : Fin 256) (n : Fin 512) : k0_pay12 (F := Ideal) (k0_pay5 (iblk m c 1 t) (iblk m c 0 t) (iblk m c 3 t)) (k0_pay6 (iblk m c 5 t))
      (k0_pay7 (iblk m c 6 t)) (k0_pay8 (iblk m c 7 t)) (ix3 0 r n)
    = Ref3.outK (aX m c) (aM m c) (aQ m c) (ix3 (bat t) (pos t r) n) :=
  (keys_at _ _ _ _ _ r (tC m c t r) (tA m c t r) (tB m c t r) _ _
    (fun k n h h' => (row5 m c t r k).trans (kRow_at _ _ _ _ _ k n h h')) n).trans (outK_at _ _ _ _ _ n).symm
theorem blk13 (r : Fin 256) (n : Fin 512) : k0_pay13 (F := Ideal) (k0_pay5 (iblk m c 1 t) (iblk m c 0 t) (iblk m c 3 t)) (ix3 0 n r)
    = Ref3.outV (aX m c) (aM m c) (aQ m c) (ix3 (bat t) n (pos t r)) :=
  (values_at _ r n ⟨1024 + n, by omega⟩ rfl).trans ((row5 m c t r _).trans (outV_at _ _ _ _ _ n _ rfl).symm)
theorem blk14 (r : Fin 256) (n : Fin 256) : k0_pay17 (F := Ideal) (k0_pay8 (iblk m c 7 t)) (k0_pay15 (k0_pay3 (iblk m c 1 t) (iblk m c 0 t)) (iblk m c 4 t))
      (k0_pay16 (k0_pay3 (iblk m c 1 t) (iblk m c 0 t)) (k0_pay6 (iblk m c 5 t)) (k0_pay7 (iblk m c 6 t)) (iblk m c 4 t)) (ix3 0 n r)
    = Ref3.outI (aX m c) (aM m c) (aI m c) (ix3 (bat t) n (pos t r)) :=
  (iqueries_at _ _ _ _ _ r (tC m c t r) (tA m c t r) (tB m c t r) _ _ _
    (fun k n h h' => (row14 m c t r k).trans (iRow_at _ _ _ _ _ k n h h')) n).trans (outI_at _ _ _ _ _ n).symm
theorem blk15 (r : Fin 256) (n : Fin 64) : k0_pay1 (F := Ideal) (k0_pay7 (iblk m c 6 t)) (k0_pay8 (iblk m c 7 t))
      (k0_pay19 (k0_pay14 (k0_pay3 (iblk m c 1 t) (iblk m c 0 t)) (iblk m c 4 t)) (iblk m c 8 t) (iblk m c 9 t))
      (k0_pay20 (k0_pay6 (iblk m c 5 t)) (k0_pay14 (k0_pay3 (iblk m c 1 t) (iblk m c 0 t)) (iblk m c 4 t)) (iblk m c 8 t) (iblk m c 9 t)) 120#32 (ix3 0 r n)
    = Ref3.outN (aX m c) (aM m c) (aI m c) (aG m c) (aB m c) (ix3 (bat t) (pos t r) n) :=
  (ikeys_at _ _ _ _ _ r (tC m c t r) (tA m c t r) (tB m c t r) _ _ _ _
    (fun k n h h' => (knorm_at r _ _ _ _ _ _ (fun k n h => (row14 m c t r k).trans (nRow_at _ _ _ _ _ k n h)) (tG m c t) (tS m c t) k ⟨n, h'⟩ h).trans
      (eq_nat _ ⟨n, h'⟩ n rfl)) n).trans (outN_at _ _ _ _ _ _ _ n).symm
theorem blk16 (r : Fin 256) (n : Fin 8) : k0_pay2 (F := Ideal) (k0_pay18 (k0_pay14 (k0_pay3 (iblk m c 1 t) (iblk m c 0 t)) (iblk m c 4 t))) (ix3 0 n r)
    = Ref3.outW (aX m c) (aM m c) (aI m c) (ix3 (bat t) n (pos t r)) :=
  (weights_at _ r n ⟨320 + n, by omega⟩ rfl).trans ((congrArg (· * Ideal.ofBits .f32 0x3D800000#32) (row14 m c t r _)).trans (outW_at _ _ _ _ _ n _ rfl).symm)

end

end Cert.Proof.In

end
-- ==== Proof.InFinal.lean ====
module

public import proofs.«01_k».proof.Proof.InRun

/-! The input projection's seven result arrays at the ideal instance: the blocks cover each. -/

@[expose] public section

set_option maxRecDepth 16384

noncomputable section

namespace Cert.Proof.In

open Cert.Kernel3Ideal Cert.Kernel3Ideal.Gen Idealize.ShloMosaic Idealize.SL.Sem Idealize.ShloMosaic.TcCoe
open Idealize.ShloMosaic.Pipeline (Dat)

variable (m : (ℓ : Loc nD τ sig) → Buf (Elt Ideal) ℓ)

theorem final10 (c : Dev nD) : (dats m 0 c).arrAt 10 (cfgs 0).N = Ref3.prjR (aX m c) (aM m c) (aR m c) := by
  refine (dats m 0 c).arrAt_eq_of_covers 10 _ (by decide +kernel) fun t _ y => ?_
  blk_simp
  rw [after0_10]
  unfold_out out0_10
  frame_out
  obtain ⟨a, r, n, rfl⟩ : ∃ (a : Fin 1) (r : Fin 256) (n : Fin 1792), y = ix3 a r n := ⟨y 0, y 1, y 2, eq_ix3 y⟩
  obtain rfl : a = 0 := Subsingleton.elim _ _
  have e : ((cfg0.win 10).blk t).view.emb (ix3 (0 : Fin 1) r n) = ix3 (bat t) (pos t r) n := by
    blk_ext [idx t, bat, pos]
  refine (blk10 m c t r n).trans ?_
  exact congrArg (Ref3.prjR (aX m c) (aM m c) (aR m c)) e.symm

theorem final11 (c : Dev nD) : (dats m 0 c).arrAt 11 (cfgs 0).N = Ref3.outQ (aX m c) (aM m c) (aQ m c) := by
  refine (dats m 0 c).arrAt_eq_of_covers 11 _ (by decide +kernel) fun t _ y => ?_
  blk_simp
  rw [after0_11]
  unfold_out out0_11
  frame_out
  obtain ⟨a, n, r, rfl⟩ : ∃ (a : Fin 1) (n : Fin 512) (r : Fin 256), y = ix3 a n r := ⟨y 0, y 1, y 2, eq_ix3 y⟩
  obtain rfl : a = 0 := Subsingleton.elim _ _
  have e : ((cfg0.win 11).blk t).view.emb (ix3 (0 : Fin 1) n r) = ix3 (bat t) n (pos t r) := by
    blk_ext [idx t, bat, pos]
  refine (blk11 m c t r n).trans ?_
  exact congrArg (Ref3.outQ (aX m c) (aM m c) (aQ m c)) e.symm

theorem final12 (c : Dev nD) : (dats m 0 c).arrAt 12 (cfgs 0).N = Ref3.outK (aX m c) (aM m c) (aQ m c) := by
  refine (dats m 0 c).arrAt_eq_of_covers 12 _ (by decide +kernel) fun t _ y => ?_
  blk_simp
  rw [after0_12]
  unfold_out out0_12
  frame_out
  obtain ⟨a, r, n, rfl⟩ : ∃ (a : Fin 1) (r : Fin 256) (n : Fin 512), y = ix3 a r n := ⟨y 0, y 1, y 2, eq_ix3 y⟩
  obtain rfl : a = 0 := Subsingleton.elim _ _
  have e : ((cfg0.win 12).blk t).view.emb (ix3 (0 : Fin 1) r n) = ix3 (bat t) (pos t r) n := by
    blk_ext [idx t, bat, pos]
  refine (blk12 m c t r n).trans ?_
  exact congrArg (Ref3.outK (aX m c) (aM m c) (aQ m c)) e.symm

theorem final13 (c : Dev nD) : (dats m 0 c).arrAt 13 (cfgs 0).N = Ref3.outV (aX m c) (aM m c) (aQ m c) := by
  refine (dats m 0 c).arrAt_eq_of_covers 13 _ (by decide +kernel) fun t _ y => ?_
  blk_simp
  rw [after0_13]
  unfold_out out0_13
  frame_out
  obtain ⟨a, n, r, rfl⟩ : ∃ (a : Fin 1) (n : Fin 512) (r : Fin 256), y = ix3 a n r := ⟨y 0, y 1, y 2, eq_ix3 y⟩
  obtain rfl : a = 0 := Subsingleton.elim _ _
  have e : ((cfg0.win 13).blk t).view.emb (ix3 (0 : Fin 1) n r) = ix3 (bat t) n (pos t r) := by
    blk_ext [idx t, bat, pos]
  refine (blk13 m c t r n).trans ?_
  exact congrArg (Ref3.outV (aX m c) (aM m c) (aQ m c)) e.symm

theorem final14 (c : Dev nD) : (dats m 0 c).arrAt 14 (cfgs 0).N = Ref3.outI (aX m c) (aM m c) (aI m c) := by
  refine (dats m 0 c).arrAt_eq_of_covers 14 _ (by decide +kernel) fun t _ y => ?_
  blk_simp
  rw [after0_14]
  unfold_out out0_14
  frame_out
  obtain ⟨a, n, r, rfl⟩ : ∃ (a : Fin 1) (n : Fin 256) (r : Fin 256), y = ix3 a n r := ⟨y 0, y 1, y 2, eq_ix3 y⟩
  obtain rfl : a = 0 := Subsingleton.elim _ _
  have e : ((cfg0.win 14).blk t).view.emb (ix3 (0 : Fin 1) n r) = ix3 (bat t) n (pos t r) := by
    blk_ext [idx t, bat, pos]
  refine (blk14 m c t r n).trans ?_
  exact congrArg (Ref3.outI (aX m c) (aM m c) (aI m c)) e.symm

theorem final15 (c : Dev nD) : (dats m 0 c).arrAt 15 (cfgs 0).N = Ref3.outN (aX m c) (aM m c) (aI m c) (aG m c) (aB m c) := by
  refine (dats m 0 c).arrAt_eq_of_covers 15 _ (by decide +kernel) fun t _ y => ?_
  blk_simp
  rw [after0_15]
  unfold_out out0_15
  frame_out
  obtain ⟨a, r, n, rfl⟩ : ∃ (a : Fin 1) (r : Fin 256) (n : Fin 64), y = ix3 a r n := ⟨y 0, y 1, y 2, eq_ix3 y⟩
  obtain rfl : a = 0 := Subsingleton.elim _ _
  have e : ((cfg0.win 15).blk t).view.emb (ix3 (0 : Fin 1) r n) = ix3 (bat t) (pos t r) n := by
    blk_ext [idx t, bat, pos]
  refine (blk15 m c t r n).trans ?_
  exact congrArg (Ref3.outN (aX m c) (aM m c) (aI m c) (aG m c) (aB m c)) e.symm

theorem final16 (c : Dev nD) : (dats m 0 c).arrAt 16 (cfgs 0).N = Ref3.outW (aX m c) (aM m c) (aI m c) := by
  refine (dats m 0 c).arrAt_eq_of_covers 16 _ (by decide +kernel) fun t _ y => ?_
  blk_simp
  rw [after0_16]
  unfold_out out0_16
  frame_out
  obtain ⟨a, n, r, rfl⟩ : ∃ (a : Fin 1) (n : Fin 8) (r : Fin 256), y = ix3 a n r := ⟨y 0, y 1, y 2, eq_ix3 y⟩
  obtain rfl : a = 0 := Subsingleton.elim _ _
  have e : ((cfg0.win 16).blk t).view.emb (ix3 (0 : Fin 1) n r) = ix3 (bat t) n (pos t r) := by
    blk_ext [idx t, bat, pos]
  refine (blk16 m c t r n).trans ?_
  exact congrArg (Ref3.outW (aX m c) (aM m c) (aI m c)) e.symm

/-- Every run of the kernel ends with the reference's seven arrays in its results. -/
theorem run (ρ : Dev nD → PrngReg) :
    θ_run defs (onTc (τ := τ) (main (F := Ideal))) ⟨m, fun _ => 0, ρ⟩ fun r => ∀ c : Dev nD,
      r.2.mem ((c.tc : Thread nD τ).loc main_v29_0) = Ref3.prjR (aX m c) (aM m c) (aR m c)
      ∧ r.2.mem ((c.tc : Thread nD τ).loc main_v29_1) = Ref3.outQ (aX m c) (aM m c) (aQ m c)
      ∧ r.2.mem ((c.tc : Thread nD τ).loc main_v29_2) = Ref3.outK (aX m c) (aM m c) (aQ m c)
      ∧ r.2.mem ((c.tc : Thread nD τ).loc main_v29_3) = Ref3.outV (aX m c) (aM m c) (aQ m c)
      ∧ r.2.mem ((c.tc : Thread nD τ).loc main_v29_4) = Ref3.outI (aX m c) (aM m c) (aI m c)
      ∧ r.2.mem ((c.tc : Thread nD τ).loc main_v29_5) = Ref3.outN (aX m c) (aM m c) (aI m c) (aG m c) (aB m c)
      ∧ r.2.mem ((c.tc : Thread nD τ).loc main_v29_6) = Ref3.outW (aX m c) (aM m c) (aI m c) :=
  (θ_run defs _ _).mono (fun _ h c => ⟨((h c).1 10).trans (final10 m c), ((h c).1 11).trans (final11 m c), ((h c).1 12).trans (final12 m c), ((h c).1 13).trans (final13 m c), ((h c).1 14).trans (final14 m c), ((h c).1 15).trans (final15 m c), ((h c).1 16).trans (final16 m c)⟩) (run_main m ρ)

end Cert.Proof.In

end
-- ==== Proof.Ref4.lean ====
module

public import proofs.«01_k».proof.Proof.Ffn
public import proofs.«01_k».proof.Proof.Gen.Reference4Ideal
public import Idealize.ShloMosaic.Lib.StableHlo.Run
public import Idealize.ShloMosaic.Lib.StableHlo.RunRead
public import Idealize.ShloMosaic.Lib.Quiescent

/-! The reference of the even layers' out projection, run as a line of host operations in two stages: the residual sum,
the layer norm. -/

@[expose] public section

set_option maxRecDepth 16384

noncomputable section

namespace Cert.Proof.Ref4

open Cert.Reference4Ideal Cert.Reference4Ideal.Gen Idealize.ShloMosaic Idealize.ShloMosaic.TcCoe Idealize.SL.Sem Idealize.ShloMosaic.StableHlo

section
variable {F : FTy → Type} [FloatOps F]

/-- The two mixers' rows, side by side. -/
def cat (A B : FVec F S4x8192x512 .bf16) : FVec F S4x8192x1024 .bf16 :=
  concatenate S4x8192x1024 2 [⟨S4x8192x512, A⟩, ⟨S4x8192x512, B⟩] concatenates_S4x8192x512_S4x8192x512_S4x8192x1024_d2

/-- The residual sum of rows `C`, gated. -/
def sum (C : FVec F S4x8192x1024 .bf16) (W : FVec F S1024x1024 .f32) (X : FVec F S4x8192x1024 .f32) (M : FVec F S4x6x1024 .f32) : FVec F S4x8192x1024 .f32 :=
  addf (mulf (broadcastInDim S4x8192x1024 ![] bcast_S_S4x8192x1024 (constant S_ .f32 0x3FD744FD#32)) X)
    (mulf (broadcastInDim S4x8192x1024 ![0, 1, 2] bcast_S4x1x1024_S4x8192x1024_0_1_2
        (extractStridedSlice S4x1x1024 ![0, 2, 0] M slices_S4x6x1024_S4x1x1024_0_2_0))
      (Host.dotGeneral dot_S4x8192x1024_S1024x1024_S4x8192x1024_2_0_01_1_n_n none (extf .f32 C bitsLt_bf16_f32) W))

/-- The result as a function of the arguments. -/
def result (A B : FVec F S4x8192x512 .bf16) (W : FVec F S1024x1024 .f32) (X : FVec F S4x8192x1024 .f32) (M : FVec F S4x6x1024 .f32)
    (G H : FVec F S1024 .f32) : FVec F S4x8192x1024 .f32 :=
  Ref2.stN (sum (cat A B) W X M) G H

abbrev opsP : List (HloOp τ sig (Elt F)) :=
  [ binary main_arg0 main_arg1 main_v0 (cat (F := F)),
    unary main_v0 main_v1 ((extf .f32 · bitsLt_bf16_f32) : (⟨S4x8192x1024, .bf16⟩ : BufTy).Contents (Elt F) → (⟨S4x8192x1024, .f32⟩ : BufTy).Contents (Elt F)),
    binary main_v1 main_arg2 main_v2 ((fun l r => Host.dotGeneral dot_S4x8192x1024_S1024x1024_S4x8192x1024_2_0_01_1_n_n none l r) : (⟨S4x8192x1024, .f32⟩ : BufTy).Contents (Elt F) → (⟨S1024x1024, .f32⟩ : BufTy).Contents (Elt F) → (⟨S4x8192x1024, .f32⟩ : BufTy).Contents (Elt F)),
    nullary main_cst (constant S_ .f32 0x3FD744FD#32),
    unary main_cst main_v3 (broadcastInDim S4x8192x1024 ![] bcast_S_S4x8192x1024 : (⟨S_, .f32⟩ : BufTy).Contents (Elt F) → (⟨S4x8192x1024, .f32⟩ : BufTy).Contents (Elt F)),
    binary main_v3 main_arg3 main_v4 (mulf : (⟨S4x8192x1024, .f32⟩ : BufTy).Contents (Elt F) → (⟨S4x8192x1024, .f32⟩ : BufTy).Contents (Elt F) → (⟨S4x8192x1024, .f32⟩ : BufTy).Contents (Elt F)),
    unary main_arg4 main_v5 ((extractStridedSlice S4x1x1024 ![0, 2, 0] · slices_S4x6x1024_S4x1x1024_0_2_0) : (⟨S4x6x1024, .f32⟩ : BufTy).Contents (Elt F) → (⟨S4x1x1024, .f32⟩ : BufTy).Contents (Elt F)),
    unary main_v5 main_v6 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v6 main_v2 main_v7 (mulf : (⟨S4x8192x1024, .f32⟩ : BufTy).Contents (Elt F) → (⟨S4x8192x1024, .f32⟩ : BufTy).Contents (Elt F) → (⟨S4x8192x1024, .f32⟩ : BufTy).Contents (Elt F)),
    binary main_v4 main_v7 main_v8 (addf : (⟨S4x8192x1024, .f32⟩ : BufTy).Contents (Elt F) → (⟨S4x8192x1024, .f32⟩ : BufTy).Contents (Elt F) → (⟨S4x8192x1024, .f32⟩ : BufTy).Contents (Elt F)) ]

abbrev opsN : List (HloOp τ sig (Elt F)) :=
  [ nullary main_cst_0 (constant S_ .f32 0x00000000#32),
    binary main_v8 main_cst_0 main_v9 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v9 main_v10 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_1 (constant S_ .f32 0x44800000#32),
    unary main_cst_1 main_v11 (broadcastInDim S4x8192x1 ![] bcast_S_S4x8192x1 : (⟨S_, .f32⟩ : BufTy).Contents (Elt F) → (⟨S4x8192x1, .f32⟩ : BufTy).Contents (Elt F)),
    binary main_v10 main_v11 main_v12 (Host.divf : (⟨S4x8192x1, .f32⟩ : BufTy).Contents (Elt F) → (⟨S4x8192x1, .f32⟩ : BufTy).Contents (Elt F) → (⟨S4x8192x1, .f32⟩ : BufTy).Contents (Elt F)),
    unary main_v12 main_v13 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v8 main_v13 main_v14 (subf : (⟨S4x8192x1024, .f32⟩ : BufTy).Contents (Elt F) → (⟨S4x8192x1024, .f32⟩ : BufTy).Contents (Elt F) → (⟨S4x8192x1024, .f32⟩ : BufTy).Contents (Elt F)),
    binary main_v14 main_v14 main_v15 (mulf : (⟨S4x8192x1024, .f32⟩ : BufTy).Contents (Elt F) → (⟨S4x8192x1024, .f32⟩ : BufTy).Contents (Elt F) → (⟨S4x8192x1024, .f32⟩ : BufTy).Contents (Elt F)),
    nullary main_cst_2 (constant S_ .f32 0x00000000#32),
    binary main_v15 main_cst_2 main_v16 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v16 main_v17 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_3 (constant S_ .f32 0x44800000#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v17 main_v18 main_v19 (Host.divf : (⟨S4x8192x1, .f32⟩ : BufTy).Contents (Elt F) → (⟨S4x8192x1, .f32⟩ : BufTy).Contents (Elt F) → (⟨S4x8192x1, .f32⟩ : BufTy).Contents (Elt F)),
    unary main_v12 main_v20 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v8 main_v20 main_v21 (subf : (⟨S4x8192x1024, .f32⟩ : BufTy).Contents (Elt F) → (⟨S4x8192x1024, .f32⟩ : BufTy).Contents (Elt F) → (⟨S4x8192x1024, .f32⟩ : BufTy).Contents (Elt F)),
    nullary main_cst_4 (constant S_ .f32 0x3727C5AC#32),
    unary main_cst_4 main_v22 (broadcastInDim S4x8192x1 ![] bcast_S_S4x8192x1 : (⟨S_, .f32⟩ : BufTy).Contents (Elt F) → (⟨S4x8192x1, .f32⟩ : BufTy).Contents (Elt F)),
    binary main_v19 main_v22 main_v23 (addf : (⟨S4x8192x1, .f32⟩ : BufTy).Contents (Elt F) → (⟨S4x8192x1, .f32⟩ : BufTy).Contents (Elt F) → (⟨S4x8192x1, .f32⟩ : BufTy).Contents (Elt F)),
    unary main_v23 main_v24 (Host.rsqrt : (⟨S4x8192x1, .f32⟩ : BufTy).Contents (Elt F) → (⟨S4x8192x1, .f32⟩ : BufTy).Contents (Elt F)),
    unary main_v24 main_v25 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v21 main_v25 main_v26 (mulf : (⟨S4x8192x1024, .f32⟩ : BufTy).Contents (Elt F) → (⟨S4x8192x1024, .f32⟩ : BufTy).Contents (Elt F) → (⟨S4x8192x1024, .f32⟩ : BufTy).Contents (Elt F)),
    unary main_arg5 main_v27 (broadcastInDim S1x1x1024 ![2] bcast_S1024_S1x1x1024_2 : (⟨S1024, .f32⟩ : BufTy).Contents (Elt F) → (⟨S1x1x1024, .f32⟩ : BufTy).Contents (Elt F)),
    unary main_v27 main_v28 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v26 main_v28 main_v29 (mulf : (⟨S4x8192x1024, .f32⟩ : BufTy).Contents (Elt F) → (⟨S4x8192x1024, .f32⟩ : BufTy).Contents (Elt F) → (⟨S4x8192x1024, .f32⟩ : BufTy).Contents (Elt F)),
    unary main_arg6 main_v30 (broadcastInDim S1x1x1024 ![2] bcast_S1024_S1x1x1024_2 : (⟨S1024, .f32⟩ : BufTy).Contents (Elt F) → (⟨S1x1x1024, .f32⟩ : BufTy).Contents (Elt F)),
    unary main_v30 main_v31 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v29 main_v31 main_v32 (addf : (⟨S4x8192x1024, .f32⟩ : BufTy).Contents (Elt F) → (⟨S4x8192x1024, .f32⟩ : BufTy).Contents (Elt F) → (⟨S4x8192x1024, .f32⟩ : BufTy).Contents (Elt F)) ]

/-- The whole line. -/
abbrev ops : List (HloOp τ sig (Elt F)) := opsP ++ opsN

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

variable (V : Valuation τ sig (Elt F))

theorem opsP_r : after opsP V (Proc.devRef .tc main_v8) = sum (cat (V (Proc.devRef .tc main_arg0)) (V (Proc.devRef .tc main_arg1)))
    (V (Proc.devRef .tc main_arg2)) (V (Proc.devRef .tc main_arg3)) (V (Proc.devRef .tc main_arg4)) := by
  after_reads_simp; rfl
theorem opsN_n : after opsN V (Proc.devRef .tc main_v32) = Ref2.stN (V (Proc.devRef .tc main_v8)) (V (Proc.devRef .tc main_arg5)) (V (Proc.devRef .tc main_arg6)) := by
  after_reads_simp; rfl
theorem opsP_a0 : after opsP V (Proc.devRef .tc main_arg0) = V (Proc.devRef .tc main_arg0) := by
  after_reads_simp
theorem opsP_a1 : after opsP V (Proc.devRef .tc main_arg1) = V (Proc.devRef .tc main_arg1) := by
  after_reads_simp
theorem opsP_a2 : after opsP V (Proc.devRef .tc main_arg2) = V (Proc.devRef .tc main_arg2) := by
  after_reads_simp
theorem opsP_a3 : after opsP V (Proc.devRef .tc main_arg3) = V (Proc.devRef .tc main_arg3) := by
  after_reads_simp
theorem opsP_a4 : after opsP V (Proc.devRef .tc main_arg4) = V (Proc.devRef .tc main_arg4) := by
  after_reads_simp
theorem opsP_a5 : after opsP V (Proc.devRef .tc main_arg5) = V (Proc.devRef .tc main_arg5) := by
  after_reads_simp
theorem opsP_a6 : after opsP V (Proc.devRef .tc main_arg6) = V (Proc.devRef .tc main_arg6) := by
  after_reads_simp
theorem opsN_a0 : after opsN V (Proc.devRef .tc main_arg0) = V (Proc.devRef .tc main_arg0) := by
  after_reads_simp
theorem opsN_a1 : after opsN V (Proc.devRef .tc main_arg1) = V (Proc.devRef .tc main_arg1) := by
  after_reads_simp
theorem opsN_a2 : after opsN V (Proc.devRef .tc main_arg2) = V (Proc.devRef .tc main_arg2) := by
  after_reads_simp
theorem opsN_a3 : after opsN V (Proc.devRef .tc main_arg3) = V (Proc.devRef .tc main_arg3) := by
  after_reads_simp
theorem opsN_a4 : after opsN V (Proc.devRef .tc main_arg4) = V (Proc.devRef .tc main_arg4) := by
  after_reads_simp
theorem opsN_a5 : after opsN V (Proc.devRef .tc main_arg5) = V (Proc.devRef .tc main_arg5) := by
  after_reads_simp
theorem opsN_a6 : after opsN V (Proc.devRef .tc main_arg6) = V (Proc.devRef .tc main_arg6) := by
  after_reads_simp

theorem ops_split : after ops V = after opsN (after opsP V) := rfl

theorem ops_result : after ops V (Proc.devRef .tc main_v32)
    = result (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := by
  rw [ops_split, opsN_n, opsP_r, opsP_a5, opsP_a6]
  rfl
theorem ops_a0 : after ops V (Proc.devRef .tc main_arg0) = V (Proc.devRef .tc main_arg0) := by
  rw [ops_split, opsN_a0, opsP_a0]
theorem ops_a1 : after ops V (Proc.devRef .tc main_arg1) = V (Proc.devRef .tc main_arg1) := by
  rw [ops_split, opsN_a1, opsP_a1]
theorem ops_a2 : after ops V (Proc.devRef .tc main_arg2) = V (Proc.devRef .tc main_arg2) := by
  rw [ops_split, opsN_a2, opsP_a2]
theorem ops_a3 : after ops V (Proc.devRef .tc main_arg3) = V (Proc.devRef .tc main_arg3) := by
  rw [ops_split, opsN_a3, opsP_a3]
theorem ops_a4 : after ops V (Proc.devRef .tc main_arg4) = V (Proc.devRef .tc main_arg4) := by
  rw [ops_split, opsN_a4, opsP_a4]
theorem ops_a5 : after ops V (Proc.devRef .tc main_arg5) = V (Proc.devRef .tc main_arg5) := by
  rw [ops_split, opsN_a5, opsP_a5]
theorem ops_a6 : after ops V (Proc.devRef .tc main_arg6) = V (Proc.devRef .tc main_arg6) := by
  rw [ops_split, opsN_a6, opsP_a6]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v32).trans (ops_result _), (h c main_arg0).trans (ops_a0 _), (h c main_arg1).trans (ops_a1 _), (h c main_arg2).trans (ops_a2 _), (h c main_arg3).trans (ops_a3 _), (h c main_arg4).trans (ops_a4 _), (h c main_arg5).trans (ops_a5 _), (h c main_arg6).trans (ops_a6 _)⟩)
    (run_seq scopedRefs_eq scopedSems_eq defs main (fun _ => ops) main_eq (fun _ => ops_sub) m ρ)

end

/-! ## At an index -/

theorem cat_at (A B : FVec Ideal S4x8192x512 .bf16) (b : Fin 4) (s : Fin 8192) (k : Fin 1024) :
    cat A B (ix3 b s k) = if h : k.val < 512 then A (ix3 b s ⟨k.val, h⟩) else B (ix3 b s ⟨k.val - 512, by omega⟩) := by
  pointwise [cat]

theorem sum_at (C : FVec Ideal S4x8192x1024 .bf16) (W : FVec Ideal S1024x1024 .f32) (X : FVec Ideal S4x8192x1024 .f32) (M : FVec Ideal S4x6x1024 .f32)
    (b : Fin 4) (s : Fin 8192) (n : Fin 1024) :
    sum C W X M (ix3 b s n) = Ideal.ofBits .f32 0x3FD744FD#32 * X (ix3 b s n) + M (ix3 b 2 n) * ∑ k : Fin 1024, C (ix3 b s k) * W (ix2 k n) := by
  pointwise [sum]

/-- A product of rows set side by side is the sum of the two products. -/
theorem halves (A B : FVec Ideal S4x8192x512 .bf16) (W : FVec Ideal S1024x1024 .f32) (b : Fin 4) (s : Fin 8192) (n : Fin 1024) :
    (∑ k : Fin 1024, cat A B (ix3 b s k) * W (ix2 k n))
      = (∑ k : Fin 512, A (ix3 b s k) * W (ix2 (⟨k, by omega⟩ : Fin 1024) n)) + ∑ k : Fin 512, B (ix3 b s k) * W (ix2 (⟨512 + k, by omega⟩ : Fin 1024) n) := by
  refine (Fin.sum_univ_add (a := 512) (b := 512) fun k : Fin 1024 => cat A B (ix3 b s k) * W (ix2 k n)).trans ?_
  congr 1
  · refine Finset.sum_congr rfl fun k _ => ?_
    rw [cat_at, dif_pos (show (Fin.castAdd 512 k).val < 512 from k.2)]
    rfl
  · refine Finset.sum_congr rfl fun k _ => ?_
    rw [cat_at, dif_neg (show ¬ (Fin.natAdd 512 k).val < 512 by simp)]
    congr 3
    apply Fin.ext
    show 512 + (k : ℕ) - 512 = k
    omega

end Cert.Proof.Ref4

end
-- ==== Proof.Out.lean ====
module

public import proofs.«01_k».proof.Proof.Ref4
public import proofs.«01_k».proof.Proof.Gen.Kernel4Ideal.Frame
public import Idealize.ShloMosaic.Lib.Pointwise
public import Idealize.ShloMosaic.Lib.Pipeline.ValueKit
public import Idealize.ShloMosaic.Lib.Claim

/-! The even layers' out projection at the ideal instance: the blocks cover its result array, and each is the reference's. -/

@[expose] public section

set_option maxRecDepth 16384

noncomputable section

namespace Cert.Proof.Out

open Cert.Kernel4Ideal Cert.Kernel4Ideal.Gen Idealize.ShloMosaic Idealize.ShloMosaic.TcCoe Idealize.SL.Sem
open Idealize.ShloMosaic.Pipeline (Dat)

/-! ## The body's payloads at an index -/

/-- A row of the residual sum in a block. -/
def row (a c : FVec Ideal S1x512x512 .bf16) (u v : FVec Ideal S512x1024 .bf16) (m : FVec Ideal S1x6x1024 .f32) (x : FVec Ideal S1x512x1024 .f32)
    (r : Fin 512) (n : Fin 1024) : EReal :=
  Ideal.ofBits .f32 0x3FD744FD#32 * x (ix3 0 r n) + m (ix3 0 2 n)
    * ((∑ k : Fin 512, a (ix3 0 r k) * u (ix2 k n)) + ∑ k : Fin 512, c (ix3 0 r k) * v (ix2 k n))

theorem pay4_at (a c : FVec Ideal S1x512x512 .bf16) (u v : FVec Ideal S512x1024 .bf16) (m : FVec Ideal S1x6x1024 .f32) (x : FVec Ideal S1x512x1024 .f32)
    (r : Fin 512) (n : Fin 1024) :
    k0_pay4 (F := Ideal) a u c v m x (ix2 r n)
      = row a c u v m x r n - Ideal.div (∑ y, row a c u v m x r y) (Ideal.ofBits .f32 0x44800000#32) := by
  unfold row
  pointwise [k0_pay4]

theorem pay1_at (g h : FVec Ideal S1x1024 .f32) (Z : FVec Ideal S512x1024 .f32) (Q : FVec Ideal S512x1024 .f32) (r : Fin 512) (n : Fin 1024) :
    k0_pay1 (F := Ideal) (k0_pay2 (F := Ideal) g) (k0_pay3 (F := Ideal) h) Z Q (ix3 0 r n)
      = Z (ix2 r n) * Ideal.rsqrt (Ideal.div (∑ y, Q (ix2 r y)) (Ideal.ofBits .f32 0x44800000#32) + Ideal.ofBits .f32 0x3727C5AC#32)
          * g (ix2 0 n) + h (ix2 0 n) := by
  pointwise [k0_pay1, k0_pay2, k0_pay3]

theorem pay5_at (a c : FVec Ideal S1x512x512 .bf16) (u v : FVec Ideal S512x1024 .bf16) (m : FVec Ideal S1x6x1024 .f32) (x : FVec Ideal S1x512x1024 .f32)
    (r : Fin 512) (n : Fin 1024) :
    k0_pay5 (F := Ideal) a u c v m x (ix2 r n) = k0_pay4 (F := Ideal) a u c v m x (ix2 r n) * k0_pay4 (F := Ideal) a u c v m x (ix2 r n) := rfl

theorem stored_at (a c : FVec Ideal S1x512x512 .bf16) (u v : FVec Ideal S512x1024 .bf16) (m : FVec Ideal S1x6x1024 .f32) (x : FVec Ideal S1x512x1024 .f32)
    (g h : FVec Ideal S1x1024 .f32) (r : Fin 512) (n : Fin 1024) :
    k0_pay1 (F := Ideal) (k0_pay2 (F := Ideal) g) (k0_pay3 (F := Ideal) h) (k0_pay4 (F := Ideal) a u c v m x) (k0_pay5 (F := Ideal) a u c v m x) (ix3 0 r n)
      = Ffn.lnS (row a c u v m x r) (g (ix2 0 n)) (h (ix2 0 n)) n := by
  rw [pay1_at]
  simp only [pay5_at, pay4_at]
  rfl

/-! ## The stored block -/

section
variable (A B : FVec Ideal S4x8192x512 .bf16) (W : FVec Ideal S1024x1024 .f32) (X : FVec Ideal S4x8192x1024 .f32) (M : FVec Ideal S4x6x1024 .f32)
  (G H : FVec Ideal S1024 .f32) (x0 x1 : FVec Ideal S1x512x512 .bf16) (x2 x3 : FVec Ideal S512x1024 .bf16) (x4 : FVec Ideal S1x512x1024 .f32)
  (x5 : FVec Ideal S1x6x1024 .f32) (x6 x7 : FVec Ideal S1x1024 .f32) (b : Fin 4) (j : ℕ)
  (h0 : ∀ (r : Fin 512) (k : Fin 512) (s : Fin 8192), s.val = 512 * j + r → x0 (ix3 0 r k) = A (ix3 b s k))
  (h1 : ∀ (r : Fin 512) (k : Fin 512) (s : Fin 8192), s.val = 512 * j + r → x1 (ix3 0 r k) = B (ix3 b s k))
  (h2 : ∀ (k : Fin 512) (n : Fin 1024) (l : Fin 1024), l.val = k → x2 (ix2 k n) = W (ix2 l n))
  (h3 : ∀ (k : Fin 512) (n : Fin 1024) (l : Fin 1024), l.val = 512 + k → x3 (ix2 k n) = W (ix2 l n))
  (h4 : ∀ (r : Fin 512) (n : Fin 1024) (s : Fin 8192), s.val = 512 * j + r → x4 (ix3 0 r n) = X (ix3 b s n))
  (h5 : ∀ (a : Fin 6) (n : Fin 1024), x5 (ix3 0 a n) = M (ix3 b a n))
  (h6 : ∀ n : Fin 1024, x6 (ix2 0 n) = G (ix1 n))
  (h7 : ∀ n : Fin 1024, x7 (ix2 0 n) = H (ix1 n))

include h0 h1 h2 h3 h4 h5 h6 h7 in
theorem block_at (r : Fin 512) (n : Fin 1024) (s : Fin 8192) (hs : s.val = 512 * j + r) :
    k0_pay1 (F := Ideal) (k0_pay2 (F := Ideal) x6) (k0_pay3 (F := Ideal) x7) (k0_pay4 (F := Ideal) x0 x2 x1 x3 x5 x4) (k0_pay5 (F := Ideal) x0 x2 x1 x3 x5 x4) (ix3 0 r n)
      = Ref4.result (F := Ideal) A B W X M G H (ix3 b s n) := by
  unfold Ref4.result
  rw [stored_at, Ffn.stN_at, h6, h7]
  congr 1
  funext y
  rw [Ref4.sum_at, Ref4.halves]
  unfold row
  rw [h4 r y s hs, h5]
  congr 2
  congr 1
  · exact Finset.sum_congr rfl fun k _ => by rw [h0 r k s hs, h2 k y ⟨k, by omega⟩ rfl]
  · exact Finset.sum_congr rfl fun k _ => by rw [h1 r k s hs, h3 k y ⟨512 + k, by omega⟩ rfl]

end

/-! ## The result array -/

variable (m : (ℓ : Loc nD τ sig) → Buf (Elt Ideal) ℓ)

/-- The windows' block indices at every point. -/
theorem idx : ∀ t : Fin cfg0.N, win0_0.index t = ![t.val / 16, t.val % 16, 0] ∧ win0_1.index t = ![t.val / 16, t.val % 16, 0]
    ∧ win0_2.index t = ![0, 0] ∧ win0_3.index t = ![0, 0] ∧ win0_4.index t = ![t.val / 16, t.val % 16, 0] ∧ win0_5.index t = ![t.val / 16, 0, 0]
    ∧ win0_6.index t = ![0, 0] ∧ win0_7.index t = ![0, 0] ∧ win0_8.index t = ![t.val / 16, t.val % 16, 0] ∧ t.val / 16 < 4 :=
  (by decide +kernel : ∀ t : Fin grid0.N, _)

theorem tb (t : Fin cfg0.N) : t.val / 16 < 4 := (idx t).2.2.2.2.2.2.2.2.2

section
variable (c : Dev nD) (t : Fin cfg0.N)

theorem rd0 (r : Fin 512) (k : Fin 512) (s : Fin 8192) (hs : s.val = 512 * (t.val % 16) + r) : (show FVec Ideal S1x512x512 .bf16 from iblk m c 0 t) (ix3 0 r k)
    = (show FVec Ideal S4x8192x512 .bf16 from m ((c : Thread nD τ).loc main_arg0)) (ix3 ⟨t.val / 16, tb t⟩ s k) := by
  blk_ext [iblk, V, idx t]
theorem rd1 (r : Fin 512) (k : Fin 512) (s : Fin 8192) (hs : s.val = 512 * (t.val % 16) + r) : (show FVec Ideal S1x512x512 .bf16 from iblk m c 1 t) (ix3 0 r k)
    = (show FVec Ideal S4x8192x512 .bf16 from m ((c : Thread nD τ).loc main_arg1)) (ix3 ⟨t.val / 16, tb t⟩ s k) := by
  blk_ext [iblk, V, idx t]
theorem rd2 (k : Fin 512) (n : Fin 1024) (l : Fin 1024) (hl : l.val = k) : (show FVec Ideal S512x1024 .bf16 from iblk m c 2 t) (ix2 k n)
    = (show FVec Ideal S1024x1024 .f32 from m ((c : Thread nD τ).loc main_arg2)) (ix2 l n) := by
  blk_point [iblk, V, idx t]
theorem rd3 (k : Fin 512) (n : Fin 1024) (l : Fin 1024) (hl : l.val = 512 + k) : (show FVec Ideal S512x1024 .bf16 from iblk m c 3 t) (ix2 k n)
    = (show FVec Ideal S1024x1024 .f32 from m ((c : Thread nD τ).loc main_arg2)) (ix2 l n) := by
  blk_point [iblk, V, idx t]
theorem rd4 (r : Fin 512) (n : Fin 1024) (s : Fin 8192) (hs : s.val = 512 * (t.val % 16) + r) : (show FVec Ideal S1x512x1024 .f32 from iblk m c 4 t) (ix3 0 r n)
    = (show FVec Ideal S4x8192x1024 .f32 from m ((c : Thread nD τ).loc main_arg3)) (ix3 ⟨t.val / 16, tb t⟩ s n) := by
  blk_ext [iblk, V, idx t]
theorem rd5 (a : Fin 6) (n : Fin 1024) : (show FVec Ideal S1x6x1024 .f32 from iblk m c 5 t) (ix3 0 a n)
    = (show FVec Ideal S4x6x1024 .f32 from m ((c : Thread nD τ).loc main_arg4)) (ix3 ⟨t.val / 16, tb t⟩ a n) := by
  blk_ext [iblk, V, idx t]
theorem rd6 (n : Fin 1024) : (show FVec Ideal S1x1024 .f32 from iblk m c 6 t) (ix2 0 n)
    = (show FVec Ideal S1024 .f32 from m ((c : Thread nD τ).loc main_arg5)) (ix1 n) := by
  blk_point [iblk, V, idx t]
theorem rd7 (n : Fin 1024) : (show FVec Ideal S1x1024 .f32 from iblk m c 7 t) (ix2 0 n)
    = (show FVec Ideal S1024 .f32 from m ((c : Thread nD τ).loc main_arg6)) (ix1 n) := by
  blk_point [iblk, V, idx t]
end

/-- The reference's result of the kernel's argument arrays. -/
abbrev REF (c : Dev nD) : FVec Ideal S4x8192x1024 .f32 :=
  Ref4.result (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem final (c : Dev nD) : (dats m 0 c).arrAt 8 (cfgs 0).N = REF m c := by
  refine (dats m 0 c).arrAt_eq_of_covers 8 _ (by decide +kernel) fun t _ y => ?_
  blk_simp
  rw [after0_8]
  frame_out
  obtain ⟨a, r, n, rfl⟩ : ∃ (a : Fin 1) (r : Fin 512) (n : Fin 1024), y = ix3 a r n := ⟨y 0, y 1, y 2, eq_ix3 y⟩
  obtain rfl : a = 0 := Subsingleton.elim _ _
  have e : ((cfg0.win 8).blk t).view.emb (ix3 (0 : Fin 1) r n) = ix3 (⟨t.val / 16, tb t⟩ : Fin 4) (⟨512 * (t.val % 16) + r, by omega⟩ : Fin 8192) n := by
    blk_ext [idx t]
  refine (block_at _ _ _ _ _ _ _ _ _ _ _ _ _ _ _ ⟨t.val / 16, tb t⟩ (t.val % 16)
    (rd0 m c t) (rd1 m c t) (rd2 m c t) (rd3 m c t) (rd4 m c t) (rd5 m c t) (rd6 m c t) (rd7 m c t) r n ⟨512 * (t.val % 16) + r, by omega⟩ rfl).trans ?_
  exact congrArg (REF m c) e.symm

end Cert.Proof.Out

end
-- ==== Proof.OddPool.lean ====
module

public import proofs.«01_k».proof.Proof.Ffn
public import proofs.«01_k».proof.Proof.Gen.Kernel5Ideal.Skeleton
public import Idealize.ShloMosaic.Lib.Pointwise
public import Idealize.ShloMosaic.Lib.Pipeline.ValueKit

/-! The pooled half of the odd layers' body at an index: window sums by doubling, averaged, centred, projected and scaled. -/

@[expose] public section

set_option maxRecDepth 16384

noncomputable section

namespace Cert.Proof.Odd

open Cert.Kernel5Ideal Cert.Kernel5Ideal.Gen Idealize.ShloMosaic Idealize.ShloMosaic.TcCoe

/-! ## Window sums by doubling -/

def s2 (f : ℕ → EReal) (u : ℕ) : EReal := f (1 + u) + f u
def s4 (f : ℕ → EReal) (u : ℕ) : EReal := s2 f (2 + u) + s2 f u
def s8 (f : ℕ → EReal) (u : ℕ) : EReal := s4 f (4 + u) + s4 f u
def s16 (f : ℕ → EReal) (u : ℕ) : EReal := s8 f (8 + u) + s8 f u

/-- A group's rows, the halo's in front. -/
def hal (A : FVec Ideal S16x128 .f32) (B : FVec Ideal S256x128 .f32) : FVec Ideal S272x128 .f32 :=
  concatenate S272x128 0 [⟨S16x128, A⟩, ⟨S256x128, B⟩] concatenates_S16x128_S256x128_S272x128_d0
def d1 (Z : FVec Ideal S272x128 .f32) : FVec Ideal S271x128 .f32 :=
  addf (extractStridedSlice S271x128 ![1, 0] Z slices_S272x128_o1_0_S271x128) (extractStridedSlice S271x128 ![0, 0] Z slices_S272x128_o0_0_S271x128)
def d2 (Z : FVec Ideal S271x128 .f32) : FVec Ideal S269x128 .f32 :=
  addf (extractStridedSlice S269x128 ![2, 0] Z slices_S271x128_o2_0_S269x128) (extractStridedSlice S269x128 ![0, 0] Z slices_S271x128_o0_0_S269x128)
def d4 (Z : FVec Ideal S269x128 .f32) : FVec Ideal S265x128 .f32 :=
  addf (extractStridedSlice S265x128 ![4, 0] Z slices_S269x128_o4_0_S265x128) (extractStridedSlice S265x128 ![0, 0] Z slices_S269x128_o0_0_S265x128)
def d8 (Z : FVec Ideal S265x128 .f32) : FVec Ideal S257x128 .f32 :=
  addf (extractStridedSlice S257x128 ![8, 0] Z slices_S265x128_o8_0_S257x128) (extractStridedSlice S257x128 ![0, 0] Z slices_S265x128_o0_0_S257x128)

theorem d1_at (Z : FVec Ideal S272x128 .f32) (f : ℕ → EReal) (j : Fin 128) (h : ∀ u : Fin 272, Z (ix2 u j) = f u) (u : Fin 271) :
    d1 Z (ix2 u j) = s2 f u := by
  unfold s2
  rw [← h ⟨u, by omega⟩, ← h ⟨1 + u, by omega⟩]
  pointwise [d1]
theorem d2_at (Z : FVec Ideal S271x128 .f32) (f : ℕ → EReal) (j : Fin 128) (h : ∀ u : Fin 271, Z (ix2 u j) = s2 f u) (u : Fin 269) :
    d2 Z (ix2 u j) = s4 f u := by
  unfold s4
  rw [← h ⟨u, by omega⟩, ← h ⟨2 + u, by omega⟩]
  pointwise [d2]
theorem d4_at (Z : FVec Ideal S269x128 .f32) (f : ℕ → EReal) (j : Fin 128) (h : ∀ u : Fin 269, Z (ix2 u j) = s4 f u) (u : Fin 265) :
    d4 Z (ix2 u j) = s8 f u := by
  unfold s8
  rw [← h ⟨u, by omega⟩, ← h ⟨4 + u, by omega⟩]
  pointwise [d4]
theorem d8_at (Z : FVec Ideal S265x128 .f32) (f : ℕ → EReal) (j : Fin 128) (h : ∀ u : Fin 265, Z (ix2 u j) = s8 f u) (u : Fin 257) :
    d8 Z (ix2 u j) = s16 f u := by
  unfold s16
  rw [← h ⟨u, by omega⟩, ← h ⟨8 + u, by omega⟩]
  pointwise [d8]

/-- Column `n` of the block, the halo's rows in front. -/
def ext (q : FVec Ideal S16x512 .f32) (p : FVec Ideal S256x1536 .f32) (n : Fin 512) (u : ℕ) : EReal :=
  if h : u < 16 then q (ix2 ⟨u, h⟩ n) else if h' : u - 16 < 256 then p (ix2 ⟨u - 16, h'⟩ ⟨n, by omega⟩) else 0

theorem hal_at (A : FVec Ideal S16x128 .f32) (B : FVec Ideal S256x128 .f32) (u : Fin 272) (j : Fin 128) :
    hal A B (ix2 u j) = if h : u.val < 16 then A (ix2 ⟨u, h⟩ j) else B (ix2 ⟨u - 16, by omega⟩ j) := by
  pointwise [hal]

/-- The average of a window less the row, projected and scaled. -/
def tail (w : BitVec 32) (S X : FVec Ideal S256x128 .f32) (T : FVec Ideal S256x1 .f32) (W : FVec Ideal S1x128x128 .bf16) (C : FVec Ideal S1x128 .f32) :
    FVec Ideal S256x128 .bf16 :=
  shapeCast S256x128 (truncf .bf16 (mulf (matmul dot_S256x128_S128x128_S256x128_1_0_0_1_n_n none
      (truncf .bf16 (subf (divf S (broadcastTo S256x128 (minimumf (addf T (broadcast S256x1 (Scalar.ofBits .f32 0x3F800000#32)))
        (broadcast S256x1 (Scalar.ofBits .f32 w))) broadcasts_S256x1_S256x128)) X) bitsLt_bf16_f32)
      (shapeCast S128x128 W shapeCasts_S1x128x128_S128x128) (constant S256x128 .f32 0x00000000#32))
    (broadcastTo S256x128 C broadcasts_S1x128_S256x128)) bitsLt_bf16_f32) shapeCasts_S256x128_S256x128

theorem tail_at (w : BitVec 32) (S X : FVec Ideal S256x128 .f32) (T : FVec Ideal S256x1 .f32) (W : FVec Ideal S1x128x128 .bf16) (C : FVec Ideal S1x128 .f32)
    (r : Fin 256) (d : Fin 128) :
    tail w S X T W C (ix2 r d) = (∑ j : Fin 128, (Ideal.div (S (ix2 r j)) (min (T (ix2 r 0) + 1) (Ideal.ofBits .f32 w)) - X (ix2 r j)) * W (ix3 0 j d))
      * C (ix2 0 d) := by
  pointwise [tail]

variable (p : FVec Ideal S256x1536 .f32) (q : FVec Ideal S16x512 .f32) (T : FVec Ideal S256x1 .f32) (C : FVec Ideal S1x512 .f32)
  (W : FVec Ideal S1x128x128 .bf16)

/-- A pooled entry, its window summed by `s` from `a` rows below the row, its columns from `o`. -/
def pooled (w : BitVec 32) (s : (ℕ → EReal) → ℕ → EReal) (a o : ℕ) (ho : o + 128 ≤ 512) (r : Fin 256) (d : Fin 128) : EReal :=
  (∑ j : Fin 128, (Ideal.div (s (ext q p ⟨o + j, by omega⟩) (a + r)) (min (T (ix2 r 0) + 1) (Ideal.ofBits .f32 w)) - p (ix2 r ⟨o + j, by omega⟩)) * W (ix3 0 j d))
    * C (ix2 0 ⟨o + d, by omega⟩)

theorem hal0 (j : Fin 128) (u : Fin 272) : hal (extractStridedSlice S16x128 ![0, 0] q slices_S16x512_o0_0_S16x128)
    (extractStridedSlice S256x128 ![0, 0] p slices_S256x1536_o0_0_S256x128) (ix2 u j) = ext q p ⟨0 + j, by omega⟩ u := by
  rw [hal_at]; unfold ext
  have hu := u.2
  split_ifs with h h'
  · pointwise []
  · pointwise []
  · omega

theorem pool0_at (r : Fin 256) (d : Fin 128) : k0_pay10 (F := Ideal) p q T C W (ix2 r d)
    = pooled p q T C W 0x40000000#32 s2 15 0 (by omega) r d := by
  have e : k0_pay10 (F := Ideal) p q T C W = tail 0x40000000#32 (extractStridedSlice S256x128 ![15, 0] (d1 (hal (extractStridedSlice S16x128 ![0, 0] q slices_S16x512_o0_0_S16x128) (extractStridedSlice S256x128 ![0, 0] p slices_S256x1536_o0_0_S256x128))) slices_S271x128_o15_0_S256x128)
      (extractStridedSlice S256x128 ![0, 0] p slices_S256x1536_o0_0_S256x128) T W
      (extractStridedSlice S1x128 ![0, 0] C slices_S1x512_o0_0_S1x128) := rfl
  rw [e, tail_at]
  unfold pooled
  have hs : ∀ j : Fin 128, (extractStridedSlice S256x128 ![15, 0] (d1 (hal (extractStridedSlice S16x128 ![0, 0] q slices_S16x512_o0_0_S16x128) (extractStridedSlice S256x128 ![0, 0] p slices_S256x1536_o0_0_S256x128))) slices_S271x128_o15_0_S256x128 : FVec Ideal S256x128 .f32) (ix2 r j) = s2 (ext q p ⟨0 + j, by omega⟩) (15 + r) := fun j =>
    Eq.trans (by pointwise []) (d1_at _ _ j (hal0 p q j) ⟨15 + r, by omega⟩)
  have hx : ∀ j : Fin 128, (extractStridedSlice S256x128 ![0, 0] p slices_S256x1536_o0_0_S256x128 : FVec Ideal S256x128 .f32) (ix2 r j)
      = p (ix2 r ⟨0 + j, by omega⟩) := fun j => by pointwise []
  have hc : (extractStridedSlice S1x128 ![0, 0] C slices_S1x512_o0_0_S1x128 : FVec Ideal S1x128 .f32) (ix2 0 d) = C (ix2 0 ⟨0 + d, by omega⟩) := by
    pointwise []
  rw [hc]
  exact congrArg (fun z => z * C (ix2 0 ⟨0 + d, by omega⟩)) (Finset.sum_congr rfl fun j _ => by rw [hs, hx])

theorem hal1 (j : Fin 128) (u : Fin 272) : hal (extractStridedSlice S16x128 ![0, 128] q slices_S16x512_o0_128_S16x128)
    (extractStridedSlice S256x128 ![0, 128] p slices_S256x1536_o0_128_S256x128) (ix2 u j) = ext q p ⟨128 + j, by omega⟩ u := by
  rw [hal_at]; unfold ext
  have hu := u.2
  split_ifs with h h'
  · pointwise []
  · pointwise []
  · omega

theorem pool1_at (r : Fin 256) (d : Fin 128) : k0_pay13 (F := Ideal) C (k0_pay11 (F := Ideal) W) (k0_pay12 (F := Ideal) p q T) (constant S256x128 .f32 0x00000000#32) (ix2 r d)
    = pooled p q T C W 0x40800000#32 s4 13 128 (by omega) r d := by
  have e : k0_pay13 (F := Ideal) C (k0_pay11 (F := Ideal) W) (k0_pay12 (F := Ideal) p q T) (constant S256x128 .f32 0x00000000#32) = tail 0x40800000#32 (extractStridedSlice S256x128 ![13, 0] (d2 (d1 (hal (extractStridedSlice S16x128 ![0, 128] q slices_S16x512_o0_128_S16x128) (extractStridedSlice S256x128 ![0, 128] p slices_S256x1536_o0_128_S256x128)))) slices_S269x128_o13_0_S256x128)
      (extractStridedSlice S256x128 ![0, 128] p slices_S256x1536_o0_128_S256x128) T W
      (extractStridedSlice S1x128 ![0, 128] C slices_S1x512_o0_128_S1x128) := rfl
  rw [e, tail_at]
  unfold pooled
  have hs : ∀ j : Fin 128, (extractStridedSlice S256x128 ![13, 0] (d2 (d1 (hal (extractStridedSlice S16x128 ![0, 128] q slices_S16x512_o0_128_S16x128) (extractStridedSlice S256x128 ![0, 128] p slices_S256x1536_o0_128_S256x128)))) slices_S269x128_o13_0_S256x128 : FVec Ideal S256x128 .f32) (ix2 r j) = s4 (ext q p ⟨128 + j, by omega⟩) (13 + r) := fun j =>
    Eq.trans (by pointwise []) (d2_at _ _ j (d1_at _ _ j (hal1 p q j)) ⟨13 + r, by omega⟩)
  have hx : ∀ j : Fin 128, (extractStridedSlice S256x128 ![0, 128] p slices_S256x1536_o0_128_S256x128 : FVec Ideal S256x128 .f32) (ix2 r j)
      = p (ix2 r ⟨128 + j, by omega⟩) := fun j => by pointwise []
  have hc : (extractStridedSlice S1x128 ![0, 128] C slices_S1x512_o0_128_S1x128 : FVec Ideal S1x128 .f32) (ix2 0 d) = C (ix2 0 ⟨128 + d, by omega⟩) := by
    pointwise []
  rw [hc]
  exact congrArg (fun z => z * C (ix2 0 ⟨128 + d, by omega⟩)) (Finset.sum_congr rfl fun j _ => by rw [hs, hx])

theorem hal2 (j : Fin 128) (u : Fin 272) : hal (extractStridedSlice S16x128 ![0, 256] q slices_S16x512_o0_256_S16x128)
    (extractStridedSlice S256x128 ![0, 256] p slices_S256x1536_o0_256_S256x128) (ix2 u j) = ext q p ⟨256 + j, by omega⟩ u := by
  rw [hal_at]; unfold ext
  have hu := u.2
  split_ifs with h h'
  · pointwise []
  · pointwise []
  · omega

theorem pool2_at (r : Fin 256) (d : Fin 128) : k0_pay14 (F := Ideal) p q T C W (ix2 r d)
    = pooled p q T C W 0x41000000#32 s8 9 256 (by omega) r d := by
  have e : k0_pay14 (F := Ideal) p q T C W = tail 0x41000000#32 (extractStridedSlice S256x128 ![9, 0] (d4 (d2 (d1 (hal (extractStridedSlice S16x128 ![0, 256] q slices_S16x512_o0_256_S16x128) (extractStridedSlice S256x128 ![0, 256] p slices_S256x1536_o0_256_S256x128))))) slices_S265x128_o9_0_S256x128)
      (extractStridedSlice S256x128 ![0, 256] p slices_S256x1536_o0_256_S256x128) T W
      (extractStridedSlice S1x128 ![0, 256] C slices_S1x512_o0_256_S1x128) := rfl
  rw [e, tail_at]
  unfold pooled
  have hs : ∀ j : Fin 128, (extractStridedSlice S256x128 ![9, 0] (d4 (d2 (d1 (hal (extractStridedSlice S16x128 ![0, 256] q slices_S16x512_o0_256_S16x128) (extractStridedSlice S256x128 ![0, 256] p slices_S256x1536_o0_256_S256x128))))) slices_S265x128_o9_0_S256x128 : FVec Ideal S256x128 .f32) (ix2 r j) = s8 (ext q p ⟨256 + j, by omega⟩) (9 + r) := fun j =>
    Eq.trans (by pointwise []) (d4_at _ _ j (d2_at _ _ j (d1_at _ _ j (hal2 p q j))) ⟨9 + r, by omega⟩)
  have hx : ∀ j : Fin 128, (extractStridedSlice S256x128 ![0, 256] p slices_S256x1536_o0_256_S256x128 : FVec Ideal S256x128 .f32) (ix2 r j)
      = p (ix2 r ⟨256 + j, by omega⟩) := fun j => by pointwise []
  have hc : (extractStridedSlice S1x128 ![0, 256] C slices_S1x512_o0_256_S1x128 : FVec Ideal S1x128 .f32) (ix2 0 d) = C (ix2 0 ⟨256 + d, by omega⟩) := by
    pointwise []
  rw [hc]
  exact congrArg (fun z => z * C (ix2 0 ⟨256 + d, by omega⟩)) (Finset.sum_congr rfl fun j _ => by rw [hs, hx])

theorem hal3 (j : Fin 128) (u : Fin 272) : hal (extractStridedSlice S16x128 ![0, 384] q slices_S16x512_o0_384_S16x128)
    (extractStridedSlice S256x128 ![0, 384] p slices_S256x1536_o0_384_S256x128) (ix2 u j) = ext q p ⟨384 + j, by omega⟩ u := by
  rw [hal_at]; unfold ext
  have hu := u.2
  split_ifs with h h'
  · pointwise []
  · pointwise []
  · omega

theorem pool3_at (r : Fin 256) (d : Fin 128) : k0_pay17 (F := Ideal) T C (k0_pay15 (F := Ideal) p) (k0_pay16 (F := Ideal) p q) W (ix2 r d)
    = pooled p q T C W 0x41800000#32 s16 1 384 (by omega) r d := by
  have e : k0_pay17 (F := Ideal) T C (k0_pay15 (F := Ideal) p) (k0_pay16 (F := Ideal) p q) W = tail 0x41800000#32 (extractStridedSlice S256x128 ![1, 0] (d8 (d4 (d2 (d1 (hal (extractStridedSlice S16x128 ![0, 384] q slices_S16x512_o0_384_S16x128) (extractStridedSlice S256x128 ![0, 384] p slices_S256x1536_o0_384_S256x128)))))) slices_S257x128_o1_0_S256x128)
      (extractStridedSlice S256x128 ![0, 384] p slices_S256x1536_o0_384_S256x128) T W
      (extractStridedSlice S1x128 ![0, 384] C slices_S1x512_o0_384_S1x128) := rfl
  rw [e, tail_at]
  unfold pooled
  have hs : ∀ j : Fin 128, (extractStridedSlice S256x128 ![1, 0] (d8 (d4 (d2 (d1 (hal (extractStridedSlice S16x128 ![0, 384] q slices_S16x512_o0_384_S16x128) (extractStridedSlice S256x128 ![0, 384] p slices_S256x1536_o0_384_S256x128)))))) slices_S257x128_o1_0_S256x128 : FVec Ideal S256x128 .f32) (ix2 r j) = s16 (ext q p ⟨384 + j, by omega⟩) (1 + r) := fun j =>
    Eq.trans (by pointwise []) (d8_at _ _ j (d4_at _ _ j (d2_at _ _ j (d1_at _ _ j (hal3 p q j)))) ⟨1 + r, by omega⟩)
  have hx : ∀ j : Fin 128, (extractStridedSlice S256x128 ![0, 384] p slices_S256x1536_o0_384_S256x128 : FVec Ideal S256x128 .f32) (ix2 r j)
      = p (ix2 r ⟨384 + j, by omega⟩) := fun j => by pointwise []
  have hc : (extractStridedSlice S1x128 ![0, 384] C slices_S1x512_o0_384_S1x128 : FVec Ideal S1x128 .f32) (ix2 0 d) = C (ix2 0 ⟨384 + d, by omega⟩) := by
    pointwise []
  rw [hc]
  exact congrArg (fun z => z * C (ix2 0 ⟨384 + d, by omega⟩)) (Finset.sum_congr rfl fun j _ => by rw [hs, hx])

end Cert.Proof.Odd

end
-- ==== Proof.OddGate.lean ====
module

public import proofs.«01_k».proof.Proof.Ffn
public import proofs.«01_k».proof.Proof.Gen.Kernel5Ideal.Skeleton
public import Idealize.ShloMosaic.Lib.Pointwise
public import Idealize.ShloMosaic.Lib.Pipeline.ValueKit

/-! The gated half of the odd layers' body at an index, and the body's first and last products. -/

@[expose] public section

set_option maxRecDepth 16384

noncomputable section

namespace Cert.Proof.Odd

open Cert.Kernel5Ideal Cert.Kernel5Ideal.Gen Idealize.ShloMosaic Idealize.ShloMosaic.TcCoe

/-- The exact `gelu`. -/
def gelu (x : EReal) : EReal := Ideal.ofBits .f32 0x3F000000#32 * x * (1 + Ideal.erf (x * Ideal.ofBits .f32 0x3F3504F3#32))

/-- Layer norm of a row of 512 at an index. -/
def lnT (f : Fin 512 → EReal) (g b : EReal) (n : Fin 512) : EReal :=
  (f n - Ideal.div (∑ x, f x) (Ideal.ofBits .f32 0x44000000#32))
      * Ideal.rsqrt (Ideal.div (∑ x, (f x - Ideal.div (∑ x, f x) (Ideal.ofBits .f32 0x44000000#32))
            * (f x - Ideal.div (∑ x, f x) (Ideal.ofBits .f32 0x44000000#32))) (Ideal.ofBits .f32 0x44000000#32)
          + Ideal.ofBits .f32 0x3727C5AC#32)
      * g + b

theorem pay6_at (M : FVec Ideal S1x6x1024 .f32) (X : FVec Ideal S1x256x1024 .f32) (W : FVec Ideal S1024x1536 .bf16) (r : Fin 256) (n : Fin 1536) :
    k0_pay6 (F := Ideal) M X W (ix2 r n) = ∑ k : Fin 1024, (X (ix3 0 r k) * (1 + M (ix3 0 1 k)) + M (ix3 0 0 k)) * W (ix2 k n) := by
  pointwise [k0_pay6, k0_pay5, k0_pay4, k0_pay3, k0_pay2]

theorem pay7_at (i : grid0.Coords) (M : FVec Ideal S1x6x1024 .f32) (X : FVec Ideal S1x16x1024 .f32) (W : FVec Ideal S1024x512 .bf16) (u : Fin 16) (n : Fin 512) :
    k0_pay7 (F := Ideal) i M X W (ix2 u n) = if (i 1).val = 0 then 0
      else ∑ k : Fin 1024, (X (ix3 0 u k) * (1 + M (ix3 0 1 k)) + M (ix3 0 0 k)) * W (ix2 k n) := by
  have hl : ∀ i : Fin 32, (Scalar.extui (Scalar.cmpi .sgt (BitVec.ofNat 32 i.val) 0#32) : BitVec 32).toInt = if i.val = 0 then 0 else 1 := by decide
  have hl := hl (i 1)
  pointwise [k0_pay7, k0_pay4, k0_pay3, k0_pay2]
  rw [hl]
  split_ifs <;> simp

theorem pay18_at (p : FVec Ideal S256x1536 .f32) (r : Fin 256) (n : Fin 512) :
    k0_pay18 (F := Ideal) p (ix2 r n) = gelu (p (ix2 r ⟨512 + n, by omega⟩)) := by
  unfold gelu
  pointwise [k0_pay18]
  rfl

theorem pay19_at (p : FVec Ideal S256x1536 .f32) (r : Fin 256) (n : Fin 512) :
    k0_pay19 (F := Ideal) p (ix2 r n) = gelu (p (ix2 r ⟨1024 + n, by omega⟩)) := by
  unfold gelu
  pointwise [k0_pay19]
  rfl

theorem pay20_at (Z : FVec Ideal S256x512 .f32) (g h : FVec Ideal S1x512 .f32) (r : Fin 256) (n : Fin 512) :
    k0_pay20 (F := Ideal) Z g h (ix2 r n) = lnT (fun k => Z (ix2 r k)) (g (ix2 0 n)) (h (ix2 0 n)) n := by
  unfold lnT
  pointwise [k0_pay20]

/-- The lower triangle of a group's weights. -/
def low (w : EReal) (t s : Fin 128) : EReal := if s.val ≤ t.val then w else 0

theorem sle_at : ∀ t s : Fin 128, IntOp.cmpi .sle (BitVec.ofNat 32 s.val) (BitVec.ofNat 32 t.val) = if s.val ≤ t.val then 1#1 else 0#1 := by
  decide +kernel

theorem pay22_at (w : FVec Ideal S1x128x128 .f32) (t s : Fin 128) : k0_pay22 (F := Ideal) w (ix2 t s) = low (w (ix3 0 t s)) t s := by
  unfold low
  have hl := sle_at t s
  pointwise [k0_pay22]
  rw [hl]
  split_ifs <;> rfl

theorem pay1_at (g h : FVec Ideal S1x1024 .f32) (Z Q : FVec Ideal S256x1024 .f32) (r : Fin 256) (n : Fin 1024) (f : Fin 1024 → EReal)
    (hZ : ∀ k, Z (ix2 r k) = f k) (hQ : ∀ k, Q (ix2 r k) = Ideal.div (∑ x, f x) (Ideal.ofBits .f32 0x44800000#32)) :
    k0_pay1 (F := Ideal) Z g h Q (ix3 0 r n) = Ffn.lnS f (g (ix2 0 n)) (h (ix2 0 n)) n := by
  unfold Ffn.lnS
  pointwise [k0_pay1]
  simp only [hQ, hZ]

theorem pay37_at (M : FVec Ideal S1x6x1024 .f32) (X : FVec Ideal S1x256x1024 .f32) (Y : FVec Ideal S256x1024 .bf16) (W : FVec Ideal S1024x1024 .bf16) (r : Fin 256) (n : Fin 1024) :
    k0_pay37 (F := Ideal) (k0_pay2 (F := Ideal) M) (k0_pay5 (F := Ideal) X) Y W (ix2 r n) = Ideal.ofBits .f32 0x3FD744FD#32 * X (ix3 0 r n)
      + M (ix3 0 2 n) * ∑ k : Fin 1024, Y (ix2 r k) * W (ix2 k n) := by
  pointwise [k0_pay37, k0_pay2, k0_pay5]

theorem pay40_at (M : FVec Ideal S1x6x1024 .f32) (X : FVec Ideal S1x256x1024 .f32) (Y : FVec Ideal S256x1024 .bf16) (W : FVec Ideal S1024x1024 .bf16) (r : Fin 256) (n : Fin 1024) :
    k0_pay40 (F := Ideal) (k0_pay2 (F := Ideal) M) (k0_pay5 (F := Ideal) X) Y W (ix2 r n)
      = Ideal.div (∑ k, k0_pay37 (F := Ideal) (k0_pay2 (F := Ideal) M) (k0_pay5 (F := Ideal) X) Y W (ix2 r k)) (Ideal.ofBits .f32 0x44800000#32) := by
  pointwise [k0_pay40]

/-! ## The gating -/

/-- A chunk of a group, its rows mixed by `Wt`, biased and gated. -/
def gate (Wt V U : FVec Ideal S128x128 .f32) (B : FVec Ideal S128x1 .f32) : FVec Ideal S128x128 .bf16 :=
  shapeCast S128x128 (truncf .bf16 (mulf U (addf (matmul dot_S128x128_S128x128_S128x128_1_0_0_1_n_n none (truncf .bf16 Wt bitsLt_bf16_f32)
    (truncf .bf16 V bitsLt_bf16_f32) (constant S128x128 .f32 0x00000000#32)) (broadcastTo S128x128 B broadcasts_S128x1_S128x128))) bitsLt_bf16_f32)
    shapeCasts_S128x128_S128x128

theorem gate_at (Wt V U : FVec Ideal S128x128 .f32) (B : FVec Ideal S128x1 .f32) (t d : Fin 128) :
    gate Wt V U B (ix2 t d) = U (ix2 t d) * ((∑ s : Fin 128, Wt (ix2 t s) * V (ix2 s d)) + B (ix2 t 0)) := by
  pointwise [gate]

variable (U V : FVec Ideal S256x512 .f32) (B : FVec Ideal S128x4 .f32) (w : FVec Ideal S1x128x128 .f32)

/-- A gated entry of the chunk of rows from `a`, in the group of columns from `o`. -/
def gated (a o : ℕ) (ha : a + 128 ≤ 256) (ho : o + 128 ≤ 512) (g : Fin 4) (t d : Fin 128) : EReal :=
  U (ix2 ⟨a + t, by omega⟩ ⟨o + d, by omega⟩)
    * ((∑ s : Fin 128, low (w (ix3 0 t s)) t s * V (ix2 ⟨a + s, by omega⟩ ⟨o + d, by omega⟩)) + B (ix2 t g))

theorem gate0_0 (Z : FVec Ideal S256x512 .f32) (g h : FVec Ideal S1x512 .f32) (t d : Fin 128) : k0_pay24 (F := Ideal) (k0_pay23 (F := Ideal) U Z g h B w) (ix2 t d) = gated U (k0_pay20 (F := Ideal) Z g h) B w 0 0 (by omega) (by omega) 0 t d := by
  have e : k0_pay24 (F := Ideal) (k0_pay23 (F := Ideal) U Z g h B w) = gate (k0_pay22 (F := Ideal) w) (extractStridedSlice S128x128 ![0, 0] (k0_pay20 (F := Ideal) Z g h) slices_S256x512_o0_0_S128x128 : FVec Ideal S128x128 .f32)
      (extractStridedSlice S128x128 ![0, 0] U slices_S256x512_o0_0_S128x128 : FVec Ideal S128x128 .f32) (extractStridedSlice S128x1 ![0, 0] (k0_pay21 (F := Ideal) B) slices_S128x4_o0_0_S128x1 : FVec Ideal S128x1 .f32) := rfl
  have hv : ∀ s : Fin 128, (extractStridedSlice S128x128 ![0, 0] (k0_pay20 (F := Ideal) Z g h) slices_S256x512_o0_0_S128x128 : FVec Ideal S128x128 .f32) (ix2 s d) = (k0_pay20 (F := Ideal) Z g h) (ix2 ⟨0 + s, by omega⟩ ⟨0 + d, by omega⟩) := fun s => by
    generalize k0_pay20 (F := Ideal) Z g h = V'
    pointwise []
  have hu : (extractStridedSlice S128x128 ![0, 0] U slices_S256x512_o0_0_S128x128 : FVec Ideal S128x128 .f32) (ix2 t d) = U (ix2 ⟨0 + t, by omega⟩ ⟨0 + d, by omega⟩) := by pointwise []
  have hb : (extractStridedSlice S128x1 ![0, 0] (k0_pay21 (F := Ideal) B) slices_S128x4_o0_0_S128x1 : FVec Ideal S128x1 .f32) (ix2 t 0) = B (ix2 t 0) := by pointwise [k0_pay21]
  rw [e, gate_at, hu, hb]
  unfold gated
  simp only [hv, pay22_at]

theorem gate0_128 (t d : Fin 128) : k0_pay25 (F := Ideal) U V (k0_pay21 (F := Ideal) B) (k0_pay22 (F := Ideal) w) (ix2 t d) = gated U V B w 128 0 (by omega) (by omega) 0 t d := by
  have e : k0_pay25 (F := Ideal) U V (k0_pay21 (F := Ideal) B) (k0_pay22 (F := Ideal) w) = gate (k0_pay22 (F := Ideal) w) (extractStridedSlice S128x128 ![128, 0] V slices_S256x512_o128_0_S128x128 : FVec Ideal S128x128 .f32)
      (extractStridedSlice S128x128 ![128, 0] U slices_S256x512_o128_0_S128x128 : FVec Ideal S128x128 .f32) (extractStridedSlice S128x1 ![0, 0] (k0_pay21 (F := Ideal) B) slices_S128x4_o0_0_S128x1 : FVec Ideal S128x1 .f32) := rfl
  have hv : ∀ s : Fin 128, (extractStridedSlice S128x128 ![128, 0] V slices_S256x512_o128_0_S128x128 : FVec Ideal S128x128 .f32) (ix2 s d) = V (ix2 ⟨128 + s, by omega⟩ ⟨0 + d, by omega⟩) := fun s => by
    pointwise []
  have hu : (extractStridedSlice S128x128 ![128, 0] U slices_S256x512_o128_0_S128x128 : FVec Ideal S128x128 .f32) (ix2 t d) = U (ix2 ⟨128 + t, by omega⟩ ⟨0 + d, by omega⟩) := by pointwise []
  have hb : (extractStridedSlice S128x1 ![0, 0] (k0_pay21 (F := Ideal) B) slices_S128x4_o0_0_S128x1 : FVec Ideal S128x1 .f32) (ix2 t 0) = B (ix2 t 0) := by pointwise [k0_pay21]
  rw [e, gate_at, hu, hb]
  unfold gated
  simp only [hv, pay22_at]

theorem gate1_0 (t d : Fin 128) : k0_pay27 (F := Ideal) U V (iota Kind.tc S128x128 32 [0] iota_S128x128_d0_w32) (iota Kind.tc S128x128 32 [1] iota_S128x128_d1_w32) (k0_pay21 (F := Ideal) B) w (ix2 t d) = gated U V B w 0 128 (by omega) (by omega) 1 t d := by
  have e : k0_pay27 (F := Ideal) U V (iota Kind.tc S128x128 32 [0] iota_S128x128_d0_w32) (iota Kind.tc S128x128 32 [1] iota_S128x128_d1_w32) (k0_pay21 (F := Ideal) B) w = gate (k0_pay22 (F := Ideal) w) (extractStridedSlice S128x128 ![0, 128] V slices_S256x512_o0_128_S128x128 : FVec Ideal S128x128 .f32)
      (extractStridedSlice S128x128 ![0, 128] U slices_S256x512_o0_128_S128x128 : FVec Ideal S128x128 .f32) (extractStridedSlice S128x1 ![0, 1] (k0_pay21 (F := Ideal) B) slices_S128x4_o0_1_S128x1 : FVec Ideal S128x1 .f32) := rfl
  have hv : ∀ s : Fin 128, (extractStridedSlice S128x128 ![0, 128] V slices_S256x512_o0_128_S128x128 : FVec Ideal S128x128 .f32) (ix2 s d) = V (ix2 ⟨0 + s, by omega⟩ ⟨128 + d, by omega⟩) := fun s => by
    pointwise []
  have hu : (extractStridedSlice S128x128 ![0, 128] U slices_S256x512_o0_128_S128x128 : FVec Ideal S128x128 .f32) (ix2 t d) = U (ix2 ⟨0 + t, by omega⟩ ⟨128 + d, by omega⟩) := by pointwise []
  have hb : (extractStridedSlice S128x1 ![0, 1] (k0_pay21 (F := Ideal) B) slices_S128x4_o0_1_S128x1 : FVec Ideal S128x1 .f32) (ix2 t 0) = B (ix2 t 1) := by pointwise [k0_pay21]
  rw [e, gate_at, hu, hb]
  unfold gated
  simp only [hv, pay22_at]

theorem gate1_128 (t d : Fin 128) : k0_pay29 (F := Ideal) (k0_pay28 (F := Ideal) U V (iota Kind.tc S128x128 32 [0] iota_S128x128_d0_w32) (iota Kind.tc S128x128 32 [1] iota_S128x128_d1_w32) (k0_pay21 (F := Ideal) B) w) (ix2 t d) = gated U V B w 128 128 (by omega) (by omega) 1 t d := by
  have e : k0_pay29 (F := Ideal) (k0_pay28 (F := Ideal) U V (iota Kind.tc S128x128 32 [0] iota_S128x128_d0_w32) (iota Kind.tc S128x128 32 [1] iota_S128x128_d1_w32) (k0_pay21 (F := Ideal) B) w) = gate (k0_pay22 (F := Ideal) w) (extractStridedSlice S128x128 ![128, 128] V slices_S256x512_o128_128_S128x128 : FVec Ideal S128x128 .f32)
      (extractStridedSlice S128x128 ![128, 128] U slices_S256x512_o128_128_S128x128 : FVec Ideal S128x128 .f32) (extractStridedSlice S128x1 ![0, 1] (k0_pay21 (F := Ideal) B) slices_S128x4_o0_1_S128x1 : FVec Ideal S128x1 .f32) := rfl
  have hv : ∀ s : Fin 128, (extractStridedSlice S128x128 ![128, 128] V slices_S256x512_o128_128_S128x128 : FVec Ideal S128x128 .f32) (ix2 s d) = V (ix2 ⟨128 + s, by omega⟩ ⟨128 + d, by omega⟩) := fun s => by
    pointwise []
  have hu : (extractStridedSlice S128x128 ![128, 128] U slices_S256x512_o128_128_S128x128 : FVec Ideal S128x128 .f32) (ix2 t d) = U (ix2 ⟨128 + t, by omega⟩ ⟨128 + d, by omega⟩) := by pointwise []
  have hb : (extractStridedSlice S128x1 ![0, 1] (k0_pay21 (F := Ideal) B) slices_S128x4_o0_1_S128x1 : FVec Ideal S128x1 .f32) (ix2 t 0) = B (ix2 t 1) := by pointwise [k0_pay21]
  rw [e, gate_at, hu, hb]
  unfold gated
  simp only [hv, pay22_at]

theorem gate2_0 (t d : Fin 128) : k0_pay31 (F := Ideal) U V (iota Kind.tc S128x128 32 [0] iota_S128x128_d0_w32) (iota Kind.tc S128x128 32 [1] iota_S128x128_d1_w32) (k0_pay21 (F := Ideal) B) w (ix2 t d) = gated U V B w 0 256 (by omega) (by omega) 2 t d := by
  have e : k0_pay31 (F := Ideal) U V (iota Kind.tc S128x128 32 [0] iota_S128x128_d0_w32) (iota Kind.tc S128x128 32 [1] iota_S128x128_d1_w32) (k0_pay21 (F := Ideal) B) w = gate (k0_pay22 (F := Ideal) w) (extractStridedSlice S128x128 ![0, 256] V slices_S256x512_o0_256_S128x128 : FVec Ideal S128x128 .f32)
      (extractStridedSlice S128x128 ![0, 256] U slices_S256x512_o0_256_S128x128 : FVec Ideal S128x128 .f32) (extractStridedSlice S128x1 ![0, 2] (k0_pay21 (F := Ideal) B) slices_S128x4_o0_2_S128x1 : FVec Ideal S128x1 .f32) := rfl
  have hv : ∀ s : Fin 128, (extractStridedSlice S128x128 ![0, 256] V slices_S256x512_o0_256_S128x128 : FVec Ideal S128x128 .f32) (ix2 s d) = V (ix2 ⟨0 + s, by omega⟩ ⟨256 + d, by omega⟩) := fun s => by
    pointwise []
  have hu : (extractStridedSlice S128x128 ![0, 256] U slices_S256x512_o0_256_S128x128 : FVec Ideal S128x128 .f32) (ix2 t d) = U (ix2 ⟨0 + t, by omega⟩ ⟨256 + d, by omega⟩) := by pointwise []
  have hb : (extractStridedSlice S128x1 ![0, 2] (k0_pay21 (F := Ideal) B) slices_S128x4_o0_2_S128x1 : FVec Ideal S128x1 .f32) (ix2 t 0) = B (ix2 t 2) := by pointwise [k0_pay21]
  rw [e, gate_at, hu, hb]
  unfold gated
  simp only [hv, pay22_at]

theorem gate2_128 (t d : Fin 128) : k0_pay32 (F := Ideal) U V (iota Kind.tc S128x128 32 [0] iota_S128x128_d0_w32) (iota Kind.tc S128x128 32 [1] iota_S128x128_d1_w32) (k0_pay21 (F := Ideal) B) w (ix2 t d) = gated U V B w 128 256 (by omega) (by omega) 2 t d := by
  have e : k0_pay32 (F := Ideal) U V (iota Kind.tc S128x128 32 [0] iota_S128x128_d0_w32) (iota Kind.tc S128x128 32 [1] iota_S128x128_d1_w32) (k0_pay21 (F := Ideal) B) w = gate (k0_pay22 (F := Ideal) w) (extractStridedSlice S128x128 ![128, 256] V slices_S256x512_o128_256_S128x128 : FVec Ideal S128x128 .f32)
      (extractStridedSlice S128x128 ![128, 256] U slices_S256x512_o128_256_S128x128 : FVec Ideal S128x128 .f32) (extractStridedSlice S128x1 ![0, 2] (k0_pay21 (F := Ideal) B) slices_S128x4_o0_2_S128x1 : FVec Ideal S128x1 .f32) := rfl
  have hv : ∀ s : Fin 128, (extractStridedSlice S128x128 ![128, 256] V slices_S256x512_o128_256_S128x128 : FVec Ideal S128x128 .f32) (ix2 s d) = V (ix2 ⟨128 + s, by omega⟩ ⟨256 + d, by omega⟩) := fun s => by
    pointwise []
  have hu : (extractStridedSlice S128x128 ![128, 256] U slices_S256x512_o128_256_S128x128 : FVec Ideal S128x128 .f32) (ix2 t d) = U (ix2 ⟨128 + t, by omega⟩ ⟨256 + d, by omega⟩) := by pointwise []
  have hb : (extractStridedSlice S128x1 ![0, 2] (k0_pay21 (F := Ideal) B) slices_S128x4_o0_2_S128x1 : FVec Ideal S128x1 .f32) (ix2 t 0) = B (ix2 t 2) := by pointwise [k0_pay21]
  rw [e, gate_at, hu, hb]
  unfold gated
  simp only [hv, pay22_at]

theorem gate3_0 (t d : Fin 128) : k0_pay35 (F := Ideal) U (k0_pay21 (F := Ideal) B) (k0_pay34 (F := Ideal) V (iota Kind.tc S128x128 32 [0] iota_S128x128_d0_w32) (iota Kind.tc S128x128 32 [1] iota_S128x128_d1_w32) w) (ix2 t d) = gated U V B w 0 384 (by omega) (by omega) 3 t d := by
  have e : k0_pay35 (F := Ideal) U (k0_pay21 (F := Ideal) B) (k0_pay34 (F := Ideal) V (iota Kind.tc S128x128 32 [0] iota_S128x128_d0_w32) (iota Kind.tc S128x128 32 [1] iota_S128x128_d1_w32) w) = gate (k0_pay22 (F := Ideal) w) (extractStridedSlice S128x128 ![0, 384] V slices_S256x512_o0_384_S128x128 : FVec Ideal S128x128 .f32)
      (extractStridedSlice S128x128 ![0, 384] U slices_S256x512_o0_384_S128x128 : FVec Ideal S128x128 .f32) (extractStridedSlice S128x1 ![0, 3] (k0_pay21 (F := Ideal) B) slices_S128x4_o0_3_S128x1 : FVec Ideal S128x1 .f32) := rfl
  have hv : ∀ s : Fin 128, (extractStridedSlice S128x128 ![0, 384] V slices_S256x512_o0_384_S128x128 : FVec Ideal S128x128 .f32) (ix2 s d) = V (ix2 ⟨0 + s, by omega⟩ ⟨384 + d, by omega⟩) := fun s => by
    pointwise []
  have hu : (extractStridedSlice S128x128 ![0, 384] U slices_S256x512_o0_384_S128x128 : FVec Ideal S128x128 .f32) (ix2 t d) = U (ix2 ⟨0 + t, by omega⟩ ⟨384 + d, by omega⟩) := by pointwise []
  have hb : (extractStridedSlice S128x1 ![0, 3] (k0_pay21 (F := Ideal) B) slices_S128x4_o0_3_S128x1 : FVec Ideal S128x1 .f32) (ix2 t 0) = B (ix2 t 3) := by pointwise [k0_pay21]
  rw [e, gate_at, hu, hb]
  unfold gated
  simp only [hv, pay22_at]

theorem gate3_128 (t d : Fin 128) : k0_pay36 (F := Ideal) U V (k0_pay21 (F := Ideal) B) (k0_pay33 (F := Ideal) (iota Kind.tc S128x128 32 [0] iota_S128x128_d0_w32) (iota Kind.tc S128x128 32 [1] iota_S128x128_d1_w32) w) (ix2 t d) = gated U V B w 128 384 (by omega) (by omega) 3 t d := by
  have e : k0_pay36 (F := Ideal) U V (k0_pay21 (F := Ideal) B) (k0_pay33 (F := Ideal) (iota Kind.tc S128x128 32 [0] iota_S128x128_d0_w32) (iota Kind.tc S128x128 32 [1] iota_S128x128_d1_w32) w) = gate (k0_pay22 (F := Ideal) w) (extractStridedSlice S128x128 ![128, 384] V slices_S256x512_o128_384_S128x128 : FVec Ideal S128x128 .f32)
      (extractStridedSlice S128x128 ![128, 384] U slices_S256x512_o128_384_S128x128 : FVec Ideal S128x128 .f32) (extractStridedSlice S128x1 ![0, 3] (k0_pay21 (F := Ideal) B) slices_S128x4_o0_3_S128x1 : FVec Ideal S128x1 .f32) := rfl
  have hv : ∀ s : Fin 128, (extractStridedSlice S128x128 ![128, 384] V slices_S256x512_o128_384_S128x128 : FVec Ideal S128x128 .f32) (ix2 s d) = V (ix2 ⟨128 + s, by omega⟩ ⟨384 + d, by omega⟩) := fun s => by
    pointwise []
  have hu : (extractStridedSlice S128x128 ![128, 384] U slices_S256x512_o128_384_S128x128 : FVec Ideal S128x128 .f32) (ix2 t d) = U (ix2 ⟨128 + t, by omega⟩ ⟨384 + d, by omega⟩) := by pointwise []
  have hb : (extractStridedSlice S128x1 ![0, 3] (k0_pay21 (F := Ideal) B) slices_S128x4_o0_3_S128x1 : FVec Ideal S128x1 .f32) (ix2 t 0) = B (ix2 t 3) := by pointwise [k0_pay21]
  rw [e, gate_at, hu, hb]
  unfold gated
  simp only [hv, pay22_at]

end Cert.Proof.Odd

end
-- ==== Proof.Ref5.lean ====
module

public import proofs.«01_k».proof.Proof.OddPool
public import proofs.«01_k».proof.Proof.OddGate
public import proofs.«01_k».proof.Proof.Gen.Reference5Ideal.Run

/-! The odd layers' reference at an index. -/

@[expose] public section

set_option maxRecDepth 16384

noncomputable section

namespace Cert.Proof.Ref5

open Cert.Reference5Ideal Cert.Reference5Ideal.Gen Cert.Reference5Ideal.Value Idealize.ShloMosaic Idealize.ShloMosaic.TcCoe Idealize.SL.Sem Idealize.ShloMosaic.StableHlo
open Cert.Proof.Odd (s2 s4 s8 s16 gelu lnT low)

variable (V0 : Valuation τ sig (Elt Ideal))

abbrev aX : FVec Ideal S4x8192x1024 .f32 := V0 (Proc.devRef .tc main_arg0)
abbrev aM : FVec Ideal S4x6x1024 .f32 := V0 (Proc.devRef .tc main_arg1)
abbrev aW : FVec Ideal S1024x1536 .f32 := V0 (Proc.devRef .tc main_arg2)
abbrev aPW : FVec Ideal S4x128x128 .f32 := V0 (Proc.devRef .tc main_arg3)
abbrev aPS : FVec Ideal S512 .f32 := V0 (Proc.devRef .tc main_arg4)
abbrev aSG : FVec Ideal S512 .f32 := V0 (Proc.devRef .tc main_arg5)
abbrev aSB : FVec Ideal S512 .f32 := V0 (Proc.devRef .tc main_arg6)
abbrev aSW : FVec Ideal S4x128x128 .f32 := V0 (Proc.devRef .tc main_arg7)
abbrev aSC : FVec Ideal S4x128 .f32 := V0 (Proc.devRef .tc main_arg8)
abbrev aWO : FVec Ideal S1024x1024 .f32 := V0 (Proc.devRef .tc main_arg9)
abbrev aG : FVec Ideal S1024 .f32 := V0 (Proc.devRef .tc main_arg10)
abbrev aB : FVec Ideal S1024 .f32 := V0 (Proc.devRef .tc main_arg11)
/-- The projection. -/
abbrev prj : FVec Ideal S4x8192x1536 .f32 := res_main_v8 V0

theorem prj_at (b : Fin 4) (s : Fin 8192) (n : Fin 1536) :
    prj V0 (ix3 b s n) = ∑ k : Fin 1024, (aX V0 (ix3 b s k) * (1 + aM V0 (ix3 b 1 k)) + aM V0 (ix3 b 0 k)) * aW V0 (ix2 k n) := by
  pointwise [prj, res_main_v8]

/-- A row's position. -/
theorem pos_at (s : Fin 8192) : (res_main_v10 V0 : FVec Ideal S8192 .f32) (ix1 s) = FloatOps.sitofp (F := Ideal) .f32 (BitVec.ofNat 32 s.val) := by
  pointwise [res_main_v10]

/-- Row `v - 15` of a pooled column, zero above the first row. -/
def pr (b : Fin 4) (n : Fin 512) (v : ℕ) : EReal := if h : 15 ≤ v ∧ v - 15 < 8192 then prj V0 (ix3 b ⟨v - 15, h.2⟩ ⟨n, by omega⟩) else 0

/-- The average of a window less the row, projected. -/
def mix (w : BitVec 32) (S X : FVec Ideal S4x8192x128 .f32) (T : FVec Ideal S8192 .f32) (W : FVec Ideal S128x128 .f32) : FVec Ideal S4x8192x128 .f32 :=
  Host.dotGeneral dot_S4x8192x128_S128x128_S4x8192x128_2_0_01_1_n_n none (subf (Host.divf S (broadcastInDim S4x8192x128 ![0, 1, 2] bcast_S1x8192x1_S4x8192x128_0_1_2 (broadcastInDim S1x8192x1 ![1] bcast_S8192_S1x8192x1_1 (minimumf (addf T (broadcastInDim S8192 ![] bcast_S_S8192 (constant S_ .f32 0x3F800000#32))) (broadcastInDim S8192 ![] bcast_S_S8192 (constant S_ .f32 w)))))) X) W

theorem mix_at (w : BitVec 32) (S X : FVec Ideal S4x8192x128 .f32) (T : FVec Ideal S8192 .f32) (W : FVec Ideal S128x128 .f32) (b : Fin 4) (s : Fin 8192) (d : Fin 128) :
    mix w S X T W (ix3 b s d) = ∑ j : Fin 128, (Ideal.div (S (ix3 b s j)) (min (T (ix1 s) + 1) (Ideal.ofBits .f32 w)) - X (ix3 b s j)) * W (ix2 j d) := by
  pointwise [mix]

/-- The four groups, side by side. -/
def cat4 (A B C D : FVec Ideal S4x8192x128 .f32) : FVec Ideal S4x8192x512 .f32 :=
  concatenate S4x8192x512 2 [⟨S4x8192x128, A⟩, ⟨S4x8192x128, B⟩, ⟨S4x8192x128, C⟩, ⟨S4x8192x128, D⟩]
    concatenates_S4x8192x128_S4x8192x128_S4x8192x128_S4x8192x128_S4x8192x512_d2

theorem cat4_at (A B C D : FVec Ideal S4x8192x128 .f32) (b : Fin 4) (s : Fin 8192) (n : Fin 512) :
    cat4 A B C D (ix3 b s n) = if h : n.val < 128 then A (ix3 b s ⟨n, h⟩) else if h : n.val - 128 < 128 then B (ix3 b s ⟨n - 128, h⟩)
      else if h : n.val - 128 - 128 < 128 then C (ix3 b s ⟨n - 128 - 128, h⟩) else D (ix3 b s ⟨n - 128 - 128 - 128, by omega⟩) := by
  pointwise [cat4]

def tot2 (Z : FVec Ideal S4x8193x128 .f32) : FVec Ideal S4x8192x128 .f32 :=
  addf (extractStridedSlice S4x8192x128 ![0, 0, 0] Z slices_S4x8193x128_S4x8192x128_0_0_0) (extractStridedSlice S4x8192x128 ![0, 1, 0] Z slices_S4x8193x128_S4x8192x128_0_1_0)

theorem tot2_at (Z : FVec Ideal S4x8193x128 .f32) (b : Fin 4) (j : Fin 128) (f : ℕ → EReal) (h : ∀ u : Fin 8193, Z (ix3 b u j) = f (14 + u)) (s : Fin 8192) :
    tot2 Z (ix3 b s j) = s2 f (14 + s) := by
  unfold s2
  pointwise [tot2]
  simp only [h, ← Nat.add_assoc, Nat.reduceAdd]
  abel_nf

def pad2 (X : FVec Ideal S4x8192x128 .f32) : FVec Ideal S4x8193x128 .f32 :=
  pad S4x8193x128 ![0, 1, 0] ![0, 0, 0] ![0, 0, 0] X (sitofp .f32 (constantI S_ 32 0#32)) pads_S4x8192x128_S4x8193x128_000_100_000 h_S_

theorem padd2_at (X : FVec Ideal S4x8192x128 .f32) (b : Fin 4) (j : Fin 128) (u : Fin 8193) : pad2 X (ix3 b u j)
    = if h : 1 ≤ u.val ∧ u.val - 1 < 8192 then X (ix3 b ⟨u.val - 1, h.2⟩ j) else FloatOps.sitofp (F := Ideal) .f32 (0#32) := by
  pointwise [pad2]

theorem grp0_at (b : Fin 4) (s : Fin 8192) (j : Fin 128) : (res_main_v11 V0 : FVec Ideal S4x8192x128 .f32) (ix3 b s j) = prj V0 (ix3 b s ⟨0 + j, by omega⟩) := by
  pointwise [res_main_v11, res_main_v9, prj]

theorem pad2_at (b : Fin 4) (j : Fin 128) (u : Fin 8193) : (res_main_v12 V0 : FVec Ideal S4x8193x128 .f32) (ix3 b u j) = pr V0 b ⟨0 + j, by omega⟩ (14 + u) := by
  have e : (res_main_v12 V0 : FVec Ideal S4x8193x128 .f32) (ix3 b u j)
      = if h : 1 ≤ u.val ∧ u.val - 1 < 8192 then prj V0 (ix3 b ⟨u.val - 1, h.2⟩ ⟨0 + j, by omega⟩) else FloatOps.sitofp (F := Ideal) .f32 (0#32) := by
    refine (padd2_at (res_main_v11 V0) b j u).trans ?_
    simp only [grp0_at]
  rw [e]
  unfold pr
  by_cases h : 1 ≤ u.val
  · rw [dif_pos ⟨h, by omega⟩, dif_pos ⟨by omega, by omega⟩]
    have e : u.val - 1 = 14 + u.val - 15 := by omega
    simp only [e]
  · rw [dif_neg (by omega), dif_neg (by omega)]
    simp [FloatOps.sitofp]

def tot4 (Z : FVec Ideal S4x8195x128 .f32) : FVec Ideal S4x8192x128 .f32 :=
  addf (addf (addf (extractStridedSlice S4x8192x128 ![0, 0, 0] Z slices_S4x8195x128_S4x8192x128_0_0_0) (extractStridedSlice S4x8192x128 ![0, 1, 0] Z slices_S4x8195x128_S4x8192x128_0_1_0)) (extractStridedSlice S4x8192x128 ![0, 2, 0] Z slices_S4x8195x128_S4x8192x128_0_2_0)) (extractStridedSlice S4x8192x128 ![0, 3, 0] Z slices_S4x8195x128_S4x8192x128_0_3_0)

theorem tot4_at (Z : FVec Ideal S4x8195x128 .f32) (b : Fin 4) (j : Fin 128) (f : ℕ → EReal) (h : ∀ u : Fin 8195, Z (ix3 b u j) = f (12 + u)) (s : Fin 8192) :
    tot4 Z (ix3 b s j) = s4 f (12 + s) := by
  unfold s4 s2
  pointwise [tot4]
  simp only [h, ← Nat.add_assoc, Nat.reduceAdd]
  abel_nf

def pad4 (X : FVec Ideal S4x8192x128 .f32) : FVec Ideal S4x8195x128 .f32 :=
  pad S4x8195x128 ![0, 3, 0] ![0, 0, 0] ![0, 0, 0] X (sitofp .f32 (constantI S_ 32 0#32)) pads_S4x8192x128_S4x8195x128_000_300_000 h_S_

theorem padd4_at (X : FVec Ideal S4x8192x128 .f32) (b : Fin 4) (j : Fin 128) (u : Fin 8195) : pad4 X (ix3 b u j)
    = if h : 3 ≤ u.val ∧ u.val - 3 < 8192 then X (ix3 b ⟨u.val - 3, h.2⟩ j) else FloatOps.sitofp (F := Ideal) .f32 (0#32) := by
  pointwise [pad4]

theorem grp1_at (b : Fin 4) (s : Fin 8192) (j : Fin 128) : (res_main_v27 V0 : FVec Ideal S4x8192x128 .f32) (ix3 b s j) = prj V0 (ix3 b s ⟨128 + j, by omega⟩) := by
  pointwise [res_main_v27, res_main_v9, prj]

theorem pad4_at (b : Fin 4) (j : Fin 128) (u : Fin 8195) : (res_main_v28 V0 : FVec Ideal S4x8195x128 .f32) (ix3 b u j) = pr V0 b ⟨128 + j, by omega⟩ (12 + u) := by
  have e : (res_main_v28 V0 : FVec Ideal S4x8195x128 .f32) (ix3 b u j)
      = if h : 3 ≤ u.val ∧ u.val - 3 < 8192 then prj V0 (ix3 b ⟨u.val - 3, h.2⟩ ⟨128 + j, by omega⟩) else FloatOps.sitofp (F := Ideal) .f32 (0#32) := by
    refine (padd4_at (res_main_v27 V0) b j u).trans ?_
    simp only [grp1_at]
  rw [e]
  unfold pr
  by_cases h : 3 ≤ u.val
  · rw [dif_pos ⟨h, by omega⟩, dif_pos ⟨by omega, by omega⟩]
    have e : u.val - 3 = 12 + u.val - 15 := by omega
    simp only [e]
  · rw [dif_neg (by omega), dif_neg (by omega)]
    simp [FloatOps.sitofp]

def tot8 (Z : FVec Ideal S4x8199x128 .f32) : FVec Ideal S4x8192x128 .f32 :=
  addf (addf (addf (addf (addf (addf (addf (extractStridedSlice S4x8192x128 ![0, 0, 0] Z slices_S4x8199x128_S4x8192x128_0_0_0) (extractStridedSlice S4x8192x128 ![0, 1, 0] Z slices_S4x8199x128_S4x8192x128_0_1_0)) (extractStridedSlice S4x8192x128 ![0, 2, 0] Z slices_S4x8199x128_S4x8192x128_0_2_0)) (extractStridedSlice S4x8192x128 ![0, 3, 0] Z slices_S4x8199x128_S4x8192x128_0_3_0)) (extractStridedSlice S4x8192x128 ![0, 4, 0] Z slices_S4x8199x128_S4x8192x128_0_4_0)) (extractStridedSlice S4x8192x128 ![0, 5, 0] Z slices_S4x8199x128_S4x8192x128_0_5_0)) (extractStridedSlice S4x8192x128 ![0, 6, 0] Z slices_S4x8199x128_S4x8192x128_0_6_0)) (extractStridedSlice S4x8192x128 ![0, 7, 0] Z slices_S4x8199x128_S4x8192x128_0_7_0)

theorem tot8_at (Z : FVec Ideal S4x8199x128 .f32) (b : Fin 4) (j : Fin 128) (f : ℕ → EReal) (h : ∀ u : Fin 8199, Z (ix3 b u j) = f (8 + u)) (s : Fin 8192) :
    tot8 Z (ix3 b s j) = s8 f (8 + s) := by
  unfold s8 s4 s2
  pointwise [tot8]
  simp only [h, ← Nat.add_assoc, Nat.reduceAdd]
  abel_nf

def pad8 (X : FVec Ideal S4x8192x128 .f32) : FVec Ideal S4x8199x128 .f32 :=
  pad S4x8199x128 ![0, 7, 0] ![0, 0, 0] ![0, 0, 0] X (sitofp .f32 (constantI S_ 32 0#32)) pads_S4x8192x128_S4x8199x128_000_700_000 h_S_

theorem padd8_at (X : FVec Ideal S4x8192x128 .f32) (b : Fin 4) (j : Fin 128) (u : Fin 8199) : pad8 X (ix3 b u j)
    = if h : 7 ≤ u.val ∧ u.val - 7 < 8192 then X (ix3 b ⟨u.val - 7, h.2⟩ j) else FloatOps.sitofp (F := Ideal) .f32 (0#32) := by
  pointwise [pad8]

theorem grp2_at (b : Fin 4) (s : Fin 8192) (j : Fin 128) : (res_main_v47 V0 : FVec Ideal S4x8192x128 .f32) (ix3 b s j) = prj V0 (ix3 b s ⟨256 + j, by omega⟩) := by
  pointwise [res_main_v47, res_main_v9, prj]

theorem pad8_at (b : Fin 4) (j : Fin 128) (u : Fin 8199) : (res_main_v48 V0 : FVec Ideal S4x8199x128 .f32) (ix3 b u j) = pr V0 b ⟨256 + j, by omega⟩ (8 + u) := by
  have e : (res_main_v48 V0 : FVec Ideal S4x8199x128 .f32) (ix3 b u j)
      = if h : 7 ≤ u.val ∧ u.val - 7 < 8192 then prj V0 (ix3 b ⟨u.val - 7, h.2⟩ ⟨256 + j, by omega⟩) else FloatOps.sitofp (F := Ideal) .f32 (0#32) := by
    refine (padd8_at (res_main_v47 V0) b j u).trans ?_
    simp only [grp2_at]
  rw [e]
  unfold pr
  by_cases h : 7 ≤ u.val
  · rw [dif_pos ⟨h, by omega⟩, dif_pos ⟨by omega, by omega⟩]
    have e : u.val - 7 = 8 + u.val - 15 := by omega
    simp only [e]
  · rw [dif_neg (by omega), dif_neg (by omega)]
    simp [FloatOps.sitofp]

def tot16 (Z : FVec Ideal S4x8207x128 .f32) : FVec Ideal S4x8192x128 .f32 :=
  addf (addf (addf (addf (addf (addf (addf (addf (addf (addf (addf (addf (addf (addf (addf (extractStridedSlice S4x8192x128 ![0, 0, 0] Z slices_S4x8207x128_S4x8192x128_0_0_0) (extractStridedSlice S4x8192x128 ![0, 1, 0] Z slices_S4x8207x128_S4x8192x128_0_1_0)) (extractStridedSlice S4x8192x128 ![0, 2, 0] Z slices_S4x8207x128_S4x8192x128_0_2_0)) (extractStridedSlice S4x8192x128 ![0, 3, 0] Z slices_S4x8207x128_S4x8192x128_0_3_0)) (extractStridedSlice S4x8192x128 ![0, 4, 0] Z slices_S4x8207x128_S4x8192x128_0_4_0)) (extractStridedSlice S4x8192x128 ![0, 5, 0] Z slices_S4x8207x128_S4x8192x128_0_5_0)) (extractStridedSlice S4x8192x128 ![0, 6, 0] Z slices_S4x8207x128_S4x8192x128_0_6_0)) (extractStridedSlice S4x8192x128 ![0, 7, 0] Z slices_S4x8207x128_S4x8192x128_0_7_0)) (extractStridedSlice S4x8192x128 ![0, 8, 0] Z slices_S4x8207x128_S4x8192x128_0_8_0)) (extractStridedSlice S4x8192x128 ![0, 9, 0] Z slices_S4x8207x128_S4x8192x128_0_9_0)) (extractStridedSlice S4x8192x128 ![0, 10, 0] Z slices_S4x8207x128_S4x8192x128_0_10_0)) (extractStridedSlice S4x8192x128 ![0, 11, 0] Z slices_S4x8207x128_S4x8192x128_0_11_0)) (extractStridedSlice S4x8192x128 ![0, 12, 0] Z slices_S4x8207x128_S4x8192x128_0_12_0)) (extractStridedSlice S4x8192x128 ![0, 13, 0] Z slices_S4x8207x128_S4x8192x128_0_13_0)) (extractStridedSlice S4x8192x128 ![0, 14, 0] Z slices_S4x8207x128_S4x8192x128_0_14_0)) (extractStridedSlice S4x8192x128 ![0, 15, 0] Z slices_S4x8207x128_S4x8192x128_0_15_0)

theorem tot16_at (Z : FVec Ideal S4x8207x128 .f32) (b : Fin 4) (j : Fin 128) (f : ℕ → EReal) (h : ∀ u : Fin 8207, Z (ix3 b u j) = f (0 + u)) (s : Fin 8192) :
    tot16 Z (ix3 b s j) = s16 f (0 + s) := by
  unfold s16 s8 s4 s2
  pointwise [tot16]
  simp only [h, ← Nat.add_assoc, Nat.reduceAdd]
  abel_nf

def pad16 (X : FVec Ideal S4x8192x128 .f32) : FVec Ideal S4x8207x128 .f32 :=
  pad S4x8207x128 ![0, 15, 0] ![0, 0, 0] ![0, 0, 0] X (sitofp .f32 (constantI S_ 32 0#32)) pads_S4x8192x128_S4x8207x128_000_1500_000 h_S_

theorem padd16_at (X : FVec Ideal S4x8192x128 .f32) (b : Fin 4) (j : Fin 128) (u : Fin 8207) : pad16 X (ix3 b u j)
    = if h : 15 ≤ u.val ∧ u.val - 15 < 8192 then X (ix3 b ⟨u.val - 15, h.2⟩ j) else FloatOps.sitofp (F := Ideal) .f32 (0#32) := by
  pointwise [pad16]

theorem grp3_at (b : Fin 4) (s : Fin 8192) (j : Fin 128) : (res_main_v75 V0 : FVec Ideal S4x8192x128 .f32) (ix3 b s j) = prj V0 (ix3 b s ⟨384 + j, by omega⟩) := by
  pointwise [res_main_v75, res_main_v9, prj]

theorem pad16_at (b : Fin 4) (j : Fin 128) (u : Fin 8207) : (res_main_v76 V0 : FVec Ideal S4x8207x128 .f32) (ix3 b u j) = pr V0 b ⟨384 + j, by omega⟩ (0 + u) := by
  have e : (res_main_v76 V0 : FVec Ideal S4x8207x128 .f32) (ix3 b u j)
      = if h : 15 ≤ u.val ∧ u.val - 15 < 8192 then prj V0 (ix3 b ⟨u.val - 15, h.2⟩ ⟨384 + j, by omega⟩) else FloatOps.sitofp (F := Ideal) .f32 (0#32) := by
    refine (padd16_at (res_main_v75 V0) b j u).trans ?_
    simp only [grp3_at]
  rw [e]
  unfold pr
  by_cases h : 15 ≤ u.val
  · rw [dif_pos ⟨h, by omega⟩, dif_pos ⟨by omega, by omega⟩]
    have e : u.val - 15 = 0 + u.val - 15 := by omega
    simp only [e]
  · rw [dif_neg (by omega), dif_neg (by omega)]
    simp [FloatOps.sitofp]

/-- A pooled entry before its scale: the window summed by `S` from `a` rows below the row, the columns from `o`. -/
def pool (w : BitVec 32) (S : (ℕ → EReal) → ℕ → EReal) (a o : ℕ) (ho : o + 128 ≤ 512) (g : Fin 4) (b : Fin 4) (s : Fin 8192) (d : Fin 128) : EReal :=
  ∑ j : Fin 128, (Ideal.div (S (pr V0 b ⟨o + j, by omega⟩) (a + s)) (min (FloatOps.sitofp (F := Ideal) .f32 (BitVec.ofNat 32 s.val) + 1) (Ideal.ofBits .f32 w))
    - prj V0 (ix3 b s ⟨o + j, by omega⟩)) * aPW V0 (ix3 g j d)

/-- The pooled half before its scale. -/
def p119 : FVec Ideal S4x8192x512 .f32 := res_main_v119 V0

theorem v119_eq : p119 V0 = cat4 (mix 0x40000000#32 (tot2 (res_main_v12 V0)) (res_main_v11 V0) (res_main_v10 V0) (shapeCast S128x128 (extractStridedSlice S1x128x128 ![0, 0, 0] (aPW V0) slices_S4x128x128_S1x128x128_0_0_0) shapeCasts_S1x128x128_S128x128))
    (mix 0x40800000#32 (tot4 (res_main_v28 V0)) (res_main_v27 V0) (res_main_v10 V0) (shapeCast S128x128 (extractStridedSlice S1x128x128 ![1, 0, 0] (aPW V0) slices_S4x128x128_S1x128x128_1_0_0) shapeCasts_S1x128x128_S128x128))
    (mix 0x41000000#32 (tot8 (res_main_v48 V0)) (res_main_v47 V0) (res_main_v10 V0) (shapeCast S128x128 (extractStridedSlice S1x128x128 ![2, 0, 0] (aPW V0) slices_S4x128x128_S1x128x128_2_0_0) shapeCasts_S1x128x128_S128x128))
    (mix 0x41800000#32 (tot16 (res_main_v76 V0)) (res_main_v75 V0) (res_main_v10 V0) (shapeCast S128x128 (extractStridedSlice S1x128x128 ![3, 0, 0] (aPW V0) slices_S4x128x128_S1x128x128_3_0_0) shapeCasts_S1x128x128_S128x128)) := rfl

theorem pool0_at (b : Fin 4) (s : Fin 8192) (d : Fin 128) : p119 V0 (ix3 b s ⟨0 + d, by omega⟩)
    = pool V0 0x40000000#32 s2 14 0 (by omega) 0 b s d := by
  have hw : ∀ j : Fin 128, (shapeCast S128x128 (extractStridedSlice S1x128x128 ![0, 0, 0] (aPW V0) slices_S4x128x128_S1x128x128_0_0_0) shapeCasts_S1x128x128_S128x128 : FVec Ideal S128x128 .f32) (ix2 j d)
      = aPW V0 (ix3 0 j d) := fun j => by
    generalize aPW V0 = W
    pointwise []
  have hd : (⟨0 + d.val, by omega⟩ : Fin 128) = d := Fin.ext (by show 0 + d.val = d.val; omega)
  rw [v119_eq, cat4_at]
  rw [dif_pos (show 0 + d.val < 128 by omega)]
  rw [hd, mix_at]
  unfold pool
  refine Finset.sum_congr rfl fun j _ => ?_
  rw [hw, pos_at, tot2_at _ b j (pr V0 b ⟨0 + j, by omega⟩) (pad2_at V0 b j), grp0_at]

theorem pool1_at (b : Fin 4) (s : Fin 8192) (d : Fin 128) : p119 V0 (ix3 b s ⟨128 + d, by omega⟩)
    = pool V0 0x40800000#32 s4 12 128 (by omega) 1 b s d := by
  have hw : ∀ j : Fin 128, (shapeCast S128x128 (extractStridedSlice S1x128x128 ![1, 0, 0] (aPW V0) slices_S4x128x128_S1x128x128_1_0_0) shapeCasts_S1x128x128_S128x128 : FVec Ideal S128x128 .f32) (ix2 j d)
      = aPW V0 (ix3 1 j d) := fun j => by
    generalize aPW V0 = W
    pointwise []
  have hd : (⟨128 + d.val - 128, by omega⟩ : Fin 128) = d := Fin.ext (by show 128 + d.val - 128 = d.val; omega)
  rw [v119_eq, cat4_at]
  rw [dif_neg (show ¬ (128 + d.val < 128) by omega)]; rw [dif_pos (show 128 + d.val - 128 < 128 by omega)]
  rw [hd, mix_at]
  unfold pool
  refine Finset.sum_congr rfl fun j _ => ?_
  rw [hw, pos_at, tot4_at _ b j (pr V0 b ⟨128 + j, by omega⟩) (pad4_at V0 b j), grp1_at]

theorem pool2_at (b : Fin 4) (s : Fin 8192) (d : Fin 128) : p119 V0 (ix3 b s ⟨256 + d, by omega⟩)
    = pool V0 0x41000000#32 s8 8 256 (by omega) 2 b s d := by
  have hw : ∀ j : Fin 128, (shapeCast S128x128 (extractStridedSlice S1x128x128 ![2, 0, 0] (aPW V0) slices_S4x128x128_S1x128x128_2_0_0) shapeCasts_S1x128x128_S128x128 : FVec Ideal S128x128 .f32) (ix2 j d)
      = aPW V0 (ix3 2 j d) := fun j => by
    generalize aPW V0 = W
    pointwise []
  have hd : (⟨256 + d.val - 128 - 128, by omega⟩ : Fin 128) = d := Fin.ext (by show 256 + d.val - 128 - 128 = d.val; omega)
  rw [v119_eq, cat4_at]
  rw [dif_neg (show ¬ (256 + d.val < 128) by omega)]; rw [dif_neg (show ¬ (256 + d.val - 128 < 128) by omega)]; rw [dif_pos (show 256 + d.val - 128 - 128 < 128 by omega)]
  rw [hd, mix_at]
  unfold pool
  refine Finset.sum_congr rfl fun j _ => ?_
  rw [hw, pos_at, tot8_at _ b j (pr V0 b ⟨256 + j, by omega⟩) (pad8_at V0 b j), grp2_at]

theorem pool3_at (b : Fin 4) (s : Fin 8192) (d : Fin 128) : p119 V0 (ix3 b s ⟨384 + d, by omega⟩)
    = pool V0 0x41800000#32 s16 0 384 (by omega) 3 b s d := by
  have hw : ∀ j : Fin 128, (shapeCast S128x128 (extractStridedSlice S1x128x128 ![3, 0, 0] (aPW V0) slices_S4x128x128_S1x128x128_3_0_0) shapeCasts_S1x128x128_S128x128 : FVec Ideal S128x128 .f32) (ix2 j d)
      = aPW V0 (ix3 3 j d) := fun j => by
    generalize aPW V0 = W
    pointwise []
  have hd : (⟨384 + d.val - 128 - 128 - 128, by omega⟩ : Fin 128) = d := Fin.ext (by show 384 + d.val - 128 - 128 - 128 = d.val; omega)
  rw [v119_eq, cat4_at]
  rw [dif_neg (show ¬ (384 + d.val < 128) by omega)]; rw [dif_neg (show ¬ (384 + d.val - 128 < 128) by omega)]; rw [dif_neg (show ¬ (384 + d.val - 128 - 128 < 128) by omega)]; skip
  rw [hd, mix_at]
  unfold pool
  refine Finset.sum_congr rfl fun j _ => ?_
  rw [hw, pos_at, tot16_at _ b j (pr V0 b ⟨384 + j, by omega⟩) (pad16_at V0 b j), grp3_at]

end Cert.Proof.Ref5

end
-- ==== Proof.Ref5b.lean ====
module

public import proofs.«01_k».proof.Proof.Ref5

/-! The odd layers' reference at an index: the gated half and the result. -/

@[expose] public section

set_option maxRecDepth 16384

noncomputable section

namespace Cert.Proof.Ref5

open Cert.Reference5Ideal Cert.Reference5Ideal.Gen Cert.Reference5Ideal.Value Idealize.ShloMosaic Idealize.ShloMosaic.TcCoe Idealize.SL.Sem Idealize.ShloMosaic.StableHlo
open Cert.Proof.Odd (s2 s4 s8 s16 gelu lnT low)

variable (V0 : Valuation τ sig (Elt Ideal))

/-- The gate's normalised rows. -/
def nrm : FVec Ideal S4x8192x512 .f32 :=
  addf (mulf (mulf (subf (res_main_v140 V0) (broadcastInDim S4x8192x512 ![0, 1, 2] bcast_S4x8192x1_S4x8192x512_0_1_2 (res_main_v144 V0))) (broadcastInDim S4x8192x512 ![0, 1, 2] bcast_S4x8192x1_S4x8192x512_0_1_2 (Host.rsqrt (addf (Host.divf (broadcastInDim S4x8192x1 ![0, 1] bcast_S4x8192_S4x8192x1_0_1 (Host.reduceAdd (mulf (res_main_v146 V0) (res_main_v146 V0)) (constant S_ .f32 0x00000000#32) reducesTo_S4x8192x512_S4x8192_d2 h_S_)) (broadcastInDim S4x8192x1 ![] bcast_S_S4x8192x1 (constant S_ .f32 0x44000000#32))) (broadcastInDim S4x8192x1 ![] bcast_S_S4x8192x1 (constant S_ .f32 0x3727C5AC#32)))))) (broadcastInDim S4x8192x512 ![0, 1, 2] bcast_S1x1x512_S4x8192x512_0_1_2 (broadcastInDim S1x1x512 ![2] bcast_S512_S1x1x512_2 (V0 (Proc.devRef .tc main_arg5))))) (broadcastInDim S4x8192x512 ![0, 1, 2] bcast_S1x1x512_S4x8192x512_0_1_2 (broadcastInDim S1x1x512 ![2] bcast_S512_S1x1x512_2 (V0 (Proc.devRef .tc main_arg6))))

/-- The weights' lower triangles. -/
def wlow : FVec Ideal S4x128x128 .f32 :=
  mulf (V0 (Proc.devRef .tc main_arg7)) (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- The rows mixed within their chunks. -/
def mixed : FVec Ideal S4x64x128x4x128 .f32 :=
  addf (transpose S4x64x128x4x128 [1, 2, 4, 0, 3] (Host.dotGeneral dot_S4x64x128x4x128_S4x128x128_S4x4x64x128x128_2_2_014_1_3_0 none (shapeCast _ (nrm V0) shapeCasts_S4x8192x512_S4x64x128x4x128) (wlow V0)) transposes_S4x4x64x128x128_S4x64x128x4x128_1_2_4_0_3) (broadcastInDim S4x64x128x4x128 ![0, 1, 2, 3, 4] bcast_S1x1x128x4x1_S4x64x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] (V0 (Proc.devRef .tc main_arg8)) transposes_S4x128_S128x4_1_0))))

/-- The gated half. -/
def gat : FVec Ideal S4x8192x512 .f32 :=
  mulf (mulf (mulf (broadcastInDim S4x8192x512 ![] bcast_S_S4x8192x512 (constant S_ .f32 0x3F000000#32)) (res_main_v123 V0)) (addf (broadcastInDim S4x8192x512 ![] bcast_S_S4x8192x512 (constant S_ .f32 0x3F800000#32)) (Host.erf (mulf (res_main_v123 V0) (broadcastInDim S4x8192x512 ![] bcast_S_S4x8192x512 (constant S_ .f32 0x3F3504F3#32)))))) (shapeCast _ (mixed V0) shapeCasts_S4x64x128x4x128_S4x8192x512)

/-- The two halves, side by side. -/
def cat2 (A B : FVec Ideal S4x8192x512 .f32) : FVec Ideal S4x8192x1024 .f32 :=
  concatenate S4x8192x1024 2 [⟨S4x8192x512, A⟩, ⟨S4x8192x512, B⟩] concatenates_S4x8192x512_S4x8192x512_S4x8192x1024_d2

def scl : FVec Ideal S4x8192x512 .f32 :=
  mulf (p119 V0) (broadcastInDim S4x8192x512 ![0, 1, 2] bcast_S1x1x512_S4x8192x512_0_1_2 (broadcastInDim S1x1x512 ![2] bcast_S512_S1x1x512_2 (aPS V0)))

def out (C : FVec Ideal S4x8192x1024 .f32) : FVec Ideal S4x8192x1024 .f32 :=
  addf (mulf (broadcastInDim S4x8192x1024 ![] bcast_S_S4x8192x1024 (constant S_ .f32 0x3FD744FD#32)) (aX V0))
    (mulf (broadcastInDim S4x8192x1024 ![0, 1, 2] bcast_S4x1x1024_S4x8192x1024_0_1_2 (extractStridedSlice S4x1x1024 ![0, 2, 0] (aM V0) slices_S4x6x1024_S4x1x1024_0_2_0))
      (Host.dotGeneral dot_S4x8192x1024_S1024x1024_S4x8192x1024_2_0_01_1_n_n none C (aWO V0)))

theorem v187_eq : res_main_v187 V0 = out V0 (cat2 (scl V0) (gat V0)) := rfl

theorem out_at (C : FVec Ideal S4x8192x1024 .f32) (b : Fin 4) (s : Fin 8192) (n : Fin 1024) :
    out V0 C (ix3 b s n) = Ideal.ofBits .f32 0x3FD744FD#32 * aX V0 (ix3 b s n) + aM V0 (ix3 b 2 n) * ∑ k : Fin 1024, C (ix3 b s k) * aWO V0 (ix2 k n) := by
  pointwise [out]

theorem cat2_at (A B : FVec Ideal S4x8192x512 .f32) (b : Fin 4) (s : Fin 8192) (k : Fin 1024) :
    cat2 A B (ix3 b s k) = if h : k.val < 512 then A (ix3 b s ⟨k.val, h⟩) else B (ix3 b s ⟨k.val - 512, by omega⟩) := by
  pointwise [cat2]

theorem scl_at (b : Fin 4) (s : Fin 8192) (n : Fin 512) : scl V0 (ix3 b s n) = p119 V0 (ix3 b s n) * aPS V0 (ix1 n) := by
  unfold scl
  generalize p119 V0 = Z
  pointwise []

theorem v140_at (b : Fin 4) (s : Fin 8192) (n : Fin 512) : (res_main_v140 V0 : FVec Ideal S4x8192x512 .f32) (ix3 b s n) = gelu (prj V0 (ix3 b s ⟨1024 + n, by omega⟩)) := by
  unfold gelu
  pointwise [res_main_v140, res_main_v124, prj]

theorem nrm_at (b : Fin 4) (s : Fin 8192) (n : Fin 512) :
    nrm V0 (ix3 b s n) = lnT (fun k => gelu (prj V0 (ix3 b s ⟨1024 + k, by omega⟩))) (aSG V0 (ix1 n)) (aSB V0 (ix1 n)) n := by
  simp only [← v140_at]
  unfold lnT nrm res_main_v146 res_main_v144
  generalize (res_main_v140 V0 : FVec Ideal S4x8192x512 .f32) = Z
  pointwise []

theorem sge_at : ∀ t s : Fin 128, IntOp.cmpi .sge (IntOp.addi (BitVec.ofNat 32 t.val) 0#32) (BitVec.ofNat 32 s.val) = if s.val ≤ t.val then 1#1 else 0#1 := by
  decide +kernel

theorem wlow_at (g : Fin 4) (t s : Fin 128) : wlow V0 (ix3 g t s) = low (aSW V0 (ix3 g t s)) t s := by
  unfold low
  have hl := sge_at t s
  pointwise [wlow]
  rw [hl]
  split_ifs <;> rfl

theorem mixed_at (b : Fin 4) (c : Fin 64) (t : Fin 128) (g : Fin 4) (d : Fin 128) :
    mixed V0 (ix5 b c t g d) = (∑ s : Fin 128, low (aSW V0 (ix3 g t s)) t s * nrm V0 (ix3 b ⟨128 * c + s, by omega⟩ ⟨128 * g + d, by omega⟩)) + aSC V0 (ix2 g t) := by
  unfold mixed
  simp only [← wlow_at]
  generalize wlow V0 = Wl
  generalize nrm V0 = N
  pointwise []
  refine congrArg (fun z => z + _) (Finset.sum_congr rfl fun x _ => ?_)
  rw [mul_comm]
  simp only [Nat.mul_comm]

theorem gat_at (b : Fin 4) (s : Fin 8192) (g : Fin 4) (d : Fin 128) :
    gat V0 (ix3 b s ⟨128 * g + d, by omega⟩) = gelu (prj V0 (ix3 b s ⟨512 + (128 * g + d), by omega⟩))
      * mixed V0 (ix5 b ⟨s / 128, by omega⟩ ⟨s % 128, by omega⟩ g d) := by
  unfold gat gelu
  generalize mixed V0 = Z
  pointwise [res_main_v123, prj]

/-- The rows projected out. -/
abbrev yv : FVec Ideal S4x8192x1024 .f32 := cat2 (scl V0) (gat V0)

theorem yv0_at (b : Fin 4) (s : Fin 8192) (d : Fin 128) :
    yv V0 (ix3 b s ⟨0 + d, by omega⟩) = pool V0 0x40000000#32 s2 14 0 (by omega) 0 b s d * aPS V0 (ix1 ⟨0 + d, by omega⟩) := by
  unfold yv
  rw [cat2_at, dif_pos (show 0 + d.val < 512 by omega), scl_at, pool0_at]

theorem yv1_at (b : Fin 4) (s : Fin 8192) (d : Fin 128) :
    yv V0 (ix3 b s ⟨128 + d, by omega⟩) = pool V0 0x40800000#32 s4 12 128 (by omega) 1 b s d * aPS V0 (ix1 ⟨128 + d, by omega⟩) := by
  unfold yv
  rw [cat2_at, dif_pos (show 128 + d.val < 512 by omega), scl_at, pool1_at]

theorem yv2_at (b : Fin 4) (s : Fin 8192) (d : Fin 128) :
    yv V0 (ix3 b s ⟨256 + d, by omega⟩) = pool V0 0x41000000#32 s8 8 256 (by omega) 2 b s d * aPS V0 (ix1 ⟨256 + d, by omega⟩) := by
  unfold yv
  rw [cat2_at, dif_pos (show 256 + d.val < 512 by omega), scl_at, pool2_at]

theorem yv3_at (b : Fin 4) (s : Fin 8192) (d : Fin 128) :
    yv V0 (ix3 b s ⟨384 + d, by omega⟩) = pool V0 0x41800000#32 s16 0 384 (by omega) 3 b s d * aPS V0 (ix1 ⟨384 + d, by omega⟩) := by
  unfold yv
  rw [cat2_at, dif_pos (show 384 + d.val < 512 by omega), scl_at, pool3_at]

theorem yvg_at (b : Fin 4) (s : Fin 8192) (g : Fin 4) (d : Fin 128) :
    yv V0 (ix3 b s ⟨512 + (128 * g + d), by omega⟩) = gelu (prj V0 (ix3 b s ⟨512 + (128 * g + d), by omega⟩))
      * ((∑ q : Fin 128, low (aSW V0 (ix3 g ⟨s % 128, by omega⟩ q)) ⟨s % 128, by omega⟩ q
          * lnT (fun k => gelu (prj V0 (ix3 b ⟨128 * (s / 128) + q, by omega⟩ ⟨1024 + k, by omega⟩))) (aSG V0 (ix1 ⟨128 * g + d, by omega⟩)) (aSB V0 (ix1 ⟨128 * g + d, by omega⟩)) ⟨128 * g + d, by omega⟩)
        + aSC V0 (ix2 g ⟨s % 128, by omega⟩)) := by
  have e : (⟨512 + (128 * g + d) - 512, by omega⟩ : Fin 512) = ⟨128 * g + d, by omega⟩ := Fin.ext (by show 512 + (128 * g.val + d.val) - 512 = 128 * g.val + d.val; omega)
  unfold yv
  rw [cat2_at, dif_neg (show ¬ 512 + (128 * g.val + d.val) < 512 by omega), e, gat_at, mixed_at]
  simp only [nrm_at]

/-- Layer norm over the last axis. -/
def lnr (Z : FVec Ideal S4x8192x1024 .f32) (G B : FVec Ideal S1024 .f32) : FVec Ideal S4x8192x1024 .f32 :=
  addf (mulf (mulf (subf Z (broadcastInDim S4x8192x1024 ![0, 1, 2] bcast_S4x8192x1_S4x8192x1024_0_1_2 (Host.divf (broadcastInDim S4x8192x1 ![0, 1] bcast_S4x8192_S4x8192x1_0_1 (Host.reduceAdd Z (constant S_ .f32 0x00000000#32) reducesTo_S4x8192x1024_S4x8192_d2 h_S_)) (broadcastInDim S4x8192x1 ![] bcast_S_S4x8192x1 (constant S_ .f32 0x44800000#32))))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (subf Z (broadcastInDim S4x8192x1024 ![0, 1, 2] bcast_S4x8192x1_S4x8192x1024_0_1_2 (Host.divf (broadcastInDim S4x8192x1 ![0, 1] bcast_S4x8192_S4x8192x1_0_1 (Host.reduceAdd Z (constant S_ .f32 0x00000000#32) reducesTo_S4x8192x1024_S4x8192_d2 h_S_)) (broadcastInDim S4x8192x1 ![] bcast_S_S4x8192x1 (constant S_ .f32 0x44800000#32))))) (subf Z (broadcastInDim S4x8192x1024 ![0, 1, 2] bcast_S4x8192x1_S4x8192x1024_0_1_2 (Host.divf (broadcastInDim S4x8192x1 ![0, 1] bcast_S4x8192_S4x8192x1_0_1 (Host.reduceAdd Z (constant S_ .f32 0x00000000#32) reducesTo_S4x8192x1024_S4x8192_d2 h_S_)) (broadcastInDim S4x8192x1 ![] bcast_S_S4x8192x1 (constant S_ .f32 0x44800000#32)))))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 G))) (broadcastInDim S4x8192x1024 ![0, 1, 2] bcast_S1x1x1024_S4x8192x1024_0_1_2 (broadcastInDim S1x1x1024 ![2] bcast_S1024_S1x1x1024_2 B))

/-- The reference's result. -/
def result : FVec Ideal S4x8192x1024 .f32 :=
  addf (mulf (mulf (subf (res_main_v187 V0) (broadcastInDim S4x8192x1024 ![0, 1, 2] bcast_S4x8192x1_S4x8192x1024_0_1_2 (res_main_v191 V0))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v193 V0) (res_main_v193 V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 (V0 (Proc.devRef .tc main_arg10))))) (broadcastInDim S4x8192x1024 ![0, 1, 2] bcast_S1x1x1024_S4x8192x1024_0_1_2 (broadcastInDim S1x1x1024 ![2] bcast_S1024_S1x1x1024_2 (V0 (Proc.devRef .tc main_arg11))))

theorem result_eq : result V0 = lnr (out V0 (yv V0)) (aG V0) (aB V0) := rfl

theorem lnr_at (Z : FVec Ideal S4x8192x1024 .f32) (G B : FVec Ideal S1024 .f32) (b : Fin 4) (s : Fin 8192) (n : Fin 1024) :
    lnr Z G B (ix3 b s n) = Ffn.lnS (fun k => Z (ix3 b s k)) (G (ix1 n)) (B (ix1 n)) n := by
  unfold Ffn.lnS
  pointwise [lnr]

theorem result_at (b : Fin 4) (s : Fin 8192) (n : Fin 1024) :
    result V0 (ix3 b s n) = Ffn.lnS (fun k => Ideal.ofBits .f32 0x3FD744FD#32 * aX V0 (ix3 b s k) + aM V0 (ix3 b 2 k) * ∑ j : Fin 1024, yv V0 (ix3 b s j) * aWO V0 (ix2 j k))
      (aG V0 (ix1 n)) (aB V0 (ix1 n)) n := by
  rw [result_eq, lnr_at]
  simp only [out_at]

end Cert.Proof.Ref5

end
-- ==== Proof.OddBlock.lean ====
module

public import proofs.«01_k».proof.Proof.Ref5b

/-! The odd layers' mixing block: its payloads against the reference's entries. -/

@[expose] public section

set_option maxRecDepth 16384

noncomputable section

namespace Cert.Proof.Odd

open Cert.Kernel5Ideal Cert.Kernel5Ideal.Gen Idealize.ShloMosaic Idealize.ShloMosaic.TcCoe Idealize.SL.Sem
open Cert.Proof.Ref5 (aX aM aW aPW aPS aSG aSB aSW aSC aWO aG aB prj pr yv)

/-! ## A window's sum in a block and in the array -/

section
variable (f g : ℕ → EReal) (i r s : ℕ) (hr : r < 256) (hs : s = 256 * i + r) (h : ∀ u v, 1 ≤ u → u < 272 → v + 1 = 256 * i + u → f u = g v)
include hr hs h
theorem s2_sh : s2 f (15 + r) = s2 g (14 + s) := by
  unfold s2
  repeat' (first | exact h _ _ (by omega) (by omega) (by omega) | refine congrArg₂ (· + ·) ?_ ?_)
theorem s4_sh : s4 f (13 + r) = s4 g (12 + s) := by
  unfold s4 s2
  repeat' (first | exact h _ _ (by omega) (by omega) (by omega) | refine congrArg₂ (· + ·) ?_ ?_)
theorem s8_sh : s8 f (9 + r) = s8 g (8 + s) := by
  unfold s8 s4 s2
  repeat' (first | exact h _ _ (by omega) (by omega) (by omega) | refine congrArg₂ (· + ·) ?_ ?_)
theorem s16_sh : s16 f (1 + r) = s16 g (0 + s) := by
  unfold s16 s8 s4 s2
  repeat' (first | exact h _ _ (by omega) (by omega) (by omega) | refine congrArg₂ (· + ·) ?_ ?_)
end

variable (V0 : Valuation Cert.Reference5Ideal.τ Cert.Reference5Ideal.sig (Elt Ideal)) (b : Fin 4) (i : ℕ) (hi : i < 32)

section
variable (p : FVec Ideal S256x1536 .f32) (q : FVec Ideal S16x512 .f32) (T : FVec Ideal S256x1 .f32) (C : FVec Ideal S1x512 .f32)
  (hp : ∀ (r : Fin 256) (n : Fin 1536) (s : Fin 8192), s.val = 256 * i + r → p (ix2 r n) = prj V0 (ix3 b s n))
  (hq0 : i = 0 → ∀ (u : Fin 16) (n : Fin 512), q (ix2 u n) = 0)
  (hq : ∀ (u : Fin 16) (n : Fin 512) (s : Fin 8192), i ≠ 0 → s.val + 16 = 256 * i + u → q (ix2 u n) = prj V0 (ix3 b s ⟨n, n.2.trans_le (Nat.le_add_right 512 1024)⟩))
  (hT : ∀ (r : Fin 256) (s : Fin 8192), s.val = 256 * i + r → T (ix2 r 0) = FloatOps.sitofp (F := Ideal) .f32 (BitVec.ofNat 32 s.val))
  (hC : ∀ n : Fin 512, C (ix2 0 n) = aPS V0 (ix1 n))

include hi hp hq0 hq in
theorem ext_at (n : Fin 512) (u v : ℕ) (h1 : 1 ≤ u) (h2 : u < 272) (h3 : v + 1 = 256 * i + u) : ext q p n u = pr V0 b n v := by
  unfold ext pr
  by_cases hu : u < 16
  · rw [dif_pos hu]
    by_cases h0 : i = 0
    · rw [dif_neg (by omega)]
      exact hq0 h0 _ _
    · rw [dif_pos ⟨by omega, by omega⟩]
      exact hq _ _ _ h0 (by show v - 15 + 16 = 256 * i + u; omega)
  · rw [dif_neg hu, dif_pos (by omega), dif_pos ⟨by omega, by omega⟩]
    exact hp _ _ _ (by show v - 15 = 256 * i + (u - 16); omega)

include hp hT hC in
theorem pooled_eq (w : BitVec 32) (S : (ℕ → EReal) → ℕ → EReal) (a a' o : ℕ) (ho : o + 128 ≤ 512) (g : Fin 4) (W : FVec Ideal S1x128x128 .bf16)
    (hW : ∀ j d : Fin 128, W (ix3 0 j d) = aPW V0 (ix3 g j d)) (r : Fin 256) (d : Fin 128) (s : Fin 8192) (hs : s.val = 256 * i + r)
    (hS : ∀ n : Fin 512, S (ext q p n) (a + r) = S (pr V0 b n) (a' + s)) :
    pooled p q T C W w S a o ho r d = Ref5.pool V0 w S a' o ho g b s d * aPS V0 (ix1 ⟨o + d, by omega⟩) := by
  unfold pooled Ref5.pool
  rw [hC]
  refine congrArg (fun z => z * _) (Finset.sum_congr rfl fun j _ => ?_)
  rw [hS, hT r s hs, hp r _ s hs, hW]

include hp in
theorem gated_eq (U V : FVec Ideal S256x512 .f32) (B : FVec Ideal S128x4 .f32) (w : FVec Ideal S1x128x128 .f32) (a o : ℕ) (ha : a + 128 ≤ 256) (ho : o + 128 ≤ 512)
    (g : Fin 4) (hao : a = 0 ∨ a = 128) (hog : o = 128 * g.val)
    (hU : ∀ (r : Fin 256) (n : Fin 512), U (ix2 r n) = gelu (p (ix2 r ⟨512 + n, by omega⟩)))
    (hV : ∀ (r : Fin 256) (n : Fin 512), V (ix2 r n) = lnT (fun k => gelu (p (ix2 r ⟨1024 + k, by omega⟩))) (aSG V0 (ix1 n)) (aSB V0 (ix1 n)) n)
    (hB : ∀ t : Fin 128, B (ix2 t g) = aSC V0 (ix2 g t))
    (hw : ∀ t q : Fin 128, w (ix3 0 t q) = aSW V0 (ix3 g t q))
    (t d : Fin 128) (s : Fin 8192) (hs : s.val = 256 * i + (a + t)) :
    gated U V B w a o ha ho g t d = yv V0 (ix3 b s ⟨512 + (128 * g + d), by omega⟩) := by
  subst hog
  have ht : (⟨s.val % 128, by omega⟩ : Fin 128) = t := Fin.ext (by show s.val % 128 = t.val; omega)
  rw [Ref5.yvg_at, ht]
  unfold gated
  rw [hU, hp _ _ s hs, hB]
  refine congrArg (fun z => _ * (z + _)) (Finset.sum_congr rfl fun q _ => ?_)
  rw [hw, hV]
  have hz : ∀ k : Fin 512, p (ix2 ⟨a + q, by omega⟩ ⟨1024 + k, by omega⟩) = prj V0 (ix3 b ⟨128 * (s / 128) + q, by omega⟩ ⟨1024 + k, by omega⟩) :=
    fun k => hp _ _ _ (by show 128 * (s.val / 128) + q.val = 256 * i + (a + q.val); omega)
  simp only [hz]
end

end Cert.Proof.Odd

end
-- ==== Proof.OddRead.lean ====
module

public import proofs.«01_k».proof.Proof.OddBlock
public import proofs.«01_k».proof.Proof.Gen.Kernel5Ideal.Frame
public import Idealize.ShloMosaic.Lib.Pointwise
public import Idealize.ShloMosaic.Lib.Pipeline.ValueKit
public import Idealize.ShloMosaic.Lib.Claim

/-! The odd layers' mixing at the ideal instance: the blocks cover its result array, and each is the reference's. -/

@[expose] public section

set_option maxRecDepth 16384

noncomputable section

namespace Cert.Proof.Odd

open Cert.Kernel5Ideal Cert.Kernel5Ideal.Gen Idealize.ShloMosaic Idealize.ShloMosaic.TcCoe Idealize.SL.Sem
open Idealize.ShloMosaic.Pipeline (Dat)
open Cert.Proof.Ref5 (aX aM aW aPW aPS aSG aSB aSW aSC aWO aG aB prj pr yv)

variable (m : (ℓ : Loc nD τ sig) → Buf (Elt Ideal) ℓ)

/-- The windows' block indices at every point. -/
theorem idx : ∀ t : Fin cfg0.N, win0_0.index t = ![t.val / 32, t.val % 32, 0] ∧ (t.val % 32 ≠ 0 → win0_1.index t = ![t.val / 32, 16 * (t.val % 32) - 1, 0])
    ∧ win0_2.index t = ![t.val / 32, 0, 0] ∧ win0_3.index t = ![0, 0] ∧ win0_4.index t = ![0, 0, 0] ∧ win0_5.index t = ![0, 0]
    ∧ win0_6.index t = ![0, 0] ∧ win0_7.index t = ![0, 0] ∧ win0_8.index t = ![0, 0, 0] ∧ win0_9.index t = ![0, 0] ∧ win0_10.index t = ![0, 0]
    ∧ win0_11.index t = ![0, 0] ∧ win0_12.index t = ![0, 0] ∧ win0_13.index t = ![t.val / 32, t.val % 32, 0] ∧ t.val / 32 < 4
    ∧ ((grid0.coords t) 1).val = t.val % 32 :=
  (by decide +kernel : ∀ t : Fin grid0.N, _)

theorem tb (t : Fin cfg0.N) : t.val / 32 < 4 := (idx t).2.2.2.2.2.2.2.2.2.2.2.2.2.2.1
theorem tc (t : Fin cfg0.N) : ((grid0.coords t) 1).val = t.val % 32 := (idx t).2.2.2.2.2.2.2.2.2.2.2.2.2.2.2
theorem t1 (t : Fin cfg0.N) (h : t.val % 32 ≠ 0) : win0_1.index t = ![t.val / 32, 16 * (t.val % 32) - 1, 0] := (idx t).2.1 h

/-- The positions of a block's rows. -/
theorem pos_at (i : grid0.Coords) (r : Fin 256) (s : Fin 8192) (hs : s.val = 256 * (i 1).val + r) :
    k0_pay8 (F := Ideal) i (ix2 r 0) = FloatOps.sitofp (F := Ideal) .f32 (BitVec.ofNat 32 s.val) := by
  have e : IntOp.addi (Scalar.muli (BitVec.ofNat 32 (i 1).val) 256#32) (BitVec.ofNat 32 r.val) = BitVec.ofNat 32 s.val := by
    rw [hs]
    apply BitVec.eq_of_toNat_eq
    simp [IntOp.addi, Scalar.muli, IntOp.muli]
    omega
  rw [← e]
  pointwise [k0_pay8]

section
variable (c : Dev nD) (t : Fin cfg0.N)

theorem rd0 (r : Fin 256) (k : Fin 1024) (s : Fin 8192) (hs : s.val = 256 * (t.val % 32) + r) : (show FVec Ideal S1x256x1024 .f32 from iblk m c 0 t) (ix3 0 r k)
    = (show FVec Ideal S4x8192x1024 .f32 from m ((c : Thread nD τ).loc main_arg0)) (ix3 ⟨t.val / 32, tb t⟩ s k) := by
  blk_ext [iblk, V, idx t]
theorem rd1 (h : t.val % 32 ≠ 0) (u : Fin 16) (k : Fin 1024) (s : Fin 8192) (hs : s.val + 16 = 256 * (t.val % 32) + u) : (show FVec Ideal S1x16x1024 .f32 from iblk m c 1 t) (ix3 0 u k)
    = (show FVec Ideal S4x8192x1024 .f32 from m ((c : Thread nD τ).loc main_arg0)) (ix3 ⟨t.val / 32, tb t⟩ s k) := by
  blk_ext [iblk, V, t1 t h]
theorem rd2 (a : Fin 6) (n : Fin 1024) : (show FVec Ideal S1x6x1024 .f32 from iblk m c 2 t) (ix3 0 a n)
    = (show FVec Ideal S4x6x1024 .f32 from m ((c : Thread nD τ).loc main_arg1)) (ix3 ⟨t.val / 32, tb t⟩ a n) := by
  blk_ext [iblk, V, idx t]
theorem rd3 (k : Fin 1024) (n : Fin 1536) : (show FVec Ideal S1024x1536 .bf16 from iblk m c 3 t) (ix2 k n) = (show FVec Ideal S1024x1536 .f32 from m ((c : Thread nD τ).loc main_arg2)) (ix2 k n) := by
  blk_point [iblk, V, idx t]
theorem rd4 (g : Fin 4) (j d : Fin 128) : (show FVec Ideal S4x128x128 .bf16 from iblk m c 4 t) (ix3 g j d) = (show FVec Ideal S4x128x128 .f32 from m ((c : Thread nD τ).loc main_arg3)) (ix3 g j d) := by
  blk_point [iblk, V, idx t]
theorem rd5 (n : Fin 512) : (show FVec Ideal S1x512 .f32 from iblk m c 5 t) (ix2 0 n) = (show FVec Ideal S512 .f32 from m ((c : Thread nD τ).loc main_arg4)) (ix1 n) := by
  blk_point [iblk, V, idx t]
theorem rd6 (n : Fin 512) : (show FVec Ideal S1x512 .f32 from iblk m c 6 t) (ix2 0 n) = (show FVec Ideal S512 .f32 from m ((c : Thread nD τ).loc main_arg5)) (ix1 n) := by
  blk_point [iblk, V, idx t]
theorem rd7 (n : Fin 512) : (show FVec Ideal S1x512 .f32 from iblk m c 7 t) (ix2 0 n) = (show FVec Ideal S512 .f32 from m ((c : Thread nD τ).loc main_arg6)) (ix1 n) := by
  blk_point [iblk, V, idx t]
theorem rd8 (g : Fin 4) (j d : Fin 128) : (show FVec Ideal S4x128x128 .f32 from iblk m c 8 t) (ix3 g j d) = (show FVec Ideal S4x128x128 .f32 from m ((c : Thread nD τ).loc main_arg7)) (ix3 g j d) := by
  blk_ext [iblk, V, idx t]
theorem rd9 (j : Fin 128) (g : Fin 4) : (show FVec Ideal S128x4 .f32 from iblk m c 9 t) (ix2 j g) = (show FVec Ideal S4x128 .f32 from m ((c : Thread nD τ).loc main_arg8)) (ix2 g j) := by
  blk_point [iblk, V, idx t]
theorem rd10 (k : Fin 1024) (n : Fin 1024) : (show FVec Ideal S1024x1024 .bf16 from iblk m c 10 t) (ix2 k n) = (show FVec Ideal S1024x1024 .f32 from m ((c : Thread nD τ).loc main_arg9)) (ix2 k n) := by
  blk_point [iblk, V, idx t]
theorem rd11 (n : Fin 1024) : (show FVec Ideal S1x1024 .f32 from iblk m c 11 t) (ix2 0 n) = (show FVec Ideal S1024 .f32 from m ((c : Thread nD τ).loc main_arg10)) (ix1 n) := by
  blk_point [iblk, V, idx t]
theorem rd12 (n : Fin 1024) : (show FVec Ideal S1x1024 .f32 from iblk m c 12 t) (ix2 0 n) = (show FVec Ideal S1024 .f32 from m ((c : Thread nD τ).loc main_arg11)) (ix1 n) := by
  blk_point [iblk, V, idx t]

/-- The projection's left third of the weights, a group's weights. -/
theorem ld3 (k : Fin 1024) (n : Fin 512) : (View.ld (Val := Elt Ideal) (iblk m c 3 t) (Rect.unit (s := S1024x1536) ![0, 0] S1024x512.size inb_S1024x1536_S1024x512_0_0) : FVec Ideal S1024x512 .bf16) (ix2 k n)
    = (show FVec Ideal S1024x1536 .f32 from m ((c : Thread nD τ).loc main_arg2)) (ix2 k ⟨n, by omega⟩) := by
  rw [← rd3 m c t]
  exact View.ld_unit_apply_of _ _ _ _ _ _ (by intro a; fin_cases a <;> simp [ix2])
theorem ld4_0 (j d : Fin 128) : (View.ld (Val := Elt Ideal) (iblk m c 4 t) (Rect.unit (s := S4x128x128) ![0, 0, 0] S1x128x128.size inb_S4x128x128_S1x128x128_0_0_0) : FVec Ideal S1x128x128 .bf16) (ix3 0 j d)
    = (show FVec Ideal S4x128x128 .f32 from m ((c : Thread nD τ).loc main_arg3)) (ix3 0 j d) := by
  rw [← rd4 m c t]
  exact View.ld_unit_apply_of _ _ _ _ _ _ (by intro a; fin_cases a <;> simp [ix3])
theorem ld4_1 (j d : Fin 128) : (View.ld (Val := Elt Ideal) (iblk m c 4 t) (Rect.unit (s := S4x128x128) ![1, 0, 0] S1x128x128.size inb_S4x128x128_S1x128x128_1_0_0) : FVec Ideal S1x128x128 .bf16) (ix3 0 j d)
    = (show FVec Ideal S4x128x128 .f32 from m ((c : Thread nD τ).loc main_arg3)) (ix3 1 j d) := by
  rw [← rd4 m c t]
  exact View.ld_unit_apply_of _ _ _ _ _ _ (by intro a; fin_cases a <;> simp [ix3])
theorem ld4_2 (j d : Fin 128) : (View.ld (Val := Elt Ideal) (iblk m c 4 t) (Rect.unit (s := S4x128x128) ![2, 0, 0] S1x128x128.size inb_S4x128x128_S1x128x128_2_0_0) : FVec Ideal S1x128x128 .bf16) (ix3 0 j d)
    = (show FVec Ideal S4x128x128 .f32 from m ((c : Thread nD τ).loc main_arg3)) (ix3 2 j d) := by
  rw [← rd4 m c t]
  exact View.ld_unit_apply_of _ _ _ _ _ _ (by intro a; fin_cases a <;> simp [ix3])
theorem ld4_3 (j d : Fin 128) : (View.ld (Val := Elt Ideal) (iblk m c 4 t) (Rect.unit (s := S4x128x128) ![3, 0, 0] S1x128x128.size inb_S4x128x128_S1x128x128_3_0_0) : FVec Ideal S1x128x128 .bf16) (ix3 0 j d)
    = (show FVec Ideal S4x128x128 .f32 from m ((c : Thread nD τ).loc main_arg3)) (ix3 3 j d) := by
  rw [← rd4 m c t]
  exact View.ld_unit_apply_of _ _ _ _ _ _ (by intro a; fin_cases a <;> simp [ix3])
theorem ld8_0 (j d : Fin 128) : (View.ld (Val := Elt Ideal) (iblk m c 8 t) (Rect.unit (s := S4x128x128) ![0, 0, 0] S1x128x128.size inb_S4x128x128_S1x128x128_0_0_0) : FVec Ideal S1x128x128 .f32) (ix3 0 j d)
    = (show FVec Ideal S4x128x128 .f32 from m ((c : Thread nD τ).loc main_arg7)) (ix3 0 j d) := by
  rw [← rd8 m c t]
  exact View.ld_unit_apply_of _ _ _ _ _ _ (by intro a; fin_cases a <;> simp [ix3])
theorem ld8_1 (j d : Fin 128) : (View.ld (Val := Elt Ideal) (iblk m c 8 t) (Rect.unit (s := S4x128x128) ![1, 0, 0] S1x128x128.size inb_S4x128x128_S1x128x128_1_0_0) : FVec Ideal S1x128x128 .f32) (ix3 0 j d)
    = (show FVec Ideal S4x128x128 .f32 from m ((c : Thread nD τ).loc main_arg7)) (ix3 1 j d) := by
  rw [← rd8 m c t]
  exact View.ld_unit_apply_of _ _ _ _ _ _ (by intro a; fin_cases a <;> simp [ix3])
theorem ld8_2 (j d : Fin 128) : (View.ld (Val := Elt Ideal) (iblk m c 8 t) (Rect.unit (s := S4x128x128) ![2, 0, 0] S1x128x128.size inb_S4x128x128_S1x128x128_2_0_0) : FVec Ideal S1x128x128 .f32) (ix3 0 j d)
    = (show FVec Ideal S4x128x128 .f32 from m ((c : Thread nD τ).loc main_arg7)) (ix3 2 j d) := by
  rw [← rd8 m c t]
  exact View.ld_unit_apply_of _ _ _ _ _ _ (by intro a; fin_cases a <;> simp [ix3])
theorem ld8_3 (j d : Fin 128) : (View.ld (Val := Elt Ideal) (iblk m c 8 t) (Rect.unit (s := S4x128x128) ![3, 0, 0] S1x128x128.size inb_S4x128x128_S1x128x128_3_0_0) : FVec Ideal S1x128x128 .f32) (ix3 0 j d)
    = (show FVec Ideal S4x128x128 .f32 from m ((c : Thread nD τ).loc main_arg7)) (ix3 3 j d) := by
  rw [← rd8 m c t]
  exact View.ld_unit_apply_of _ _ _ _ _ _ (by intro a; fin_cases a <;> simp [ix3])
end

end Cert.Proof.Odd

end
-- ==== Proof.OddTiles.lean ====
module

public import proofs.«01_k».proof.Proof.OddRead

/-! The odd layers' mixing at the ideal instance: every block is the reference's. -/

@[expose] public section

set_option maxRecDepth 16384

noncomputable section

namespace Cert.Proof.Odd

open Cert.Kernel5Ideal Cert.Kernel5Ideal.Gen Idealize.ShloMosaic Idealize.ShloMosaic.TcCoe Idealize.SL.Sem
open Idealize.ShloMosaic.Pipeline (Dat)
open Cert.Proof.Ref5 (aX aM aW aPW aPS aSG aSB aSW aSC aWO aG aB prj pr yv)

variable (m : (ℓ : Loc nD τ sig) → Buf (Elt Ideal) ℓ) (V0 : Valuation Cert.Reference5Ideal.τ Cert.Reference5Ideal.sig (Elt Ideal)) (c : Dev nD)
  (H0 : aX V0 = (show FVec Ideal S4x8192x1024 .f32 from m ((c : Thread nD τ).loc main_arg0)))
  (H1 : aM V0 = (show FVec Ideal S4x6x1024 .f32 from m ((c : Thread nD τ).loc main_arg1)))
  (H2 : aW V0 = (show FVec Ideal S1024x1536 .f32 from m ((c : Thread nD τ).loc main_arg2)))
  (H3 : aPW V0 = (show FVec Ideal S4x128x128 .f32 from m ((c : Thread nD τ).loc main_arg3)))
  (H4 : aPS V0 = (show FVec Ideal S512 .f32 from m ((c : Thread nD τ).loc main_arg4)))
  (H5 : aSG V0 = (show FVec Ideal S512 .f32 from m ((c : Thread nD τ).loc main_arg5)))
  (H6 : aSB V0 = (show FVec Ideal S512 .f32 from m ((c : Thread nD τ).loc main_arg6)))
  (H7 : aSW V0 = (show FVec Ideal S4x128x128 .f32 from m ((c : Thread nD τ).loc main_arg7)))
  (H8 : aSC V0 = (show FVec Ideal S4x128 .f32 from m ((c : Thread nD τ).loc main_arg8)))
  (H9 : aWO V0 = (show FVec Ideal S1024x1024 .f32 from m ((c : Thread nD τ).loc main_arg9)))
  (H10 : aG V0 = (show FVec Ideal S1024 .f32 from m ((c : Thread nD τ).loc main_arg10)))
  (H11 : aB V0 = (show FVec Ideal S1024 .f32 from m ((c : Thread nD τ).loc main_arg11)))

section
variable (t : Fin cfg0.N)

/-- A block's projection, and its halo's. -/
def blkP : FVec Ideal S256x1536 .f32 := k0_pay6 (F := Ideal) (iblk m c 2 t) (iblk m c 0 t) (iblk m c 3 t)
def blkQ : FVec Ideal S16x512 .f32 := k0_pay7 (F := Ideal) (grid0.coords t) (iblk m c 2 t) (iblk m c 1 t) (View.ld (Val := Elt Ideal) (iblk m c 3 t) (Rect.unit (s := S1024x1536) ![0, 0] S1024x512.size inb_S1024x1536_S1024x512_0_0))
/-- A block's batch. -/
abbrev bt : Fin 4 := ⟨t.val / 32, tb t⟩

include H0 H1 H2 in
theorem hp (r : Fin 256) (n : Fin 1536) (s : Fin 8192) (hs : s.val = 256 * (t.val % 32) + r) : blkP m c t (ix2 r n) = prj V0 (ix3 (bt t) s n) := by
  unfold blkP
  rw [pay6_at, Ref5.prj_at, H0, H1, H2]
  refine Finset.sum_congr rfl fun k _ => ?_
  exact congrArg₂ (· * ·) (congrArg₂ (· + ·) (congrArg₂ (· * ·) (rd0 m c t r k s hs) (congrArg (1 + ·) (rd2 m c t 1 k))) (rd2 m c t 0 k)) (rd3 m c t k n)

theorem hq0 (h : t.val % 32 = 0) (u : Fin 16) (n : Fin 512) : blkQ m c t (ix2 u n) = 0 := by
  unfold blkQ
  rw [pay7_at, tc, if_pos h]

include H0 H1 H2 in
theorem hq (u : Fin 16) (n : Fin 512) (s : Fin 8192) (h : t.val % 32 ≠ 0) (hs : s.val + 16 = 256 * (t.val % 32) + u) : blkQ m c t (ix2 u n) = prj V0 (ix3 (bt t) s ⟨n, by omega⟩) := by
  unfold blkQ
  rw [pay7_at, tc, if_neg h, Ref5.prj_at, H0, H1, H2]
  refine Finset.sum_congr rfl fun k _ => ?_
  exact congrArg₂ (· * ·) (congrArg₂ (· + ·) (congrArg₂ (· * ·) (rd1 m c t h u k s hs) (congrArg (1 + ·) (rd2 m c t 1 k))) (rd2 m c t 0 k)) (ld3 m c t k n)

theorem hT (r : Fin 256) (s : Fin 8192) (hs : s.val = 256 * (t.val % 32) + r) : k0_pay8 (F := Ideal) (grid0.coords t) (ix2 r 0) = FloatOps.sitofp (F := Ideal) .f32 (BitVec.ofNat 32 s.val) :=
  pos_at _ r s (by rw [tc]; exact hs)

include H4 in
theorem hC (n : Fin 512) : k0_pay9 (F := Ideal) (iblk m c 5 t) (ix2 0 n) = aPS V0 (ix1 n) := by
  rw [H4]
  refine Eq.trans ?_ (rd5 m c t n)
  generalize iblk m c 5 t = z
  pointwise [k0_pay9]

theorem hU (r : Fin 256) (n : Fin 512) : k0_pay18 (F := Ideal) (blkP m c t) (ix2 r n) = gelu (blkP m c t (ix2 r ⟨512 + n, by omega⟩)) := pay18_at _ r n

include H5 H6 in
theorem hV (r : Fin 256) (n : Fin 512) : k0_pay20 (F := Ideal) (k0_pay19 (F := Ideal) (blkP m c t)) (iblk m c 6 t) (iblk m c 7 t) (ix2 r n)
    = lnT (fun k => gelu (blkP m c t (ix2 r ⟨1024 + k, by omega⟩))) (aSG V0 (ix1 n)) (aSB V0 (ix1 n)) n := by
  rw [pay20_at, H5, H6]
  simp only [pay19_at]
  exact congrArg₂ (fun g h => lnT (fun k => gelu (blkP m c t (ix2 r ⟨1024 + k, by omega⟩))) g h n) (rd6 m c t n) (rd7 m c t n)

include H8 in
theorem hB (g : Fin 4) (j : Fin 128) : (show FVec Ideal S128x4 .f32 from iblk m c 9 t) (ix2 j g) = aSC V0 (ix2 g j) := by
  rw [H8]
  exact rd9 m c t j g

include H0 H1 H2 H3 H4 in
theorem pooled0 (r : Fin 256) (d : Fin 128) (s : Fin 8192) (hs : s.val = 256 * (t.val % 32) + r) (n : Fin 1024) (hn : n.val = 0 + d) :
    k0_pay10 (F := Ideal) (blkP m c t) (blkQ m c t) (k0_pay8 (grid0.coords t)) (k0_pay9 (iblk m c 5 t)) (View.ld (Val := Elt Ideal) (iblk m c 4 t) (Rect.unit (s := S4x128x128) ![0, 0, 0] S1x128x128.size inb_S4x128x128_S1x128x128_0_0_0)) (ix2 r d)
      = yv V0 (ix3 (bt t) s n) := by
  have hb : 0 + d.val < 1024 := by omega
  obtain rfl : n = ⟨0 + d, hb⟩ := Fin.ext hn
  refine (pool0_at _ _ _ _ _ r d).trans (Eq.trans ?_ (Ref5.yv0_at V0 (bt t) s d).symm)
  refine pooled_eq V0 (bt t) (t.val % 32) (blkP m c t) (blkQ m c t) _ _ (hp m V0 c H0 H1 H2 t) (hT t) (hC m V0 c H4 t) _ _ _ _ _ _ _ _ ?_ r d s hs ?_
  · rw [H3]
    exact ld4_0 m c t
  · exact fun n => s2_sh _ _ (t.val % 32) r s r.2 hs fun u v h1 h2 h3 =>
      ext_at V0 (bt t) (t.val % 32) (by omega) (blkP m c t) (blkQ m c t) (hp m V0 c H0 H1 H2 t) (hq0 m c t) (hq m V0 c H0 H1 H2 t) n u v h1 h2 h3

include H0 H1 H2 H3 H4 in
theorem pooled1 (r : Fin 256) (d : Fin 128) (s : Fin 8192) (hs : s.val = 256 * (t.val % 32) + r) (n : Fin 1024) (hn : n.val = 128 + d) :
    k0_pay13 (F := Ideal) (k0_pay9 (iblk m c 5 t)) (k0_pay11 (View.ld (Val := Elt Ideal) (iblk m c 4 t) (Rect.unit (s := S4x128x128) ![1, 0, 0] S1x128x128.size inb_S4x128x128_S1x128x128_1_0_0))) (k0_pay12 (blkP m c t) (blkQ m c t) (k0_pay8 (grid0.coords t))) (constant S256x128 .f32 0x00000000#32) (ix2 r d)
      = yv V0 (ix3 (bt t) s n) := by
  have hb : 128 + d.val < 1024 := by omega
  obtain rfl : n = ⟨128 + d, hb⟩ := Fin.ext hn
  refine (pool1_at _ _ _ _ _ r d).trans (Eq.trans ?_ (Ref5.yv1_at V0 (bt t) s d).symm)
  refine pooled_eq V0 (bt t) (t.val % 32) (blkP m c t) (blkQ m c t) _ _ (hp m V0 c H0 H1 H2 t) (hT t) (hC m V0 c H4 t) _ _ _ _ _ _ _ _ ?_ r d s hs ?_
  · rw [H3]
    exact ld4_1 m c t
  · exact fun n => s4_sh _ _ (t.val % 32) r s r.2 hs fun u v h1 h2 h3 =>
      ext_at V0 (bt t) (t.val % 32) (by omega) (blkP m c t) (blkQ m c t) (hp m V0 c H0 H1 H2 t) (hq0 m c t) (hq m V0 c H0 H1 H2 t) n u v h1 h2 h3

include H0 H1 H2 H3 H4 in
theorem pooled2 (r : Fin 256) (d : Fin 128) (s : Fin 8192) (hs : s.val = 256 * (t.val % 32) + r) (n : Fin 1024) (hn : n.val = 256 + d) :
    k0_pay14 (F := Ideal) (blkP m c t) (blkQ m c t) (k0_pay8 (grid0.coords t)) (k0_pay9 (iblk m c 5 t)) (View.ld (Val := Elt Ideal) (iblk m c 4 t) (Rect.unit (s := S4x128x128) ![2, 0, 0] S1x128x128.size inb_S4x128x128_S1x128x128_2_0_0)) (ix2 r d)
      = yv V0 (ix3 (bt t) s n) := by
  have hb : 256 + d.val < 1024 := by omega
  obtain rfl : n = ⟨256 + d, hb⟩ := Fin.ext hn
  refine (pool2_at _ _ _ _ _ r d).trans (Eq.trans ?_ (Ref5.yv2_at V0 (bt t) s d).symm)
  refine pooled_eq V0 (bt t) (t.val % 32) (blkP m c t) (blkQ m c t) _ _ (hp m V0 c H0 H1 H2 t) (hT t) (hC m V0 c H4 t) _ _ _ _ _ _ _ _ ?_ r d s hs ?_
  · rw [H3]
    exact ld4_2 m c t
  · exact fun n => s8_sh _ _ (t.val % 32) r s r.2 hs fun u v h1 h2 h3 =>
      ext_at V0 (bt t) (t.val % 32) (by omega) (blkP m c t) (blkQ m c t) (hp m V0 c H0 H1 H2 t) (hq0 m c t) (hq m V0 c H0 H1 H2 t) n u v h1 h2 h3

include H0 H1 H2 H3 H4 in
theorem pooled3 (r : Fin 256) (d : Fin 128) (s : Fin 8192) (hs : s.val = 256 * (t.val % 32) + r) (n : Fin 1024) (hn : n.val = 384 + d) :
    k0_pay17 (F := Ideal) (k0_pay8 (grid0.coords t)) (k0_pay9 (iblk m c 5 t)) (k0_pay15 (blkP m c t)) (k0_pay16 (blkP m c t) (blkQ m c t)) (View.ld (Val := Elt Ideal) (iblk m c 4 t) (Rect.unit (s := S4x128x128) ![3, 0, 0] S1x128x128.size inb_S4x128x128_S1x128x128_3_0_0)) (ix2 r d)
      = yv V0 (ix3 (bt t) s n) := by
  have hb : 384 + d.val < 1024 := by omega
  obtain rfl : n = ⟨384 + d, hb⟩ := Fin.ext hn
  refine (pool3_at _ _ _ _ _ r d).trans (Eq.trans ?_ (Ref5.yv3_at V0 (bt t) s d).symm)
  refine pooled_eq V0 (bt t) (t.val % 32) (blkP m c t) (blkQ m c t) _ _ (hp m V0 c H0 H1 H2 t) (hT t) (hC m V0 c H4 t) _ _ _ _ _ _ _ _ ?_ r d s hs ?_
  · rw [H3]
    exact ld4_3 m c t
  · exact fun n => s16_sh _ _ (t.val % 32) r s r.2 hs fun u v h1 h2 h3 =>
      ext_at V0 (bt t) (t.val % 32) (by omega) (blkP m c t) (blkQ m c t) (hp m V0 c H0 H1 H2 t) (hq0 m c t) (hq m V0 c H0 H1 H2 t) n u v h1 h2 h3

include H0 H1 H2 H5 H6 H7 H8 in
theorem gated0_0 (r d : Fin 128) (s : Fin 8192) (hs : s.val = 256 * (t.val % 32) + (0 + r)) (n : Fin 1024) (hn : n.val = 512 + d) :
    k0_pay24 (F := Ideal) (k0_pay23 (k0_pay18 (blkP m c t)) (k0_pay19 (blkP m c t)) (iblk m c 6 t) (iblk m c 7 t) (iblk m c 9 t) (View.ld (Val := Elt Ideal) (iblk m c 8 t) (Rect.unit (s := S4x128x128) ![0, 0, 0] S1x128x128.size inb_S4x128x128_S1x128x128_0_0_0))) (ix2 r d)
      = yv V0 (ix3 (bt t) s n) := by
  have hb : 512 + (128 * ((0 : Fin 4) : ℕ) + d.val) < 1024 := by show 512 + (128 * 0 + d.val) < 1024; omega
  obtain rfl : n = ⟨512 + (128 * ((0 : Fin 4) : ℕ) + d), hb⟩ := Fin.ext (by rw [hn]; show _ = 512 + (128 * 0 + d.val); omega)
  refine (gate0_0 (k0_pay18 (F := Ideal) (blkP m c t)) (iblk m c 9 t) (View.ld (Val := Elt Ideal) (iblk m c 8 t) (Rect.unit (s := S4x128x128) ![0, 0, 0] S1x128x128.size inb_S4x128x128_S1x128x128_0_0_0)) (k0_pay19 (F := Ideal) (blkP m c t)) (iblk m c 6 t) (iblk m c 7 t) r d).trans ?_
  exact gated_eq V0 (bt t) (t.val % 32) (blkP m c t) (hp m V0 c H0 H1 H2 t) _ _ _ _ 0 0 (by omega) (by omega) 0 (by omega) rfl (hU m c t) (hV m V0 c H5 H6 t)
    (hB m V0 c H8 t 0) (by rw [H7]; exact ld8_0 m c t) r d s hs

include H0 H1 H2 H5 H6 H7 H8 in
theorem gated0_128 (r d : Fin 128) (s : Fin 8192) (hs : s.val = 256 * (t.val % 32) + (128 + r)) (n : Fin 1024) (hn : n.val = 512 + d) :
    k0_pay25 (F := Ideal) (k0_pay18 (blkP m c t)) (k0_pay20 (k0_pay19 (blkP m c t)) (iblk m c 6 t) (iblk m c 7 t)) (k0_pay21 (iblk m c 9 t)) (k0_pay22 (View.ld (Val := Elt Ideal) (iblk m c 8 t) (Rect.unit (s := S4x128x128) ![0, 0, 0] S1x128x128.size inb_S4x128x128_S1x128x128_0_0_0))) (ix2 r d)
      = yv V0 (ix3 (bt t) s n) := by
  have hb : 512 + (128 * ((0 : Fin 4) : ℕ) + d.val) < 1024 := by show 512 + (128 * 0 + d.val) < 1024; omega
  obtain rfl : n = ⟨512 + (128 * ((0 : Fin 4) : ℕ) + d), hb⟩ := Fin.ext (by rw [hn]; show _ = 512 + (128 * 0 + d.val); omega)
  refine (gate0_128 (k0_pay18 (F := Ideal) (blkP m c t)) (k0_pay20 (F := Ideal) (k0_pay19 (F := Ideal) (blkP m c t)) (iblk m c 6 t) (iblk m c 7 t)) (iblk m c 9 t) (View.ld (Val := Elt Ideal) (iblk m c 8 t) (Rect.unit (s := S4x128x128) ![0, 0, 0] S1x128x128.size inb_S4x128x128_S1x128x128_0_0_0)) r d).trans ?_
  exact gated_eq V0 (bt t) (t.val % 32) (blkP m c t) (hp m V0 c H0 H1 H2 t) _ _ _ _ 128 0 (by omega) (by omega) 0 (by omega) rfl (hU m c t) (hV m V0 c H5 H6 t)
    (hB m V0 c H8 t 0) (by rw [H7]; exact ld8_0 m c t) r d s hs

include H0 H1 H2 H5 H6 H7 H8 in
theorem gated1_0 (r d : Fin 128) (s : Fin 8192) (hs : s.val = 256 * (t.val % 32) + (0 + r)) (n : Fin 1024) (hn : n.val = 640 + d) :
    k0_pay27 (F := Ideal) (k0_pay18 (blkP m c t)) (k0_pay20 (k0_pay19 (blkP m c t)) (iblk m c 6 t) (iblk m c 7 t)) (iota Kind.tc S128x128 32 [0] iota_S128x128_d0_w32) (iota Kind.tc S128x128 32 [1] iota_S128x128_d1_w32) (k0_pay21 (iblk m c 9 t)) (View.ld (Val := Elt Ideal) (iblk m c 8 t) (Rect.unit (s := S4x128x128) ![1, 0, 0] S1x128x128.size inb_S4x128x128_S1x128x128_1_0_0)) (ix2 r d)
      = yv V0 (ix3 (bt t) s n) := by
  have hb : 512 + (128 * ((1 : Fin 4) : ℕ) + d.val) < 1024 := by show 512 + (128 * 1 + d.val) < 1024; omega
  obtain rfl : n = ⟨512 + (128 * ((1 : Fin 4) : ℕ) + d), hb⟩ := Fin.ext (by rw [hn]; show _ = 512 + (128 * 1 + d.val); omega)
  refine (gate1_0 (k0_pay18 (F := Ideal) (blkP m c t)) (k0_pay20 (F := Ideal) (k0_pay19 (F := Ideal) (blkP m c t)) (iblk m c 6 t) (iblk m c 7 t)) (iblk m c 9 t) (View.ld (Val := Elt Ideal) (iblk m c 8 t) (Rect.unit (s := S4x128x128) ![1, 0, 0] S1x128x128.size inb_S4x128x128_S1x128x128_1_0_0)) r d).trans ?_
  exact gated_eq V0 (bt t) (t.val % 32) (blkP m c t) (hp m V0 c H0 H1 H2 t) _ _ _ _ 0 128 (by omega) (by omega) 1 (by omega) rfl (hU m c t) (hV m V0 c H5 H6 t)
    (hB m V0 c H8 t 1) (by rw [H7]; exact ld8_1 m c t) r d s hs

include H0 H1 H2 H5 H6 H7 H8 in
theorem gated1_128 (r d : Fin 128) (s : Fin 8192) (hs : s.val = 256 * (t.val % 32) + (128 + r)) (n : Fin 1024) (hn : n.val = 640 + d) :
    k0_pay29 (F := Ideal) (k0_pay28 (k0_pay18 (blkP m c t)) (k0_pay20 (k0_pay19 (blkP m c t)) (iblk m c 6 t) (iblk m c 7 t)) (iota Kind.tc S128x128 32 [0] iota_S128x128_d0_w32) (iota Kind.tc S128x128 32 [1] iota_S128x128_d1_w32) (k0_pay21 (iblk m c 9 t)) (View.ld (Val := Elt Ideal) (iblk m c 8 t) (Rect.unit (s := S4x128x128) ![1, 0, 0] S1x128x128.size inb_S4x128x128_S1x128x128_1_0_0))) (ix2 r d)
      = yv V0 (ix3 (bt t) s n) := by
  have hb : 512 + (128 * ((1 : Fin 4) : ℕ) + d.val) < 1024 := by show 512 + (128 * 1 + d.val) < 1024; omega
  obtain rfl : n = ⟨512 + (128 * ((1 : Fin 4) : ℕ) + d), hb⟩ := Fin.ext (by rw [hn]; show _ = 512 + (128 * 1 + d.val); omega)
  refine (gate1_128 (k0_pay18 (F := Ideal) (blkP m c t)) (k0_pay20 (F := Ideal) (k0_pay19 (F := Ideal) (blkP m c t)) (iblk m c 6 t) (iblk m c 7 t)) (iblk m c 9 t) (View.ld (Val := Elt Ideal) (iblk m c 8 t) (Rect.unit (s := S4x128x128) ![1, 0, 0] S1x128x128.size inb_S4x128x128_S1x128x128_1_0_0)) r d).trans ?_
  exact gated_eq V0 (bt t) (t.val % 32) (blkP m c t) (hp m V0 c H0 H1 H2 t) _ _ _ _ 128 128 (by omega) (by omega) 1 (by omega) rfl (hU m c t) (hV m V0 c H5 H6 t)
    (hB m V0 c H8 t 1) (by rw [H7]; exact ld8_1 m c t) r d s hs

include H0 H1 H2 H5 H6 H7 H8 in
theorem gated2_0 (r d : Fin 128) (s : Fin 8192) (hs : s.val = 256 * (t.val % 32) + (0 + r)) (n : Fin 1024) (hn : n.val = 768 + d) :
    k0_pay31 (F := Ideal) (k0_pay18 (blkP m c t)) (k0_pay20 (k0_pay19 (blkP m c t)) (iblk m c 6 t) (iblk m c 7 t)) (iota Kind.tc S128x128 32 [0] iota_S128x128_d0_w32) (iota Kind.tc S128x128 32 [1] iota_S128x128_d1_w32) (k0_pay21 (iblk m c 9 t)) (View.ld (Val := Elt Ideal) (iblk m c 8 t) (Rect.unit (s := S4x128x128) ![2, 0, 0] S1x128x128.size inb_S4x128x128_S1x128x128_2_0_0)) (ix2 r d)
      = yv V0 (ix3 (bt t) s n) := by
  have hb : 512 + (128 * ((2 : Fin 4) : ℕ) + d.val) < 1024 := by show 512 + (128 * 2 + d.val) < 1024; omega
  obtain rfl : n = ⟨512 + (128 * ((2 : Fin 4) : ℕ) + d), hb⟩ := Fin.ext (by rw [hn]; show _ = 512 + (128 * 2 + d.val); omega)
  refine (gate2_0 (k0_pay18 (F := Ideal) (blkP m c t)) (k0_pay20 (F := Ideal) (k0_pay19 (F := Ideal) (blkP m c t)) (iblk m c 6 t) (iblk m c 7 t)) (iblk m c 9 t) (View.ld (Val := Elt Ideal) (iblk m c 8 t) (Rect.unit (s := S4x128x128) ![2, 0, 0] S1x128x128.size inb_S4x128x128_S1x128x128_2_0_0)) r d).trans ?_
  exact gated_eq V0 (bt t) (t.val % 32) (blkP m c t) (hp m V0 c H0 H1 H2 t) _ _ _ _ 0 256 (by omega) (by omega) 2 (by omega) rfl (hU m c t) (hV m V0 c H5 H6 t)
    (hB m V0 c H8 t 2) (by rw [H7]; exact ld8_2 m c t) r d s hs

include H0 H1 H2 H5 H6 H7 H8 in
theorem gated2_128 (r d : Fin 128) (s : Fin 8192) (hs : s.val = 256 * (t.val % 32) + (128 + r)) (n : Fin 1024) (hn : n.val = 768 + d) :
    k0_pay32 (F := Ideal) (k0_pay18 (blkP m c t)) (k0_pay20 (k0_pay19 (blkP m c t)) (iblk m c 6 t) (iblk m c 7 t)) (iota Kind.tc S128x128 32 [0] iota_S128x128_d0_w32) (iota Kind.tc S128x128 32 [1] iota_S128x128_d1_w32) (k0_pay21 (iblk m c 9 t)) (View.ld (Val := Elt Ideal) (iblk m c 8 t) (Rect.unit (s := S4x128x128) ![2, 0, 0] S1x128x128.size inb_S4x128x128_S1x128x128_2_0_0)) (ix2 r d)
      = yv V0 (ix3 (bt t) s n) := by
  have hb : 512 + (128 * ((2 : Fin 4) : ℕ) + d.val) < 1024 := by show 512 + (128 * 2 + d.val) < 1024; omega
  obtain rfl : n = ⟨512 + (128 * ((2 : Fin 4) : ℕ) + d), hb⟩ := Fin.ext (by rw [hn]; show _ = 512 + (128 * 2 + d.val); omega)
  refine (gate2_128 (k0_pay18 (F := Ideal) (blkP m c t)) (k0_pay20 (F := Ideal) (k0_pay19 (F := Ideal) (blkP m c t)) (iblk m c 6 t) (iblk m c 7 t)) (iblk m c 9 t) (View.ld (Val := Elt Ideal) (iblk m c 8 t) (Rect.unit (s := S4x128x128) ![2, 0, 0] S1x128x128.size inb_S4x128x128_S1x128x128_2_0_0)) r d).trans ?_
  exact gated_eq V0 (bt t) (t.val % 32) (blkP m c t) (hp m V0 c H0 H1 H2 t) _ _ _ _ 128 256 (by omega) (by omega) 2 (by omega) rfl (hU m c t) (hV m V0 c H5 H6 t)
    (hB m V0 c H8 t 2) (by rw [H7]; exact ld8_2 m c t) r d s hs

include H0 H1 H2 H5 H6 H7 H8 in
theorem gated3_0 (r d : Fin 128) (s : Fin 8192) (hs : s.val = 256 * (t.val % 32) + (0 + r)) (n : Fin 1024) (hn : n.val = 896 + d) :
    k0_pay35 (F := Ideal) (k0_pay18 (blkP m c t)) (k0_pay21 (iblk m c 9 t)) (k0_pay34 (k0_pay20 (k0_pay19 (blkP m c t)) (iblk m c 6 t) (iblk m c 7 t)) (iota Kind.tc S128x128 32 [0] iota_S128x128_d0_w32) (iota Kind.tc S128x128 32 [1] iota_S128x128_d1_w32) (View.ld (Val := Elt Ideal) (iblk m c 8 t) (Rect.unit (s := S4x128x128) ![3, 0, 0] S1x128x128.size inb_S4x128x128_S1x128x128_3_0_0))) (ix2 r d)
      = yv V0 (ix3 (bt t) s n) := by
  have hb : 512 + (128 * ((3 : Fin 4) : ℕ) + d.val) < 1024 := by show 512 + (128 * 3 + d.val) < 1024; omega
  obtain rfl : n = ⟨512 + (128 * ((3 : Fin 4) : ℕ) + d), hb⟩ := Fin.ext (by rw [hn]; show _ = 512 + (128 * 3 + d.val); omega)
  refine (gate3_0 (k0_pay18 (F := Ideal) (blkP m c t)) (k0_pay20 (F := Ideal) (k0_pay19 (F := Ideal) (blkP m c t)) (iblk m c 6 t) (iblk m c 7 t)) (iblk m c 9 t) (View.ld (Val := Elt Ideal) (iblk m c 8 t) (Rect.unit (s := S4x128x128) ![3, 0, 0] S1x128x128.size inb_S4x128x128_S1x128x128_3_0_0)) r d).trans ?_
  exact gated_eq V0 (bt t) (t.val % 32) (blkP m c t) (hp m V0 c H0 H1 H2 t) _ _ _ _ 0 384 (by omega) (by omega) 3 (by omega) rfl (hU m c t) (hV m V0 c H5 H6 t)
    (hB m V0 c H8 t 3) (by rw [H7]; exact ld8_3 m c t) r d s hs

include H0 H1 H2 H5 H6 H7 H8 in
theorem gated3_128 (r d : Fin 128) (s : Fin 8192) (hs : s.val = 256 * (t.val % 32) + (128 + r)) (n : Fin 1024) (hn : n.val = 896 + d) :
    k0_pay36 (F := Ideal) (k0_pay18 (blkP m c t)) (k0_pay20 (k0_pay19 (blkP m c t)) (iblk m c 6 t) (iblk m c 7 t)) (k0_pay21 (iblk m c 9 t)) (k0_pay33 (iota Kind.tc S128x128 32 [0] iota_S128x128_d0_w32) (iota Kind.tc S128x128 32 [1] iota_S128x128_d1_w32) (View.ld (Val := Elt Ideal) (iblk m c 8 t) (Rect.unit (s := S4x128x128) ![3, 0, 0] S1x128x128.size inb_S4x128x128_S1x128x128_3_0_0))) (ix2 r d)
      = yv V0 (ix3 (bt t) s n) := by
  have hb : 512 + (128 * ((3 : Fin 4) : ℕ) + d.val) < 1024 := by show 512 + (128 * 3 + d.val) < 1024; omega
  obtain rfl : n = ⟨512 + (128 * ((3 : Fin 4) : ℕ) + d), hb⟩ := Fin.ext (by rw [hn]; show _ = 512 + (128 * 3 + d.val); omega)
  refine (gate3_128 (k0_pay18 (F := Ideal) (blkP m c t)) (k0_pay20 (F := Ideal) (k0_pay19 (F := Ideal) (blkP m c t)) (iblk m c 6 t) (iblk m c 7 t)) (iblk m c 9 t) (View.ld (Val := Elt Ideal) (iblk m c 8 t) (Rect.unit (s := S4x128x128) ![3, 0, 0] S1x128x128.size inb_S4x128x128_S1x128x128_3_0_0)) r d).trans ?_
  exact gated_eq V0 (bt t) (t.val % 32) (blkP m c t) (hp m V0 c H0 H1 H2 t) _ _ _ _ 128 384 (by omega) (by omega) 3 (by omega) rfl (hU m c t) (hV m V0 c H5 H6 t)
    (hB m V0 c H8 t 3) (by rw [H7]; exact ld8_3 m c t) r d s hs

end

end Cert.Proof.Odd

end
-- ==== Proof.OddFinal.lean ====
module

public import proofs.«01_k».proof.Proof.OddTiles

/-! The odd layers' mixing at the ideal instance: the blocks cover the result array, and it is the reference's. -/

@[expose] public section

set_option maxRecDepth 16384

noncomputable section

namespace Cert.Proof.Odd

open Cert.Kernel5Ideal Cert.Kernel5Ideal.Gen Idealize.ShloMosaic Idealize.ShloMosaic.TcCoe Idealize.SL.Sem
open Idealize.ShloMosaic.Pipeline (Dat)
open Cert.Proof.Ref5 (aX aM aW aPW aPS aSG aSB aSW aSC aWO aG aB prj pr yv)

variable (m : (ℓ : Loc nD τ sig) → Buf (Elt Ideal) ℓ) (V0 : Valuation Cert.Reference5Ideal.τ Cert.Reference5Ideal.sig (Elt Ideal)) (c : Dev nD)
  (H0 : aX V0 = (show FVec Ideal S4x8192x1024 .f32 from m ((c : Thread nD τ).loc main_arg0)))
  (H1 : aM V0 = (show FVec Ideal S4x6x1024 .f32 from m ((c : Thread nD τ).loc main_arg1)))
  (H2 : aW V0 = (show FVec Ideal S1024x1536 .f32 from m ((c : Thread nD τ).loc main_arg2)))
  (H3 : aPW V0 = (show FVec Ideal S4x128x128 .f32 from m ((c : Thread nD τ).loc main_arg3)))
  (H4 : aPS V0 = (show FVec Ideal S512 .f32 from m ((c : Thread nD τ).loc main_arg4)))
  (H5 : aSG V0 = (show FVec Ideal S512 .f32 from m ((c : Thread nD τ).loc main_arg5)))
  (H6 : aSB V0 = (show FVec Ideal S512 .f32 from m ((c : Thread nD τ).loc main_arg6)))
  (H7 : aSW V0 = (show FVec Ideal S4x128x128 .f32 from m ((c : Thread nD τ).loc main_arg7)))
  (H8 : aSC V0 = (show FVec Ideal S4x128 .f32 from m ((c : Thread nD τ).loc main_arg8)))
  (H9 : aWO V0 = (show FVec Ideal S1024x1024 .f32 from m ((c : Thread nD τ).loc main_arg9)))
  (H10 : aG V0 = (show FVec Ideal S1024 .f32 from m ((c : Thread nD τ).loc main_arg10)))
  (H11 : aB V0 = (show FVec Ideal S1024 .f32 from m ((c : Thread nD τ).loc main_arg11)))

include H0 H1 H9 H10 H11 in
theorem stored_at (t : Fin cfg0.N) (Y : FVec Ideal S256x1024 .bf16) (r : Fin 256) (n : Fin 1024) (s : Fin 8192) (hs : s.val = 256 * (t.val % 32) + r)
    (hY : ∀ k : Fin 1024, Y (ix2 r k) = yv V0 (ix3 (bt t) s k)) :
    k0_pay1 (F := Ideal) (k0_pay37 (k0_pay2 (iblk m c 2 t)) (k0_pay5 (iblk m c 0 t)) Y (iblk m c 10 t)) (k0_pay38 (iblk m c 11 t)) (k0_pay39 (iblk m c 12 t))
        (k0_pay40 (k0_pay2 (iblk m c 2 t)) (k0_pay5 (iblk m c 0 t)) Y (iblk m c 10 t)) (ix3 0 r n)
      = Ref5.result V0 (ix3 (bt t) s n) := by
  rw [Ref5.result_at, H0, H1, H9, H10, H11]
  have hz : ∀ k : Fin 1024, k0_pay37 (F := Ideal) (k0_pay2 (iblk m c 2 t)) (k0_pay5 (iblk m c 0 t)) Y (iblk m c 10 t) (ix2 r k)
      = Ideal.ofBits .f32 0x3FD744FD#32 * (show FVec Ideal S4x8192x1024 .f32 from m ((c : Thread nD τ).loc main_arg0)) (ix3 (bt t) s k)
        + (show FVec Ideal S4x6x1024 .f32 from m ((c : Thread nD τ).loc main_arg1)) (ix3 (bt t) 2 k)
          * ∑ j : Fin 1024, yv V0 (ix3 (bt t) s j) * (show FVec Ideal S1024x1024 .f32 from m ((c : Thread nD τ).loc main_arg9)) (ix2 j k) := fun k => by
    rw [pay37_at]
    exact congrArg₂ (· + ·) (congrArg (_ * ·) (rd0 m c t r k s hs)) (congrArg₂ (· * ·) (rd2 m c t 2 k)
      (Finset.sum_congr rfl fun j _ => congrArg₂ (· * ·) (hY j) (rd10 m c t j k)))
  have h11 : k0_pay38 (F := Ideal) (iblk m c 11 t) (ix2 0 n) = (show FVec Ideal S1024 .f32 from m ((c : Thread nD τ).loc main_arg10)) (ix1 n) := by
    refine Eq.trans ?_ (rd11 m c t n)
    generalize iblk m c 11 t = z
    pointwise [k0_pay38]
  have h12 : k0_pay39 (F := Ideal) (iblk m c 12 t) (ix2 0 n) = (show FVec Ideal S1024 .f32 from m ((c : Thread nD τ).loc main_arg11)) (ix1 n) := by
    refine Eq.trans ?_ (rd12 m c t n)
    generalize iblk m c 12 t = z
    pointwise [k0_pay39]
  refine (pay1_at _ _ _ _ r n _ hz fun k => ?_).trans ?_
  · rw [pay40_at]
    simp only [hz]
  · exact congrArg₂ (fun g h => Ffn.lnS _ g h n) h11 h12

omit m V0 c in
/-- A load of a whole tiled buffer, at an index. -/
theorem read_at {sig' : RefSig} {κ' : Kind} {sp' : Space} (v : View sig' κ' sp' S256x1024 .bf16) (L : List (View.Piece (Elt Ideal) S256x1024 .bf16)) (off : Fin 2 → ℕ)
    (inb : ∀ a, off a + ![256, 1024] a ≤ S256x1024.size a) (r : Fin 256) (k : Fin 1024)
    (z : EReal) (h : ∀ y, ∃ p ∈ L, y ∈ p.1.set) (hoff : ∀ a, off a = 0 := by decide) (e : (∀ y, ∃ p ∈ L, y ∈ p.1.set) → View.canon L (ix2 r k) = z) :
    (v.readCov L (Rect.unit (s := S256x1024) off ![256, 1024] inb).toLoadRect : FVec Ideal S256x1024 .bf16) (ix2 r k) = z := by
  rw [View.readCov_eq_canon_ld _ _ _ h]
  refine (View.ld_unit_apply_of _ _ _ _ _ (ix2 r k) (by intro a; rw [hoff a, Nat.zero_add])).trans (e h)

include H0 H1 H2 H3 H4 H5 H6 H7 H8 H9 H10 H11 in
theorem final : (dats m 0 c).arrAt 13 (cfgs 0).N = Ref5.result V0 := by
  refine (dats m 0 c).arrAt_eq_of_covers 13 _ (by decide +kernel) fun t _ y => ?_
  blk_simp
  rw [after0_13]
  unfold outsAt0
  frame_out
  obtain ⟨a, r, n, rfl⟩ : ∃ (a : Fin 1) (r : Fin 256) (n : Fin 1024), y = ix3 a r n := ⟨y 0, y 1, y 2, eq_ix3 y⟩
  obtain rfl : a = 0 := Subsingleton.elim _ _
  have hs8 : 256 * (t.val % 32) + r.val < 8192 := by have := r.2; omega
  have e : ((cfg0.win 13).blk t).view.emb (ix3 (0 : Fin 1) r n) = ix3 (bt t) (⟨256 * (t.val % 32) + r, hs8⟩ : Fin 8192) n := by
    blk_ext [idx t]
  refine (stored_at m V0 c H0 H1 H9 H10 H11 t _ r n ⟨256 * (t.val % 32) + r, hs8⟩ rfl fun k => ?_).trans ?_
  rotate_left
  · exact congrArg (Ref5.result V0) e.symm
  refine read_at _ _ _ _ r k _ ?_ (by decide) fun hcov => ?_
  · exact View.cover_of_tiledBy _ ![128, 128] (by sl_kernel_rfl)
  canon_tiles x h using (hcov _)
  · obtain ⟨r', d, rfl⟩ : ∃ (r' : Fin 128) (d : Fin 128), x = ix2 r' d := ⟨x 0, x 1, eq_ix2 x⟩
    exact gated3_128 m V0 c H0 H1 H2 H5 H6 H7 H8 t r' d _ (congrArg (256 * (t.val % 32) + ·) (by first | exact h0 | (rw [Nat.zero_add]; exact h0))) k h1
  · obtain ⟨r', d, rfl⟩ : ∃ (r' : Fin 128) (d : Fin 128), x = ix2 r' d := ⟨x 0, x 1, eq_ix2 x⟩
    exact gated3_0 m V0 c H0 H1 H2 H5 H6 H7 H8 t r' d _ (congrArg (256 * (t.val % 32) + ·) (by first | exact h0 | (rw [Nat.zero_add]; exact h0))) k h1
  · obtain ⟨r', d, rfl⟩ : ∃ (r' : Fin 128) (d : Fin 128), x = ix2 r' d := ⟨x 0, x 1, eq_ix2 x⟩
    exact gated2_128 m V0 c H0 H1 H2 H5 H6 H7 H8 t r' d _ (congrArg (256 * (t.val % 32) + ·) (by first | exact h0 | (rw [Nat.zero_add]; exact h0))) k h1
  · obtain ⟨r', d, rfl⟩ : ∃ (r' : Fin 128) (d : Fin 128), x = ix2 r' d := ⟨x 0, x 1, eq_ix2 x⟩
    exact gated2_0 m V0 c H0 H1 H2 H5 H6 H7 H8 t r' d _ (congrArg (256 * (t.val % 32) + ·) (by first | exact h0 | (rw [Nat.zero_add]; exact h0))) k h1
  · obtain ⟨r', d, rfl⟩ : ∃ (r' : Fin 128) (d : Fin 128), x = ix2 r' d := ⟨x 0, x 1, eq_ix2 x⟩
    exact gated1_128 m V0 c H0 H1 H2 H5 H6 H7 H8 t r' d _ (congrArg (256 * (t.val % 32) + ·) (by first | exact h0 | (rw [Nat.zero_add]; exact h0))) k h1
  · obtain ⟨r', d, rfl⟩ : ∃ (r' : Fin 128) (d : Fin 128), x = ix2 r' d := ⟨x 0, x 1, eq_ix2 x⟩
    exact gated1_0 m V0 c H0 H1 H2 H5 H6 H7 H8 t r' d _ (congrArg (256 * (t.val % 32) + ·) (by first | exact h0 | (rw [Nat.zero_add]; exact h0))) k h1
  · obtain ⟨r', d, rfl⟩ : ∃ (r' : Fin 128) (d : Fin 128), x = ix2 r' d := ⟨x 0, x 1, eq_ix2 x⟩
    exact gated0_128 m V0 c H0 H1 H2 H5 H6 H7 H8 t r' d _ (congrArg (256 * (t.val % 32) + ·) (by first | exact h0 | (rw [Nat.zero_add]; exact h0))) k h1
  · obtain ⟨r', d, rfl⟩ : ∃ (r' : Fin 128) (d : Fin 128), x = ix2 r' d := ⟨x 0, x 1, eq_ix2 x⟩
    exact gated0_0 m V0 c H0 H1 H2 H5 H6 H7 H8 t r' d _ (congrArg (256 * (t.val % 32) + ·) (by first | exact h0 | (rw [Nat.zero_add]; exact h0))) k h1
  · obtain ⟨r', d, rfl⟩ : ∃ (r' : Fin 256) (d : Fin 128), x = ix2 r' d := ⟨x 0, x 1, eq_ix2 x⟩
    exact pooled3 m V0 c H0 H1 H2 H3 H4 t r' d _ (congrArg (256 * (t.val % 32) + ·) h0) k (by first | exact h1 | (rw [Nat.zero_add]; exact h1))
  · obtain ⟨r', d, rfl⟩ : ∃ (r' : Fin 256) (d : Fin 128), x = ix2 r' d := ⟨x 0, x 1, eq_ix2 x⟩
    exact pooled2 m V0 c H0 H1 H2 H3 H4 t r' d _ (congrArg (256 * (t.val % 32) + ·) h0) k (by first | exact h1 | (rw [Nat.zero_add]; exact h1))
  · obtain ⟨r', d, rfl⟩ : ∃ (r' : Fin 256) (d : Fin 128), x = ix2 r' d := ⟨x 0, x 1, eq_ix2 x⟩
    exact pooled1 m V0 c H0 H1 H2 H3 H4 t r' d _ (congrArg (256 * (t.val % 32) + ·) h0) k (by first | exact h1 | (rw [Nat.zero_add]; exact h1))
  · obtain ⟨r', d, rfl⟩ : ∃ (r' : Fin 256) (d : Fin 128), x = ix2 r' d := ⟨x 0, x 1, eq_ix2 x⟩
    exact pooled0 m V0 c H0 H1 H2 H3 H4 t r' d _ (congrArg (256 * (t.val % 32) + ·) h0) k (by first | exact h1 | (rw [Nat.zero_add]; exact h1))

end Cert.Proof.Odd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Reference5Ideal.Run
public import proofs.«01_k».proof.Proof.Body
public import proofs.«01_k».proof.Proof.FfnRun
public import proofs.«01_k».proof.Proof.InFinal
public import proofs.«01_k».proof.Proof.Out
public import proofs.«01_k».proof.Proof.OddFinal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The sparse-attention call runs, its arguments end unchanged and every semaphore ends at zero. -/
theorem frame_dsa : Cert.quiescent_Kernel (hKernel := Cert.Kernel.Gen.facts) := fun m ρ _ =>
  (θ_run _ _ _).mono (fun _ h => ⟨fun c => ⟨Kernel.final_arg0 m h.1 c, Kernel.final_arg1 m h.1 c,
    Kernel.final_arg2 m h.1 c, Kernel.final_arg3 m h.1 c, Kernel.final_arg4 m h.1 c,
    Kernel.final_arg5 m h.1 c⟩, h.2⟩) (Kernel.run_main (F := Bits) m ρ)

/-- The reference of the feed-forward call runs and keeps its arguments. -/
theorem frame_ffn_ref : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Ref2.run (F := Ideal) m ρ)

/-- The feed-forward call computes what its reference computes. -/
theorem value_ffn : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · run_from Ref2.run m' g'
    exact (Ffn.final m c).symm

/-- The reference of the even layers' input projection runs and keeps its arguments. -/
theorem frame_in_ref : Cert.quiescent_Reference3Ideal (hReference3Ideal := Cert.Reference3Ideal.Gen.facts) := fun m ρ _ =>
  (θ_run Cert.Reference3Ideal.defs _ _).mono (fun r h => ⟨fun c => (h c).2.2.2.2.2.2.2, Idealize.ShloMosaic.sem_eq_zero_of_no_sems (by decide) r.2⟩)
    (Ref3.run3 m ρ)

/-- The even layers' input projection computes what its reference computes. -/
theorem value_in : Cert.algebraic_Kernel3Ideal_Reference3Ideal (hKernel3Ideal := Cert.Kernel3Ideal.Gen.facts) (hReference3Ideal := Cert.Reference3Ideal.Gen.facts) := by
  intro m g m' g' hpre hagree
  refine ⟨fun c => Ref3.prjR (In.aX m c) (In.aM m c) (In.aR m c), fun c => Ref3.outQ (In.aX m c) (In.aM m c) (In.aQ m c), fun c => Ref3.outK (In.aX m c) (In.aM m c) (In.aQ m c), fun c => Ref3.outV (In.aX m c) (In.aM m c) (In.aQ m c), fun c => Ref3.outI (In.aX m c) (In.aM m c) (In.aI m c), fun c => Ref3.outN (In.aX m c) (In.aM m c) (In.aI m c) (In.aG m c) (In.aB m c), fun c => Ref3.outW (In.aX m c) (In.aM m c) (In.aI m c), ?_, ?_⟩
  · exact θ_run_mono (θ_run_and (In.run m g) (Cert.Kernel3Ideal.Gen.unchanged m g)) fun r h c => ⟨(h.1 c).1, (h.1 c).2.1, (h.1 c).2.2.1, (h.1 c).2.2.2.1, (h.1 c).2.2.2.2.1, (h.1 c).2.2.2.2.2.1, (h.1 c).2.2.2.2.2.2, h.2 c⟩
  · refine θ_run_mono (Ref3.run3 m' g') fun r h c => ?_
    obtain ⟨e0, e1, e2, e3, e4, e5, e6⟩ := hagree c
    exact ⟨(h c).1.trans (by rw [e0, e1, e2]),
    (h c).2.1.trans (by rw [e0, e1, e3]),
    (h c).2.2.1.trans (by rw [e0, e1, e3]),
    (h c).2.2.2.1.trans (by rw [e0, e1, e3]),
    (h c).2.2.2.2.1.trans (by rw [e0, e1, e4]),
    (h c).2.2.2.2.2.1.trans (by rw [e0, e1, e4, e5, e6]),
    (h c).2.2.2.2.2.2.1.trans (by rw [e0, e1, e4]),
    (h c).2.2.2.2.2.2.2⟩

/-- The reference of the even layers' out projection runs and keeps its arguments. -/
theorem frame_out_ref : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Ref4.run (F := Ideal) m ρ)

/-- The even layers' out projection computes what its reference computes. -/
theorem value_out : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · run_from Ref4.run m' g'
    exact (Out.final m c).symm

/-- The reference of the odd layers' mixing runs and keeps its arguments. -/
theorem frame_odd_ref : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The odd layers' mixing computes what its reference computes. -/
theorem value_odd : Cert.algebraic_Kernel5Ideal_Reference5Ideal (hKernel5Ideal := Cert.Kernel5Ideal.Gen.facts) (hReference5Ideal := Cert.Reference5Ideal.Gen.facts) := by
  intro m g m' g' hpre hagree
  refine ⟨fun c => Ref5.result (StableHlo.launchContents m' c), ?_, ?_⟩
  · refine θ_run_mono (θ_run_and (Cert.Kernel5Ideal.Gen.run_main m g) (Cert.Kernel5Ideal.Gen.unchanged m g)) fun r h c => ?_
    obtain ⟨e0, e1, e2, e3, e4, e5, e6, e7, e8, e9, e10, e11⟩ := hagree c
    exact ⟨((h.1 c).1 13).trans (Odd.final m (StableHlo.launchContents m' c) c e0 e1 e2 e3 e4 e5 e6 e7 e8 e9 e10 e11), h.2 c⟩
  · exact θ_run_mono (Cert.Reference5Ideal.Value.run (F := Ideal) m' g') fun r h c => h c

theorem claim : Cert.Claim := ⟨Cert.Kernel.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  frame_dsa, fun m ρ _ => Cert.Kernel2.Gen.frame m ρ, fun m ρ _ => Cert.Kernel2Ideal.Gen.frame m ρ, frame_ffn_ref,
  fun m ρ _ => Cert.Kernel3.Gen.frame m ρ, fun m ρ _ => Cert.Kernel3Ideal.Gen.frame m ρ, frame_in_ref,
  fun m ρ _ => Cert.Kernel4.Gen.frame m ρ, fun m ρ _ => Cert.Kernel4Ideal.Gen.frame m ρ, frame_out_ref,
  fun m ρ _ => Cert.Kernel5.Gen.frame m ρ, fun m ρ _ => Cert.Kernel5Ideal.Gen.frame m ρ, frame_odd_ref,
  trivial, value_ffn, trivial, value_in, trivial, value_out, trivial, value_odd⟩

end Cert.Proof
